-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite2 [hPre_finite2 : Cert.Pre_finite2.Facts] (m : (ℓ : Loc Cert.FfnIdeal.nD Cert.FfnIdeal.τ Cert.FfnIdeal.sig) → Buf (Elt Ideal) ℓ) : Prop :=
  ∀ c : Dev Cert.FfnIdeal.nD,
    (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite2 [hPre_finite2 : Cert.Pre_finite2.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite3 [hPre_finite3 : Cert.Pre_finite3.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite3.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdReferenceIdeal (m : (ℓ : Loc Cert.FfnBwdReferenceIdeal.nD Cert.FfnBwdReferenceIdeal.τ Cert.FfnBwdReferenceIdeal.sig) → Buf (Elt Ideal) ℓ) : Prop :=
  True

def Pre_FfnBwdReferenceIdeal_finite3 [hPre_finite3 : Cert.Pre_finite3.Facts] (m : (ℓ : Loc Cert.FfnBwdReferenceIdeal.nD Cert.FfnBwdReferenceIdeal.τ Cert.FfnBwdReferenceIdeal.sig) → Buf (Elt Ideal) ℓ) : Prop :=
  ∀ c : Dev Cert.FfnBwdReferenceIdeal.nD,
    (Cert.Pre_finite3.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4)) (m ((c.tc : Thread Cert.FfnBwdReferenceIdeal.nD Cert.FfnBwdReferenceIdeal.τ).loc Cert.FfnBwdReferenceIdeal.main_arg5))) = (fun _ => 1#1)

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_finite4 [hPre_finite4 : Cert.Pre_finite4.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_finite4.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))) = (fun _ => 1#1)

def Pre_ProjBwdReferenceIdeal (m : (ℓ : Loc Cert.ProjBwdReferenceIdeal.nD Cert.ProjBwdReferenceIdeal.τ Cert.ProjBwdReferenceIdeal.sig) → Buf (Elt Ideal) ℓ) : Prop :=
  True

def Pre_ProjBwdReferenceIdeal_finite4 [hPre_finite4 : Cert.Pre_finite4.Facts] (m : (ℓ : Loc Cert.ProjBwdReferenceIdeal.nD Cert.ProjBwdReferenceIdeal.τ Cert.ProjBwdReferenceIdeal.sig) → Buf (Elt Ideal) ℓ) : Prop :=
  ∀ c : Dev Cert.ProjBwdReferenceIdeal.nD,
    (Cert.Pre_finite4.fn (F := Ideal) (m ((c.tc : Thread Cert.ProjBwdReferenceIdeal.nD Cert.ProjBwdReferenceIdeal.τ).loc Cert.ProjBwdReferenceIdeal.main_arg0)) (m ((c.tc : Thread Cert.ProjBwdReferenceIdeal.nD Cert.ProjBwdReferenceIdeal.τ).loc Cert.ProjBwdReferenceIdeal.main_arg1)) (m ((c.tc : Thread Cert.ProjBwdReferenceIdeal.nD Cert.ProjBwdReferenceIdeal.τ).loc Cert.ProjBwdReferenceIdeal.main_arg2)) (m ((c.tc : Thread Cert.ProjBwdReferenceIdeal.nD Cert.ProjBwdReferenceIdeal.τ).loc Cert.ProjBwdReferenceIdeal.main_arg3)) (m ((c.tc : Thread Cert.ProjBwdReferenceIdeal.nD Cert.ProjBwdReferenceIdeal.τ).loc Cert.ProjBwdReferenceIdeal.main_arg4))) = (fun _ => 1#1)

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwReferenceIdeal (m : (ℓ : Loc Cert.FfnDwReferenceIdeal.nD Cert.FfnDwReferenceIdeal.τ Cert.FfnDwReferenceIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateIdeal_finite6 [hPre_finite6 : Cert.Pre_finite6.Facts] (m : (ℓ : Loc Cert.FfnGateIdeal.nD Cert.FfnGateIdeal.τ Cert.FfnGateIdeal.sig) → Buf (Elt Ideal) ℓ) : Prop :=
  ∀ c : Dev Cert.FfnGateIdeal.nD,
    (Cert.Pre_finite6.fn (F := Ideal) (m ((c.tc : Thread Cert.FfnGateIdeal.nD Cert.FfnGateIdeal.τ).loc Cert.FfnGateIdeal.main_arg0)) (m ((c.tc : Thread Cert.FfnGateIdeal.nD Cert.FfnGateIdeal.τ).loc Cert.FfnGateIdeal.main_arg1)) (m ((c.tc : Thread Cert.FfnGateIdeal.nD Cert.FfnGateIdeal.τ).loc Cert.FfnGateIdeal.main_arg2)) (m ((c.tc : Thread Cert.FfnGateIdeal.nD Cert.FfnGateIdeal.τ).loc Cert.FfnGateIdeal.main_arg3))) = (fun _ => 1#1)

def Pre_FfnGateReferenceIdeal (m : (ℓ : Loc Cert.FfnGateReferenceIdeal.nD Cert.FfnGateReferenceIdeal.τ Cert.FfnGateReferenceIdeal.sig) → Buf (Elt Ideal) ℓ) : Prop :=
  True

def Pre_FfnGateReferenceIdeal_finite6 [hPre_finite6 : Cert.Pre_finite6.Facts] (m : (ℓ : Loc Cert.FfnGateReferenceIdeal.nD Cert.FfnGateReferenceIdeal.τ Cert.FfnGateReferenceIdeal.sig) → Buf (Elt Ideal) ℓ) : Prop :=
  ∀ c : Dev Cert.FfnGateReferenceIdeal.nD,
    (Cert.Pre_finite6.fn (F := Ideal) (m ((c.tc : Thread Cert.FfnGateReferenceIdeal.nD Cert.FfnGateReferenceIdeal.τ).loc Cert.FfnGateReferenceIdeal.main_arg0)) (m ((c.tc : Thread Cert.FfnGateReferenceIdeal.nD Cert.FfnGateReferenceIdeal.τ).loc Cert.FfnGateReferenceIdeal.main_arg1)) (m ((c.tc : Thread Cert.FfnGateReferenceIdeal.nD Cert.FfnGateReferenceIdeal.τ).loc Cert.FfnGateReferenceIdeal.main_arg2)) (m ((c.tc : Thread Cert.FfnGateReferenceIdeal.nD Cert.FfnGateReferenceIdeal.τ).loc Cert.FfnGateReferenceIdeal.main_arg3))) = (fun _ => 1#1)

def Pre_ProjDwA (m : (ℓ : Loc Cert.ProjDwA.nD Cert.ProjDwA.τ Cert.ProjDwA.sig) → Buf (Elt Bits) ℓ) : Prop :=
  True

def Pre_ProjDwAIdeal (m : (ℓ : Loc Cert.ProjDwAIdeal.nD Cert.ProjDwAIdeal.τ Cert.ProjDwAIdeal.sig) → Buf (Elt Ideal) ℓ) : Prop :=
  True

def Pre_ProjDwAReferenceIdeal (m : (ℓ : Loc Cert.ProjDwAReferenceIdeal.nD Cert.ProjDwAReferenceIdeal.τ Cert.ProjDwAReferenceIdeal.sig) → Buf (Elt Ideal) ℓ) : Prop :=
  True

def Pre_ProjDwB (m : (ℓ : Loc Cert.ProjDwB.nD Cert.ProjDwB.τ Cert.ProjDwB.sig) → Buf (Elt Bits) ℓ) : Prop :=
  True

def Pre_ProjDwBIdeal (m : (ℓ : Loc Cert.ProjDwBIdeal.nD Cert.ProjDwBIdeal.τ Cert.ProjDwBIdeal.sig) → Buf (Elt Ideal) ℓ) : Prop :=
  True

def Pre_ProjDwBReferenceIdeal (m : (ℓ : Loc Cert.ProjDwBReferenceIdeal.nD Cert.ProjDwBReferenceIdeal.τ Cert.ProjDwBReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownReferenceIdeal (m : (ℓ : Loc Cert.FfnDwDownReferenceIdeal.nD Cert.FfnDwDownReferenceIdeal.τ Cert.FfnDwDownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite2 [hFfnIdeal : Cert.FfnIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite2 m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_finite2 [hFfnReferenceIdeal : Cert.FfnReferenceIdeal.Facts] [hPre_finite2 : Cert.Pre_finite2.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite2 m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite3 [hFfnBwdIdeal : Cert.FfnBwdIdeal.Facts] [hPre_finite3 : Cert.Pre_finite3.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite3 m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdReferenceIdeal [hFfnBwdReferenceIdeal : Cert.FfnBwdReferenceIdeal.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4)
      ∧ r.2.mem ((c.tc : Thread Cert.FfnBwdReferenceIdeal.nD Cert.FfnBwdReferenceIdeal.τ).loc Cert.FfnBwdReferenceIdeal.main_arg5) = m ((c.tc : Thread Cert.FfnBwdReferenceIdeal.nD Cert.FfnBwdReferenceIdeal.τ).loc Cert.FfnBwdReferenceIdeal.main_arg5))
      ∧ r.2.sem = fun _ => 0)

def quiescent_FfnBwdReferenceIdeal_pre_finite3 [hFfnBwdReferenceIdeal : Cert.FfnBwdReferenceIdeal.Facts] [hPre_finite3 : Cert.Pre_finite3.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal_finite3 m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4)
      ∧ r.2.mem ((c.tc : Thread Cert.FfnBwdReferenceIdeal.nD Cert.FfnBwdReferenceIdeal.τ).loc Cert.FfnBwdReferenceIdeal.main_arg5) = m ((c.tc : Thread Cert.FfnBwdReferenceIdeal.nD Cert.FfnBwdReferenceIdeal.τ).loc Cert.FfnBwdReferenceIdeal.main_arg5))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdIdeal_pre_finite4 [hProjBwdIdeal : Cert.ProjBwdIdeal.Facts] [hPre_finite4 : Cert.Pre_finite4.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_finite4 m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdReferenceIdeal [hProjBwdReferenceIdeal : Cert.ProjBwdReferenceIdeal.Facts] : Prop :=
  ∀ (m : (ℓ : Loc Cert.ProjBwdReferenceIdeal.nD Cert.ProjBwdReferenceIdeal.τ Cert.ProjBwdReferenceIdeal.sig) → Buf (Elt Ideal) ℓ) (g : Dev Cert.ProjBwdReferenceIdeal.nD → PrngReg), Pre_ProjBwdReferenceIdeal m →
    θ_run (Cert.ProjBwdReferenceIdeal.defs (F := Ideal)) (onTc (τ := Cert.ProjBwdReferenceIdeal.τ) (Cert.ProjBwdReferenceIdeal.main (F := Ideal))) ⟨m, fun _ => 0, g⟩ (fun r => (∀ c : Dev Cert.ProjBwdReferenceIdeal.nD,
      r.2.mem ((c.tc : Thread Cert.ProjBwdReferenceIdeal.nD Cert.ProjBwdReferenceIdeal.τ).loc Cert.ProjBwdReferenceIdeal.main_arg0) = m ((c.tc : Thread Cert.ProjBwdReferenceIdeal.nD Cert.ProjBwdReferenceIdeal.τ).loc Cert.ProjBwdReferenceIdeal.main_arg0)
      ∧ r.2.mem ((c.tc : Thread Cert.ProjBwdReferenceIdeal.nD Cert.ProjBwdReferenceIdeal.τ).loc Cert.ProjBwdReferenceIdeal.main_arg1) = m ((c.tc : Thread Cert.ProjBwdReferenceIdeal.nD Cert.ProjBwdReferenceIdeal.τ).loc Cert.ProjBwdReferenceIdeal.main_arg1)
      ∧ r.2.mem ((c.tc : Thread Cert.ProjBwdReferenceIdeal.nD Cert.ProjBwdReferenceIdeal.τ).loc Cert.ProjBwdReferenceIdeal.main_arg2) = m ((c.tc : Thread Cert.ProjBwdReferenceIdeal.nD Cert.ProjBwdReferenceIdeal.τ).loc Cert.ProjBwdReferenceIdeal.main_arg2)
      ∧ r.2.mem ((c.tc : Thread Cert.ProjBwdReferenceIdeal.nD Cert.ProjBwdReferenceIdeal.τ).loc Cert.ProjBwdReferenceIdeal.main_arg3) = m ((c.tc : Thread Cert.ProjBwdReferenceIdeal.nD Cert.ProjBwdReferenceIdeal.τ).loc Cert.ProjBwdReferenceIdeal.main_arg3)
      ∧ r.2.mem ((c.tc : Thread Cert.ProjBwdReferenceIdeal.nD Cert.ProjBwdReferenceIdeal.τ).loc Cert.ProjBwdReferenceIdeal.main_arg4) = m ((c.tc : Thread Cert.ProjBwdReferenceIdeal.nD Cert.ProjBwdReferenceIdeal.τ).loc Cert.ProjBwdReferenceIdeal.main_arg4))
      ∧ r.2.sem = fun _ => 0)

def quiescent_ProjBwdReferenceIdeal_pre_finite4 [hProjBwdReferenceIdeal : Cert.ProjBwdReferenceIdeal.Facts] [hPre_finite4 : Cert.Pre_finite4.Facts] : Prop :=
  ∀ (m : (ℓ : Loc Cert.ProjBwdReferenceIdeal.nD Cert.ProjBwdReferenceIdeal.τ Cert.ProjBwdReferenceIdeal.sig) → Buf (Elt Ideal) ℓ) (g : Dev Cert.ProjBwdReferenceIdeal.nD → PrngReg), Pre_ProjBwdReferenceIdeal_finite4 m →
    θ_run (Cert.ProjBwdReferenceIdeal.defs (F := Ideal)) (onTc (τ := Cert.ProjBwdReferenceIdeal.τ) (Cert.ProjBwdReferenceIdeal.main (F := Ideal))) ⟨m, fun _ => 0, g⟩ (fun r => (∀ c : Dev Cert.ProjBwdReferenceIdeal.nD,
      r.2.mem ((c.tc : Thread Cert.ProjBwdReferenceIdeal.nD Cert.ProjBwdReferenceIdeal.τ).loc Cert.ProjBwdReferenceIdeal.main_arg0) = m ((c.tc : Thread Cert.ProjBwdReferenceIdeal.nD Cert.ProjBwdReferenceIdeal.τ).loc Cert.ProjBwdReferenceIdeal.main_arg0)
      ∧ r.2.mem ((c.tc : Thread Cert.ProjBwdReferenceIdeal.nD Cert.ProjBwdReferenceIdeal.τ).loc Cert.ProjBwdReferenceIdeal.main_arg1) = m ((c.tc : Thread Cert.ProjBwdReferenceIdeal.nD Cert.ProjBwdReferenceIdeal.τ).loc Cert.ProjBwdReferenceIdeal.main_arg1)
      ∧ r.2.mem ((c.tc : Thread Cert.ProjBwdReferenceIdeal.nD Cert.ProjBwdReferenceIdeal.τ).loc Cert.ProjBwdReferenceIdeal.main_arg2) = m ((c.tc : Thread Cert.ProjBwdReferenceIdeal.nD Cert.ProjBwdReferenceIdeal.τ).loc Cert.ProjBwdReferenceIdeal.main_arg2)
      ∧ r.2.mem ((c.tc : Thread Cert.ProjBwdReferenceIdeal.nD Cert.ProjBwdReferenceIdeal.τ).loc Cert.ProjBwdReferenceIdeal.main_arg3) = m ((c.tc : Thread Cert.ProjBwdReferenceIdeal.nD Cert.ProjBwdReferenceIdeal.τ).loc Cert.ProjBwdReferenceIdeal.main_arg3)
      ∧ r.2.mem ((c.tc : Thread Cert.ProjBwdReferenceIdeal.nD Cert.ProjBwdReferenceIdeal.τ).loc Cert.ProjBwdReferenceIdeal.main_arg4) = m ((c.tc : Thread Cert.ProjBwdReferenceIdeal.nD Cert.ProjBwdReferenceIdeal.τ).loc Cert.ProjBwdReferenceIdeal.main_arg4))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1)
      ∧ r.2.mem ((c.tc : Thread Cert.FfnDw.nD Cert.FfnDw.τ).loc Cert.FfnDw.main_arg2) = m ((c.tc : Thread Cert.FfnDw.nD Cert.FfnDw.τ).loc Cert.FfnDw.main_arg2))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
      ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2))
      ∧ r.2.sem = fun _ => 0)

def quiescent_FfnDwReferenceIdeal [hFfnDwReferenceIdeal : Cert.FfnDwReferenceIdeal.Facts] : Prop :=
  ∀ (m : (ℓ : Loc Cert.FfnDwReferenceIdeal.nD Cert.FfnDwReferenceIdeal.τ Cert.FfnDwReferenceIdeal.sig) → Buf (Elt Ideal) ℓ) (g : Dev Cert.FfnDwReferenceIdeal.nD → PrngReg), Pre_FfnDwReferenceIdeal m →
    θ_run (Cert.FfnDwReferenceIdeal.defs (F := Ideal)) (onTc (τ := Cert.FfnDwReferenceIdeal.τ) (Cert.FfnDwReferenceIdeal.main (F := Ideal))) ⟨m, fun _ => 0, g⟩ (fun r => (∀ c : Dev Cert.FfnDwReferenceIdeal.nD,
      r.2.mem ((c.tc : Thread Cert.FfnDwReferenceIdeal.nD Cert.FfnDwReferenceIdeal.τ).loc Cert.FfnDwReferenceIdeal.main_arg0) = m ((c.tc : Thread Cert.FfnDwReferenceIdeal.nD Cert.FfnDwReferenceIdeal.τ).loc Cert.FfnDwReferenceIdeal.main_arg0)
      ∧ r.2.mem ((c.tc : Thread Cert.FfnDwReferenceIdeal.nD Cert.FfnDwReferenceIdeal.τ).loc Cert.FfnDwReferenceIdeal.main_arg1) = m ((c.tc : Thread Cert.FfnDwReferenceIdeal.nD Cert.FfnDwReferenceIdeal.τ).loc Cert.FfnDwReferenceIdeal.main_arg1)
      ∧ r.2.mem ((c.tc : Thread Cert.FfnDwReferenceIdeal.nD Cert.FfnDwReferenceIdeal.τ).loc Cert.FfnDwReferenceIdeal.main_arg2) = m ((c.tc : Thread Cert.FfnDwReferenceIdeal.nD Cert.FfnDwReferenceIdeal.τ).loc Cert.FfnDwReferenceIdeal.main_arg2))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1)
      ∧ r.2.mem ((c.tc : Thread Cert.FfnGate.nD Cert.FfnGate.τ).loc Cert.FfnGate.main_arg2) = m ((c.tc : Thread Cert.FfnGate.nD Cert.FfnGate.τ).loc Cert.FfnGate.main_arg2)
      ∧ r.2.mem ((c.tc : Thread Cert.FfnGate.nD Cert.FfnGate.τ).loc Cert.FfnGate.main_arg3) = m ((c.tc : Thread Cert.FfnGate.nD Cert.FfnGate.τ).loc Cert.FfnGate.main_arg3))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ r.2.sem = fun _ => 0)

def quiescent_FfnGateIdeal_pre_finite6 [hFfnGateIdeal : Cert.FfnGateIdeal.Facts] [hPre_finite6 : Cert.Pre_finite6.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal_finite6 m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ r.2.sem = fun _ => 0)

def quiescent_FfnGateReferenceIdeal [hFfnGateReferenceIdeal : Cert.FfnGateReferenceIdeal.Facts] : Prop :=
  ∀ (m : (ℓ : Loc Cert.FfnGateReferenceIdeal.nD Cert.FfnGateReferenceIdeal.τ Cert.FfnGateReferenceIdeal.sig) → Buf (Elt Ideal) ℓ) (g : Dev Cert.FfnGateReferenceIdeal.nD → PrngReg), Pre_FfnGateReferenceIdeal m →
    θ_run (Cert.FfnGateReferenceIdeal.defs (F := Ideal)) (onTc (τ := Cert.FfnGateReferenceIdeal.τ) (Cert.FfnGateReferenceIdeal.main (F := Ideal))) ⟨m, fun _ => 0, g⟩ (fun r => (∀ c : Dev Cert.FfnGateReferenceIdeal.nD,
      r.2.mem ((c.tc : Thread Cert.FfnGateReferenceIdeal.nD Cert.FfnGateReferenceIdeal.τ).loc Cert.FfnGateReferenceIdeal.main_arg0) = m ((c.tc : Thread Cert.FfnGateReferenceIdeal.nD Cert.FfnGateReferenceIdeal.τ).loc Cert.FfnGateReferenceIdeal.main_arg0)
      ∧ r.2.mem ((c.tc : Thread Cert.FfnGateReferenceIdeal.nD Cert.FfnGateReferenceIdeal.τ).loc Cert.FfnGateReferenceIdeal.main_arg1) = m ((c.tc : Thread Cert.FfnGateReferenceIdeal.nD Cert.FfnGateReferenceIdeal.τ).loc Cert.FfnGateReferenceIdeal.main_arg1)
      ∧ r.2.mem ((c.tc : Thread Cert.FfnGateReferenceIdeal.nD Cert.FfnGateReferenceIdeal.τ).loc Cert.FfnGateReferenceIdeal.main_arg2) = m ((c.tc : Thread Cert.FfnGateReferenceIdeal.nD Cert.FfnGateReferenceIdeal.τ).loc Cert.FfnGateReferenceIdeal.main_arg2)
      ∧ r.2.mem ((c.tc : Thread Cert.FfnGateReferenceIdeal.nD Cert.FfnGateReferenceIdeal.τ).loc Cert.FfnGateReferenceIdeal.main_arg3) = m ((c.tc : Thread Cert.FfnGateReferenceIdeal.nD Cert.FfnGateReferenceIdeal.τ).loc Cert.FfnGateReferenceIdeal.main_arg3))
      ∧ r.2.sem = fun _ => 0)

def quiescent_FfnGateReferenceIdeal_pre_finite6 [hFfnGateReferenceIdeal : Cert.FfnGateReferenceIdeal.Facts] [hPre_finite6 : Cert.Pre_finite6.Facts] : Prop :=
  ∀ (m : (ℓ : Loc Cert.FfnGateReferenceIdeal.nD Cert.FfnGateReferenceIdeal.τ Cert.FfnGateReferenceIdeal.sig) → Buf (Elt Ideal) ℓ) (g : Dev Cert.FfnGateReferenceIdeal.nD → PrngReg), Pre_FfnGateReferenceIdeal_finite6 m →
    θ_run (Cert.FfnGateReferenceIdeal.defs (F := Ideal)) (onTc (τ := Cert.FfnGateReferenceIdeal.τ) (Cert.FfnGateReferenceIdeal.main (F := Ideal))) ⟨m, fun _ => 0, g⟩ (fun r => (∀ c : Dev Cert.FfnGateReferenceIdeal.nD,
      r.2.mem ((c.tc : Thread Cert.FfnGateReferenceIdeal.nD Cert.FfnGateReferenceIdeal.τ).loc Cert.FfnGateReferenceIdeal.main_arg0) = m ((c.tc : Thread Cert.FfnGateReferenceIdeal.nD Cert.FfnGateReferenceIdeal.τ).loc Cert.FfnGateReferenceIdeal.main_arg0)
      ∧ r.2.mem ((c.tc : Thread Cert.FfnGateReferenceIdeal.nD Cert.FfnGateReferenceIdeal.τ).loc Cert.FfnGateReferenceIdeal.main_arg1) = m ((c.tc : Thread Cert.FfnGateReferenceIdeal.nD Cert.FfnGateReferenceIdeal.τ).loc Cert.FfnGateReferenceIdeal.main_arg1)
      ∧ r.2.mem ((c.tc : Thread Cert.FfnGateReferenceIdeal.nD Cert.FfnGateReferenceIdeal.τ).loc Cert.FfnGateReferenceIdeal.main_arg2) = m ((c.tc : Thread Cert.FfnGateReferenceIdeal.nD Cert.FfnGateReferenceIdeal.τ).loc Cert.FfnGateReferenceIdeal.main_arg2)
      ∧ r.2.mem ((c.tc : Thread Cert.FfnGateReferenceIdeal.nD Cert.FfnGateReferenceIdeal.τ).loc Cert.FfnGateReferenceIdeal.main_arg3) = m ((c.tc : Thread Cert.FfnGateReferenceIdeal.nD Cert.FfnGateReferenceIdeal.τ).loc Cert.FfnGateReferenceIdeal.main_arg3))
      ∧ r.2.sem = fun _ => 0)

def quiescent_ProjDwA [hProjDwA : Cert.ProjDwA.Facts] : Prop :=
  ∀ (m : (ℓ : Loc Cert.ProjDwA.nD Cert.ProjDwA.τ Cert.ProjDwA.sig) → Buf (Elt Bits) ℓ) (g : Dev Cert.ProjDwA.nD → PrngReg), Pre_ProjDwA m →
    θ_run (Cert.ProjDwA.defs (F := Bits)) (onTc (τ := Cert.ProjDwA.τ) (Cert.ProjDwA.main (F := Bits))) ⟨m, fun _ => 0, g⟩ (fun r => (∀ c : Dev Cert.ProjDwA.nD,
      r.2.mem ((c.tc : Thread Cert.ProjDwA.nD Cert.ProjDwA.τ).loc Cert.ProjDwA.main_arg0) = m ((c.tc : Thread Cert.ProjDwA.nD Cert.ProjDwA.τ).loc Cert.ProjDwA.main_arg0)
      ∧ r.2.mem ((c.tc : Thread Cert.ProjDwA.nD Cert.ProjDwA.τ).loc Cert.ProjDwA.main_arg1) = m ((c.tc : Thread Cert.ProjDwA.nD Cert.ProjDwA.τ).loc Cert.ProjDwA.main_arg1)
      ∧ r.2.mem ((c.tc : Thread Cert.ProjDwA.nD Cert.ProjDwA.τ).loc Cert.ProjDwA.main_arg2) = m ((c.tc : Thread Cert.ProjDwA.nD Cert.ProjDwA.τ).loc Cert.ProjDwA.main_arg2))
      ∧ r.2.sem = fun _ => 0)

def quiescent_ProjDwAIdeal [hProjDwAIdeal : Cert.ProjDwAIdeal.Facts] : Prop :=
  ∀ (m : (ℓ : Loc Cert.ProjDwAIdeal.nD Cert.ProjDwAIdeal.τ Cert.ProjDwAIdeal.sig) → Buf (Elt Ideal) ℓ) (g : Dev Cert.ProjDwAIdeal.nD → PrngReg), Pre_ProjDwAIdeal m →
    θ_run (Cert.ProjDwAIdeal.defs (F := Ideal)) (onTc (τ := Cert.ProjDwAIdeal.τ) (Cert.ProjDwAIdeal.main (F := Ideal))) ⟨m, fun _ => 0, g⟩ (fun r => (∀ c : Dev Cert.ProjDwAIdeal.nD,
      r.2.mem ((c.tc : Thread Cert.ProjDwAIdeal.nD Cert.ProjDwAIdeal.τ).loc Cert.ProjDwAIdeal.main_arg0) = m ((c.tc : Thread Cert.ProjDwAIdeal.nD Cert.ProjDwAIdeal.τ).loc Cert.ProjDwAIdeal.main_arg0)
      ∧ r.2.mem ((c.tc : Thread Cert.ProjDwAIdeal.nD Cert.ProjDwAIdeal.τ).loc Cert.ProjDwAIdeal.main_arg1) = m ((c.tc : Thread Cert.ProjDwAIdeal.nD Cert.ProjDwAIdeal.τ).loc Cert.ProjDwAIdeal.main_arg1)
      ∧ r.2.mem ((c.tc : Thread Cert.ProjDwAIdeal.nD Cert.ProjDwAIdeal.τ).loc Cert.ProjDwAIdeal.main_arg2) = m ((c.tc : Thread Cert.ProjDwAIdeal.nD Cert.ProjDwAIdeal.τ).loc Cert.ProjDwAIdeal.main_arg2))
      ∧ r.2.sem = fun _ => 0)

def quiescent_ProjDwAReferenceIdeal [hProjDwAReferenceIdeal : Cert.ProjDwAReferenceIdeal.Facts] : Prop :=
  ∀ (m : (ℓ : Loc Cert.ProjDwAReferenceIdeal.nD Cert.ProjDwAReferenceIdeal.τ Cert.ProjDwAReferenceIdeal.sig) → Buf (Elt Ideal) ℓ) (g : Dev Cert.ProjDwAReferenceIdeal.nD → PrngReg), Pre_ProjDwAReferenceIdeal m →
    θ_run (Cert.ProjDwAReferenceIdeal.defs (F := Ideal)) (onTc (τ := Cert.ProjDwAReferenceIdeal.τ) (Cert.ProjDwAReferenceIdeal.main (F := Ideal))) ⟨m, fun _ => 0, g⟩ (fun r => (∀ c : Dev Cert.ProjDwAReferenceIdeal.nD,
      r.2.mem ((c.tc : Thread Cert.ProjDwAReferenceIdeal.nD Cert.ProjDwAReferenceIdeal.τ).loc Cert.ProjDwAReferenceIdeal.main_arg0) = m ((c.tc : Thread Cert.ProjDwAReferenceIdeal.nD Cert.ProjDwAReferenceIdeal.τ).loc Cert.ProjDwAReferenceIdeal.main_arg0)
      ∧ r.2.mem ((c.tc : Thread Cert.ProjDwAReferenceIdeal.nD Cert.ProjDwAReferenceIdeal.τ).loc Cert.ProjDwAReferenceIdeal.main_arg1) = m ((c.tc : Thread Cert.ProjDwAReferenceIdeal.nD Cert.ProjDwAReferenceIdeal.τ).loc Cert.ProjDwAReferenceIdeal.main_arg1)
      ∧ r.2.mem ((c.tc : Thread Cert.ProjDwAReferenceIdeal.nD Cert.ProjDwAReferenceIdeal.τ).loc Cert.ProjDwAReferenceIdeal.main_arg2) = m ((c.tc : Thread Cert.ProjDwAReferenceIdeal.nD Cert.ProjDwAReferenceIdeal.τ).loc Cert.ProjDwAReferenceIdeal.main_arg2))
      ∧ r.2.sem = fun _ => 0)

def quiescent_ProjDwB [hProjDwB : Cert.ProjDwB.Facts] : Prop :=
  ∀ (m : (ℓ : Loc Cert.ProjDwB.nD Cert.ProjDwB.τ Cert.ProjDwB.sig) → Buf (Elt Bits) ℓ) (g : Dev Cert.ProjDwB.nD → PrngReg), Pre_ProjDwB m →
    θ_run (Cert.ProjDwB.defs (F := Bits)) (onTc (τ := Cert.ProjDwB.τ) (Cert.ProjDwB.main (F := Bits))) ⟨m, fun _ => 0, g⟩ (fun r => (∀ c : Dev Cert.ProjDwB.nD,
      r.2.mem ((c.tc : Thread Cert.ProjDwB.nD Cert.ProjDwB.τ).loc Cert.ProjDwB.main_arg0) = m ((c.tc : Thread Cert.ProjDwB.nD Cert.ProjDwB.τ).loc Cert.ProjDwB.main_arg0)
      ∧ r.2.mem ((c.tc : Thread Cert.ProjDwB.nD Cert.ProjDwB.τ).loc Cert.ProjDwB.main_arg1) = m ((c.tc : Thread Cert.ProjDwB.nD Cert.ProjDwB.τ).loc Cert.ProjDwB.main_arg1)
      ∧ r.2.mem ((c.tc : Thread Cert.ProjDwB.nD Cert.ProjDwB.τ).loc Cert.ProjDwB.main_arg2) = m ((c.tc : Thread Cert.ProjDwB.nD Cert.ProjDwB.τ).loc Cert.ProjDwB.main_arg2))
      ∧ r.2.sem = fun _ => 0)

def quiescent_ProjDwBIdeal [hProjDwBIdeal : Cert.ProjDwBIdeal.Facts] : Prop :=
  ∀ (m : (ℓ : Loc Cert.ProjDwBIdeal.nD Cert.ProjDwBIdeal.τ Cert.ProjDwBIdeal.sig) → Buf (Elt Ideal) ℓ) (g : Dev Cert.ProjDwBIdeal.nD → PrngReg), Pre_ProjDwBIdeal m →
    θ_run (Cert.ProjDwBIdeal.defs (F := Ideal)) (onTc (τ := Cert.ProjDwBIdeal.τ) (Cert.ProjDwBIdeal.main (F := Ideal))) ⟨m, fun _ => 0, g⟩ (fun r => (∀ c : Dev Cert.ProjDwBIdeal.nD,
      r.2.mem ((c.tc : Thread Cert.ProjDwBIdeal.nD Cert.ProjDwBIdeal.τ).loc Cert.ProjDwBIdeal.main_arg0) = m ((c.tc : Thread Cert.ProjDwBIdeal.nD Cert.ProjDwBIdeal.τ).loc Cert.ProjDwBIdeal.main_arg0)
      ∧ r.2.mem ((c.tc : Thread Cert.ProjDwBIdeal.nD Cert.ProjDwBIdeal.τ).loc Cert.ProjDwBIdeal.main_arg1) = m ((c.tc : Thread Cert.ProjDwBIdeal.nD Cert.ProjDwBIdeal.τ).loc Cert.ProjDwBIdeal.main_arg1)
      ∧ r.2.mem ((c.tc : Thread Cert.ProjDwBIdeal.nD Cert.ProjDwBIdeal.τ).loc Cert.ProjDwBIdeal.main_arg2) = m ((c.tc : Thread Cert.ProjDwBIdeal.nD Cert.ProjDwBIdeal.τ).loc Cert.ProjDwBIdeal.main_arg2))
      ∧ r.2.sem = fun _ => 0)

def quiescent_ProjDwBReferenceIdeal [hProjDwBReferenceIdeal : Cert.ProjDwBReferenceIdeal.Facts] : Prop :=
  ∀ (m : (ℓ : Loc Cert.ProjDwBReferenceIdeal.nD Cert.ProjDwBReferenceIdeal.τ Cert.ProjDwBReferenceIdeal.sig) → Buf (Elt Ideal) ℓ) (g : Dev Cert.ProjDwBReferenceIdeal.nD → PrngReg), Pre_ProjDwBReferenceIdeal m →
    θ_run (Cert.ProjDwBReferenceIdeal.defs (F := Ideal)) (onTc (τ := Cert.ProjDwBReferenceIdeal.τ) (Cert.ProjDwBReferenceIdeal.main (F := Ideal))) ⟨m, fun _ => 0, g⟩ (fun r => (∀ c : Dev Cert.ProjDwBReferenceIdeal.nD,
      r.2.mem ((c.tc : Thread Cert.ProjDwBReferenceIdeal.nD Cert.ProjDwBReferenceIdeal.τ).loc Cert.ProjDwBReferenceIdeal.main_arg0) = m ((c.tc : Thread Cert.ProjDwBReferenceIdeal.nD Cert.ProjDwBReferenceIdeal.τ).loc Cert.ProjDwBReferenceIdeal.main_arg0)
      ∧ r.2.mem ((c.tc : Thread Cert.ProjDwBReferenceIdeal.nD Cert.ProjDwBReferenceIdeal.τ).loc Cert.ProjDwBReferenceIdeal.main_arg1) = m ((c.tc : Thread Cert.ProjDwBReferenceIdeal.nD Cert.ProjDwBReferenceIdeal.τ).loc Cert.ProjDwBReferenceIdeal.main_arg1)
      ∧ r.2.mem ((c.tc : Thread Cert.ProjDwBReferenceIdeal.nD Cert.ProjDwBReferenceIdeal.τ).loc Cert.ProjDwBReferenceIdeal.main_arg2) = m ((c.tc : Thread Cert.ProjDwBReferenceIdeal.nD Cert.ProjDwBReferenceIdeal.τ).loc Cert.ProjDwBReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ r.2.sem = fun _ => 0)

def quiescent_FfnDwDownReferenceIdeal [hFfnDwDownReferenceIdeal : Cert.FfnDwDownReferenceIdeal.Facts] : Prop :=
  ∀ (m : (ℓ : Loc Cert.FfnDwDownReferenceIdeal.nD Cert.FfnDwDownReferenceIdeal.τ Cert.FfnDwDownReferenceIdeal.sig) → Buf (Elt Ideal) ℓ) (g : Dev Cert.FfnDwDownReferenceIdeal.nD → PrngReg), Pre_FfnDwDownReferenceIdeal m →
    θ_run (Cert.FfnDwDownReferenceIdeal.defs (F := Ideal)) (onTc (τ := Cert.FfnDwDownReferenceIdeal.τ) (Cert.FfnDwDownReferenceIdeal.main (F := Ideal))) ⟨m, fun _ => 0, g⟩ (fun r => (∀ c : Dev Cert.FfnDwDownReferenceIdeal.nD,
      r.2.mem ((c.tc : Thread Cert.FfnDwDownReferenceIdeal.nD Cert.FfnDwDownReferenceIdeal.τ).loc Cert.FfnDwDownReferenceIdeal.main_arg0) = m ((c.tc : Thread Cert.FfnDwDownReferenceIdeal.nD Cert.FfnDwDownReferenceIdeal.τ).loc Cert.FfnDwDownReferenceIdeal.main_arg0)
      ∧ r.2.mem ((c.tc : Thread Cert.FfnDwDownReferenceIdeal.nD Cert.FfnDwDownReferenceIdeal.τ).loc Cert.FfnDwDownReferenceIdeal.main_arg1) = m ((c.tc : Thread Cert.FfnDwDownReferenceIdeal.nD Cert.FfnDwDownReferenceIdeal.τ).loc Cert.FfnDwDownReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale" .f32 0x3DB504F3#32 (((Real.sqrt 128)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal_pre_finite2 [hFfnIdeal : Cert.FfnIdeal.Facts] [hFfnReferenceIdeal : Cert.FfnReferenceIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite2 m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v7_1)) (v2 : (c : Dev Cert.FfnIdeal.nD) → Buf (Elt Ideal) ((c.tc : Thread Cert.FfnIdeal.nD Cert.FfnIdeal.τ).loc Cert.FfnIdeal.main_v7_2)) (v3 : (c : Dev Cert.FfnIdeal.nD) → Buf (Elt Ideal) ((c.tc : Thread Cert.FfnIdeal.nD Cert.FfnIdeal.τ).loc Cert.FfnIdeal.main_v7_3)) (v4 : (c : Dev Cert.FfnIdeal.nD) → Buf (Elt Ideal) ((c.tc : Thread Cert.FfnIdeal.nD Cert.FfnIdeal.τ).loc Cert.FfnIdeal.main_v7_4)) (v5 : (c : Dev Cert.FfnIdeal.nD) → Buf (Elt Ideal) ((c.tc : Thread Cert.FfnIdeal.nD Cert.FfnIdeal.τ).loc Cert.FfnIdeal.main_v7_5)) (v6 : (c : Dev Cert.FfnIdeal.nD) → Buf (Elt Ideal) ((c.tc : Thread Cert.FfnIdeal.nD Cert.FfnIdeal.τ).loc Cert.FfnIdeal.main_v7_6)) (v7 : (c : Dev Cert.FfnIdeal.nD) → Buf (Elt Ideal) ((c.tc : Thread Cert.FfnIdeal.nD Cert.FfnIdeal.τ).loc Cert.FfnIdeal.main_v7_7)) (v8 : (c : Dev Cert.FfnIdeal.nD) → Buf (Elt Ideal) ((c.tc : Thread Cert.FfnIdeal.nD Cert.FfnIdeal.τ).loc Cert.FfnIdeal.main_v7_8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_v7_2) = v2 c
          ∧ r.2.mem ((c.tc : Thread Cert.FfnIdeal.nD Cert.FfnIdeal.τ).loc Cert.FfnIdeal.main_v7_3) = v3 c
          ∧ r.2.mem ((c.tc : Thread Cert.FfnIdeal.nD Cert.FfnIdeal.τ).loc Cert.FfnIdeal.main_v7_4) = v4 c
          ∧ r.2.mem ((c.tc : Thread Cert.FfnIdeal.nD Cert.FfnIdeal.τ).loc Cert.FfnIdeal.main_v7_5) = v5 c
          ∧ r.2.mem ((c.tc : Thread Cert.FfnIdeal.nD Cert.FfnIdeal.τ).loc Cert.FfnIdeal.main_v7_6) = v6 c
          ∧ r.2.mem ((c.tc : Thread Cert.FfnIdeal.nD Cert.FfnIdeal.τ).loc Cert.FfnIdeal.main_v7_7) = v7 c
          ∧ r.2.mem ((c.tc : Thread Cert.FfnIdeal.nD Cert.FfnIdeal.τ).loc Cert.FfnIdeal.main_v7_8) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v101) = v0 c
          ∧ r.2.mem ((c.tc : Thread Cert.FfnReferenceIdeal.nD Cert.FfnReferenceIdeal.τ).loc Cert.FfnReferenceIdeal.main_v106) = v1 c
          ∧ r.2.mem ((c.tc : Thread Cert.FfnReferenceIdeal.nD Cert.FfnReferenceIdeal.τ).loc Cert.FfnReferenceIdeal.main_v107) = v2 c
          ∧ r.2.mem ((c.tc : Thread Cert.FfnReferenceIdeal.nD Cert.FfnReferenceIdeal.τ).loc Cert.FfnReferenceIdeal.main_v111) = v3 c
          ∧ r.2.mem ((c.tc : Thread Cert.FfnReferenceIdeal.nD Cert.FfnReferenceIdeal.τ).loc Cert.FfnReferenceIdeal.main_v100) = v4 c
          ∧ r.2.mem ((c.tc : Thread Cert.FfnReferenceIdeal.nD Cert.FfnReferenceIdeal.τ).loc Cert.FfnReferenceIdeal.main_v112) = v5 c
          ∧ r.2.mem ((c.tc : Thread Cert.FfnReferenceIdeal.nD Cert.FfnReferenceIdeal.τ).loc Cert.FfnReferenceIdeal.main_v83) = v6 c
          ∧ r.2.mem ((c.tc : Thread Cert.FfnReferenceIdeal.nD Cert.FfnReferenceIdeal.τ).loc Cert.FfnReferenceIdeal.main_v113) = v7 c
          ∧ r.2.mem ((c.tc : Thread Cert.FfnReferenceIdeal.nD Cert.FfnReferenceIdeal.τ).loc Cert.FfnReferenceIdeal.main_v55) = v8 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_FfnBwd_FfnBwdIdeal : Prop :=
  True

def algebraic_FfnBwdIdeal_FfnBwdReferenceIdeal_pre_finite3 [hFfnBwdIdeal : Cert.FfnBwdIdeal.Facts] [hFfnBwdReferenceIdeal : Cert.FfnBwdReferenceIdeal.Facts] [hPre_finite3 : Cert.Pre_finite3.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdReferenceIdeal.nD Cert.FfnBwdReferenceIdeal.τ Cert.FfnBwdReferenceIdeal.sig) → Buf (Elt Ideal) ℓ) (g' : Dev Cert.FfnBwdReferenceIdeal.nD → PrngReg), Pre_FfnBwdIdeal_finite3 m →
    (∀ c : Dev Cert.FfnBwdIdeal.nD,
      m' ((c.tc : Thread Cert.FfnBwdReferenceIdeal.nD Cert.FfnBwdReferenceIdeal.τ).loc Cert.FfnBwdReferenceIdeal.main_arg0) = m ((c.tc : Thread Cert.FfnBwdIdeal.nD Cert.FfnBwdIdeal.τ).loc Cert.FfnBwdIdeal.main_arg0)
      ∧ m' ((c.tc : Thread Cert.FfnBwdReferenceIdeal.nD Cert.FfnBwdReferenceIdeal.τ).loc Cert.FfnBwdReferenceIdeal.main_arg1) = m ((c.tc : Thread Cert.FfnBwdIdeal.nD Cert.FfnBwdIdeal.τ).loc Cert.FfnBwdIdeal.main_arg1)
      ∧ m' ((c.tc : Thread Cert.FfnBwdReferenceIdeal.nD Cert.FfnBwdReferenceIdeal.τ).loc Cert.FfnBwdReferenceIdeal.main_arg2) = m ((c.tc : Thread Cert.FfnBwdIdeal.nD Cert.FfnBwdIdeal.τ).loc Cert.FfnBwdIdeal.main_arg2)
      ∧ m' ((c.tc : Thread Cert.FfnBwdReferenceIdeal.nD Cert.FfnBwdReferenceIdeal.τ).loc Cert.FfnBwdReferenceIdeal.main_arg3) = m ((c.tc : Thread Cert.FfnBwdIdeal.nD Cert.FfnBwdIdeal.τ).loc Cert.FfnBwdIdeal.main_arg3)
      ∧ m' ((c.tc : Thread Cert.FfnBwdReferenceIdeal.nD Cert.FfnBwdReferenceIdeal.τ).loc Cert.FfnBwdReferenceIdeal.main_arg4) = m ((c.tc : Thread Cert.FfnBwdIdeal.nD Cert.FfnBwdIdeal.τ).loc Cert.FfnBwdIdeal.main_arg4)
      ∧ m' ((c.tc : Thread Cert.FfnBwdReferenceIdeal.nD Cert.FfnBwdReferenceIdeal.τ).loc Cert.FfnBwdReferenceIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v7_0)) (v1 : (c : Dev Cert.FfnBwdIdeal.nD) → Buf (Elt Ideal) ((c.tc : Thread Cert.FfnBwdIdeal.nD Cert.FfnBwdIdeal.τ).loc Cert.FfnBwdIdeal.main_v7_1)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v7_0) = v0 c
          ∧ r.2.mem ((c.tc : Thread Cert.FfnBwdIdeal.nD Cert.FfnBwdIdeal.τ).loc Cert.FfnBwdIdeal.main_v7_1) = v1 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdReferenceIdeal.defs (F := Ideal)) (onTc (τ := Cert.FfnBwdReferenceIdeal.τ) (Cert.FfnBwdReferenceIdeal.main (F := Ideal))) ⟨m', fun _ => 0, g'⟩ (fun r => ∀ c : Dev Cert.FfnBwdReferenceIdeal.nD,
          r.2.mem ((c.tc : Thread Cert.FfnBwdReferenceIdeal.nD Cert.FfnBwdReferenceIdeal.τ).loc Cert.FfnBwdReferenceIdeal.main_v43) = v0 c
          ∧ r.2.mem ((c.tc : Thread Cert.FfnBwdReferenceIdeal.nD Cert.FfnBwdReferenceIdeal.τ).loc Cert.FfnBwdReferenceIdeal.main_v26) = v1 c
          ∧ r.2.mem ((c.tc : Thread Cert.FfnBwdReferenceIdeal.nD Cert.FfnBwdReferenceIdeal.τ).loc Cert.FfnBwdReferenceIdeal.main_arg0) = m' ((c.tc : Thread Cert.FfnBwdReferenceIdeal.nD Cert.FfnBwdReferenceIdeal.τ).loc Cert.FfnBwdReferenceIdeal.main_arg0)
          ∧ r.2.mem ((c.tc : Thread Cert.FfnBwdReferenceIdeal.nD Cert.FfnBwdReferenceIdeal.τ).loc Cert.FfnBwdReferenceIdeal.main_arg1) = m' ((c.tc : Thread Cert.FfnBwdReferenceIdeal.nD Cert.FfnBwdReferenceIdeal.τ).loc Cert.FfnBwdReferenceIdeal.main_arg1)
          ∧ r.2.mem ((c.tc : Thread Cert.FfnBwdReferenceIdeal.nD Cert.FfnBwdReferenceIdeal.τ).loc Cert.FfnBwdReferenceIdeal.main_arg2) = m' ((c.tc : Thread Cert.FfnBwdReferenceIdeal.nD Cert.FfnBwdReferenceIdeal.τ).loc Cert.FfnBwdReferenceIdeal.main_arg2)
          ∧ r.2.mem ((c.tc : Thread Cert.FfnBwdReferenceIdeal.nD Cert.FfnBwdReferenceIdeal.τ).loc Cert.FfnBwdReferenceIdeal.main_arg3) = m' ((c.tc : Thread Cert.FfnBwdReferenceIdeal.nD Cert.FfnBwdReferenceIdeal.τ).loc Cert.FfnBwdReferenceIdeal.main_arg3)
          ∧ r.2.mem ((c.tc : Thread Cert.FfnBwdReferenceIdeal.nD Cert.FfnBwdReferenceIdeal.τ).loc Cert.FfnBwdReferenceIdeal.main_arg4) = m' ((c.tc : Thread Cert.FfnBwdReferenceIdeal.nD Cert.FfnBwdReferenceIdeal.τ).loc Cert.FfnBwdReferenceIdeal.main_arg4)
          ∧ r.2.mem ((c.tc : Thread Cert.FfnBwdReferenceIdeal.nD Cert.FfnBwdReferenceIdeal.τ).loc Cert.FfnBwdReferenceIdeal.main_arg5) = m' ((c.tc : Thread Cert.FfnBwdReferenceIdeal.nD Cert.FfnBwdReferenceIdeal.τ).loc Cert.FfnBwdReferenceIdeal.main_arg5))

def preserves_ProjBwd_ProjBwdIdeal : Prop :=
  True

def algebraic_ProjBwdIdeal_ProjBwdReferenceIdeal_pre_finite4 [hProjBwdIdeal : Cert.ProjBwdIdeal.Facts] [hProjBwdReferenceIdeal : Cert.ProjBwdReferenceIdeal.Facts] [hPre_finite4 : Cert.Pre_finite4.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdReferenceIdeal.nD Cert.ProjBwdReferenceIdeal.τ Cert.ProjBwdReferenceIdeal.sig) → Buf (Elt Ideal) ℓ) (g' : Dev Cert.ProjBwdReferenceIdeal.nD → PrngReg), Pre_ProjBwdIdeal_finite4 m →
    (∀ c : Dev Cert.ProjBwdIdeal.nD,
      m' ((c.tc : Thread Cert.ProjBwdReferenceIdeal.nD Cert.ProjBwdReferenceIdeal.τ).loc Cert.ProjBwdReferenceIdeal.main_arg0) = m ((c.tc : Thread Cert.ProjBwdIdeal.nD Cert.ProjBwdIdeal.τ).loc Cert.ProjBwdIdeal.main_arg0)
      ∧ m' ((c.tc : Thread Cert.ProjBwdReferenceIdeal.nD Cert.ProjBwdReferenceIdeal.τ).loc Cert.ProjBwdReferenceIdeal.main_arg1) = m ((c.tc : Thread Cert.ProjBwdIdeal.nD Cert.ProjBwdIdeal.τ).loc Cert.ProjBwdIdeal.main_arg1)
      ∧ m' ((c.tc : Thread Cert.ProjBwdReferenceIdeal.nD Cert.ProjBwdReferenceIdeal.τ).loc Cert.ProjBwdReferenceIdeal.main_arg2) = m ((c.tc : Thread Cert.ProjBwdIdeal.nD Cert.ProjBwdIdeal.τ).loc Cert.ProjBwdIdeal.main_arg2)
      ∧ m' ((c.tc : Thread Cert.ProjBwdReferenceIdeal.nD Cert.ProjBwdReferenceIdeal.τ).loc Cert.ProjBwdReferenceIdeal.main_arg3) = m ((c.tc : Thread Cert.ProjBwdIdeal.nD Cert.ProjBwdIdeal.τ).loc Cert.ProjBwdIdeal.main_arg3)
      ∧ m' ((c.tc : Thread Cert.ProjBwdReferenceIdeal.nD Cert.ProjBwdReferenceIdeal.τ).loc Cert.ProjBwdReferenceIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v42_0)) (v1 : (c : Dev Cert.ProjBwdIdeal.nD) → Buf (Elt Ideal) ((c.tc : Thread Cert.ProjBwdIdeal.nD Cert.ProjBwdIdeal.τ).loc Cert.ProjBwdIdeal.main_v42_1)) (v2 : (c : Dev Cert.ProjBwdIdeal.nD) → Buf (Elt Ideal) ((c.tc : Thread Cert.ProjBwdIdeal.nD Cert.ProjBwdIdeal.τ).loc Cert.ProjBwdIdeal.main_v42_2)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v42_0) = v0 c
          ∧ r.2.mem ((c.tc : Thread Cert.ProjBwdIdeal.nD Cert.ProjBwdIdeal.τ).loc Cert.ProjBwdIdeal.main_v42_1) = v1 c
          ∧ r.2.mem ((c.tc : Thread Cert.ProjBwdIdeal.nD Cert.ProjBwdIdeal.τ).loc Cert.ProjBwdIdeal.main_v42_2) = v2 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjBwdReferenceIdeal.defs (F := Ideal)) (onTc (τ := Cert.ProjBwdReferenceIdeal.τ) (Cert.ProjBwdReferenceIdeal.main (F := Ideal))) ⟨m', fun _ => 0, g'⟩ (fun r => ∀ c : Dev Cert.ProjBwdReferenceIdeal.nD,
          r.2.mem ((c.tc : Thread Cert.ProjBwdReferenceIdeal.nD Cert.ProjBwdReferenceIdeal.τ).loc Cert.ProjBwdReferenceIdeal.main_v36) = v0 c
          ∧ r.2.mem ((c.tc : Thread Cert.ProjBwdReferenceIdeal.nD Cert.ProjBwdReferenceIdeal.τ).loc Cert.ProjBwdReferenceIdeal.main_v37) = v1 c
          ∧ r.2.mem ((c.tc : Thread Cert.ProjBwdReferenceIdeal.nD Cert.ProjBwdReferenceIdeal.τ).loc Cert.ProjBwdReferenceIdeal.main_v19) = v2 c
          ∧ r.2.mem ((c.tc : Thread Cert.ProjBwdReferenceIdeal.nD Cert.ProjBwdReferenceIdeal.τ).loc Cert.ProjBwdReferenceIdeal.main_arg0) = m' ((c.tc : Thread Cert.ProjBwdReferenceIdeal.nD Cert.ProjBwdReferenceIdeal.τ).loc Cert.ProjBwdReferenceIdeal.main_arg0)
          ∧ r.2.mem ((c.tc : Thread Cert.ProjBwdReferenceIdeal.nD Cert.ProjBwdReferenceIdeal.τ).loc Cert.ProjBwdReferenceIdeal.main_arg1) = m' ((c.tc : Thread Cert.ProjBwdReferenceIdeal.nD Cert.ProjBwdReferenceIdeal.τ).loc Cert.ProjBwdReferenceIdeal.main_arg1)
          ∧ r.2.mem ((c.tc : Thread Cert.ProjBwdReferenceIdeal.nD Cert.ProjBwdReferenceIdeal.τ).loc Cert.ProjBwdReferenceIdeal.main_arg2) = m' ((c.tc : Thread Cert.ProjBwdReferenceIdeal.nD Cert.ProjBwdReferenceIdeal.τ).loc Cert.ProjBwdReferenceIdeal.main_arg2)
          ∧ r.2.mem ((c.tc : Thread Cert.ProjBwdReferenceIdeal.nD Cert.ProjBwdReferenceIdeal.τ).loc Cert.ProjBwdReferenceIdeal.main_arg3) = m' ((c.tc : Thread Cert.ProjBwdReferenceIdeal.nD Cert.ProjBwdReferenceIdeal.τ).loc Cert.ProjBwdReferenceIdeal.main_arg3)
          ∧ r.2.mem ((c.tc : Thread Cert.ProjBwdReferenceIdeal.nD Cert.ProjBwdReferenceIdeal.τ).loc Cert.ProjBwdReferenceIdeal.main_arg4) = m' ((c.tc : Thread Cert.ProjBwdReferenceIdeal.nD Cert.ProjBwdReferenceIdeal.τ).loc Cert.ProjBwdReferenceIdeal.main_arg4))

def preserves_FfnDw_FfnDwIdeal : Prop :=
  True

def algebraic_FfnDwIdeal_FfnDwReferenceIdeal [hFfnDwIdeal : Cert.FfnDwIdeal.Facts] [hFfnDwReferenceIdeal : Cert.FfnDwReferenceIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwReferenceIdeal.nD Cert.FfnDwReferenceIdeal.τ Cert.FfnDwReferenceIdeal.sig) → Buf (Elt Ideal) ℓ) (g' : Dev Cert.FfnDwReferenceIdeal.nD → PrngReg), Pre_FfnDwIdeal m →
    (∀ c : Dev Cert.FfnDwIdeal.nD,
      m' ((c.tc : Thread Cert.FfnDwReferenceIdeal.nD Cert.FfnDwReferenceIdeal.τ).loc Cert.FfnDwReferenceIdeal.main_arg0) = m ((c.tc : Thread Cert.FfnDwIdeal.nD Cert.FfnDwIdeal.τ).loc Cert.FfnDwIdeal.main_arg0)
      ∧ m' ((c.tc : Thread Cert.FfnDwReferenceIdeal.nD Cert.FfnDwReferenceIdeal.τ).loc Cert.FfnDwReferenceIdeal.main_arg1) = m ((c.tc : Thread Cert.FfnDwIdeal.nD Cert.FfnDwIdeal.τ).loc Cert.FfnDwIdeal.main_arg1)
      ∧ m' ((c.tc : Thread Cert.FfnDwReferenceIdeal.nD Cert.FfnDwReferenceIdeal.τ).loc Cert.FfnDwReferenceIdeal.main_arg2) = m ((c.tc : Thread Cert.FfnDwIdeal.nD Cert.FfnDwIdeal.τ).loc Cert.FfnDwIdeal.main_arg2)) →
    ∃ (v0 : (c : Dev Cert.FfnDwIdeal.nD) → Buf (Elt Ideal) ((c.tc : Thread Cert.FfnDwIdeal.nD Cert.FfnDwIdeal.τ).loc Cert.FfnDwIdeal.main_v3)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v3) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
          ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2))
      ∧ θ_run (Cert.FfnDwReferenceIdeal.defs (F := Ideal)) (onTc (τ := Cert.FfnDwReferenceIdeal.τ) (Cert.FfnDwReferenceIdeal.main (F := Ideal))) ⟨m', fun _ => 0, g'⟩ (fun r => ∀ c : Dev Cert.FfnDwReferenceIdeal.nD,
          r.2.mem ((c.tc : Thread Cert.FfnDwReferenceIdeal.nD Cert.FfnDwReferenceIdeal.τ).loc Cert.FfnDwReferenceIdeal.main_v17) = v0 c
          ∧ r.2.mem ((c.tc : Thread Cert.FfnDwReferenceIdeal.nD Cert.FfnDwReferenceIdeal.τ).loc Cert.FfnDwReferenceIdeal.main_arg0) = m' ((c.tc : Thread Cert.FfnDwReferenceIdeal.nD Cert.FfnDwReferenceIdeal.τ).loc Cert.FfnDwReferenceIdeal.main_arg0)
          ∧ r.2.mem ((c.tc : Thread Cert.FfnDwReferenceIdeal.nD Cert.FfnDwReferenceIdeal.τ).loc Cert.FfnDwReferenceIdeal.main_arg1) = m' ((c.tc : Thread Cert.FfnDwReferenceIdeal.nD Cert.FfnDwReferenceIdeal.τ).loc Cert.FfnDwReferenceIdeal.main_arg1)
          ∧ r.2.mem ((c.tc : Thread Cert.FfnDwReferenceIdeal.nD Cert.FfnDwReferenceIdeal.τ).loc Cert.FfnDwReferenceIdeal.main_arg2) = m' ((c.tc : Thread Cert.FfnDwReferenceIdeal.nD Cert.FfnDwReferenceIdeal.τ).loc Cert.FfnDwReferenceIdeal.main_arg2))

def preserves_FfnGate_FfnGateIdeal : Prop :=
  True

def algebraic_FfnGateIdeal_FfnGateReferenceIdeal_pre_finite6 [hFfnGateIdeal : Cert.FfnGateIdeal.Facts] [hFfnGateReferenceIdeal : Cert.FfnGateReferenceIdeal.Facts] [hPre_finite6 : Cert.Pre_finite6.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateReferenceIdeal.nD Cert.FfnGateReferenceIdeal.τ Cert.FfnGateReferenceIdeal.sig) → Buf (Elt Ideal) ℓ) (g' : Dev Cert.FfnGateReferenceIdeal.nD → PrngReg), Pre_FfnGateIdeal_finite6 m →
    (∀ c : Dev Cert.FfnGateIdeal.nD,
      m' ((c.tc : Thread Cert.FfnGateReferenceIdeal.nD Cert.FfnGateReferenceIdeal.τ).loc Cert.FfnGateReferenceIdeal.main_arg0) = m ((c.tc : Thread Cert.FfnGateIdeal.nD Cert.FfnGateIdeal.τ).loc Cert.FfnGateIdeal.main_arg0)
      ∧ m' ((c.tc : Thread Cert.FfnGateReferenceIdeal.nD Cert.FfnGateReferenceIdeal.τ).loc Cert.FfnGateReferenceIdeal.main_arg1) = m ((c.tc : Thread Cert.FfnGateIdeal.nD Cert.FfnGateIdeal.τ).loc Cert.FfnGateIdeal.main_arg1)
      ∧ m' ((c.tc : Thread Cert.FfnGateReferenceIdeal.nD Cert.FfnGateReferenceIdeal.τ).loc Cert.FfnGateReferenceIdeal.main_arg2) = m ((c.tc : Thread Cert.FfnGateIdeal.nD Cert.FfnGateIdeal.τ).loc Cert.FfnGateIdeal.main_arg2)
      ∧ m' ((c.tc : Thread Cert.FfnGateReferenceIdeal.nD Cert.FfnGateReferenceIdeal.τ).loc Cert.FfnGateReferenceIdeal.main_arg3) = m ((c.tc : Thread Cert.FfnGateIdeal.nD Cert.FfnGateIdeal.τ).loc Cert.FfnGateIdeal.main_arg3)) →
    ∃ (v0 : (c : Dev Cert.FfnGateIdeal.nD) → Buf (Elt Ideal) ((c.tc : Thread Cert.FfnGateIdeal.nD Cert.FfnGateIdeal.τ).loc Cert.FfnGateIdeal.main_v9)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v9) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
          ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
          ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ θ_run (Cert.FfnGateReferenceIdeal.defs (F := Ideal)) (onTc (τ := Cert.FfnGateReferenceIdeal.τ) (Cert.FfnGateReferenceIdeal.main (F := Ideal))) ⟨m', fun _ => 0, g'⟩ (fun r => ∀ c : Dev Cert.FfnGateReferenceIdeal.nD,
          r.2.mem ((c.tc : Thread Cert.FfnGateReferenceIdeal.nD Cert.FfnGateReferenceIdeal.τ).loc Cert.FfnGateReferenceIdeal.main_v14) = v0 c
          ∧ r.2.mem ((c.tc : Thread Cert.FfnGateReferenceIdeal.nD Cert.FfnGateReferenceIdeal.τ).loc Cert.FfnGateReferenceIdeal.main_arg0) = m' ((c.tc : Thread Cert.FfnGateReferenceIdeal.nD Cert.FfnGateReferenceIdeal.τ).loc Cert.FfnGateReferenceIdeal.main_arg0)
          ∧ r.2.mem ((c.tc : Thread Cert.FfnGateReferenceIdeal.nD Cert.FfnGateReferenceIdeal.τ).loc Cert.FfnGateReferenceIdeal.main_arg1) = m' ((c.tc : Thread Cert.FfnGateReferenceIdeal.nD Cert.FfnGateReferenceIdeal.τ).loc Cert.FfnGateReferenceIdeal.main_arg1)
          ∧ r.2.mem ((c.tc : Thread Cert.FfnGateReferenceIdeal.nD Cert.FfnGateReferenceIdeal.τ).loc Cert.FfnGateReferenceIdeal.main_arg2) = m' ((c.tc : Thread Cert.FfnGateReferenceIdeal.nD Cert.FfnGateReferenceIdeal.τ).loc Cert.FfnGateReferenceIdeal.main_arg2)
          ∧ r.2.mem ((c.tc : Thread Cert.FfnGateReferenceIdeal.nD Cert.FfnGateReferenceIdeal.τ).loc Cert.FfnGateReferenceIdeal.main_arg3) = m' ((c.tc : Thread Cert.FfnGateReferenceIdeal.nD Cert.FfnGateReferenceIdeal.τ).loc Cert.FfnGateReferenceIdeal.main_arg3))

def preserves_ProjDwA_ProjDwAIdeal : Prop :=
  True

def algebraic_ProjDwAIdeal_ProjDwAReferenceIdeal [hProjDwAIdeal : Cert.ProjDwAIdeal.Facts] [hProjDwAReferenceIdeal : Cert.ProjDwAReferenceIdeal.Facts] : Prop :=
  ∀ (m : (ℓ : Loc Cert.ProjDwAIdeal.nD Cert.ProjDwAIdeal.τ Cert.ProjDwAIdeal.sig) → Buf (Elt Ideal) ℓ) (g : Dev Cert.ProjDwAIdeal.nD → PrngReg)
    (m' : (ℓ : Loc Cert.ProjDwAReferenceIdeal.nD Cert.ProjDwAReferenceIdeal.τ Cert.ProjDwAReferenceIdeal.sig) → Buf (Elt Ideal) ℓ) (g' : Dev Cert.ProjDwAReferenceIdeal.nD → PrngReg), Pre_ProjDwAIdeal m →
    (∀ c : Dev Cert.ProjDwAIdeal.nD,
      m' ((c.tc : Thread Cert.ProjDwAReferenceIdeal.nD Cert.ProjDwAReferenceIdeal.τ).loc Cert.ProjDwAReferenceIdeal.main_arg0) = m ((c.tc : Thread Cert.ProjDwAIdeal.nD Cert.ProjDwAIdeal.τ).loc Cert.ProjDwAIdeal.main_arg0)
      ∧ m' ((c.tc : Thread Cert.ProjDwAReferenceIdeal.nD Cert.ProjDwAReferenceIdeal.τ).loc Cert.ProjDwAReferenceIdeal.main_arg1) = m ((c.tc : Thread Cert.ProjDwAIdeal.nD Cert.ProjDwAIdeal.τ).loc Cert.ProjDwAIdeal.main_arg1)
      ∧ m' ((c.tc : Thread Cert.ProjDwAReferenceIdeal.nD Cert.ProjDwAReferenceIdeal.τ).loc Cert.ProjDwAReferenceIdeal.main_arg2) = m ((c.tc : Thread Cert.ProjDwAIdeal.nD Cert.ProjDwAIdeal.τ).loc Cert.ProjDwAIdeal.main_arg2)) →
    ∃ (v0 : (c : Dev Cert.ProjDwAIdeal.nD) → Buf (Elt Ideal) ((c.tc : Thread Cert.ProjDwAIdeal.nD Cert.ProjDwAIdeal.τ).loc Cert.ProjDwAIdeal.main_v34)),
      θ_run (Cert.ProjDwAIdeal.defs (F := Ideal)) (onTc (τ := Cert.ProjDwAIdeal.τ) (Cert.ProjDwAIdeal.main (F := Ideal))) ⟨m, fun _ => 0, g⟩ (fun r => ∀ c : Dev Cert.ProjDwAIdeal.nD,
          r.2.mem ((c.tc : Thread Cert.ProjDwAIdeal.nD Cert.ProjDwAIdeal.τ).loc Cert.ProjDwAIdeal.main_v34) = v0 c
          ∧ r.2.mem ((c.tc : Thread Cert.ProjDwAIdeal.nD Cert.ProjDwAIdeal.τ).loc Cert.ProjDwAIdeal.main_arg0) = m ((c.tc : Thread Cert.ProjDwAIdeal.nD Cert.ProjDwAIdeal.τ).loc Cert.ProjDwAIdeal.main_arg0)
          ∧ r.2.mem ((c.tc : Thread Cert.ProjDwAIdeal.nD Cert.ProjDwAIdeal.τ).loc Cert.ProjDwAIdeal.main_arg1) = m ((c.tc : Thread Cert.ProjDwAIdeal.nD Cert.ProjDwAIdeal.τ).loc Cert.ProjDwAIdeal.main_arg1)
          ∧ r.2.mem ((c.tc : Thread Cert.ProjDwAIdeal.nD Cert.ProjDwAIdeal.τ).loc Cert.ProjDwAIdeal.main_arg2) = m ((c.tc : Thread Cert.ProjDwAIdeal.nD Cert.ProjDwAIdeal.τ).loc Cert.ProjDwAIdeal.main_arg2))
      ∧ θ_run (Cert.ProjDwAReferenceIdeal.defs (F := Ideal)) (onTc (τ := Cert.ProjDwAReferenceIdeal.τ) (Cert.ProjDwAReferenceIdeal.main (F := Ideal))) ⟨m', fun _ => 0, g'⟩ (fun r => ∀ c : Dev Cert.ProjDwAReferenceIdeal.nD,
          r.2.mem ((c.tc : Thread Cert.ProjDwAReferenceIdeal.nD Cert.ProjDwAReferenceIdeal.τ).loc Cert.ProjDwAReferenceIdeal.main_v14) = v0 c
          ∧ r.2.mem ((c.tc : Thread Cert.ProjDwAReferenceIdeal.nD Cert.ProjDwAReferenceIdeal.τ).loc Cert.ProjDwAReferenceIdeal.main_arg0) = m' ((c.tc : Thread Cert.ProjDwAReferenceIdeal.nD Cert.ProjDwAReferenceIdeal.τ).loc Cert.ProjDwAReferenceIdeal.main_arg0)
          ∧ r.2.mem ((c.tc : Thread Cert.ProjDwAReferenceIdeal.nD Cert.ProjDwAReferenceIdeal.τ).loc Cert.ProjDwAReferenceIdeal.main_arg1) = m' ((c.tc : Thread Cert.ProjDwAReferenceIdeal.nD Cert.ProjDwAReferenceIdeal.τ).loc Cert.ProjDwAReferenceIdeal.main_arg1)
          ∧ r.2.mem ((c.tc : Thread Cert.ProjDwAReferenceIdeal.nD Cert.ProjDwAReferenceIdeal.τ).loc Cert.ProjDwAReferenceIdeal.main_arg2) = m' ((c.tc : Thread Cert.ProjDwAReferenceIdeal.nD Cert.ProjDwAReferenceIdeal.τ).loc Cert.ProjDwAReferenceIdeal.main_arg2))

def preserves_ProjDwB_ProjDwBIdeal : Prop :=
  True

def algebraic_ProjDwBIdeal_ProjDwBReferenceIdeal [hProjDwBIdeal : Cert.ProjDwBIdeal.Facts] [hProjDwBReferenceIdeal : Cert.ProjDwBReferenceIdeal.Facts] : Prop :=
  ∀ (m : (ℓ : Loc Cert.ProjDwBIdeal.nD Cert.ProjDwBIdeal.τ Cert.ProjDwBIdeal.sig) → Buf (Elt Ideal) ℓ) (g : Dev Cert.ProjDwBIdeal.nD → PrngReg)
    (m' : (ℓ : Loc Cert.ProjDwBReferenceIdeal.nD Cert.ProjDwBReferenceIdeal.τ Cert.ProjDwBReferenceIdeal.sig) → Buf (Elt Ideal) ℓ) (g' : Dev Cert.ProjDwBReferenceIdeal.nD → PrngReg), Pre_ProjDwBIdeal m →
    (∀ c : Dev Cert.ProjDwBIdeal.nD,
      m' ((c.tc : Thread Cert.ProjDwBReferenceIdeal.nD Cert.ProjDwBReferenceIdeal.τ).loc Cert.ProjDwBReferenceIdeal.main_arg0) = m ((c.tc : Thread Cert.ProjDwBIdeal.nD Cert.ProjDwBIdeal.τ).loc Cert.ProjDwBIdeal.main_arg0)
      ∧ m' ((c.tc : Thread Cert.ProjDwBReferenceIdeal.nD Cert.ProjDwBReferenceIdeal.τ).loc Cert.ProjDwBReferenceIdeal.main_arg1) = m ((c.tc : Thread Cert.ProjDwBIdeal.nD Cert.ProjDwBIdeal.τ).loc Cert.ProjDwBIdeal.main_arg1)
      ∧ m' ((c.tc : Thread Cert.ProjDwBReferenceIdeal.nD Cert.ProjDwBReferenceIdeal.τ).loc Cert.ProjDwBReferenceIdeal.main_arg2) = m ((c.tc : Thread Cert.ProjDwBIdeal.nD Cert.ProjDwBIdeal.τ).loc Cert.ProjDwBIdeal.main_arg2)) →
    ∃ (v0 : (c : Dev Cert.ProjDwBIdeal.nD) → Buf (Elt Ideal) ((c.tc : Thread Cert.ProjDwBIdeal.nD Cert.ProjDwBIdeal.τ).loc Cert.ProjDwBIdeal.main_v11)),
      θ_run (Cert.ProjDwBIdeal.defs (F := Ideal)) (onTc (τ := Cert.ProjDwBIdeal.τ) (Cert.ProjDwBIdeal.main (F := Ideal))) ⟨m, fun _ => 0, g⟩ (fun r => ∀ c : Dev Cert.ProjDwBIdeal.nD,
          r.2.mem ((c.tc : Thread Cert.ProjDwBIdeal.nD Cert.ProjDwBIdeal.τ).loc Cert.ProjDwBIdeal.main_v11) = v0 c
          ∧ r.2.mem ((c.tc : Thread Cert.ProjDwBIdeal.nD Cert.ProjDwBIdeal.τ).loc Cert.ProjDwBIdeal.main_arg0) = m ((c.tc : Thread Cert.ProjDwBIdeal.nD Cert.ProjDwBIdeal.τ).loc Cert.ProjDwBIdeal.main_arg0)
          ∧ r.2.mem ((c.tc : Thread Cert.ProjDwBIdeal.nD Cert.ProjDwBIdeal.τ).loc Cert.ProjDwBIdeal.main_arg1) = m ((c.tc : Thread Cert.ProjDwBIdeal.nD Cert.ProjDwBIdeal.τ).loc Cert.ProjDwBIdeal.main_arg1)
          ∧ r.2.mem ((c.tc : Thread Cert.ProjDwBIdeal.nD Cert.ProjDwBIdeal.τ).loc Cert.ProjDwBIdeal.main_arg2) = m ((c.tc : Thread Cert.ProjDwBIdeal.nD Cert.ProjDwBIdeal.τ).loc Cert.ProjDwBIdeal.main_arg2))
      ∧ θ_run (Cert.ProjDwBReferenceIdeal.defs (F := Ideal)) (onTc (τ := Cert.ProjDwBReferenceIdeal.τ) (Cert.ProjDwBReferenceIdeal.main (F := Ideal))) ⟨m', fun _ => 0, g'⟩ (fun r => ∀ c : Dev Cert.ProjDwBReferenceIdeal.nD,
          r.2.mem ((c.tc : Thread Cert.ProjDwBReferenceIdeal.nD Cert.ProjDwBReferenceIdeal.τ).loc Cert.ProjDwBReferenceIdeal.main_v14) = v0 c
          ∧ r.2.mem ((c.tc : Thread Cert.ProjDwBReferenceIdeal.nD Cert.ProjDwBReferenceIdeal.τ).loc Cert.ProjDwBReferenceIdeal.main_arg0) = m' ((c.tc : Thread Cert.ProjDwBReferenceIdeal.nD Cert.ProjDwBReferenceIdeal.τ).loc Cert.ProjDwBReferenceIdeal.main_arg0)
          ∧ r.2.mem ((c.tc : Thread Cert.ProjDwBReferenceIdeal.nD Cert.ProjDwBReferenceIdeal.τ).loc Cert.ProjDwBReferenceIdeal.main_arg1) = m' ((c.tc : Thread Cert.ProjDwBReferenceIdeal.nD Cert.ProjDwBReferenceIdeal.τ).loc Cert.ProjDwBReferenceIdeal.main_arg1)
          ∧ r.2.mem ((c.tc : Thread Cert.ProjDwBReferenceIdeal.nD Cert.ProjDwBReferenceIdeal.τ).loc Cert.ProjDwBReferenceIdeal.main_arg2) = m' ((c.tc : Thread Cert.ProjDwBReferenceIdeal.nD Cert.ProjDwBReferenceIdeal.τ).loc Cert.ProjDwBReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v7)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v7) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v8) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v9_0)) (v1 : (c : Dev Cert.FfnDownIdeal.nD) → Buf (Elt Ideal) ((c.tc : Thread Cert.FfnDownIdeal.nD Cert.FfnDownIdeal.τ).loc Cert.FfnDownIdeal.main_v9_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v9_0) = v0 c
          ∧ r.2.mem ((c.tc : Thread Cert.FfnDownIdeal.nD Cert.FfnDownIdeal.τ).loc Cert.FfnDownIdeal.main_v9_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_v16) = v1 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)) (v3 : (c : Dev Cert.MergeIdeal.nD) → Buf (Elt Ideal) ((c.tc : Thread Cert.MergeIdeal.nD Cert.MergeIdeal.τ).loc Cert.MergeIdeal.main_v8_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_v8_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v16) = v0 c
          ∧ r.2.mem ((c.tc : Thread Cert.MergeReferenceIdeal.nD Cert.MergeReferenceIdeal.τ).loc Cert.MergeReferenceIdeal.main_v17) = v1 c
          ∧ r.2.mem ((c.tc : Thread Cert.MergeReferenceIdeal.nD Cert.MergeReferenceIdeal.τ).loc Cert.MergeReferenceIdeal.main_v18) = v2 c
          ∧ r.2.mem ((c.tc : Thread Cert.MergeReferenceIdeal.nD Cert.MergeReferenceIdeal.τ).loc Cert.MergeReferenceIdeal.main_v20) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_FfnDwDown_FfnDwDownIdeal : Prop :=
  True

def algebraic_FfnDwDownIdeal_FfnDwDownReferenceIdeal [hFfnDwDownIdeal : Cert.FfnDwDownIdeal.Facts] [hFfnDwDownReferenceIdeal : Cert.FfnDwDownReferenceIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownReferenceIdeal.nD Cert.FfnDwDownReferenceIdeal.τ Cert.FfnDwDownReferenceIdeal.sig) → Buf (Elt Ideal) ℓ) (g' : Dev Cert.FfnDwDownReferenceIdeal.nD → PrngReg), Pre_FfnDwDownIdeal m →
    (∀ c : Dev Cert.FfnDwDownIdeal.nD,
      m' ((c.tc : Thread Cert.FfnDwDownReferenceIdeal.nD Cert.FfnDwDownReferenceIdeal.τ).loc Cert.FfnDwDownReferenceIdeal.main_arg0) = m ((c.tc : Thread Cert.FfnDwDownIdeal.nD Cert.FfnDwDownIdeal.τ).loc Cert.FfnDwDownIdeal.main_arg0)
      ∧ m' ((c.tc : Thread Cert.FfnDwDownReferenceIdeal.nD Cert.FfnDwDownReferenceIdeal.τ).loc Cert.FfnDwDownReferenceIdeal.main_arg1) = m ((c.tc : Thread Cert.FfnDwDownIdeal.nD Cert.FfnDwDownIdeal.τ).loc Cert.FfnDwDownIdeal.main_arg1)) →
    ∃ (v0 : (c : Dev Cert.FfnDwDownIdeal.nD) → Buf (Elt Ideal) ((c.tc : Thread Cert.FfnDwDownIdeal.nD Cert.FfnDwDownIdeal.τ).loc Cert.FfnDwDownIdeal.main_v8)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v8) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ θ_run (Cert.FfnDwDownReferenceIdeal.defs (F := Ideal)) (onTc (τ := Cert.FfnDwDownReferenceIdeal.τ) (Cert.FfnDwDownReferenceIdeal.main (F := Ideal))) ⟨m', fun _ => 0, g'⟩ (fun r => ∀ c : Dev Cert.FfnDwDownReferenceIdeal.nD,
          r.2.mem ((c.tc : Thread Cert.FfnDwDownReferenceIdeal.nD Cert.FfnDwDownReferenceIdeal.τ).loc Cert.FfnDwDownReferenceIdeal.main_v9) = v0 c
          ∧ r.2.mem ((c.tc : Thread Cert.FfnDwDownReferenceIdeal.nD Cert.FfnDwDownReferenceIdeal.τ).loc Cert.FfnDwDownReferenceIdeal.main_arg0) = m' ((c.tc : Thread Cert.FfnDwDownReferenceIdeal.nD Cert.FfnDwDownReferenceIdeal.τ).loc Cert.FfnDwDownReferenceIdeal.main_arg0)
          ∧ r.2.mem ((c.tc : Thread Cert.FfnDwDownReferenceIdeal.nD Cert.FfnDwDownReferenceIdeal.τ).loc Cert.FfnDwDownReferenceIdeal.main_arg1) = m' ((c.tc : Thread Cert.FfnDwDownReferenceIdeal.nD Cert.FfnDwDownReferenceIdeal.τ).loc Cert.FfnDwDownReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnBwd : Cert.FfnBwd.Facts) (hFfnBwdIdeal : Cert.FfnBwdIdeal.Facts) (hFfnBwdReferenceIdeal : Cert.FfnBwdReferenceIdeal.Facts) (hProjBwd : Cert.ProjBwd.Facts) (hProjBwdIdeal : Cert.ProjBwdIdeal.Facts) (hProjBwdReferenceIdeal : Cert.ProjBwdReferenceIdeal.Facts) (hFfnDw : Cert.FfnDw.Facts) (hFfnDwIdeal : Cert.FfnDwIdeal.Facts) (hFfnDwReferenceIdeal : Cert.FfnDwReferenceIdeal.Facts) (hFfnGate : Cert.FfnGate.Facts) (hFfnGateIdeal : Cert.FfnGateIdeal.Facts) (hFfnGateReferenceIdeal : Cert.FfnGateReferenceIdeal.Facts) (hProjDwA : Cert.ProjDwA.Facts) (hProjDwAIdeal : Cert.ProjDwAIdeal.Facts) (hProjDwAReferenceIdeal : Cert.ProjDwAReferenceIdeal.Facts) (hProjDwB : Cert.ProjDwB.Facts) (hProjDwBIdeal : Cert.ProjDwBIdeal.Facts) (hProjDwBReferenceIdeal : Cert.ProjDwBReferenceIdeal.Facts) (hProj : Cert.Proj.Facts) (hProjIdeal : Cert.ProjIdeal.Facts) (hProjReferenceIdeal : Cert.ProjReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hMerge : Cert.Merge.Facts) (hMergeIdeal : Cert.MergeIdeal.Facts) (hMergeReferenceIdeal : Cert.MergeReferenceIdeal.Facts) (hFfnDwDown : Cert.FfnDwDown.Facts) (hFfnDwDownIdeal : Cert.FfnDwDownIdeal.Facts) (hFfnDwDownReferenceIdeal : Cert.FfnDwDownReferenceIdeal.Facts) (hPre_finite : Cert.Pre_finite.Facts) (hPre_finite2 : Cert.Pre_finite2.Facts) (hPre_finite3 : Cert.Pre_finite3.Facts) (hPre_finite4 : Cert.Pre_finite4.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite2 (hFfnIdeal := hFfnIdeal) (hPre_finite2 := hPre_finite2)
    ∧ quiescent_FfnReferenceIdeal (hFfnReferenceIdeal := hFfnReferenceIdeal)
    ∧ quiescent_FfnReferenceIdeal_pre_finite2 (hFfnReferenceIdeal := hFfnReferenceIdeal) (hPre_finite2 := hPre_finite2)
    ∧ quiescent_FfnBwd (hFfnBwd := hFfnBwd)
    ∧ quiescent_FfnBwdIdeal (hFfnBwdIdeal := hFfnBwdIdeal)
    ∧ quiescent_FfnBwdIdeal_pre_finite3 (hFfnBwdIdeal := hFfnBwdIdeal) (hPre_finite3 := hPre_finite3)
    ∧ quiescent_FfnBwdReferenceIdeal (hFfnBwdReferenceIdeal := hFfnBwdReferenceIdeal)
    ∧ quiescent_FfnBwdReferenceIdeal_pre_finite3 (hFfnBwdReferenceIdeal := hFfnBwdReferenceIdeal) (hPre_finite3 := hPre_finite3)
    ∧ quiescent_ProjBwd (hProjBwd := hProjBwd)
    ∧ quiescent_ProjBwdIdeal (hProjBwdIdeal := hProjBwdIdeal)
    ∧ quiescent_ProjBwdIdeal_pre_finite4 (hProjBwdIdeal := hProjBwdIdeal) (hPre_finite4 := hPre_finite4)
    ∧ quiescent_ProjBwdReferenceIdeal (hProjBwdReferenceIdeal := hProjBwdReferenceIdeal)
    ∧ quiescent_ProjBwdReferenceIdeal_pre_finite4 (hProjBwdReferenceIdeal := hProjBwdReferenceIdeal) (hPre_finite4 := hPre_finite4)
    ∧ quiescent_FfnDw (hFfnDw := hFfnDw)
    ∧ quiescent_FfnDwIdeal (hFfnDwIdeal := hFfnDwIdeal)
    ∧ quiescent_FfnDwReferenceIdeal (hFfnDwReferenceIdeal := hFfnDwReferenceIdeal)
    ∧ quiescent_FfnGate (hFfnGate := hFfnGate)
    ∧ quiescent_FfnGateIdeal (hFfnGateIdeal := hFfnGateIdeal)
    ∧ quiescent_FfnGateIdeal_pre_finite6 (hFfnGateIdeal := hFfnGateIdeal) (hPre_finite6 := hPre_finite6)
    ∧ quiescent_FfnGateReferenceIdeal (hFfnGateReferenceIdeal := hFfnGateReferenceIdeal)
    ∧ quiescent_FfnGateReferenceIdeal_pre_finite6 (hFfnGateReferenceIdeal := hFfnGateReferenceIdeal) (hPre_finite6 := hPre_finite6)
    ∧ quiescent_ProjDwA (hProjDwA := hProjDwA)
    ∧ quiescent_ProjDwAIdeal (hProjDwAIdeal := hProjDwAIdeal)
    ∧ quiescent_ProjDwAReferenceIdeal (hProjDwAReferenceIdeal := hProjDwAReferenceIdeal)
    ∧ quiescent_ProjDwB (hProjDwB := hProjDwB)
    ∧ quiescent_ProjDwBIdeal (hProjDwBIdeal := hProjDwBIdeal)
    ∧ quiescent_ProjDwBReferenceIdeal (hProjDwBReferenceIdeal := hProjDwBReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_FfnDwDown (hFfnDwDown := hFfnDwDown)
    ∧ quiescent_FfnDwDownIdeal (hFfnDwDownIdeal := hFfnDwDownIdeal)
    ∧ quiescent_FfnDwDownReferenceIdeal (hFfnDwDownReferenceIdeal := hFfnDwDownReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite2 (hFfnIdeal := hFfnIdeal) (hFfnReferenceIdeal := hFfnReferenceIdeal) (hPre_finite2 := hPre_finite2)
    ∧ preserves_FfnBwd_FfnBwdIdeal
    ∧ algebraic_FfnBwdIdeal_FfnBwdReferenceIdeal_pre_finite3 (hFfnBwdIdeal := hFfnBwdIdeal) (hFfnBwdReferenceIdeal := hFfnBwdReferenceIdeal) (hPre_finite3 := hPre_finite3)
    ∧ preserves_ProjBwd_ProjBwdIdeal
    ∧ algebraic_ProjBwdIdeal_ProjBwdReferenceIdeal_pre_finite4 (hProjBwdIdeal := hProjBwdIdeal) (hProjBwdReferenceIdeal := hProjBwdReferenceIdeal) (hPre_finite4 := hPre_finite4)
    ∧ preserves_FfnDw_FfnDwIdeal
    ∧ algebraic_FfnDwIdeal_FfnDwReferenceIdeal (hFfnDwIdeal := hFfnDwIdeal) (hFfnDwReferenceIdeal := hFfnDwReferenceIdeal)
    ∧ preserves_FfnGate_FfnGateIdeal
    ∧ algebraic_FfnGateIdeal_FfnGateReferenceIdeal_pre_finite6 (hFfnGateIdeal := hFfnGateIdeal) (hFfnGateReferenceIdeal := hFfnGateReferenceIdeal) (hPre_finite6 := hPre_finite6)
    ∧ preserves_ProjDwA_ProjDwAIdeal
    ∧ algebraic_ProjDwAIdeal_ProjDwAReferenceIdeal (hProjDwAIdeal := hProjDwAIdeal) (hProjDwAReferenceIdeal := hProjDwAReferenceIdeal)
    ∧ preserves_ProjDwB_ProjDwBIdeal
    ∧ algebraic_ProjDwBIdeal_ProjDwBReferenceIdeal (hProjDwBIdeal := hProjDwBIdeal) (hProjDwBReferenceIdeal := hProjDwBReferenceIdeal)
    ∧ preserves_Proj_ProjIdeal
    ∧ algebraic_ProjIdeal_ProjReferenceIdeal (hProjIdeal := hProjIdeal) (hProjReferenceIdeal := hProjReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Merge_MergeIdeal
    ∧ algebraic_MergeIdeal_MergeReferenceIdeal (hMergeIdeal := hMergeIdeal) (hMergeReferenceIdeal := hMergeReferenceIdeal)
    ∧ preserves_FfnDwDown_FfnDwDownIdeal
    ∧ algebraic_FfnDwDownIdeal_FfnDwDownReferenceIdeal (hFfnDwDownIdeal := hFfnDwDownIdeal) (hFfnDwDownReferenceIdeal := hFfnDwDownReferenceIdeal)
-- ==== Pre_finite.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x256 .f32) (main_arg2 : FVec F S4096x256 .f32) (main_arg3 : FVec F S4096x1024 .f32) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := subf main_arg1 main_arg1
  let main_cst_0 : FVec F S_ .f32 := constant S_ .f32 0x00000000#32
  let main_v5 : FVec F S4096x256 .f32 := broadcastInDim S4096x256 ![] bcast_S_S4096x256 main_cst_0
  let main_v6 : IVec S4096x256 1 := cmpf .oeq main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := subf main_arg2 main_arg2
  let main_cst_2 : FVec F S_ .f32 := constant S_ .f32 0x00000000#32
  let main_v10 : FVec F S4096x256 .f32 := broadcastInDim S4096x256 ![] bcast_S_S4096x256 main_cst_2
  let main_v11 : IVec S4096x256 1 := cmpf .oeq main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x1024 .f32 := subf main_arg3 main_arg3
  let main_cst_4 : FVec F S_ .f32 := constant S_ .f32 0x00000000#32
  let main_v15 : FVec F S4096x1024 .f32 := broadcastInDim S4096x1024 ![] bcast_S_S4096x1024 main_cst_4
  let main_v16 : IVec S4096x1024 1 := cmpf .oeq main_v14 main_v15
  fn_part1 (F := F) main_v13 main_v16
-- ==== Pre_finite2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_arg6 : FVec F S1x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := subf main_arg4 main_arg4
  let main_cst_6 : FVec F S_ .f32 := constant S_ .f32 0x00000000#32
  let main_v20 : FVec F S2816x1024 .f32 := broadcastInDim S2816x1024 ![] bcast_S_S2816x1024 main_cst_6
  let main_v21 : IVec S2816x1024 1 := cmpf .oeq main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := subf main_arg5 main_arg5
  let main_cst_8 : FVec F S_ .f32 := constant S_ .f32 0x00000000#32
  let main_v25 : FVec F S4096x1024 .f32 := broadcastInDim S4096x1024 ![] bcast_S_S4096x1024 main_cst_8
  let main_v26 : IVec S4096x1024 1 := cmpf .oeq main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x1024 .f32 := subf main_arg6 main_arg6
  let main_cst_10 : FVec F S_ .f32 := constant S_ .f32 0x00000000#32
  let main_v30 : FVec F S1x1024 .f32 := broadcastInDim S1x1024 ![] bcast_S_S1x1024 main_cst_10
  let main_v31 : IVec S1x1024 1 := cmpf .oeq main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) (main_arg6 : FVec F S1x1024 .f32) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := subf main_arg1 main_arg1
  let main_cst_0 : FVec F S_ .f32 := constant S_ .f32 0x00000000#32
  let main_v5 : FVec F S1x1024 .f32 := broadcastInDim S1x1024 ![] bcast_S_S1x1024 main_cst_0
  let main_v6 : IVec S1x1024 1 := cmpf .oeq main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := subf main_arg2 main_arg2
  let main_cst_2 : FVec F S_ .f32 := constant S_ .f32 0x00000000#32
  let main_v10 : FVec F S1024x2816 .f32 := broadcastInDim S1024x2816 ![] bcast_S_S1024x2816 main_cst_2
  let main_v11 : IVec S1024x2816 1 := cmpf .oeq main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := subf main_arg3 main_arg3
  let main_cst_4 : FVec F S_ .f32 := constant S_ .f32 0x00000000#32
  let main_v15 : FVec F S1024x2816 .f32 := broadcastInDim S1024x2816 ![] bcast_S_S1024x2816 main_cst_4
  let main_v16 : IVec S1024x2816 1 := cmpf .oeq main_v14 main_v15
  fn_part1 (F := F) main_arg4 main_arg5 main_arg6 main_v13 main_v16
-- ==== Pre_finite3.lean ====
abbrev S4096x1024 : Shape := ⟨2, ![4096, 1024]⟩
abbrev S1x1024 : Shape := ⟨2, ![1, 1024]⟩
abbrev S1024x2816 : Shape := ⟨2, ![1024, 2816]⟩
abbrev S2x4096x2816 : Shape := ⟨3, ![2, 4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn_part1 {F : FTy → Type} [FloatOps F] (main_arg4 : FVec F S2x4096x2816 .f32) (main_arg5 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2x4096x2816 .f32 := subf main_arg4 main_arg4
  let main_cst_6 : FVec F S_ .f32 := constant S_ .f32 0x00000000#32
  let main_v20 : FVec F S2x4096x2816 .f32 := broadcastInDim S2x4096x2816 ![] bcast_S_S2x4096x2816 main_cst_6
  let main_v21 : IVec S2x4096x2816 1 := cmpf .oeq main_v19 main_v20
  let main_c_7 : IVec S_ 1 := constantI S_ 1 1#1
  let main_v22 : IVec S_ 1 := (fun x v => Host.reduce IntOp.andi x v reducesTo_S2x4096x2816_S_d0_1_2 h_S_) main_v21 main_c_7
  let main_v23 : IVec S_ 1 := andi main_v18 main_v22
  let main_v24 : FVec F S4096x1024 .f32 := subf main_arg5 main_arg5
  let main_cst_8 : FVec F S_ .f32 := constant S_ .f32 0x00000000#32
  let main_v25 : FVec F S4096x1024 .f32 := broadcastInDim S4096x1024 ![] bcast_S_S4096x1024 main_cst_8
  let main_v26 : IVec S4096x1024 1 := cmpf .oeq main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2x4096x2816 .f32) (main_arg5 : FVec F S4096x1024 .f32) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := subf main_arg1 main_arg1
  let main_cst_0 : FVec F S_ .f32 := constant S_ .f32 0x00000000#32
  let main_v5 : FVec F S1x1024 .f32 := broadcastInDim S1x1024 ![] bcast_S_S1x1024 main_cst_0
  let main_v6 : IVec S1x1024 1 := cmpf .oeq main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := subf main_arg2 main_arg2
  let main_cst_2 : FVec F S_ .f32 := constant S_ .f32 0x00000000#32
  let main_v10 : FVec F S1024x2816 .f32 := broadcastInDim S1024x2816 ![] bcast_S_S1024x2816 main_cst_2
  let main_v11 : IVec S1024x2816 1 := cmpf .oeq main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := subf main_arg3 main_arg3
  let main_cst_4 : FVec F S_ .f32 := constant S_ .f32 0x00000000#32
  let main_v15 : FVec F S1024x2816 .f32 := broadcastInDim S1024x2816 ![] bcast_S_S1024x2816 main_cst_4
  let main_v16 : IVec S1024x2816 1 := cmpf .oeq main_v14 main_v15
  fn_part1 (F := F) main_arg4 main_arg5 main_v13 main_v16
-- ==== Pre_finite4.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x8192 : S_.BroadcastsInDim S1024x8192 (![] : Fin 0 → Fin S1024x8192.rank)
  reducesTo_S1024x8192_S_d0_1 : S1024x8192.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg4 : FVec F S4096x1024 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096x1024 .f32 := subf main_arg4 main_arg4
  let main_cst_6 : FVec F S_ .f32 := constant S_ .f32 0x00000000#32
  let main_v20 : FVec F S4096x1024 .f32 := broadcastInDim S4096x1024 ![] bcast_S_S4096x1024 main_cst_6
  let main_v21 : IVec S4096x1024 1 := cmpf .oeq main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S1024x8192 .f32) (main_arg3 : FVec F S4096x8192 .f32) (main_arg4 : FVec F S4096x1024 .f32) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := subf main_arg1 main_arg1
  let main_cst_0 : FVec F S_ .f32 := constant S_ .f32 0x00000000#32
  let main_v5 : FVec F S1x1024 .f32 := broadcastInDim S1x1024 ![] bcast_S_S1x1024 main_cst_0
  let main_v6 : IVec S1x1024 1 := cmpf .oeq main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x8192 .f32 := subf main_arg2 main_arg2
  let main_cst_2 : FVec F S_ .f32 := constant S_ .f32 0x00000000#32
  let main_v10 : FVec F S1024x8192 .f32 := broadcastInDim S1024x8192 ![] bcast_S_S1024x8192 main_cst_2
  let main_v11 : IVec S1024x8192 1 := cmpf .oeq main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S4096x8192 .f32 := subf main_arg3 main_arg3
  let main_cst_4 : FVec F S_ .f32 := constant S_ .f32 0x00000000#32
  let main_v15 : FVec F S4096x8192 .f32 := broadcastInDim S4096x8192 ![] bcast_S_S4096x8192 main_cst_4
  let main_v16 : IVec S4096x8192 1 := cmpf .oeq main_v14 main_v15
  fn_part1 (F := F) main_arg4 main_v13 main_v16
-- ==== Pre_finite6.lean ====
abbrev S2816x1024 : Shape := ⟨2, ![2816, 1024]⟩
abbrev S4096x2816 : Shape := ⟨2, ![4096, 2816]⟩
abbrev S4096x1024 : Shape := ⟨2, ![4096, 1024]⟩
abbrev S_ : Shape := ⟨0, ![]⟩

class Facts : Prop where
  bcast_S_S2816x1024 : S_.BroadcastsInDim S2816x1024 (![] : Fin 0 → Fin S2816x1024.rank)
  reducesTo_S2816x1024_S_d0_1 : S2816x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S2816x1024 .f32) (main_arg1 : FVec F S4096x2816 .f32) (main_arg2 : FVec F S4096x2816 .f32) (main_arg3 : FVec F S4096x1024 .f32) : IVec S_ 1 :=
  let main_v0 : FVec F S2816x1024 .f32 := subf main_arg0 main_arg0
  let main_cst : FVec F S_ .f32 := constant S_ .f32 0x00000000#32
  let main_v1 : FVec F S2816x1024 .f32 := broadcastInDim S2816x1024 ![] bcast_S_S2816x1024 main_cst
  let main_v2 : IVec S2816x1024 1 := cmpf .oeq main_v0 main_v1
  let main_c : IVec S_ 1 := constantI S_ 1 1#1
  let main_v3 : IVec S_ 1 := (fun x v => Host.reduce IntOp.andi x v reducesTo_S2816x1024_S_d0_1 h_S_) main_v2 main_c
  let main_v4 : FVec F S4096x2816 .f32 := subf main_arg1 main_arg1
  let main_cst_0 : FVec F S_ .f32 := constant S_ .f32 0x00000000#32
  let main_v5 : FVec F S4096x2816 .f32 := broadcastInDim S4096x2816 ![] bcast_S_S4096x2816 main_cst_0
  let main_v6 : IVec S4096x2816 1 := cmpf .oeq main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S4096x2816 .f32 := subf main_arg2 main_arg2
  let main_cst_2 : FVec F S_ .f32 := constant S_ .f32 0x00000000#32
  let main_v10 : FVec F S4096x2816 .f32 := broadcastInDim S4096x2816 ![] bcast_S_S4096x2816 main_cst_2
  let main_v11 : IVec S4096x2816 1 := cmpf .oeq main_v9 main_v10
  let main_c_3 : IVec S_ 1 := constantI S_ 1 1#1
  let main_v12 : IVec S_ 1 := (fun x v => Host.reduce IntOp.andi x v reducesTo_S4096x2816_S_d0_1 h_S_) main_v11 main_c_3
  let main_v13 : IVec S_ 1 := andi main_v8 main_v12
  let main_v14 : FVec F S4096x1024 .f32 := subf main_arg3 main_arg3
  let main_cst_4 : FVec F S_ .f32 := constant S_ .f32 0x00000000#32
  let main_v15 : FVec F S4096x1024 .f32 := broadcastInDim S4096x1024 ![] bcast_S_S4096x1024 main_cst_4
  let main_v16 : IVec S4096x1024 1 := cmpf .oeq main_v14 main_v15
  fn_part1 (F := F) main_v13 main_v16
-- ==== Kernel.lean ====
abbrev S4096x1024 : Shape := ⟨2, ![4096, 1024]⟩
abbrev S4096x256 : Shape := ⟨2, ![4096, 256]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S8x1x4096 : Shape := ⟨3, ![8, 1, 4096]⟩
abbrev S4096x1536 : Shape := ⟨2, ![4096, 1536]⟩
abbrev S256x4096 : Shape := ⟨2, ![256, 4096]⟩
abbrev S512x128 : Shape := ⟨2, ![512, 128]⟩
abbrev S4096x128 : Shape := ⟨2, ![4096, 128]⟩
abbrev S128x4096 : Shape := ⟨2, ![128, 4096]⟩
abbrev S1x1x512 : Shape := ⟨3, ![1, 1, 512]⟩
abbrev S8x128 : Shape := ⟨2, ![8, 128]⟩
abbrev S8x512 : Shape := ⟨2, ![8, 512]⟩
abbrev S1x512 : Shape := ⟨2, ![1, 512]⟩
abbrev S4096x512 : Shape := ⟨2, ![4096, 512]⟩
abbrev S128x512 : Shape := ⟨2, ![128, 512]⟩

abbrev nBuf : Space → Nat
  | .hbm => 59
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S4096x2x4x128, .f32⟩
  | .hbm, ⟨5, _⟩ => ⟨S4096x2x128, .f32⟩
  | .hbm, ⟨6, _⟩ => ⟨S4096x2x128, .f32⟩
  | .hbm, ⟨7, _⟩ => ⟨S2x4096x4096x4, .f32⟩
  | .hbm, ⟨8, _⟩ => ⟨S2x4x4096x4096, .f32⟩
  | .hbm, ⟨9, _⟩ => ⟨S_, .f32⟩
  | .hbm, ⟨10, _⟩ => ⟨S_, .f32⟩
  | .hbm, ⟨11, _⟩ => ⟨S2x4x4096x4096, .f32⟩
  | .hbm, ⟨12, _⟩ => ⟨S2x4x4096x4096, .f32⟩
  | .hbm, ⟨13, _⟩ => ⟨S_, .f32⟩
  | .hbm, ⟨14, _⟩ => ⟨S2x4x4096, .f32⟩
  | .hbm, ⟨15, _⟩ => ⟨S2x4x4096x1, .f32⟩
  | .hbm, ⟨16, _⟩ => ⟨S2x4x4096x4096, .f32⟩
  | .hbm, ⟨17, _⟩ => ⟨S2x4x4096x4096, .f32⟩
  | .hbm, ⟨18, _⟩ => ⟨S2x4x4096x4096, .f32⟩
  | .hbm, ⟨19, _⟩ => ⟨S_, .f32⟩
  | .hbm, ⟨20, _⟩ => ⟨S2x4x4096, .f32⟩
  | .hbm, ⟨21, _⟩ => ⟨S2x4x4096x1, .f32⟩
  | .hbm, ⟨22, _⟩ => ⟨S2x4x4096x1, .f32⟩
  | .hbm, ⟨23, _⟩ => ⟨S2x4x4096x1, .f32⟩
  | .hbm, ⟨24, _⟩ => ⟨S_, .f32⟩
  | .hbm, ⟨25, _⟩ => ⟨S2x4x4096, .f32⟩
  | .hbm, ⟨26, _⟩ => ⟨S_, .f32⟩
  | .hbm, ⟨27, _⟩ => ⟨S2x4x4096, .f32⟩
  | .hbm, ⟨28, _⟩ => ⟨S2x4x4096, .f32⟩
  | .hbm, ⟨29, _⟩ => ⟨S2x4x4096x1, .f32⟩
  | .hbm, ⟨30, _⟩ => ⟨S2x4x4096x4096, .f32⟩
  | .hbm, ⟨31, _⟩ => ⟨S2x4x4096x4096, .f32⟩
  | .hbm, ⟨32, _⟩ => ⟨S2x4x4096x4096, .f32⟩
  | .hbm, ⟨33, _⟩ => ⟨S_, .f32⟩
  | .hbm, ⟨34, _⟩ => ⟨S2x4x4096, .f32⟩
  | .hbm, ⟨35, _⟩ => ⟨S2x4x4096x1, .f32⟩
  | .hbm, ⟨36, _⟩ => ⟨S2x4x4096x4096, .f32⟩
  | .hbm, ⟨37, _⟩ => ⟨S2x4x4096x4096, .f32⟩
  | .hbm, ⟨38, _⟩ => ⟨S2x128x4x4096, .f32⟩
  | .hbm, ⟨39, _⟩ => ⟨S4096x2x4x128, .f32⟩
  | .hbm, ⟨40, _⟩ => ⟨S4096x1024, .f32⟩
  | .hbm, ⟨41, _⟩ => ⟨S8x1x4096, .f32⟩
  | .hbm, ⟨42, _⟩ => ⟨S_, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1536, .f32⟩
  | .hbm, ⟨51, _⟩ => ⟨S4096x1536, .bf16⟩
  | .hbm, ⟨52, _⟩ => ⟨S256x4096, .f32⟩
  | .hbm, ⟨53, _⟩ => ⟨S256x4096, .bf16⟩
  | .hbm, ⟨54, _⟩ => ⟨S4096x1024, .bf16⟩
  | .hbm, ⟨55, _⟩ => ⟨S4096x1024, .bf16⟩
  | .hbm, ⟨56, _⟩ => ⟨S4096x1024, .f32⟩
  | .hbm, ⟨57, _⟩ => ⟨S4096x256, .f32⟩
  | .hbm, ⟨58, _⟩ => ⟨S4096x256, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S128x4096, .bf16⟩
  | .local _ .vmem, ⟨7, _⟩ => ⟨S128x4096, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1x1x512, .f32⟩
  | .local _ .vmem, ⟨13, _⟩ => ⟨S1x1x512, .f32⟩
  | .local _ .vmem, ⟨14, _⟩ => ⟨S512x128, .f32⟩
  | .local _ .vmem, ⟨15, _⟩ => ⟨S512x128, .f32⟩
  | .local _ .vmem, ⟨16, _⟩ => ⟨S4096x128, .f32⟩
  | .local _ .vmem, ⟨17, _⟩ => ⟨S4096x128, .f32⟩
  | .local _ .vmem, ⟨18, _⟩ => ⟨S4096x128, .bf16⟩
  | .local _ .vmem, ⟨19, _⟩ => ⟨S4096x128, .bf16⟩
  | .local _ .vmem, ⟨20, _⟩ => ⟨S4096x128, .f32⟩
  | .local _ .vmem, ⟨21, _⟩ => ⟨S4096x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v44_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg1 : BitVec 32 := BitVec.ofNat 32 (i 1).val
  let c3_i32 : BitVec 32 := 3#32
  let v60 : BitVec 1 := Scalar.cmpi .eq arg1 c3_i32
  let arg2 : BitVec 32 := BitVec.ofNat 32 (i 2).val
  let c7_i32 : BitVec 32 := 7#32
  let v61 : BitVec 1 := Scalar.cmpi .eq arg2 c7_i32
  let v62 : BitVec 1 := Scalar.andi v60 v61
  let v63 : BitVec 32 := Scalar.extui v62
  let c0_i32_35 : BitVec 32 := 0#32
  let v64 : BitVec 1 := Scalar.cmpi .ne v63 c0_i32_35
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale" => some (((Real.sqrt 128)⁻¹ : ℝ) : EReal)
  | _ => none
-- ==== ReferenceIdeal.lean ====
abbrev S4096x1024 : Shape := ⟨2, ![4096, 1024]⟩
abbrev S4096x256 : Shape := ⟨2, ![4096, 256]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S8x1x4096 : Shape := ⟨3, ![8, 1, 4096]⟩
abbrev S2x128x4096 : Shape := ⟨3, ![2, 128, 4096]⟩
abbrev S2x4096x4x128 : Shape := ⟨4, ![2, 4096, 4, 128]⟩
abbrev S2x4096x128 : Shape := ⟨3, ![2, 4096, 128]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S4096x2x4x128, .f32⟩
  | .hbm, ⟨5, _⟩ => ⟨S4096x2x128, .f32⟩
  | .hbm, ⟨6, _⟩ => ⟨S4096x2x128, .f32⟩
  | .hbm, ⟨7, _⟩ => ⟨S2x4096x4096x4, .f32⟩
  | .hbm, ⟨8, _⟩ => ⟨S2x4x4096x4096, .f32⟩
  | .hbm, ⟨9, _⟩ => ⟨S_, .f32⟩
  | .hbm, ⟨10, _⟩ => ⟨S_, .f32⟩
  | .hbm, ⟨11, _⟩ => ⟨S2x4x4096x4096, .f32⟩
  | .hbm, ⟨12, _⟩ => ⟨S2x4x4096x4096, .f32⟩
  | .hbm, ⟨13, _⟩ => ⟨S_, .f32⟩
  | .hbm, ⟨14, _⟩ => ⟨S2x4x4096, .f32⟩
  | .hbm, ⟨15, _⟩ => ⟨S2x4x4096x1, .f32⟩
  | .hbm, ⟨16, _⟩ => ⟨S2x4x4096x4096, .f32⟩
  | .hbm, ⟨17, _⟩ => ⟨S2x4x4096x4096, .i1⟩
  | .hbm, ⟨18, _⟩ => ⟨S2x4x4096x4096, .f32⟩
  | .hbm, ⟨19, _⟩ => ⟨S_, .f32⟩
  | .hbm, ⟨20, _⟩ => ⟨S2x4x4096, .f32⟩
  | .hbm, ⟨21, _⟩ => ⟨S2x4x4096x1, .f32⟩
  | .hbm, ⟨22, _⟩ => ⟨S2x4x4096x4096, .f32⟩
  | .hbm, ⟨23, _⟩ => ⟨S2x4x4096x4096, .f32⟩
  | .hbm, ⟨24, _⟩ => ⟨S2x4x4096x4096, .f32⟩
  | .hbm, ⟨25, _⟩ => ⟨S_, .f32⟩
  | .hbm, ⟨26, _⟩ => ⟨S2x4x4096, .f32⟩
  | .hbm, ⟨27, _⟩ => ⟨S2x4x4096x1, .f32⟩
  | .hbm, ⟨28, _⟩ => ⟨S2x4x4096x1, .f32⟩
  | .hbm, ⟨29, _⟩ => ⟨S2x4x4096x1, .f32⟩
  | .hbm, ⟨30, _⟩ => ⟨S_, .f32⟩
  | .hbm, ⟨31, _⟩ => ⟨S2x4x4096, .f32⟩
  | .hbm, ⟨32, _⟩ => ⟨S2x4x4096x1, .f32⟩
  | .hbm, ⟨33, _⟩ => ⟨S2x4x4096x4096, .f32⟩
  | .hbm, ⟨34, _⟩ => ⟨S2x4x4096x4096, .i1⟩
  | .hbm, ⟨35, _⟩ => ⟨S2x4x4096x4096, .f32⟩
  | .hbm, ⟨36, _⟩ => ⟨S_, .f32⟩
  | .hbm, ⟨37, _⟩ => ⟨S2x4x4096, .f32⟩
  | .hbm, ⟨38, _⟩ => ⟨S_, .f32⟩
  | .hbm, ⟨39, _⟩ => ⟨S2x4x4096, .f32⟩
  | .hbm, ⟨40, _⟩ => ⟨S2x4x4096, .f32⟩
  | .hbm, ⟨41, _⟩ => ⟨S_, .f32⟩
  | .hbm, ⟨42, _⟩ => ⟨S2x4x4096, .f32⟩
  | .hbm, ⟨43, _⟩ => ⟨S2x4x4096, .i1⟩
  | .hbm, ⟨44, _⟩ => ⟨S_, .f32⟩
  | .hbm, ⟨45, _⟩ => ⟨S2x4x4096, .f32⟩
  | .hbm, ⟨46, _⟩ => ⟨S2x4x4096, .i1⟩
  | .hbm, ⟨47, _⟩ => ⟨S_, .f32⟩
  | .hbm, ⟨48, _⟩ => ⟨S2x4x4096, .f32⟩
  | .hbm, ⟨49, _⟩ => ⟨S_, .f32⟩
  | .hbm, ⟨50, _⟩ => ⟨S2x4x4096, .f32⟩
  | .hbm, ⟨51, _⟩ => ⟨S_, .f32⟩
  | .hbm, ⟨52, _⟩ => ⟨S2x4x4096, .f32⟩
  | .hbm, ⟨53, _⟩ => ⟨S2x4x4096, .f32⟩
  | .hbm, ⟨54, _⟩ => ⟨S2x4x4096, .f32⟩
  | .hbm, ⟨55, _⟩ => ⟨S2x4x4096x1, .f32⟩
  | .hbm, ⟨56, _⟩ => ⟨S2x4x4096x4096, .f32⟩
  | .hbm, ⟨57, _⟩ => ⟨S2x4x4096x4096, .f32⟩
  | .hbm, ⟨58, _⟩ => ⟨S2x4x4096x4096, .f32⟩
  | .hbm, ⟨59, _⟩ => ⟨S_, .f32⟩
  | .hbm, ⟨60, _⟩ => ⟨S2x4x4096, .f32⟩
  | .hbm, ⟨61, _⟩ => ⟨S2x4x4096x1, .f32⟩
  | .hbm, ⟨62, _⟩ => ⟨S2x4x4096x4096, .f32⟩
  | .hbm, ⟨63, _⟩ => ⟨S2x4x4096x4096, .f32⟩
  | .hbm, ⟨64, _⟩ => ⟨S2x4x4096x1, .f32⟩
  | .hbm, ⟨65, _⟩ => ⟨S_, .f32⟩
  | .hbm, ⟨66, _⟩ => ⟨S2x4x4096x1, .f32⟩
  | .hbm, ⟨67, _⟩ => ⟨S2x4x4096x1, .f32⟩
  | .hbm, ⟨68, _⟩ => ⟨S2x128x4x4096, .f32⟩
  | .hbm, ⟨69, _⟩ => ⟨S4096x2x4x128, .f32⟩
  | .hbm, ⟨70, _⟩ => ⟨S4096x1024, .f32⟩
  | .hbm, ⟨71, _⟩ => ⟨S8x1x4096, .f32⟩
  | .hbm, ⟨72, _⟩ => ⟨S4096x2x4x128, .f32⟩
  | .hbm, ⟨73, _⟩ => ⟨S2x128x4x4096, .f32⟩
  | .hbm, ⟨74, _⟩ => ⟨S2x4x4096x4096, .f32⟩
  | .hbm, ⟨75, _⟩ => ⟨S2x128x4096, .f32⟩
  | .hbm, ⟨76, _⟩ => ⟨S4096x2x128, .f32⟩
  | .hbm, ⟨77, _⟩ => ⟨S2x4x4096x4096, .f32⟩
  | .hbm, ⟨78, _⟩ => ⟨S2x4x4096x4096, .f32⟩
  | .hbm, ⟨79, _⟩ => ⟨S2x4x4096x4096, .f32⟩
  | .hbm, ⟨80, _⟩ => ⟨S_, .f32⟩
  | .hbm, ⟨81, _⟩ => ⟨S2x4x4096, .f32⟩
  | .hbm, ⟨82, _⟩ => ⟨S2x4x4096x1, .f32⟩
  | .hbm, ⟨83, _⟩ => ⟨S2x4x4096x1, .f32⟩
  | .hbm, ⟨84, _⟩ => ⟨S2x4x4096x4096, .f32⟩
  | .hbm, ⟨85, _⟩ => ⟨S2x4x4096x4096, .f32⟩
  | .hbm, ⟨86, _⟩ => ⟨S_, .f32⟩
  | .hbm, ⟨87, _⟩ => ⟨S2x4x4096, .f32⟩
  | .hbm, ⟨88, _⟩ => ⟨S2x4x4096x4096, .f32⟩
  | .hbm, ⟨89, _⟩ => ⟨S2x4x4096x4096, .f32⟩
  | .hbm, ⟨90, _⟩ => ⟨S2x4x4096x4096, .f32⟩
  | .hbm, ⟨91, _⟩ => ⟨S2x4x4096x4096, .f32⟩
  | .hbm, ⟨92, _⟩ => ⟨S2x4x4096x4096, .f32⟩
  | .hbm, ⟨93, _⟩ => ⟨S2x4096x4096x4, .f32⟩
  | .hbm, ⟨94, _⟩ => ⟨S2x4096x4x128, .f32⟩
  | .hbm, ⟨95, _⟩ => ⟨S4096x2x4x128, .f32⟩
  | .hbm, ⟨96, _⟩ => ⟨S2x4096x128, .f32⟩
  | .hbm, ⟨97, _⟩ => ⟨S4096x2x128, .f32⟩
  | .hbm, ⟨98, _⟩ => ⟨S4096x256, .f32⟩
  | .hbm, ⟨99, _⟩ => ⟨S4096x256, .f32⟩
  | .hbm, ⟨100, _⟩ => ⟨S4096x1024, .f32⟩
  | .hbm, ⟨101, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S3x4096x2816 : Shape := ⟨3, ![3, 4096, 2816]⟩
abbrev S2x4096x2816 : Shape := ⟨3, ![2, 4096, 2816]⟩
abbrev S1x128 : Shape := ⟨2, ![1, 128]⟩
abbrev S256x1024 : Shape := ⟨2, ![256, 1024]⟩
abbrev S3x256x2816 : Shape := ⟨3, ![3, 256, 2816]⟩
abbrev S2x256x2816 : Shape := ⟨3, ![2, 256, 2816]⟩
abbrev S256 : Shape := ⟨1, ![256]⟩
abbrev S256x1 : Shape := ⟨2, ![256, 1]⟩
abbrev S4x352x1024 : Shape := ⟨3, ![4, 352, 1024]⟩
abbrev S1408x1024 : Shape := ⟨2, ![1408, 1024]⟩
abbrev S256x1408 : Shape := ⟨2, ![256, 1408]⟩
abbrev S1x256x1408 : Shape := ⟨3, ![1, 256, 1408]⟩
abbrev S1 : Shape := ⟨1, ![1]⟩
abbrev S1x1 : Shape := ⟨2, ![1, 1]⟩
abbrev S1024 : Shape := ⟨1, ![1024]⟩

abbrev nBuf : Space → Nat
  | .hbm => 23
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S2816x1024, .f32⟩
  | .hbm, ⟨8, _⟩ => ⟨S8x352x1024, .f32⟩
  | .hbm, ⟨9, _⟩ => ⟨S2816x1024, .f32⟩
  | .hbm, ⟨10, _⟩ => ⟨S8x352x1024, .f32⟩
  | .hbm, ⟨11, _⟩ => ⟨S8x352x1024, .f32⟩
  | .hbm, ⟨12, _⟩ => ⟨S8x1056x1024, .f32⟩
  | .hbm, ⟨13, _⟩ => ⟨S8x1056x1024, .bf16⟩
  | .hbm, ⟨14, _⟩ => ⟨S4096x1024, .bf16⟩
  | .hbm, ⟨15, _⟩ => ⟨S3x4096x2816, .bf16⟩
  | .hbm, ⟨16, _⟩ => ⟨S4096x1024, .bf16⟩
  | .hbm, ⟨17, _⟩ => ⟨S2x4096x2816, .bf16⟩
  | .hbm, ⟨18, _⟩ => ⟨S4096x1024, .f32⟩
  | .hbm, ⟨19, _⟩ => ⟨S4096x1024, .bf16⟩
  | .hbm, ⟨20, _⟩ => ⟨S1x1024, .f32⟩
  | .hbm, ⟨21, _⟩ => ⟨S1x128, .f32⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S8x352x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S3x256x2816, .bf16⟩
  | .local _ .vmem, ⟨12, _⟩ => ⟨S3x256x2816, .bf16⟩
  | .local _ .vmem, ⟨13, _⟩ => ⟨S256x1024, .bf16⟩
  | .local _ .vmem, ⟨14, _⟩ => ⟨S256x1024, .bf16⟩
  | .local _ .vmem, ⟨15, _⟩ => ⟨S2x256x2816, .bf16⟩
  | .local _ .vmem, ⟨16, _⟩ => ⟨S2x256x2816, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x128, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev main_v7_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v255 : BitVec 1 := Scalar.cmpi .eq arg0 c0_i32
  let v256 : BitVec 32 := Scalar.extui v255
  let c0_i32_139 : BitVec 32 := 0#32
  let v257 : BitVec 1 := Scalar.cmpi .ne v256 c0_i32_139
  v257

def k0_cond2 (i : grid0.Coords) : BitVec 1 :=
  let arg0 : BitVec 32 := BitVec.ofNat 32 (i 0).val
  let c0_i32_140 : BitVec 32 := 0#32
  let v258 : BitVec 1 := Scalar.cmpi .sgt arg0 c0_i32_140
  let v259 : BitVec 32 := Scalar.extui v258
  let c0_i32_141 : BitVec 32 := 0#32
  let v260 : BitVec 1 := Scalar.cmpi .ne v259 c0_i32_141
  v260

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1x4096x2816 : Shape := ⟨3, ![1, 4096, 2816]⟩
abbrev S3x4096x2816 : Shape := ⟨3, ![3, 4096, 2816]⟩
abbrev S2x4096x2816 : Shape := ⟨3, ![2, 4096, 2816]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S4096x1024, .f32⟩
  | 1 => ⟨S1x1024, .f32⟩
  | 2 => ⟨S1024x2816, .f32⟩
  | 3 => ⟨S1024x2816, .f32⟩
  | 4 => ⟨S2816x1024, .f32⟩
  | 5 => ⟨S4096x1024, .f32⟩
  | 6 => ⟨S1x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S4096x1024, .f32⟩
  | 26 => ⟨S4096x2816, .f32⟩
  | 27 => ⟨S4096x2816, .f32⟩
  | 28 => ⟨S4096x2816, .f32⟩
  | 29 => ⟨S4096x2816, .f32⟩
  | 30 => ⟨S_, .f32⟩
  | 31 => ⟨S4096x2816, .f32⟩
  | 32 => ⟨S4096x2816, .f32⟩
  | 33 => ⟨S_, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096, .f32⟩
  | 73 => ⟨S_, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4096, .f32⟩
  | 84 => ⟨S_, .f32⟩
  | 85 => ⟨S4096, .f32⟩
  | 86 => ⟨S4096, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S4096x1024, .f32⟩
  | 94 => ⟨S4096x1024, .f32⟩
  | 95 => ⟨S4096x1024, .f32⟩
  | 96 => ⟨S_, .f32⟩
  | 97 => ⟨S4096, .f32⟩
  | 98 => ⟨S4096x1, .f32⟩
  | 99 => ⟨S4096x1024, .f32⟩
  | 100 => ⟨S4096x1024, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x2816, .f32⟩
  | 116 => ⟨S4096x2816, .f32⟩
  | 117 => ⟨S4096x2816, .f32⟩
  | 118 => ⟨S4096x2816, .f32⟩
  | 119 => ⟨S4096x2816, .f32⟩
  | 120 => ⟨S4096x2816, .f32⟩
  | 121 => ⟨S4096x2816, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S1x1024, .f32⟩
  | 1 => ⟨S4096x1024, .f32⟩
  | 2 => ⟨S4096x1024, .f32⟩
  | 3 => ⟨S4096x1024, .f32⟩
  | 4 => ⟨S_, .f32⟩
  | 5 => ⟨S4096, .f32⟩
  | 6 => ⟨S4096x1, .f32⟩
  | 7 => ⟨S4096x1024, .f32⟩
  | 8 => ⟨S4096x1024, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .bf16⟩
  | 22 => ⟨S1x4096x2816, .f32⟩
  | 23 => ⟨S1x4096x2816, .f32⟩
  | 24 => ⟨S1x4096x2816, .f32⟩
  | 25 => ⟨S3x4096x2816, .f32⟩
  | 26 => ⟨S3x4096x2816, .bf16⟩
  | 27 => ⟨S4096x1024, .bf16⟩
  | 28 => ⟨S1x4096x2816, .f32⟩
  | 29 => ⟨S1x4096x2816, .f32⟩
  | 30 => ⟨S2x4096x2816, .f32⟩
  | 31 => ⟨S2x4096x2816, .bf16⟩
  | 32 => ⟨S4096x1024, .bf16⟩
  | 33 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_cst_13 : Ref sig .tc := ⟨.hbm, 80, rfl⟩
abbrev main_cst_14 : Ref sig .tc := ⟨.hbm, 81, rfl⟩
abbrev main_v47 : Ref sig .tc := ⟨.hbm, 82, rfl⟩
abbrev main_v48 : Ref sig .tc := ⟨.hbm, 83, rfl⟩
abbrev main_cst_15 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_16 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_18 : Ref sig .tc := ⟨.hbm, 102, rfl⟩
abbrev main_v64 : Ref sig .tc := ⟨.hbm, 103, rfl⟩
abbrev main_v65 : Ref sig .tc := ⟨.hbm, 104, rfl⟩
abbrev main_cst_19 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_20 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_21 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_23 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩

abbrev nD : Nat := 1
abbrev τ : Topo := Topo.v7x

variable {F : FTy → Type} [FloatOps F]
-- ==== FfnBwd.lean ====
abbrev S4096x1024 : Shape := ⟨2, ![4096, 1024]⟩
abbrev S1x1024 : Shape := ⟨2, ![1, 1024]⟩
abbrev S1024x2816 : Shape := ⟨2, ![1024, 2816]⟩
abbrev S2x4096x2816 : Shape := ⟨3, ![2, 4096, 2816]⟩
abbrev S2816x1024 : Shape := ⟨2, ![2816, 1024]⟩
abbrev S8x352x1024 : Shape := ⟨3, ![8, 352, 1024]⟩
abbrev S8x704x1024 : Shape := ⟨3, ![8, 704, 1024]⟩
abbrev S2x256x2816 : Shape := ⟨3, ![2, 256, 2816]⟩
abbrev S256x1024 : Shape := ⟨2, ![256, 1024]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 15
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2x4096x2816, .f32⟩
  | .hbm, ⟨5, _⟩ => ⟨S4096x1024, .f32⟩
  | .hbm, ⟨6, _⟩ => ⟨S2816x1024, .f32⟩
  | .hbm, ⟨7, _⟩ => ⟨S8x352x1024, .f32⟩
  | .hbm, ⟨8, _⟩ => ⟨S2816x1024, .f32⟩
  | .hbm, ⟨9, _⟩ => ⟨S8x352x1024, .f32⟩
  | .hbm, ⟨10, _⟩ => ⟨S8x704x1024, .f32⟩
  | .hbm, ⟨11, _⟩ => ⟨S8x704x1024, .bf16⟩
  | .hbm, ⟨12, _⟩ => ⟨S2x4096x2816, .bf16⟩
  | .hbm, ⟨13, _⟩ => ⟨S4096x1024, .f32⟩
  | .hbm, ⟨14, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S8x352x1024, .bf16⟩
  | .local _ .vmem, ⟨3, _⟩ => ⟨S8x352x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_25 : BitVec 32 := 0#32
  let v45 : BitVec 1 := Scalar.cmpi .ne v44 c0_i32_25
  v45

def k0_cond2 (i : grid0.Coords) : BitVec 1 :=
  let arg0 : BitVec 32 := BitVec.ofNat 32 (i 0).val
  let c0_i32_26 : BitVec 32 := 0#32
  let v46 : BitVec 1 := Scalar.cmpi .sgt arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnBwdReferenceIdeal.lean ====
abbrev S4096x1024 : Shape := ⟨2, ![4096, 1024]⟩
abbrev S1x1024 : Shape := ⟨2, ![1, 1024]⟩
abbrev S1024x2816 : Shape := ⟨2, ![1024, 2816]⟩
abbrev S2x4096x2816 : Shape := ⟨3, ![2, 4096, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x4096x2816 : Shape := ⟨3, ![1, 4096, 2816]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2x4096x2816, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S1x4096x2816, .f32⟩
  | .hbm, ⟨28, _⟩ => ⟨S4096x2816, .f32⟩
  | .hbm, ⟨29, _⟩ => ⟨S1x4096x2816, .f32⟩
  | .hbm, ⟨30, _⟩ => ⟨S4096x2816, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== ProjBwd.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S4096x16x512 : Shape := ⟨3, ![4096, 16, 512]⟩
abbrev S4096x1x512 : Shape := ⟨3, ![4096, 1, 512]⟩
abbrev S4096x512 : Shape := ⟨2, ![4096, 512]⟩
abbrev S1x4096x512 : Shape := ⟨3, ![1, 4096, 512]⟩
abbrev S3x4096x512 : Shape := ⟨3, ![3, 4096, 512]⟩
abbrev S4096x2x512 : Shape := ⟨3, ![4096, 2, 512]⟩
abbrev S4096x4x512 : Shape := ⟨3, ![4096, 4, 512]⟩
abbrev S4096x2x1024 : Shape := ⟨3, ![4096, 2, 1024]⟩
abbrev S2x4096x1024 : Shape := ⟨3, ![2, 4096, 1024]⟩
abbrev S1024x8x1024 : Shape := ⟨3, ![1024, 8, 1024]⟩
abbrev S8x1024x1024 : Shape := ⟨3, ![8, 1024, 1024]⟩
abbrev S3x256x512 : Shape := ⟨3, ![3, 256, 512]⟩
abbrev S256x1024 : Shape := ⟨2, ![256, 1024]⟩
abbrev S256x512 : Shape := ⟨2, ![256, 512]⟩
abbrev S2x256x1024 : Shape := ⟨3, ![2, 256, 1024]⟩
abbrev S1x256x512 : Shape := ⟨3, ![1, 256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 50
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S4096x8192, .bf16⟩
  | .hbm, ⟨6, _⟩ => ⟨S4096x16x512, .bf16⟩
  | .hbm, ⟨7, _⟩ => ⟨S4096x1x512, .bf16⟩
  | .hbm, ⟨8, _⟩ => ⟨S4096x512, .bf16⟩
  | .hbm, ⟨9, _⟩ => ⟨S4096x1x512, .bf16⟩
  | .hbm, ⟨10, _⟩ => ⟨S4096x512, .bf16⟩
  | .hbm, ⟨11, _⟩ => ⟨S4096x1x512, .bf16⟩
  | .hbm, ⟨12, _⟩ => ⟨S4096x512, .bf16⟩
  | .hbm, ⟨13, _⟩ => ⟨S1x4096x512, .bf16⟩
  | .hbm, ⟨14, _⟩ => ⟨S1x4096x512, .bf16⟩
  | .hbm, ⟨15, _⟩ => ⟨S1x4096x512, .bf16⟩
  | .hbm, ⟨16, _⟩ => ⟨S3x4096x512, .bf16⟩
  | .hbm, ⟨17, _⟩ => ⟨S4096x1x512, .bf16⟩
  | .hbm, ⟨18, _⟩ => ⟨S4096x512, .bf16⟩
  | .hbm, ⟨19, _⟩ => ⟨S4096x1x512, .bf16⟩
  | .hbm, ⟨20, _⟩ => ⟨S4096x512, .bf16⟩
  | .hbm, ⟨21, _⟩ => ⟨S4096x1x512, .bf16⟩
  | .hbm, ⟨22, _⟩ => ⟨S4096x512, .bf16⟩
  | .hbm, ⟨23, _⟩ => ⟨S1x4096x512, .bf16⟩
  | .hbm, ⟨24, _⟩ => ⟨S1x4096x512, .bf16⟩
  | .hbm, ⟨25, _⟩ => ⟨S1x4096x512, .bf16⟩
  | .hbm, ⟨26, _⟩ => ⟨S3x4096x512, .bf16⟩
  | .hbm, ⟨27, _⟩ => ⟨S4096x1x512, .bf16⟩
  | .hbm, ⟨28, _⟩ => ⟨S4096x512, .bf16⟩
  | .hbm, ⟨29, _⟩ => ⟨S4096x1x512, .bf16⟩
  | .hbm, ⟨30, _⟩ => ⟨S4096x512, .bf16⟩
  | .hbm, ⟨31, _⟩ => ⟨S4096x1x512, .bf16⟩
  | .hbm, ⟨32, _⟩ => ⟨S4096x512, .bf16⟩
  | .hbm, ⟨33, _⟩ => ⟨S1x4096x512, .bf16⟩
  | .hbm, ⟨34, _⟩ => ⟨S1x4096x512, .bf16⟩
  | .hbm, ⟨35, _⟩ => ⟨S1x4096x512, .bf16⟩
  | .hbm, ⟨36, _⟩ => ⟨S3x4096x512, .bf16⟩
  | .hbm, ⟨37, _⟩ => ⟨S4096x2x512, .bf16⟩
  | .hbm, ⟨38, _⟩ => ⟨S4096x1024, .bf16⟩
  | .hbm, ⟨39, _⟩ => ⟨S4096x1x512, .bf16⟩
  | .hbm, ⟨40, _⟩ => ⟨S4096x512, .bf16⟩
  | .hbm, ⟨41, _⟩ => ⟨S4096x4x512, .bf16⟩
  | .hbm, ⟨42, _⟩ => ⟨S4096x2x1024, .bf16⟩
  | .hbm, ⟨43, _⟩ => ⟨S2x4096x1024, .bf16⟩
  | .hbm, ⟨44, _⟩ => ⟨S1024x8x1024, .f32⟩
  | .hbm, ⟨45, _⟩ => ⟨S8x1024x1024, .f32⟩
  | .hbm, ⟨46, _⟩ => ⟨S8x1024x1024, .bf16⟩
  | .hbm, ⟨47, _⟩ => ⟨S4096x1024, .f32⟩
  | .hbm, ⟨48, _⟩ => ⟨S4096x1024, .bf16⟩
  | .hbm, ⟨49, _⟩ => ⟨S1x1024, .f32⟩
  | .local _ .vmem, ⟨0, _⟩ => ⟨S3x256x512, .bf16⟩
  | .local _ .vmem, ⟨1, _⟩ => ⟨S3x256x512, .bf16⟩
  | .local _ .vmem, ⟨2, _⟩ => ⟨S3x256x512, .bf16⟩
  | .local _ .vmem, ⟨3, _⟩ => ⟨S3x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S2x256x1024, .bf16⟩
  | .local _ .vmem, ⟨11, _⟩ => ⟨S2x256x1024, .bf16⟩
  | .local _ .vmem, ⟨12, _⟩ => ⟨S8x1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42_0 : Ref sig .tc := ⟨.hbm, 47, rfl⟩
abbrev main_v42_1 : Ref sig .tc := ⟨.hbm, 48, rfl⟩
abbrev main_v42_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v127 : BitVec 1 := Scalar.cmpi .eq arg0 c0_i32
  let v128 : BitVec 32 := Scalar.extui v127
  let c0_i32_115 : BitVec 32 := 0#32
  let v129 : BitVec 1 := Scalar.cmpi .ne v128 c0_i32_115
  v129

def k0_cond2 (i : grid0.Coords) : BitVec 1 :=
  let arg0 : BitVec 32 := BitVec.ofNat 32 (i 0).val
  let c0_i32_116 : BitVec 32 := 0#32
  let v130 : BitVec 1 := Scalar.cmpi .sgt arg0 c0_i32_116
  let v131 : BitVec 32 := Scalar.extui v130
  let c0_i32_117 : BitVec 32 := 0#32
  let v132 : BitVec 1 := Scalar.cmpi .ne v131 c0_i32_117
  v132

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ProjBwdReferenceIdeal.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x8192, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== FfnDw.lean ====
abbrev S2x4096x2816 : Shape := ⟨3, ![2, 4096, 2816]⟩
abbrev S4096x1024 : Shape := ⟨2, ![4096, 1024]⟩
abbrev S8x1056x1024 : Shape := ⟨3, ![8, 1056, 1024]⟩
abbrev S1x4096x1408 : Shape := ⟨3, ![1, 4096, 1408]⟩
abbrev S4x352x1024 : Shape := ⟨3, ![4, 352, 1024]⟩
abbrev S4096x1408 : Shape := ⟨2, ![4096, 1408]⟩
abbrev S1408x1024 : Shape := ⟨2, ![1408, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x4096x2816, .f32⟩
  | .hbm, ⟨1, _⟩ => ⟨S4096x1024, .f32⟩
  | .hbm, ⟨2, _⟩ => ⟨S8x1056x1024, .f32⟩
  | .hbm, ⟨3, _⟩ => ⟨S8x1056x1024, .bf16⟩
  | .hbm, ⟨4, _⟩ => ⟨S2x4096x2816, .bf16⟩
  | .hbm, ⟨5, _⟩ => ⟨S4096x1024, .bf16⟩
  | .hbm, ⟨6, _⟩ => ⟨S8x1056x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S4x352x1024, .bf16⟩
  | .local _ .vmem, ⟨4, _⟩ => ⟨S4x352x1024, .bf16⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 2], ![false, false]⟩

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDwReferenceIdeal.lean ====
abbrev S2x4096x2816 : Shape := ⟨3, ![2, 4096, 2816]⟩
abbrev S4096x1024 : Shape := ⟨2, ![4096, 1024]⟩
abbrev S8x1056x1024 : Shape := ⟨3, ![8, 1056, 1024]⟩
abbrev S_ : Shape := ⟨0, ![]⟩
abbrev S1024x2816 : Shape := ⟨2, ![1024, 2816]⟩
abbrev S4096x2816 : Shape := ⟨2, ![4096, 2816]⟩
abbrev S1x4096x2816 : Shape := ⟨3, ![1, 4096, 2816]⟩
abbrev S2816x1024 : Shape := ⟨2, ![2816, 1024]⟩
abbrev S8x352x1024 : Shape := ⟨3, ![8, 352, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S4096x1024, .f32⟩
  | .hbm, ⟨2, _⟩ => ⟨S8x1056x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S1x4096x2816, .f32⟩
  | .hbm, ⟨10, _⟩ => ⟨S4096x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S8x352x1024, .f32⟩
  | .hbm, ⟨17, _⟩ => ⟨S2816x1024, .f32⟩
  | .hbm, ⟨18, _⟩ => ⟨S8x352x1024, .f32⟩
  | .hbm, ⟨19, _⟩ => ⟨S8x352x1024, .f32⟩
  | .hbm, ⟨20, _⟩ => ⟨S8x1056x1024, .f32⟩
  | .hbm, ⟨21, _⟩ => ⟨S8x1056x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== FfnGate.lean ====
abbrev S2816x1024 : Shape := ⟨2, ![2816, 1024]⟩
abbrev S4096x2816 : Shape := ⟨2, ![4096, 2816]⟩
abbrev S4096x1024 : Shape := ⟨2, ![4096, 1024]⟩
abbrev S_ : Shape := ⟨0, ![]⟩
abbrev S1x4096x2816 : Shape := ⟨3, ![1, 4096, 2816]⟩
abbrev S3x4096x2816 : Shape := ⟨3, ![3, 4096, 2816]⟩
abbrev S8x352x1024 : Shape := ⟨3, ![8, 352, 1024]⟩
abbrev S2x4096x2816 : Shape := ⟨3, ![2, 4096, 2816]⟩
abbrev S256x1024 : Shape := ⟨2, ![256, 1024]⟩
abbrev S2x256x2816 : Shape := ⟨3, ![2, 256, 2816]⟩
abbrev S256x2816 : Shape := ⟨2, ![256, 2816]⟩
abbrev S1x256x2816 : Shape := ⟨3, ![1, 256, 2816]⟩

abbrev nBuf : Space → Nat
  | .hbm => 15
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S4096x2816, .f32⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S4096x2816, .f32⟩
  | .hbm, ⟨6, _⟩ => ⟨S1x4096x2816, .f32⟩
  | .hbm, ⟨7, _⟩ => ⟨S1x4096x2816, .f32⟩
  | .hbm, ⟨8, _⟩ => ⟨S1x4096x2816, .f32⟩
  | .hbm, ⟨9, _⟩ => ⟨S3x4096x2816, .f32⟩
  | .hbm, ⟨10, _⟩ => ⟨S3x4096x2816, .bf16⟩
  | .hbm, ⟨11, _⟩ => ⟨S4096x1024, .bf16⟩
  | .hbm, ⟨12, _⟩ => ⟨S8x352x1024, .f32⟩
  | .hbm, ⟨13, _⟩ => ⟨S8x352x1024, .bf16⟩
  | .hbm, ⟨14, _⟩ => ⟨S2x4096x2816, .bf16⟩
  | .local _ .vmem, ⟨0, _⟩ => ⟨S256x1024, .bf16⟩
  | .local _ .vmem, ⟨1, _⟩ => ⟨S256x1024, .bf16⟩
  | .local _ .vmem, ⟨2, _⟩ => ⟨S8x352x1024, .bf16⟩
  | .local _ .vmem, ⟨3, _⟩ => ⟨S2x256x2816, .bf16⟩
  | .local _ .vmem, ⟨4, _⟩ => ⟨S2x256x2816, .bf16⟩
  | .local _ .vmem, ⟨5, _⟩ => ⟨S2x256x2816, .bf16⟩
  | .local _ .vmem, ⟨6, _⟩ => ⟨S2x256x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnGateReferenceIdeal.lean ====
abbrev S2816x1024 : Shape := ⟨2, ![2816, 1024]⟩
abbrev S4096x2816 : Shape := ⟨2, ![4096, 2816]⟩
abbrev S4096x1024 : Shape := ⟨2, ![4096, 1024]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x2816, .f32⟩
  | .hbm, ⟨2, _⟩ => ⟨S4096x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== ProjDwA.lean ====
abbrev S4096x8192 : Shape := ⟨2, ![4096, 8192]⟩
abbrev S4096x1024 : Shape := ⟨2, ![4096, 1024]⟩
abbrev S8x1344x1024 : Shape := ⟨3, ![8, 1344, 1024]⟩
abbrev S4096x16x512 : Shape := ⟨3, ![4096, 16, 512]⟩
abbrev S4096x1x512 : Shape := ⟨3, ![4096, 1, 512]⟩
abbrev S4096x512 : Shape := ⟨2, ![4096, 512]⟩
abbrev S1x4096x512 : Shape := ⟨3, ![1, 4096, 512]⟩
abbrev S3x4096x512 : Shape := ⟨3, ![3, 4096, 512]⟩
abbrev S1x1024x512 : Shape := ⟨3, ![1, 1024, 512]⟩
abbrev S1024x512 : Shape := ⟨2, ![1024, 512]⟩

abbrev nBuf : Space → Nat
  | .hbm => 38
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S8x1344x1024, .f32⟩
  | .hbm, ⟨3, _⟩ => ⟨S4096x8192, .bf16⟩
  | .hbm, ⟨4, _⟩ => ⟨S4096x16x512, .bf16⟩
  | .hbm, ⟨5, _⟩ => ⟨S4096x1x512, .bf16⟩
  | .hbm, ⟨6, _⟩ => ⟨S4096x512, .bf16⟩
  | .hbm, ⟨7, _⟩ => ⟨S4096x1x512, .bf16⟩
  | .hbm, ⟨8, _⟩ => ⟨S4096x512, .bf16⟩
  | .hbm, ⟨9, _⟩ => ⟨S4096x1x512, .bf16⟩
  | .hbm, ⟨10, _⟩ => ⟨S4096x512, .bf16⟩
  | .hbm, ⟨11, _⟩ => ⟨S1x4096x512, .bf16⟩
  | .hbm, ⟨12, _⟩ => ⟨S1x4096x512, .bf16⟩
  | .hbm, ⟨13, _⟩ => ⟨S1x4096x512, .bf16⟩
  | .hbm, ⟨14, _⟩ => ⟨S3x4096x512, .bf16⟩
  | .hbm, ⟨15, _⟩ => ⟨S4096x1x512, .bf16⟩
  | .hbm, ⟨16, _⟩ => ⟨S4096x512, .bf16⟩
  | .hbm, ⟨17, _⟩ => ⟨S4096x1x512, .bf16⟩
  | .hbm, ⟨18, _⟩ => ⟨S4096x512, .bf16⟩
  | .hbm, ⟨19, _⟩ => ⟨S4096x1x512, .bf16⟩
  | .hbm, ⟨20, _⟩ => ⟨S4096x512, .bf16⟩
  | .hbm, ⟨21, _⟩ => ⟨S1x4096x512, .bf16⟩
  | .hbm, ⟨22, _⟩ => ⟨S1x4096x512, .bf16⟩
  | .hbm, ⟨23, _⟩ => ⟨S1x4096x512, .bf16⟩
  | .hbm, ⟨24, _⟩ => ⟨S3x4096x512, .bf16⟩
  | .hbm, ⟨25, _⟩ => ⟨S4096x1x512, .bf16⟩
  | .hbm, ⟨26, _⟩ => ⟨S4096x512, .bf16⟩
  | .hbm, ⟨27, _⟩ => ⟨S4096x1x512, .bf16⟩
  | .hbm, ⟨28, _⟩ => ⟨S4096x512, .bf16⟩
  | .hbm, ⟨29, _⟩ => ⟨S4096x1x512, .bf16⟩
  | .hbm, ⟨30, _⟩ => ⟨S4096x512, .bf16⟩
  | .hbm, ⟨31, _⟩ => ⟨S1x4096x512, .bf16⟩
  | .hbm, ⟨32, _⟩ => ⟨S1x4096x512, .bf16⟩
  | .hbm, ⟨33, _⟩ => ⟨S1x4096x512, .bf16⟩
  | .hbm, ⟨34, _⟩ => ⟨S3x4096x512, .bf16⟩
  | .hbm, ⟨35, _⟩ => ⟨S4096x1024, .bf16⟩
  | .hbm, ⟨36, _⟩ => ⟨S8x1344x1024, .bf16⟩
  | .hbm, ⟨37, _⟩ => ⟨S8x1344x1024, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x1024x512, .bf16⟩
  | .local _ .vmem, ⟨8, _⟩ => ⟨S1x1024x512, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .sle arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c3_i32 : BitVec 32 := 3#32
  let v5 : BitVec 1 := Scalar.cmpi .sge arg0 c3_i32
  let c5_i32 : BitVec 32 := 5#32
  let v6 : BitVec 1 := Scalar.cmpi .sle arg0 c5_i32
  let v7 : BitVec 1 := Scalar.andi v5 v6
  let v8 : BitVec 32 := Scalar.extui v7
  let c0_i32_1 : BitVec 32 := 0#32
  let v9 : BitVec 1 := Scalar.cmpi .ne v8 c0_i32_1
  v9

def k0_cond3 (i : grid0.Coords) : BitVec 1 :=
  let arg0 : BitVec 32 := BitVec.ofNat 32 (i 0).val
  let c6_i32 : BitVec 32 := 6#32
  let v10 : BitVec 1 := Scalar.cmpi .sge arg0 c6_i32
  let c8_i32 : BitVec 32 := 8#32
  let v11 : BitVec 1 := Scalar.cmpi .sle arg0 c8_i32
  let v12 : BitVec 1 := Scalar.andi v10 v11
  let v13 : BitVec 32 := Scalar.extui v12
  let c0_i32_2 : BitVec 32 := 0#32
  let v14 : BitVec 1 := Scalar.cmpi .ne v13 c0_i32_2
  v14

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c7_i32 : BitVec 32 := 7#32
  let v0 : BitVec 1 := Scalar.cmpi .eq arg0 c7_i32
  let c2_i32 : BitVec 32 := 2#32
  let c2_i32_0 : BitVec 32 := 2#32
  let v1 : BitVec 32 := Scalar.select v0 c2_i32 c2_i32_0
  let c6_i32 : BitVec 32 := 6#32
  let v2 : BitVec 1 := Scalar.cmpi .eq arg0 c6_i32
  let c2_i32_1 : BitVec 32 := 2#32
  let v3 : BitVec 32 := Scalar.select v2 c2_i32_1 v1
  let c5_i32 : BitVec 32 := 5#32
  let v4 : BitVec 1 := Scalar.cmpi .eq arg0 c5_i32
  let c2_i32_2 : BitVec 32 := 2#32
  let v5 : BitVec 32 := Scalar.select v4 c2_i32_2 v3
  let c4_i32 : BitVec 32 := 4#32
  let v6 : BitVec 1 := Scalar.cmpi .eq arg0 c4_i32
  let c2_i32_3 : BitVec 32 := 2#32
  let v7 : BitVec 32 := Scalar.select v6 c2_i32_3 v5
  let c3_i32 : BitVec 32 := 3#32
  let v8 : BitVec 1 := Scalar.cmpi .eq arg0 c3_i32
  let c2_i32_4 : BitVec 32 := 2#32
  let v9 : BitVec 32 := Scalar.select v8 c2_i32_4 v7
  let c2_i32_5 : BitVec 32 := 2#32
  let v10 : BitVec 1 := Scalar.cmpi .eq arg0 c2_i32_5
  let c2_i32_6 : BitVec 32 := 2#32
  let v11 : BitVec 32 := Scalar.select v10 c2_i32_6 v9
  let c1_i32 : BitVec 32 := 1#32
  let v12 : BitVec 1 := Scalar.cmpi .eq arg0 c1_i32
  let c1_i32_7 : BitVec 32 := 1#32
  let v13 : BitVec 32 := Scalar.select v12 c1_i32_7 v11
  let c0_i32 : BitVec 32 := 0#32
  let v14 : BitVec 1 := Scalar.cmpi .eq arg0 c0_i32
  let c0_i32_8 : BitVec 32 := 0#32
  let v15 : BitVec 32 := Scalar.select v14 c0_i32_8 v13
  let c0_i32_9 : BitVec 32 := 0#32
  let c0_i32_10 : BitVec 32 := 0#32
  let c0_i32_11 : BitVec 32 := 0#32
  ![v15.toNat, c0_i32_9.toNat, c0_i32_10.toNat]

def cc0_transform_3 (i : grid0.Coords) : Fin 3 → Nat :=
  let arg0 : BitVec 32 := BitVec.ofNat 32 (i 0).val
  let c7_i32 : BitVec 32 := 7#32
  let v0 : BitVec 1 := Scalar.cmpi .eq arg0 c7_i32
  let c2_i32 : BitVec 32 := 2#32
  let c2_i32_0 : BitVec 32 := 2#32
  let v1 : BitVec 32 := Scalar.select v0 c2_i32 c2_i32_0
  let c6_i32 : BitVec 32 := 6#32
  let v2 : BitVec 1 := Scalar.cmpi .eq arg0 c6_i32
  let c2_i32_1 : BitVec 32 := 2#32
  let v3 : BitVec 32 := Scalar.select v2 c2_i32_1 v1
  let c5_i32 : BitVec 32 := 5#32
  let v4 : BitVec 1 := Scalar.cmpi .eq arg0 c5_i32
  let c2_i32_2 : BitVec 32 := 2#32
  let v5 : BitVec 32 := Scalar.select v4 c2_i32_2 v3
  let c4_i32 : BitVec 32 := 4#32
  let v6 : BitVec 1 := Scalar.cmpi .eq arg0 c4_i32
  let c1_i32 : BitVec 32 := 1#32
  let v7 : BitVec 32 := Scalar.select v6 c1_i32 v5
  let c3_i32 : BitVec 32 := 3#32
  let v8 : BitVec 1 := Scalar.cmpi .eq arg0 c3_i32
  let c0_i32 : BitVec 32 := 0#32
  let v9 : BitVec 32 := Scalar.select v8 c0_i32 v7
  let c2_i32_3 : BitVec 32 := 2#32
  let v10 : BitVec 1 := Scalar.cmpi .eq arg0 c2_i32_3
  let c0_i32_4 : BitVec 32 := 0#32
  let v11 : BitVec 32 := Scalar.select v10 c0_i32_4 v9
  let c1_i32_5 : BitVec 32 := 1#32
  let v12 : BitVec 1 := Scalar.cmpi .eq arg0 c1_i32_5
  let c0_i32_6 : BitVec 32 := 0#32
  let v13 : BitVec 32 := Scalar.select v12 c0_i32_6 v11
  let c0_i32_7 : BitVec 32 := 0#32
  let v14 : BitVec 1 := Scalar.cmpi .eq arg0 c0_i32_7
  let c0_i32_8 : BitVec 32 := 0#32
  let v15 : BitVec 32 := Scalar.select v14 c0_i32_8 v13
  let c0_i32_9 : BitVec 32 := 0#32
  let c0_i32_10 : BitVec 32 := 0#32
  let c0_i32_11 : BitVec 32 := 0#32
  ![v15.toNat, c0_i32_9.toNat, c0_i32_10.toNat]

def cc0_transform_4 (i : grid0.Coords) : Fin 3 → Nat :=
  let arg0 : BitVec 32 := BitVec.ofNat 32 (i 0).val
  let c7_i32 : BitVec 32 := 7#32
  let v0 : BitVec 1 := Scalar.cmpi .eq arg0 c7_i32
  let c1_i32 : BitVec 32 := 1#32
  let c2_i32 : BitVec 32 := 2#32
  let v1 : BitVec 32 := Scalar.select v0 c1_i32 c2_i32
  let c6_i32 : BitVec 32 := 6#32
  let v2 : BitVec 1 := Scalar.cmpi .eq arg0 c6_i32
  let c0_i32 : BitVec 32 := 0#32
  let v3 : BitVec 32 := Scalar.select v2 c0_i32 v1
  let c5_i32 : BitVec 32 := 5#32
  let v4 : BitVec 1 := Scalar.cmpi .eq arg0 c5_i32
  let c0_i32_0 : BitVec 32 := 0#32
  let v5 : BitVec 32 := Scalar.select v4 c0_i32_0 v3
  let c4_i32 : BitVec 32 := 4#32
  let v6 : BitVec 1 := Scalar.cmpi .eq arg0 c4_i32
  let c0_i32_1 : BitVec 32 := 0#32
  let v7 : BitVec 32 := Scalar.select v6 c0_i32_1 v5
  let c3_i32 : BitVec 32 := 3#32
  let v8 : BitVec 1 := Scalar.cmpi .eq arg0 c3_i32
  let c0_i32_2 : BitVec 32 := 0#32
  let v9 : BitVec 32 := Scalar.select v8 c0_i32_2 v7
  let c2_i32_3 : BitVec 32 := 2#32
  let v10 : BitVec 1 := Scalar.cmpi .eq arg0 c2_i32_3
  let c0_i32_4 : BitVec 32 := 0#32
  let v11 : BitVec 32 := Scalar.select v10 c0_i32_4 v9
  let c1_i32_5 : BitVec 32 := 1#32
  let v12 : BitVec 1 := Scalar.cmpi .eq arg0 c1_i32_5
  let c0_i32_6 : BitVec 32 := 0#32
  let v13 : BitVec 32 := Scalar.select v12 c0_i32_6 v11
  let c0_i32_7 : BitVec 32 := 0#32
  let v14 : BitVec 1 := Scalar.cmpi .eq arg0 c0_i32_7
  let c0_i32_8 : BitVec 32 := 0#32
  let v15 : BitVec 32 := Scalar.select v14 c0_i32_8 v13
  let c0_i32_9 : BitVec 32 := 0#32
  let c0_i32_10 : BitVec 32 := 0#32
  let c0_i32_11 : BitVec 32 := 0#32
  ![v15.toNat, c0_i32_9.toNat, c0_i32_10.toNat]

def cc0_transform_5 (i : grid0.Coords) : Fin 3 → Nat :=
  let arg0 : BitVec 32 := BitVec.ofNat 32 (i 0).val
  let c7_i32 : BitVec 32 := 7#32
  let v0 : BitVec 1 := Scalar.cmpi .eq arg0 c7_i32
  let c5_i32 : BitVec 32 := 5#32
  let c8_i32 : BitVec 32 := 8#32
  let v1 : BitVec 32 := Scalar.select v0 c5_i32 c8_i32
  let c6_i32 : BitVec 32 := 6#32
  let v2 : BitVec 1 := Scalar.cmpi .eq arg0 c6_i32
  let c2_i32 : BitVec 32 := 2#32
  let v3 : BitVec 32 := Scalar.select v2 c2_i32 v1
  let c5_i32_0 : BitVec 32 := 5#32
  let v4 : BitVec 1 := Scalar.cmpi .eq arg0 c5_i32_0
  let c7_i32_1 : BitVec 32 := 7#32
  let v5 : BitVec 32 := Scalar.select v4 c7_i32_1 v3
  let c4_i32 : BitVec 32 := 4#32
  let v6 : BitVec 1 := Scalar.cmpi .eq arg0 c4_i32
  let c4_i32_2 : BitVec 32 := 4#32
  let v7 : BitVec 32 := Scalar.select v6 c4_i32_2 v5
  let c3_i32 : BitVec 32 := 3#32
  let v8 : BitVec 1 := Scalar.cmpi .eq arg0 c3_i32
  let c1_i32 : BitVec 32 := 1#32
  let v9 : BitVec 32 := Scalar.select v8 c1_i32 v7
  let c2_i32_3 : BitVec 32 := 2#32
  let v10 : BitVec 1 := Scalar.cmpi .eq arg0 c2_i32_3
  let c6_i32_4 : BitVec 32 := 6#32
  let v11 : BitVec 32 := Scalar.select v10 c6_i32_4 v9
  let c1_i32_5 : BitVec 32 := 1#32
  let v12 : BitVec 1 := Scalar.cmpi .eq arg0 c1_i32_5
  let c3_i32_6 : BitVec 32 := 3#32
  let v13 : BitVec 32 := Scalar.select v12 c3_i32_6 v11
  let c0_i32 : BitVec 32 := 0#32
  let v14 : BitVec 1 := Scalar.cmpi .eq arg0 c0_i32
  let c0_i32_7 : BitVec 32 := 0#32
  let v15 : BitVec 32 := Scalar.select v14 c0_i32_7 v13
  let c2_i32_8 : BitVec 32 := 2#32
  let v16 : BitVec 32 := Scalar.divsi v15 c2_i32_8
  let c0_i32_9 : BitVec 32 := 0#32
  let v17 : BitVec 1 := Scalar.cmpi .sgt v15 c0_i32_9
  let v18 : BitVec 32 := Scalar.extui v17
  let c0_i32_10 : BitVec 32 := 0#32
  let v19 : BitVec 1 := Scalar.cmpi .slt v15 c0_i32_10
  let v20 : BitVec 32 := Scalar.extui v19
  let v21 : BitVec 32 := Scalar.subi v18 v20
  let c0_i32_11 : BitVec 32 := 0#32
  let v22 : BitVec 1 := Scalar.cmpi .sgt c2_i32_8 c0_i32_11
  let v23 : BitVec 32 := Scalar.extui v22
  let c0_i32_12 : BitVec 32 := 0#32
  let v24 : BitVec 1 := Scalar.cmpi .slt c2_i32_8 c0_i32_12
  let v25 : BitVec 32 := Scalar.extui v24
  let v26 : BitVec 32 := Scalar.subi v23 v25
  let v27 : BitVec 1 := Scalar.cmpi .ne v21 v26
  let v28 : BitVec 32 := Scalar.remsi v15 c2_i32_8
  let c0_i32_13 : BitVec 32 := 0#32
  let v29 : BitVec 1 := Scalar.cmpi .ne v28 c0_i32_13
  let v30 : BitVec 1 := Scalar.andi v27 v29
  let c1_i32_14 : BitVec 32 := 1#32
  let v31 : BitVec 32 := Scalar.subi v16 c1_i32_14
  let v32 : BitVec 32 := Scalar.select v30 v31 v16
  let c7_i32_15 : BitVec 32 := 7#32
  let v33 : BitVec 1 := Scalar.cmpi .eq arg0 c7_i32_15
  let c5_i32_16 : BitVec 32 := 5#32
  let c8_i32_17 : BitVec 32 := 8#32
  let v34 : BitVec 32 := Scalar.select v33 c5_i32_16 c8_i32_17
  let c6_i32_18 : BitVec 32 := 6#32
  let v35 : BitVec 1 := Scalar.cmpi .eq arg0 c6_i32_18
  let c2_i32_19 : BitVec 32 := 2#32
  let v36 : BitVec 32 := Scalar.select v35 c2_i32_19 v34
  let c5_i32_20 : BitVec 32 := 5#32
  let v37 : BitVec 1 := Scalar.cmpi .eq arg0 c5_i32_20
  let c7_i32_21 : BitVec 32 := 7#32
  let v38 : BitVec 32 := Scalar.select v37 c7_i32_21 v36
  let c4_i32_22 : BitVec 32 := 4#32
  let v39 : BitVec 1 := Scalar.cmpi .eq arg0 c4_i32_22
  let c4_i32_23 : BitVec 32 := 4#32
  let v40 : BitVec 32 := Scalar.select v39 c4_i32_23 v38
  let c3_i32_24 : BitVec 32 := 3#32
  let v41 : BitVec 1 := Scalar.cmpi .eq arg0 c3_i32_24
  let c1_i32_25 : BitVec 32 := 1#32
  let v42 : BitVec 32 := Scalar.select v41 c1_i32_25 v40
  let c2_i32_26 : BitVec 32 := 2#32
  let v43 : BitVec 1 := Scalar.cmpi .eq arg0 c2_i32_26
  let c6_i32_27 : BitVec 32 := 6#32
  let v44 : BitVec 32 := Scalar.select v43 c6_i32_27 v42
  let c1_i32_28 : BitVec 32 := 1#32
  let v45 : BitVec 1 := Scalar.cmpi .eq arg0 c1_i32_28
  let c3_i32_29 : BitVec 32 := 3#32
  let v46 : BitVec 32 := Scalar.select v45 c3_i32_29 v44
  let c0_i32_30 : BitVec 32 := 0#32
  let v47 : BitVec 1 := Scalar.cmpi .eq arg0 c0_i32_30
  let c0_i32_31 : BitVec 32 := 0#32
  let v48 : BitVec 32 := Scalar.select v47 c0_i32_31 v46
  let c2_i32_32 : BitVec 32 := 2#32
  let c0_i32_33 : BitVec 32 := 0#32
  let v49 : BitVec 1 := Scalar.cmpi .eq c2_i32_32 c0_i32_33
  let c1_i32_34 : BitVec 32 := 1#32
  let v50 : BitVec 32 := Scalar.select v49 c1_i32_34 c2_i32_32
  let v51 : BitVec 32 := Scalar.remsi v48 v50
  let c0_i32_35 : BitVec 32 := 0#32
  let v52 : BitVec 1 := Scalar.cmpi .ne v51 c0_i32_35
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let v56 : BitVec 1 := Scalar.andi v55 v52
  let v57 : BitVec 32 := Scalar.addi v51 v50
  let v58 : BitVec 32 := Scalar.select v56 v57 v51
  let c0_i32_38 : BitVec 32 := 0#32
  let c0_i32_39 : BitVec 32 := 0#32
  ![v32.toNat, c0_i32_38.toNat, v58.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjDwAReferenceIdeal.lean ====
abbrev S4096x8192 : Shape := ⟨2, ![4096, 8192]⟩
abbrev S4096x1024 : Shape := ⟨2, ![4096, 1024]⟩
abbrev S8x1344x1024 : Shape := ⟨3, ![8, 1344, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S_ : Shape := ⟨0, ![]⟩
abbrev S8192x1024 : Shape := ⟨2, ![8192, 1024]⟩
abbrev S1024x4608 : Shape := ⟨2, ![1024, 4608]⟩
abbrev S1024x3584 : Shape := ⟨2, ![1024, 3584]⟩
abbrev S8x320x1024 : Shape := ⟨3, ![8, 320, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S8x1344x1024, .f32⟩
  | .hbm, ⟨3, _⟩ => ⟨S8x1024x1024, .f32⟩
  | .hbm, ⟨4, _⟩ => ⟨S1024x8x1024, .f32⟩
  | .hbm, ⟨5, _⟩ => ⟨S1024x8192, .f32⟩
  | .hbm, ⟨6, _⟩ => ⟨S_, .f32⟩
  | .hbm, ⟨7, _⟩ => ⟨S1024x8192, .f32⟩
  | .hbm, ⟨8, _⟩ => ⟨S4096x8192, .f32⟩
  | .hbm, ⟨9, _⟩ => ⟨S8192x1024, .f32⟩
  | .hbm, ⟨10, _⟩ => ⟨S1024x8192, .f32⟩
  | .hbm, ⟨11, _⟩ => ⟨S1024x4608, .f32⟩
  | .hbm, ⟨12, _⟩ => ⟨S1024x3584, .f32⟩
  | .hbm, ⟨13, _⟩ => ⟨S1024x8192, .f32⟩
  | .hbm, ⟨14, _⟩ => ⟨S1024x8x1024, .f32⟩
  | .hbm, ⟨15, _⟩ => ⟨S8x1024x1024, .f32⟩
  | .hbm, ⟨16, _⟩ => ⟨S8x320x1024, .f32⟩
  | .hbm, ⟨17, _⟩ => ⟨S8x1344x1024, .f32⟩
  | .hbm, ⟨18, _⟩ => ⟨S8x1344x1024, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== ProjDwB.lean ====
abbrev S4096x8192 : Shape := ⟨2, ![4096, 8192]⟩
abbrev S4096x1024 : Shape := ⟨2, ![4096, 1024]⟩
abbrev S8x1344x1024 : Shape := ⟨3, ![8, 1344, 1024]⟩
abbrev S4096x16x512 : Shape := ⟨3, ![4096, 16, 512]⟩
abbrev S4096x2x512 : Shape := ⟨3, ![4096, 2, 512]⟩
abbrev S4096x1x512 : Shape := ⟨3, ![4096, 1, 512]⟩
abbrev S4096x512 : Shape := ⟨2, ![4096, 512]⟩
abbrev S4096x4x512 : Shape := ⟨3, ![4096, 4, 512]⟩
abbrev S4096x2x1024 : Shape := ⟨3, ![4096, 2, 1024]⟩
abbrev S2x4096x1024 : Shape := ⟨3, ![2, 4096, 1024]⟩
abbrev S1x4096x512 : Shape := ⟨3, ![1, 4096, 512]⟩
abbrev S1x1024x512 : Shape := ⟨3, ![1, 1024, 512]⟩
abbrev S1024x512 : Shape := ⟨2, ![1024, 512]⟩

abbrev nBuf : Space → Nat
  | .hbm => 15
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S8x1344x1024, .f32⟩
  | .hbm, ⟨3, _⟩ => ⟨S4096x8192, .bf16⟩
  | .hbm, ⟨4, _⟩ => ⟨S4096x16x512, .bf16⟩
  | .hbm, ⟨5, _⟩ => ⟨S4096x2x512, .bf16⟩
  | .hbm, ⟨6, _⟩ => ⟨S4096x1024, .bf16⟩
  | .hbm, ⟨7, _⟩ => ⟨S4096x1x512, .bf16⟩
  | .hbm, ⟨8, _⟩ => ⟨S4096x512, .bf16⟩
  | .hbm, ⟨9, _⟩ => ⟨S4096x4x512, .bf16⟩
  | .hbm, ⟨10, _⟩ => ⟨S4096x2x1024, .bf16⟩
  | .hbm, ⟨11, _⟩ => ⟨S2x4096x1024, .bf16⟩
  | .hbm, ⟨12, _⟩ => ⟨S4096x1024, .bf16⟩
  | .hbm, ⟨13, _⟩ => ⟨S8x1344x1024, .bf16⟩
  | .hbm, ⟨14, _⟩ => ⟨S8x1344x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1024x512, .bf16⟩
  | .local _ .vmem, ⟨7, _⟩ => ⟨S1x1024x512, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .sle arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32 : BitVec 32 := 2#32
  let v5 : BitVec 1 := Scalar.cmpi .sge arg0 c2_i32
  let c2_i32_1 : BitVec 32 := 2#32
  let v6 : BitVec 1 := Scalar.cmpi .sle arg0 c2_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c3_i32 : BitVec 32 := 3#32
  let v10 : BitVec 1 := Scalar.cmpi .sge arg0 c3_i32
  let c6_i32 : BitVec 32 := 6#32
  let v11 : BitVec 1 := Scalar.cmpi .sle arg0 c6_i32
  let v12 : BitVec 1 := Scalar.andi v10 v11
  let v13 : BitVec 32 := Scalar.extui v12
  let c0_i32_3 : BitVec 32 := 0#32
  let v14 : BitVec 1 := Scalar.cmpi .ne v13 c0_i32_3
  v14

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let v0 : BitVec 1 := Scalar.cmpi .eq arg0 c5_i32
  let c1_i32 : BitVec 32 := 1#32
  let c1_i32_0 : BitVec 32 := 1#32
  let v1 : BitVec 32 := Scalar.select v0 c1_i32 c1_i32_0
  let c4_i32 : BitVec 32 := 4#32
  let v2 : BitVec 1 := Scalar.cmpi .eq arg0 c4_i32
  let c1_i32_1 : BitVec 32 := 1#32
  let v3 : BitVec 32 := Scalar.select v2 c1_i32_1 v1
  let c3_i32 : BitVec 32 := 3#32
  let v4 : BitVec 1 := Scalar.cmpi .eq arg0 c3_i32
  let c1_i32_2 : BitVec 32 := 1#32
  let v5 : BitVec 32 := Scalar.select v4 c1_i32_2 v3
  let c2_i32 : BitVec 32 := 2#32
  let v6 : BitVec 1 := Scalar.cmpi .eq arg0 c2_i32
  let c1_i32_3 : BitVec 32 := 1#32
  let v7 : BitVec 32 := Scalar.select v6 c1_i32_3 v5
  let c1_i32_4 : BitVec 32 := 1#32
  let v8 : BitVec 1 := Scalar.cmpi .eq arg0 c1_i32_4
  let c1_i32_5 : BitVec 32 := 1#32
  let v9 : BitVec 32 := Scalar.select v8 c1_i32_5 v7
  let c0_i32 : BitVec 32 := 0#32
  let v10 : BitVec 1 := Scalar.cmpi .eq arg0 c0_i32
  let c0_i32_6 : BitVec 32 := 0#32
  let v11 : BitVec 32 := Scalar.select v10 c0_i32_6 v9
  let c0_i32_7 : BitVec 32 := 0#32
  let c0_i32_8 : BitVec 32 := 0#32
  ![c0_i32_7.toNat, v11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c5_i32 : BitVec 32 := 5#32
  let v0 : BitVec 1 := Scalar.cmpi .eq arg0 c5_i32
  let c1_i32 : BitVec 32 := 1#32
  let c1_i32_0 : BitVec 32 := 1#32
  let v1 : BitVec 32 := Scalar.select v0 c1_i32 c1_i32_0
  let c4_i32 : BitVec 32 := 4#32
  let v2 : BitVec 1 := Scalar.cmpi .eq arg0 c4_i32
  let c0_i32 : BitVec 32 := 0#32
  let v3 : BitVec 32 := Scalar.select v2 c0_i32 v1
  let c3_i32 : BitVec 32 := 3#32
  let v4 : BitVec 1 := Scalar.cmpi .eq arg0 c3_i32
  let c0_i32_1 : BitVec 32 := 0#32
  let v5 : BitVec 32 := Scalar.select v4 c0_i32_1 v3
  let c2_i32 : BitVec 32 := 2#32
  let v6 : BitVec 1 := Scalar.cmpi .eq arg0 c2_i32
  let c0_i32_2 : BitVec 32 := 0#32
  let v7 : BitVec 32 := Scalar.select v6 c0_i32_2 v5
  let c1_i32_3 : BitVec 32 := 1#32
  let v8 : BitVec 1 := Scalar.cmpi .eq arg0 c1_i32_3
  let c0_i32_4 : BitVec 32 := 0#32
  let v9 : BitVec 32 := Scalar.select v8 c0_i32_4 v7
  let c0_i32_5 : BitVec 32 := 0#32
  let v10 : BitVec 1 := Scalar.cmpi .eq arg0 c0_i32_5
  let c0_i32_6 : BitVec 32 := 0#32
  let v11 : BitVec 32 := Scalar.select v10 c0_i32_6 v9
  let c5_i32_7 : BitVec 32 := 5#32
  let v12 : BitVec 1 := Scalar.cmpi .eq arg0 c5_i32_7
  let c0_i32_8 : BitVec 32 := 0#32
  let c1_i32_9 : BitVec 32 := 1#32
  let v13 : BitVec 32 := Scalar.select v12 c0_i32_8 c1_i32_9
  let c4_i32_10 : BitVec 32 := 4#32
  let v14 : BitVec 1 := Scalar.cmpi .eq arg0 c4_i32_10
  let c1_i32_11 : BitVec 32 := 1#32
  let v15 : BitVec 32 := Scalar.select v14 c1_i32_11 v13
  let c3_i32_12 : BitVec 32 := 3#32
  let v16 : BitVec 1 := Scalar.cmpi .eq arg0 c3_i32_12
  let c0_i32_13 : BitVec 32 := 0#32
  let v17 : BitVec 32 := Scalar.select v16 c0_i32_13 v15
  let c2_i32_14 : BitVec 32 := 2#32
  let v18 : BitVec 1 := Scalar.cmpi .eq arg0 c2_i32_14
  let c0_i32_15 : BitVec 32 := 0#32
  let v19 : BitVec 32 := Scalar.select v18 c0_i32_15 v17
  let c1_i32_16 : BitVec 32 := 1#32
  let v20 : BitVec 1 := Scalar.cmpi .eq arg0 c1_i32_16
  let c0_i32_17 : BitVec 32 := 0#32
  let v21 : BitVec 32 := Scalar.select v20 c0_i32_17 v19
  let c0_i32_18 : BitVec 32 := 0#32
  let v22 : BitVec 1 := Scalar.cmpi .eq arg0 c0_i32_18
  let c0_i32_19 : BitVec 32 := 0#32
  let v23 : BitVec 32 := Scalar.select v22 c0_i32_19 v21
  let c0_i32_20 : BitVec 32 := 0#32
  let c0_i32_21 : BitVec 32 := 0#32
  ![v11.toNat, c0_i32_20.toNat, v23.toNat]

def cc0_transform_5 (i : grid0.Coords) : Fin 3 → Nat :=
  let arg0 : BitVec 32 := BitVec.ofNat 32 (i 0).val
  let c5_i32 : BitVec 32 := 5#32
  let v0 : BitVec 1 := Scalar.cmpi .eq arg0 c5_i32
  let c14_i32 : BitVec 32 := 14#32
  let c15_i32 : BitVec 32 := 15#32
  let v1 : BitVec 32 := Scalar.select v0 c14_i32 c15_i32
  let c4_i32 : BitVec 32 := 4#32
  let v2 : BitVec 1 := Scalar.cmpi .eq arg0 c4_i32
  let c13_i32 : BitVec 32 := 13#32
  let v3 : BitVec 32 := Scalar.select v2 c13_i32 v1
  let c3_i32 : BitVec 32 := 3#32
  let v4 : BitVec 1 := Scalar.cmpi .eq arg0 c3_i32
  let c12_i32 : BitVec 32 := 12#32
  let v5 : BitVec 32 := Scalar.select v4 c12_i32 v3
  let c2_i32 : BitVec 32 := 2#32
  let v6 : BitVec 1 := Scalar.cmpi .eq arg0 c2_i32
  let c11_i32 : BitVec 32 := 11#32
  let v7 : BitVec 32 := Scalar.select v6 c11_i32 v5
  let c1_i32 : BitVec 32 := 1#32
  let v8 : BitVec 1 := Scalar.cmpi .eq arg0 c1_i32
  let c10_i32 : BitVec 32 := 10#32
  let v9 : BitVec 32 := Scalar.select v8 c10_i32 v7
  let c0_i32 : BitVec 32 := 0#32
  let v10 : BitVec 1 := Scalar.cmpi .eq arg0 c0_i32
  let c9_i32 : BitVec 32 := 9#32
  let v11 : BitVec 32 := Scalar.select v10 c9_i32 v9
  let c2_i32_0 : BitVec 32 := 2#32
  let v12 : BitVec 32 := Scalar.divsi v11 c2_i32_0
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32_0 c0_i32_3
  let v19 : BitVec 32 := Scalar.extui v18
  let c0_i32_4 : BitVec 32 := 0#32
  let v20 : BitVec 1 := Scalar.cmpi .slt c2_i32_0 c0_i32_4
  let v21 : BitVec 32 := Scalar.extui v20
  let v22 : BitVec 32 := Scalar.subi v19 v21
  let v23 : BitVec 1 := Scalar.cmpi .ne v17 v22
  let v24 : BitVec 32 := Scalar.remsi v11 c2_i32_0
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let c5_i32_7 : BitVec 32 := 5#32
  let v29 : BitVec 1 := Scalar.cmpi .eq arg0 c5_i32_7
  let c14_i32_8 : BitVec 32 := 14#32
  let c15_i32_9 : BitVec 32 := 15#32
  let v30 : BitVec 32 := Scalar.select v29 c14_i32_8 c15_i32_9
  let c4_i32_10 : BitVec 32 := 4#32
  let v31 : BitVec 1 := Scalar.cmpi .eq arg0 c4_i32_10
  let c13_i32_11 : BitVec 32 := 13#32
  let v32 : BitVec 32 := Scalar.select v31 c13_i32_11 v30
  let c3_i32_12 : BitVec 32 := 3#32
  let v33 : BitVec 1 := Scalar.cmpi .eq arg0 c3_i32_12
  let c12_i32_13 : BitVec 32 := 12#32
  let v34 : BitVec 32 := Scalar.select v33 c12_i32_13 v32
  let c2_i32_14 : BitVec 32 := 2#32
  let v35 : BitVec 1 := Scalar.cmpi .eq arg0 c2_i32_14
  let c11_i32_15 : BitVec 32 := 11#32
  let v36 : BitVec 32 := Scalar.select v35 c11_i32_15 v34
  let c1_i32_16 : BitVec 32 := 1#32
  let v37 : BitVec 1 := Scalar.cmpi .eq arg0 c1_i32_16
  let c10_i32_17 : BitVec 32 := 10#32
  let v38 : BitVec 32 := Scalar.select v37 c10_i32_17 v36
  let c0_i32_18 : BitVec 32 := 0#32
  let v39 : BitVec 1 := Scalar.cmpi .eq arg0 c0_i32_18
  let c9_i32_19 : BitVec 32 := 9#32
  let v40 : BitVec 32 := Scalar.select v39 c9_i32_19 v38
  let c2_i32_20 : BitVec 32 := 2#32
  let c0_i32_21 : BitVec 32 := 0#32
  let v41 : BitVec 1 := Scalar.cmpi .eq c2_i32_20 c0_i32_21
  let c1_i32_22 : BitVec 32 := 1#32
  let v42 : BitVec 32 := Scalar.select v41 c1_i32_22 c2_i32_20
  let v43 : BitVec 32 := Scalar.remsi v40 v42
  let c0_i32_23 : BitVec 32 := 0#32
  let v44 : BitVec 1 := Scalar.cmpi .ne v43 c0_i32_23
  let c0_i32_24 : BitVec 32 := 0#32
  let v45 : BitVec 1 := Scalar.cmpi .slt v43 c0_i32_24
  let c0_i32_25 : BitVec 32 := 0#32
  let v46 : BitVec 1 := Scalar.cmpi .slt v42 c0_i32_25
  let v47 : BitVec 1 := Scalar.xori v45 v46
  let v48 : BitVec 1 := Scalar.andi v47 v44
  let v49 : BitVec 32 := Scalar.addi v43 v42
  let v50 : BitVec 32 := Scalar.select v48 v49 v43
  let c0_i32_26 : BitVec 32 := 0#32
  let c0_i32_27 : BitVec 32 := 0#32
  ![v28.toNat, c0_i32_26.toNat, v50.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjDwBReferenceIdeal.lean ====
abbrev S4096x8192 : Shape := ⟨2, ![4096, 8192]⟩
abbrev S4096x1024 : Shape := ⟨2, ![4096, 1024]⟩
abbrev S8x1344x1024 : Shape := ⟨3, ![8, 1344, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S1024x4608 : Shape := ⟨2, ![1024, 4608]⟩
abbrev S_ : Shape := ⟨0, ![]⟩
abbrev S8192x1024 : Shape := ⟨2, ![8192, 1024]⟩
abbrev S1024x3584 : Shape := ⟨2, ![1024, 3584]⟩
abbrev S8x320x1024 : Shape := ⟨3, ![8, 320, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S8x1344x1024, .f32⟩
  | .hbm, ⟨3, _⟩ => ⟨S8x1024x1024, .f32⟩
  | .hbm, ⟨4, _⟩ => ⟨S1024x8x1024, .f32⟩
  | .hbm, ⟨5, _⟩ => ⟨S1024x8192, .f32⟩
  | .hbm, ⟨6, _⟩ => ⟨S1024x4608, .f32⟩
  | .hbm, ⟨7, _⟩ => ⟨S_, .f32⟩
  | .hbm, ⟨8, _⟩ => ⟨S1024x8192, .f32⟩
  | .hbm, ⟨9, _⟩ => ⟨S4096x8192, .f32⟩
  | .hbm, ⟨10, _⟩ => ⟨S8192x1024, .f32⟩
  | .hbm, ⟨11, _⟩ => ⟨S1024x8192, .f32⟩
  | .hbm, ⟨12, _⟩ => ⟨S1024x3584, .f32⟩
  | .hbm, ⟨13, _⟩ => ⟨S1024x8192, .f32⟩
  | .hbm, ⟨14, _⟩ => ⟨S1024x8x1024, .f32⟩
  | .hbm, ⟨15, _⟩ => ⟨S8x1024x1024, .f32⟩
  | .hbm, ⟨16, _⟩ => ⟨S8x320x1024, .f32⟩
  | .hbm, ⟨17, _⟩ => ⟨S8x1344x1024, .f32⟩
  | .hbm, ⟨18, _⟩ => ⟨S8x1344x1024, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proj.lean ====
abbrev S4096x1024 : Shape := ⟨2, ![4096, 1024]⟩
abbrev S1024x8192 : Shape := ⟨2, ![1024, 8192]⟩
abbrev S1024x8x1024 : Shape := ⟨3, ![1024, 8, 1024]⟩
abbrev S8x1024x1024 : Shape := ⟨3, ![8, 1024, 1024]⟩
abbrev S4096x8192 : Shape := ⟨2, ![4096, 8192]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x1024, .bf16⟩
  | .hbm, ⟨3, _⟩ => ⟨S1024x8x1024, .f32⟩
  | .hbm, ⟨4, _⟩ => ⟨S8x1024x1024, .f32⟩
  | .hbm, ⟨5, _⟩ => ⟨S8x1024x1024, .bf16⟩
  | .hbm, ⟨6, _⟩ => ⟨S4096x8192, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjReferenceIdeal.lean ====
abbrev S4096x1024 : Shape := ⟨2, ![4096, 1024]⟩
abbrev S1024x8192 : Shape := ⟨2, ![1024, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .hbm, ⟨3, _⟩ => ⟨S4096x8192, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnUp.lean ====
abbrev S4096x1024 : Shape := ⟨2, ![4096, 1024]⟩
abbrev S1024x2816 : Shape := ⟨2, ![1024, 2816]⟩
abbrev S2816x1024 : Shape := ⟨2, ![2816, 1024]⟩
abbrev S8x352x1024 : Shape := ⟨3, ![8, 352, 1024]⟩
abbrev S8x704x1024 : Shape := ⟨3, ![8, 704, 1024]⟩
abbrev S3x4096x2816 : Shape := ⟨3, ![3, 4096, 2816]⟩
abbrev S256x1024 : Shape := ⟨2, ![256, 1024]⟩
abbrev S3x256x2816 : Shape := ⟨3, ![3, 256, 2816]⟩
abbrev S256x2816 : Shape := ⟨2, ![256, 2816]⟩
abbrev S1x256x2816 : Shape := ⟨3, ![1, 256, 2816]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8x352x1024, .f32⟩
  | .hbm, ⟨5, _⟩ => ⟨S2816x1024, .f32⟩
  | .hbm, ⟨6, _⟩ => ⟨S8x352x1024, .f32⟩
  | .hbm, ⟨7, _⟩ => ⟨S8x704x1024, .f32⟩
  | .hbm, ⟨8, _⟩ => ⟨S8x704x1024, .bf16⟩
  | .hbm, ⟨9, _⟩ => ⟨S4096x1024, .bf16⟩
  | .hbm, ⟨10, _⟩ => ⟨S3x4096x2816, .bf16⟩
  | .local _ .vmem, ⟨0, _⟩ => ⟨S256x1024, .bf16⟩
  | .local _ .vmem, ⟨1, _⟩ => ⟨S256x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S3x256x2816, .bf16⟩
  | .local _ .vmem, ⟨5, _⟩ => ⟨S3x256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnUpReferenceIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S1x4096x2816 : Shape := ⟨3, ![1, 4096, 2816]⟩
abbrev S3x4096x2816 : Shape := ⟨3, ![3, 4096, 2816]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S1x4096x2816, .f32⟩
  | .hbm, ⟨16, _⟩ => ⟨S1x4096x2816, .f32⟩
  | .hbm, ⟨17, _⟩ => ⟨S1x4096x2816, .f32⟩
  | .hbm, ⟨18, _⟩ => ⟨S3x4096x2816, .f32⟩
  | .hbm, ⟨19, _⟩ => ⟨S3x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S1x4096x2816 : Shape := ⟨3, ![1, 4096, 2816]⟩
abbrev S3x4096x2816 : Shape := ⟨3, ![3, 4096, 2816]⟩
abbrev S8x352x1024 : Shape := ⟨3, ![8, 352, 1024]⟩
abbrev S1x512x2816 : Shape := ⟨3, ![1, 512, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S1x4096x2816, .f32⟩
  | .hbm, ⟨11, _⟩ => ⟨S3x4096x2816, .f32⟩
  | .hbm, ⟨12, _⟩ => ⟨S3x4096x2816, .bf16⟩
  | .hbm, ⟨13, _⟩ => ⟨S8x352x1024, .f32⟩
  | .hbm, ⟨14, _⟩ => ⟨S8x352x1024, .bf16⟩
  | .hbm, ⟨15, _⟩ => ⟨S4096x1024, .f32⟩
  | .hbm, ⟨16, _⟩ => ⟨S4096x1024, .bf16⟩
  | .local _ .vmem, ⟨0, _⟩ => ⟨S1x512x2816, .bf16⟩
  | .local _ .vmem, ⟨1, _⟩ => ⟨S1x512x2816, .bf16⟩
  | .local _ .vmem, ⟨2, _⟩ => ⟨S8x352x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Merge.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S4096x8192 : Shape := ⟨2, ![4096, 8192]⟩
abbrev S1x2048 : Shape := ⟨2, ![1, 2048]⟩
abbrev S8x128x1024 : Shape := ⟨3, ![8, 128, 1024]⟩
abbrev S8x256x1024 : Shape := ⟨3, ![8, 256, 1024]⟩
abbrev S256x512 : Shape := ⟨2, ![256, 512]⟩
abbrev S256x1024 : Shape := ⟨2, ![256, 1024]⟩
abbrev S1x1024 : Shape := ⟨2, ![1, 1024]⟩

abbrev nBuf : Space → Nat
  | .hbm => 20
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S4096x8192, .f32⟩
  | .hbm, ⟨6, _⟩ => ⟨S1x2048, .f32⟩
  | .hbm, ⟨7, _⟩ => ⟨S4096x1024, .f32⟩
  | .hbm, ⟨8, _⟩ => ⟨S8x128x1024, .f32⟩
  | .hbm, ⟨9, _⟩ => ⟨S8x128x1024, .f32⟩
  | .hbm, ⟨10, _⟩ => ⟨S8x256x1024, .f32⟩
  | .hbm, ⟨11, _⟩ => ⟨S8x256x1024, .bf16⟩
  | .hbm, ⟨12, _⟩ => ⟨S4096x512, .bf16⟩
  | .hbm, ⟨13, _⟩ => ⟨S4096x1024, .bf16⟩
  | .hbm, ⟨14, _⟩ => ⟨S512x1024, .bf16⟩
  | .hbm, ⟨15, _⟩ => ⟨S4096x8192, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S1x2048, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_8 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S4096x8192 : Shape := ⟨2, ![4096, 8192]⟩
abbrev S1x2048 : Shape := ⟨2, ![1, 2048]⟩
abbrev S4096x2048 : Shape := ⟨2, ![4096, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S4096x8192, .f32⟩
  | .hbm, ⟨6, _⟩ => ⟨S1x2048, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4096x1024, .bf16⟩
  | .hbm, ⟨28, _⟩ => ⟨S4096x1024, .bf16⟩
  | .hbm, ⟨29, _⟩ => ⟨S4096x1024, .f32⟩
  | .hbm, ⟨30, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== FfnDwDown.lean ====
abbrev S4096x2816 : Shape := ⟨2, ![4096, 2816]⟩
abbrev S4096x1024 : Shape := ⟨2, ![4096, 1024]⟩
abbrev S_ : Shape := ⟨0, ![]⟩
abbrev S1x4096x2816 : Shape := ⟨3, ![1, 4096, 2816]⟩
abbrev S3x4096x2816 : Shape := ⟨3, ![3, 4096, 2816]⟩
abbrev S8x352x1024 : Shape := ⟨3, ![8, 352, 1024]⟩
abbrev S1x2048x1408 : Shape := ⟨3, ![1, 2048, 1408]⟩
abbrev S2048x1024 : Shape := ⟨2, ![2048, 1024]⟩
abbrev S4x352x1024 : Shape := ⟨3, ![4, 352, 1024]⟩
abbrev S1408x1024 : Shape := ⟨2, ![1408, 1024]⟩
abbrev S2048x1408 : Shape := ⟨2, ![2048, 1408]⟩

abbrev nBuf : Space → Nat
  | .hbm => 13
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S4096x2816, .f32⟩
  | .hbm, ⟨4, _⟩ => ⟨S_, .f32⟩
  | .hbm, ⟨5, _⟩ => ⟨S4096x2816, .f32⟩
  | .hbm, ⟨6, _⟩ => ⟨S1x4096x2816, .f32⟩
  | .hbm, ⟨7, _⟩ => ⟨S1x4096x2816, .f32⟩
  | .hbm, ⟨8, _⟩ => ⟨S1x4096x2816, .f32⟩
  | .hbm, ⟨9, _⟩ => ⟨S3x4096x2816, .f32⟩
  | .hbm, ⟨10, _⟩ => ⟨S3x4096x2816, .bf16⟩
  | .hbm, ⟨11, _⟩ => ⟨S4096x1024, .bf16⟩
  | .hbm, ⟨12, _⟩ => ⟨S8x352x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwDownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S8x352x1024, .f32⟩
  | .hbm, ⟨14, _⟩ => ⟨S8x352x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Softmax.lean ====
/-
  The mathematics of one attention row on the real numbers, and the few facts that carry a computation on extended reals
  whose operands are all real to the real numbers. No program appears here.
-/
module

public import Idealize.ShloMosaic.PureOps.Ideal
public import Idealize.ShloMosaic.Lib.IdealHost

@[expose] public section

noncomputable section

namespace Cert.Softmax

open Idealize.ShloMosaic
open scoped BigOperators

/-! ## Extended reals that are real -/

/-- A finite sum of reals, taken on the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Folding over a nonempty finite type an operation that returns one of its operands, and ignores the start value, gives
    one of the entries. -/
theorem fold_choice {ι α : Type*} [Fintype ι] [Nonempty ι] (op : α → α → α) [Std.Commutative op] [Std.Associative op] (b : α)
    (hop : ∀ x y, op x y = x ∨ op x y = y) (hb : ∀ x, op x b = x) (f : ι → α) :
    ∃ i, (Finset.univ : Finset ι).fold op b f = f i := by
  classical
  have h : ∀ s : Finset ι, s.Nonempty → ∃ i, s.fold op b f = f i := by
    intro s hs
    induction s using Finset.induction_on with
    | empty => exact absurd hs Finset.not_nonempty_empty
    | insert a s ha ih =>
      rw [Finset.fold_insert ha]
      rcases s.eq_empty_or_nonempty with rfl | hne
      · exact ⟨a, by rw [Finset.fold_empty, hb]⟩
      · obtain ⟨i, hi⟩ := ih hne
        rw [hi]
        exact (hop (f a) (f i)).elim (fun e => ⟨a, e⟩) (fun e => ⟨i, e⟩)
  exact h _ Finset.univ_nonempty

/-- The quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul, mul_one_div]

/-! ## One row of weights -/

variable {J : Type*} [Fintype J] [Nonempty J]

/-- The softmax weight of entry `j` of a row of scores. -/
def wt (s : J → ℝ) (j : J) : ℝ := Real.exp (s j) / ∑ l, Real.exp (s l)

theorem sum_exp_pos (s : J → ℝ) : 0 < ∑ l, Real.exp (s l) :=
  Finset.sum_pos (fun _ _ => Real.exp_pos _) Finset.univ_nonempty

omit [Nonempty J] in
/-- Subtracting one number from every score divides the normaliser by its exponential. -/
theorem sum_exp_shift (s : J → ℝ) (m : ℝ) : ∑ l, Real.exp (s l - m) = (∑ l, Real.exp (s l)) / Real.exp m := by
  rw [Finset.sum_div]; exact Finset.sum_congr rfl fun l _ => Real.exp_sub _ _

omit [Nonempty J] in
/-- The weights do not change when one number is subtracted from every score. -/
theorem wt_shift (s : J → ℝ) (m : ℝ) (j : J) : Real.exp (s j - m) / ∑ l, Real.exp (s l - m) = wt s j := by
  rw [sum_exp_shift, Real.exp_sub, wt, div_div_div_cancel_right₀ (Real.exp_ne_zero m)]

/-- The logarithm of the normaliser of a row. -/
def rowLse (s : J → ℝ) : ℝ := Real.log (∑ l, Real.exp (s l))

/-- The logarithm of the normaliser, computed after any shift. -/
theorem rowLse_shift (s : J → ℝ) (m : ℝ) : m + Real.log (∑ l, Real.exp (s l - m)) = rowLse s := by
  rw [sum_exp_shift, Real.log_div (sum_exp_pos s).ne' (Real.exp_ne_zero m), Real.log_exp, rowLse]; ring

/-- The weight is the exponential of the score less the logarithm of the normaliser. -/
theorem wt_lse (s : J → ℝ) (j : J) :
    Real.exp (s j - rowLse s) = wt s j := by
  rw [rowLse, Real.exp_sub, Real.exp_log (sum_exp_pos s), wt]

/-- A power of two with both exponents measured in units of `log 2` is an exponential. -/
theorem rpow_two (x y : ℝ) : Real.rpow 2 (x / Real.log 2 - y * (Real.log 2)⁻¹) = Real.exp (x - y) := by
  have h : Real.log 2 ≠ 0 := (Real.log_pos one_lt_two).ne'
  rw [Real.rpow_eq_pow, Real.rpow_def_of_pos two_pos]
  congr 1
  field_simp

/-- The derivative of the softmax in the form reverse-mode differentiation gives it — through the exponentials `e`, their
    sum and its squared reciprocal — is the weight times the entry's deviation from the weighted mean. -/
theorem vjp_row (s : J → ℝ) (m : ℝ) (dp : J → ℝ) (j : J) :
    (dp j / (∑ l, Real.exp (s l - m))
      + -∑ k, dp k * (1 / ((∑ l, Real.exp (s l - m)) * ∑ l, Real.exp (s l - m))) * Real.exp (s k - m)) * Real.exp (s j - m)
    = wt s j * (dp j - ∑ k, wt s k * dp k) := by
  have hL : (∑ l, Real.exp (s l - m)) ≠ 0 := (sum_exp_pos fun l => s l - m).ne'
  have e : ∑ k, dp k * (1 / ((∑ l, Real.exp (s l - m)) * ∑ l, Real.exp (s l - m))) * Real.exp (s k - m)
      = (∑ k, wt s k * dp k) / ∑ l, Real.exp (s l - m) := by
    rw [Finset.sum_div]
    refine Finset.sum_congr rfl fun k _ => ?_
    rw [← wt_shift s m k]; field_simp
  rw [e, ← wt_shift s m j]
  field_simp
  ring

omit [Fintype J] [Nonempty J] in
/-- The product of the cotangent with the output is the weighted mean of the products with the values. -/
theorem row_dot {D : Type*} [Fintype D] [Fintype J] (w : J → ℝ) (c : D → ℝ) (v : J → D → ℝ) :
    ∑ d, c d * ∑ j, w j * v j d = ∑ j, w j * ∑ d, c d * v j d := by
  simp only [Finset.mul_sum]
  rw [Finset.sum_comm]
  exact Finset.sum_congr rfl fun j _ => Finset.sum_congr rfl fun d _ => by ring

end Cert.Softmax

end
-- ==== Proof.Rows.lean ====
/-
  The attention of the problem and its gradients as real-valued functions of real arrays: what both programs compute when
  every argument is real. Indices: query row `i`, key row `j`, key head `g` of 2, query head `h` of the 4 that share a key
  head, lane `d` of 128.
-/
module

public import proofs.«01_k».proof.Proof.Softmax

@[expose] public section

noncomputable section

namespace Cert.Rows

open Cert.Softmax
open scoped BigOperators

/-- Query-side arrays (queries, the cotangent of the output): row, key head, query head within it, lane. -/
abbrev QArr := Fin 4096 → Fin 2 → Fin 4 → Fin 128 → ℝ
/-- Key-side arrays (keys, values): row, key head, lane. -/
abbrev KArr := Fin 4096 → Fin 2 → Fin 128 → ℝ

/-- The score of key row `j` for a query row. -/
def score (Q : QArr) (K : KArr) (g : Fin 2) (h : Fin 4) (i j : Fin 4096) : ℝ := (∑ d, K j g d * Q i g h d) / Real.sqrt 128
/-- The attention weight of key row `j` for a query row. -/
def prob (Q : QArr) (K : KArr) (g : Fin 2) (h : Fin 4) (i j : Fin 4096) : ℝ := wt (score Q K g h i) j
/-- The logarithm of the normaliser of a query row's weights. -/
def lse (Q : QArr) (K : KArr) (g : Fin 2) (h : Fin 4) (i : Fin 4096) : ℝ := rowLse (score Q K g h i)
/-- The attention output. -/
def out (Q : QArr) (K V : KArr) (i : Fin 4096) (g : Fin 2) (h : Fin 4) (d : Fin 128) : ℝ := ∑ j, V j g d * prob Q K g h i j
/-- The product of the output's cotangent with value row `j`. -/
def dprob (C : QArr) (V : KArr) (g : Fin 2) (h : Fin 4) (i j : Fin 4096) : ℝ := ∑ d, C i g h d * V j g d
/-- The gradient of the scores. -/
def dscore (Q : QArr) (K V : KArr) (C : QArr) (g : Fin 2) (h : Fin 4) (i j : Fin 4096) : ℝ :=
  prob Q K g h i j * (dprob C V g h i j - ∑ l, prob Q K g h i l * dprob C V g h i l)
/-- The query the kernel is given: scaled, and measured in units of `log 2`. -/
def scaled (Q : QArr) : QArr := fun i g h d => Q i g h d / Real.sqrt 128 / Real.log 2
/-- The gradient of the queries. -/
def dq (Q : QArr) (K V : KArr) (C : QArr) (i : Fin 4096) (g : Fin 2) (h : Fin 4) (d : Fin 128) : ℝ :=
  ∑ j, dscore Q K V C g h i j / Real.sqrt 128 * K j g d
/-- The gradient of the keys: over the four query heads and every query row. -/
def dk (Q : QArr) (K V : KArr) (C : QArr) (j : Fin 4096) (g : Fin 2) (d : Fin 128) : ℝ :=
  ∑ h, ∑ i, dscore Q K V C g h i j / Real.sqrt 128 * Q i g h d
/-- The gradient of the values. -/
def dv (Q : QArr) (K : KArr) (C : QArr) (j : Fin 4096) (g : Fin 2) (d : Fin 128) : ℝ :=
  ∑ h, ∑ i, C i g h d * prob Q K g h i j

/-- The weight as the kernel computes it: a power of two of the scaled product less the normaliser's logarithm. -/
theorem prob_eq (Q : QArr) (K : KArr) (g : Fin 2) (h : Fin 4) (i j : Fin 4096) :
    Real.rpow 2 (∑ d, K j g d * scaled Q i g h d - lse Q K g h i * (Real.log 2)⁻¹) = prob Q K g h i j := by
  have e : ∑ d, K j g d * scaled Q i g h d = score Q K g h i j / Real.log 2 := by
    rw [score, Finset.sum_div, Finset.sum_div]
    exact Finset.sum_congr rfl fun d _ => by rw [scaled]; ring
  rw [e, rpow_two, lse, wt_lse, prob]

/-- The row correction as the kernel computes it: the product of the cotangent with the output. -/
theorem mean_eq (Q : QArr) (K V : KArr) (C : QArr) (g : Fin 2) (h : Fin 4) (i : Fin 4096) :
    ∑ d, C i g h d * out Q K V i g h d = ∑ l, prob Q K g h i l * dprob C V g h i l := by
  have e := row_dot (prob Q K g h i) (C i g h) fun j d => V j g d
  rw [show (∑ l, prob Q K g h i l * dprob C V g h i l) = ∑ j, prob Q K g h i j * ∑ d, C i g h d * V j g d from rfl, ← e]
  refine Finset.sum_congr rfl fun d _ => ?_
  rw [out]
  congr 1
  exact Finset.sum_congr rfl fun j _ => mul_comm _ _

end Cert.Rows

end
-- ==== Proof.Pay.lean ====
/-
  The kernel's payloads read at real blocks.
-/
module

public import proofs.«01_k».proof.Proof.Rows
public import proofs.«01_k».proof.Proof.Gen.KernelIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Pay

open Cert.KernelIdeal Cert.KernelIdeal.Gen Cert.Softmax Cert.Rows
open Idealize.ShloMosaic Idealize.ShloMosaic.TcCoe Idealize.SL.Sem
open scoped BigOperators

/-! ## The named constants -/

theorem log2e_at : (Named.named (F := Ideal) κ "log2e" 0x3FB8AA3B#32 : Ideal .f32) = (((Real.log 2)⁻¹ : ℝ) : EReal) :=
  IdealRules.named_const.ideal_named_scalar _ _ _ _ rfl
theorem ln2_at : (Named.named (F := Ideal) κ "ln2" 0x3F317218#32 : Ideal .f32) = ((Real.log 2 : ℝ) : EReal) :=
  IdealRules.named_const.ideal_named_scalar _ _ _ _ rfl
theorem scale_at : (Named.named (F := Ideal) κ "scale" 0x3DB504F3#32 : Ideal .f32) = (((Real.sqrt 128)⁻¹ : ℝ) : EReal) :=
  IdealRules.named_const.ideal_named_scalar _ _ _ _ rfl

/-! ## One point: query rows `ρ r` of heads `g`, `h` against every key row of head `g` -/

section
variable (Q : QArr) (K V : KArr) (C : QArr) (g : Fin 2) (h : Fin 4) (ρ : Fin 512 → Fin 4096)
variable (x0 x4 x5 : FVec Ideal S512x128 .bf16) (x1 x2 : FVec Ideal S4096x128 .bf16) (x3 : FVec Ideal S128x4096 .bf16) (x6 : FVec Ideal S1x1x512 .f32)
variable (h0 : ∀ r d, x0 (ix2 r d) = ((scaled Q (ρ r) g h d : ℝ) : EReal)) (h1 : ∀ j d, x1 (ix2 j d) = ((K j g d : ℝ) : EReal))
  (h2 : ∀ j d, x2 (ix2 j d) = ((V j g d : ℝ) : EReal)) (h3 : ∀ d j, x3 (ix2 d j) = ((K j g d : ℝ) : EReal))
  (h4 : ∀ r d, x4 (ix2 r d) = ((C (ρ r) g h d : ℝ) : EReal)) (h5 : ∀ r d, x5 (ix2 r d) = ((out Q K V (ρ r) g h d : ℝ) : EReal))
  (h6 : ∀ r, x6 (ix3 0 0 r) = ((lse Q K g h (ρ r) : ℝ) : EReal))

include h0 h1 h6 in
/-- The weights of the point. -/
theorem pay12_at (j : Fin 4096) (r : Fin 512) : k0_pay12 (F := Ideal) x0 x1 x6 (ix2 j r) = ((prob Q K g h (ρ r) j : ℝ) : EReal) := by
  pointwise [k0_pay12, k0_pay9]
  rw [log2e_at]
  simp only [h0, h1, h6, ← EReal.coe_mul, coe_sum, ← EReal.coe_sub]
  rw [← prob_eq]
  rfl

include h4 h5 in
/-- The row corrections of the point. -/
theorem pay11_at (r : Fin 512) : k0_pay11 (F := Ideal) x4 x5 (ix2 0 r) = ((∑ l, prob Q K g h (ρ r) l * dprob C V g h (ρ r) l : ℝ) : EReal) := by
  pointwise [k0_pay11, k0_pay10]
  simp only [h4, h5, ← EReal.coe_mul, coe_sum, ← EReal.coe_sub, ← EReal.coe_add, sub_self, Finset.sum_const_zero, add_zero]
  rw [mean_eq]

include h0 h1 h2 h4 h5 h6

/-- The gradient of the scores of the point. -/
theorem pay1_at (j : Fin 4096) (r : Fin 512) :
    k0_pay1 (F := Ideal) (k0_pay10 x4) (k0_pay11 x4 x5) (k0_pay12 x0 x1 x6) (k0_pay13 x2) (ix2 j r) = ((dscore Q K V C g h (ρ r) j : ℝ) : EReal) := by
  pointwise [k0_pay1, k0_pay10, k0_pay13]
  rw [pay12_at Q K g h ρ x0 x1 x6 h0 h1 h6, pay11_at Q K V C g h ρ x4 x5 h4 h5]
  simp only [h2, h4, ← EReal.coe_mul, coe_sum, ← EReal.coe_sub]
  rw [dscore, dprob]
  simp only [mul_comm (V _ _ _)]

/-- The point's part of the gradient of the keys. -/
theorem pay3_at (acc : FVec Ideal S4096x128 .f32) (j : Fin 4096) (d : Fin 128) :
    k0_pay3 (F := Ideal) (k0_pay9 x0) (k0_pay10 x4) (k0_pay11 x4 x5) (k0_pay12 x0 x1 x6) (k0_pay13 x2) acc (ix2 j d)
      = acc (ix2 j d) + ((∑ r, dscore Q K V C g h (ρ r) j * scaled Q (ρ r) g h d : ℝ) : EReal) := by
  pointwise [k0_pay3, k0_pay9]
  simp only [pay1_at Q K V C g h ρ x0 x4 x5 x1 x2 x6 h0 h1 h2 h4 h5 h6, h0, ← EReal.coe_mul, coe_sum]

include h3 in
/-- The gradient of the queries, which the point writes whole. -/
theorem pay4_at (r : Fin 512) (d : Fin 128) :
    k0_pay4 (F := Ideal) (k0_pay10 x4) (k0_pay11 x4 x5) (k0_pay12 x0 x1 x6) (k0_pay13 x2) x3 (ix2 r d)
      = ((dq Q K V C (ρ r) g h d : ℝ) : EReal) := by
  pointwise [k0_pay4]
  rw [scale_at]
  simp only [pay1_at Q K V C g h ρ x0 x4 x5 x1 x2 x6 h0 h1 h2 h4 h5 h6, h3, ← EReal.coe_mul, coe_sum]
  rw [dq, Finset.sum_mul]
  congr 1
  exact Finset.sum_congr rfl fun j _ => by ring

omit h2 h5
/-- The point's part of the gradient of the values. -/
theorem pay2_at (acc : FVec Ideal S4096x128 .f32) (j : Fin 4096) (d : Fin 128) :
    k0_pay2 (F := Ideal) (k0_pay10 x4) (k0_pay12 x0 x1 x6) acc (ix2 j d)
      = acc (ix2 j d) + ((∑ r, C (ρ r) g h d * prob Q K g h (ρ r) j : ℝ) : EReal) := by
  pointwise [k0_pay2, k0_pay10]
  simp only [pay12_at Q K g h ρ x0 x1 x6 h0 h1 h6, h4, ← EReal.coe_mul, coe_sum]
  simp only [mul_comm (C _ _ _ _)]

end

/-- The gradient of the keys leaves the accumulator by the factor `log 2`. -/
theorem pay5_at (a : FVec Ideal S4096x128 .f32) (j : Fin 4096) (d : Fin 128) :
    k0_pay5 (F := Ideal) a (ix2 j d) = a (ix2 j d) * ((Real.log 2 : ℝ) : EReal) := by
  pointwise [k0_pay5]
  rw [ln2_at]

theorem pay6_at (a : FVec Ideal S4096x128 .f32) (y : S4096x128.Idx) : k0_pay6 (F := Ideal) a y = a y := by
  pointwise [k0_pay6]
theorem pay7_at (y : S4096x128.Idx) : k0_pay7 (F := Ideal) y = 0 := by
  pointwise [k0_pay7]
theorem pay8_at (y : S4096x128.Idx) : k0_pay8 (F := Ideal) y = 0 := by
  pointwise [k0_pay8]

end Cert.KernelIdeal.Pay

end
-- ==== Proof.Ref.lean ====
/-
  The reference program, read index by index: of real arguments its three results are the gradients of Proof/Rows.lean.
  The stages below are the reference's own operations, in its own order.
-/
module

public import proofs.«01_k».proof.Proof.Rows
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Read

open Cert.ReferenceIdeal Cert.ReferenceIdeal.Gen Cert.Softmax Cert.Rows
open Idealize.ShloMosaic Idealize.ShloMosaic.TcCoe Idealize.SL.Sem
open scoped BigOperators

/-- A query-side array by row, heads and lane. -/
def q4 (A : S4096x1024.Idx → ℝ) : QArr := fun i g h d => A (ix2 i ⟨g.val * 512 + h.val * 128 + d.val, by omega⟩)
/-- A key-side array by row, head and lane. -/
def k3 (A : S4096x256.Idx → ℝ) : KArr := fun i g d => A (ix2 i ⟨g.val * 128 + d.val, by omega⟩)
/-- A real array as an array of extended reals. -/
def up {s : Shape} {φ : FTy} (A : s.Idx → ℝ) : FVec Ideal s φ := fun i => (A i : EReal)

/-- The root of 128. -/
theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num)]

theorem root_ne : Real.sqrt 128 ≠ 0 := (Real.sqrt_pos.mpr (by norm_num)).ne'

/-- The pattern of minus infinity. -/
theorem ofBits_bot : Ideal.ofBits .f32 0xFF800000#32 = ⊥ := by
  simp [Ideal.ofBits, Ideal.ieee]

/-! ## The forward stages -/

/-- The scores. -/
def sc (q : FVec Ideal S4096x1024 .f32) (k : FVec Ideal S4096x256 .f32) : FVec Ideal S2x4x4096x4096 .f32 :=
  Host.divf (transpose S2x4x4096x4096 [0, 3, 2, 1] (Host.dotGeneral dot_S4096x2x128_S4096x2x4x128_S2x4096x4096x4_2_3_0_02_1_1 none (shapeCast _ k shapeCasts_S4096x256_S4096x2x128) (shapeCast _ q shapeCasts_S4096x1024_S4096x2x4x128)) transposes_S2x4096x4096x4_S2x4x4096x4096_0_3_2_1) (broadcastInDim S2x4x4096x4096 ![] bcast_S_S2x4x4096x4096 (Host.sqrt (constant S_ .f32 0x43000000#32)))

theorem sc_at (Q : S4096x1024.Idx → ℝ) (K : S4096x256.Idx → ℝ) (g : Fin 2) (h : Fin 4) (i j : Fin 4096) :
    sc (up Q) (up K) (ix4 g h i j) = ((score (q4 Q) (k3 K) g h i j : ℝ) : EReal) := by
  pointwise [sc]
  simp only [up, ← EReal.coe_mul, coe_sum, sqrt_128]
  rw [div_coe_coe _ root_ne]
  rfl

/-- The row maximum. -/
def mx (s : FVec Ideal S2x4x4096x4096 .f32) : FVec Ideal S2x4x4096 .f32 :=
  Host.reduce FloatOps.maximumf s (constant S_ .f32 0xFF800000#32) reducesTo_S2x4x4096x4096_S2x4x4096_d3 h_S_

theorem mx_at (s : FVec Ideal S2x4x4096x4096 .f32) (S : Fin 2 → Fin 4 → Fin 4096 → Fin 4096 → ℝ)
    (hs : ∀ g h i j, s (ix4 g h i j) = ((S g h i j : ℝ) : EReal)) :
    ∃ M : Fin 2 → Fin 4 → Fin 4096 → ℝ, ∀ g h i, mx s (ix3 g h i) = ((M g h i : ℝ) : EReal) := by
  have e : ∀ g h i, ∃ r : ℝ, mx s (ix3 g h i) = (r : EReal) := by
    intro g h i
    pointwise [mx]
    simp only [hs, ofBits_bot]
    refine Exists.elim (fold_choice _ _ ?_ ?_ _) fun l hl => ⟨S g h i l, hl⟩
    · intro x y
      rcases le_total x y with h | h
      · exact .inr (sup_eq_right.2 h)
      · exact .inl (sup_eq_left.2 h)
    · intro x
      exact sup_eq_left.2 bot_le
  choose M hM using e
  exact ⟨M, hM⟩

/-- An array kept from falling below minus infinity. -/
def mxb (M : FVec Ideal S2x4x4096 .f32) : FVec Ideal S2x4x4096 .f32 :=
  maximumf (broadcastInDim S2x4x4096 ![] bcast_S_S2x4x4096 (constant S_ .f32 0xFF800000#32)) M

theorem mxb_at (M : FVec Ideal S2x4x4096 .f32) (g : Fin 2) (h : Fin 4) (i : Fin 4096) : mxb M (ix3 g h i) = M (ix3 g h i) := by
  pointwise [mxb]
  rw [ofBits_bot]
  exact sup_eq_right.2 bot_le

/-- The exponentials of the scores less the row's number `M`. -/
def ex (s : FVec Ideal S2x4x4096x4096 .f32) (M : FVec Ideal S2x4x4096 .f32) : FVec Ideal S2x4x4096x4096 .f32 :=
  Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2 M)))

theorem ex_at (s : FVec Ideal S2x4x4096x4096 .f32) (m : FVec Ideal S2x4x4096 .f32) (S : Fin 2 → Fin 4 → Fin 4096 → Fin 4096 → ℝ)
    (M : Fin 2 → Fin 4 → Fin 4096 → ℝ) (hs : ∀ g h i j, s (ix4 g h i j) = ((S g h i j : ℝ) : EReal))
    (hM : ∀ g h i, m (ix3 g h i) = ((M g h i : ℝ) : EReal)) (g : Fin 2) (h : Fin 4) (i j : Fin 4096) :
    ex s m (ix4 g h i j) = ((Real.exp (S g h i j - M g h i) : ℝ) : EReal) := by
  pointwise [ex]
  rw [hs, hM, ← EReal.coe_sub, Ideal.exp_coe]

/-- The row sums of the exponentials, one per row. -/
def nrm (e : FVec Ideal S2x4x4096x4096 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x4096_S2x4x4096_d3 h_S_)

theorem nrm_at (e : FVec Ideal S2x4x4096x4096 .f32) (E : Fin 2 → Fin 4 → Fin 4096 → Fin 4096 → ℝ)
    (he : ∀ g h i j, e (ix4 g h i j) = ((E g h i j : ℝ) : EReal)) (g : Fin 2) (h : Fin 4) (i : Fin 4096) (u : Fin 1) :
    nrm e (ix4 g h i u) = ((∑ l, E g h i l : ℝ) : EReal) := by
  pointwise [nrm]
  simp only [he, coe_sum, zero_add]

/-- The weights. -/
def wgt (e : FVec Ideal S2x4x4096x4096 .f32) : FVec Ideal S2x4x4096x4096 .f32 :=
  Host.divf e (broadcastInDim S2x4x4096x4096 ![0, 1, 2, 3] bcast_S2x4x4096x1_S2x4x4096x4096_0_1_2_3 (nrm e))

theorem wgt_at (e : FVec Ideal S2x4x4096x4096 .f32) (S : Fin 2 → Fin 4 → Fin 4096 → Fin 4096 → ℝ) (M : Fin 2 → Fin 4 → Fin 4096 → ℝ)
    (he : ∀ g h i j, e (ix4 g h i j) = ((Real.exp (S g h i j - M g h i) : ℝ) : EReal)) (g : Fin 2) (h : Fin 4) (i j : Fin 4096) :
    wgt e (ix4 g h i j) = ((wt (S g h i) j : ℝ) : EReal) := by
  have hn := nrm_at e _ he g h i 0
  pointwise [wgt]
  rw [hn, he, div_coe_coe _ (sum_exp_pos fun l => S g h i l - M g h i).ne', wt_shift]

/-! ## The backward stages -/

/-- The products of the cotangent with the values. -/
def dpv (ct : FVec Ideal S4096x1024 .f32) (v : FVec Ideal S4096x256 .f32) : FVec Ideal S2x4x4096x4096 .f32 :=
  Host.dotGeneral dot_S2x128x4x4096_S4096x2x128_S2x4x4096x4096_1_2_23_0_0_1 none (transpose S2x128x4x4096 [1, 3, 2, 0] (shapeCast _ ct shapeCasts_S4096x1024_S4096x2x4x128) transposes_S4096x2x4x128_S2x128x4x4096_1_3_2_0) (shapeCast _ v shapeCasts_S4096x256_S4096x2x128)

theorem dpv_at (C : S4096x1024.Idx → ℝ) (V : S4096x256.Idx → ℝ) (g : Fin 2) (h : Fin 4) (i j : Fin 4096) :
    dpv (up C) (up V) (ix4 g h i j) = ((dprob (q4 C) (k3 V) g h i j : ℝ) : EReal) := by
  pointwise [dpv]
  simp only [up, ← EReal.coe_mul, coe_sum]
  rfl

/-- The row correction: minus the row's sum of products, each through the squared reciprocal of the normaliser. -/
def corr (dp e : FVec Ideal S2x4x4096x4096 .f32) : FVec Ideal S2x4x4096 .f32 :=
  Host.reduceAdd (Host.negf (shapeCast _ (Host.reduceAdd (mulf (mulf dp (broadcastInDim S2x4x4096x4096 ![0, 1, 2, 3] bcast_S2x4x4096x1_S2x4x4096x4096_0_1_2_3 (Host.divf (broadcastInDim S2x4x4096x1 ![] bcast_S_S2x4x4096x1 (constant S_ .f32 0x3F800000#32)) (mulf (nrm e) (nrm e))))) e) (constant S_ .f32 0x00000000#32) reducesTo_S2x4x4096x4096_S2x4x4096_d3 h_S_) shapeCasts_S2x4x4096_S2x4x4096x1)) (constant S_ .f32 0x00000000#32) reducesTo_S2x4x4096x1_S2x4x4096_d3 h_S_

theorem corr_at (dp e : FVec Ideal S2x4x4096x4096 .f32) (D E : Fin 2 → Fin 4 → Fin 4096 → Fin 4096 → ℝ)
    (hd : ∀ g h i j, dp (ix4 g h i j) = ((D g h i j : ℝ) : EReal)) (he : ∀ g h i j, e (ix4 g h i j) = ((E g h i j : ℝ) : EReal))
    (hE : ∀ g h i, (∑ l, E g h i l) ≠ 0) (g : Fin 2) (h : Fin 4) (i : Fin 4096) :
    corr dp e (ix3 g h i) = ((-∑ l, D g h i l * (1 / ((∑ l, E g h i l) * ∑ l, E g h i l)) * E g h i l : ℝ) : EReal) := by
  have hn := fun u => nrm_at e E he g h i u
  have h1 : Ideal.div (1 : EReal) (((∑ l, E g h i l) * ∑ l, E g h i l : ℝ) : EReal) = ((1 / ((∑ l, E g h i l) * ∑ l, E g h i l) : ℝ) : EReal) :=
    div_coe_coe 1 (mul_ne_zero (hE g h i) (hE g h i))
  pointwise [corr]
  simp only [hn, hd, he, ← EReal.coe_mul, h1, coe_sum, zero_add, ← EReal.coe_neg]
  simp

/-- The gradient of the scores before the scale. -/
def dsc (dp e : FVec Ideal S2x4x4096x4096 .f32) : FVec Ideal S2x4x4096x4096 .f32 :=
  mulf (addf (Host.divf dp (broadcastInDim S2x4x4096x4096 ![0, 1, 2, 3] bcast_S2x4x4096x1_S2x4x4096x4096_0_1_2_3 (nrm e))) (broadcastInDim S2x4x4096x4096 ![0, 1, 2] bcast_S2x4x4096_S2x4x4096x4096_0_1_2 (corr dp e))) e

theorem dsc_at (dp e : FVec Ideal S2x4x4096x4096 .f32) (D S : Fin 2 → Fin 4 → Fin 4096 → Fin 4096 → ℝ) (M : Fin 2 → Fin 4 → Fin 4096 → ℝ)
    (hd : ∀ g h i j, dp (ix4 g h i j) = ((D g h i j : ℝ) : EReal))
    (he : ∀ g h i j, e (ix4 g h i j) = ((Real.exp (S g h i j - M g h i) : ℝ) : EReal)) (g : Fin 2) (h : Fin 4) (i j : Fin 4096) :
    dsc dp e (ix4 g h i j) = ((wt (S g h i) j * (D g h i j - ∑ l, wt (S g h i) l * D g h i l) : ℝ) : EReal) := by
  have hE : ∀ g h i, (∑ l, Real.exp (S g h i l - M g h i)) ≠ 0 := fun g h i => (sum_exp_pos fun l => S g h i l - M g h i).ne'
  have hc := corr_at dp e D _ hd he hE g h i
  have hn := nrm_at e _ he g h i 0
  pointwise [dsc]
  rw [hn, hc, hd, he, div_coe_coe _ (hE g h i), ← EReal.coe_add, ← EReal.coe_mul, vjp_row]

/-- The gradient of the scores, scaled, in the order the products want it. -/
def dss (ds : FVec Ideal S2x4x4096x4096 .f32) : FVec Ideal S2x4096x4096x4 .f32 :=
  transpose S2x4096x4096x4 [0, 3, 2, 1] (Host.divf ds (broadcastInDim S2x4x4096x4096 ![] bcast_S_S2x4x4096x4096 (Host.sqrt (constant S_ .f32 0x43000000#32)))) transposes_S2x4x4096x4096_S2x4096x4096x4_0_3_2_1

theorem dss_at (ds : FVec Ideal S2x4x4096x4096 .f32) (D : Fin 2 → Fin 4 → Fin 4096 → Fin 4096 → ℝ)
    (hd : ∀ g h i j, ds (ix4 g h i j) = ((D g h i j : ℝ) : EReal)) (g : Fin 2) (h : Fin 4) (i j : Fin 4096) :
    dss ds (ix4 g j i h) = ((D g h i j / Real.sqrt 128 : ℝ) : EReal) := by
  pointwise [dss]
  rw [hd, sqrt_128, div_coe_coe _ root_ne]

/-- The gradient of the queries. -/
def dqs (ds : FVec Ideal S2x4096x4096x4 .f32) (k : FVec Ideal S4096x256 .f32) : FVec Ideal S4096x1024 .f32 :=
  shapeCast _ (transpose S4096x2x4x128 [1, 0, 2, 3] (Host.dotGeneral dot_S2x4096x4096x4_S4096x2x128_S2x4096x4x128_1_0_23_2_0_1 none ds (shapeCast _ k shapeCasts_S4096x256_S4096x2x128)) transposes_S2x4096x4x128_S4096x2x4x128_1_0_2_3) shapeCasts_S4096x2x4x128_S4096x1024

/-- The gradient of the keys. -/
def dks (ds : FVec Ideal S2x4096x4096x4 .f32) (q : FVec Ideal S4096x1024 .f32) : FVec Ideal S4096x256 .f32 :=
  shapeCast _ (transpose S4096x2x128 [1, 0, 2] (Host.dotGeneral dot_S2x4096x4096x4_S4096x2x4x128_S2x4096x128_23_02_1_3_0_1 none ds (shapeCast _ q shapeCasts_S4096x1024_S4096x2x4x128)) transposes_S2x4096x128_S4096x2x128_1_0_2) shapeCasts_S4096x2x128_S4096x256

/-- The gradient of the values. -/
def dvs (ct : FVec Ideal S4096x1024 .f32) (p : FVec Ideal S2x4x4096x4096 .f32) : FVec Ideal S4096x256 .bf16 :=
  truncf .bf16 (shapeCast _ (transpose S4096x2x128 [2, 0, 1] (Host.dotGeneral dot_S2x128x4x4096_S2x4x4096x4096_S2x128x4096_23_12_1_3_0_0 none (transpose S2x128x4x4096 [1, 3, 2, 0] (shapeCast _ ct shapeCasts_S4096x1024_S4096x2x4x128) transposes_S4096x2x4x128_S2x128x4x4096_1_3_2_0) p) transposes_S2x128x4096_S4096x2x128_2_0_1) shapeCasts_S4096x2x128_S4096x256) bitsLt_bf16_f32

theorem dqs_at (ds : FVec Ideal S2x4096x4096x4 .f32) (D : Fin 2 → Fin 4 → Fin 4096 → Fin 4096 → ℝ) (K : S4096x256.Idx → ℝ)
    (hd : ∀ g h i j, ds (ix4 g j i h) = ((D g h i j : ℝ) : EReal)) (i : Fin 4096) (x : Fin 1024) :
    dqs ds (up K) (ix2 i x) = ((∑ j, D ⟨x.val / 512, by omega⟩ ⟨x.val % 512 / 128, by omega⟩ i j
      * k3 K j ⟨x.val / 512, by omega⟩ ⟨x.val % 128, by omega⟩ : ℝ) : EReal) := by
  pointwise [dqs]
  have e : (⟨x.val / 128 % 4, by omega⟩ : Fin 4) = ⟨x.val % 512 / 128, by omega⟩ := Fin.ext (by show x.val / 128 % 4 = x.val % 512 / 128; omega)
  simp only [e, hd, up, ← EReal.coe_mul, coe_sum]
  rfl

theorem dks_at (ds : FVec Ideal S2x4096x4096x4 .f32) (D : Fin 2 → Fin 4 → Fin 4096 → Fin 4096 → ℝ) (Q : S4096x1024.Idx → ℝ)
    (hd : ∀ g h i j, ds (ix4 g j i h) = ((D g h i j : ℝ) : EReal)) (j : Fin 4096) (x : Fin 256) :
    dks ds (up Q) (ix2 j x) = ((∑ h, ∑ i, D ⟨x.val / 128, by omega⟩ h i j
      * q4 Q i ⟨x.val / 128, by omega⟩ h ⟨x.val % 128, by omega⟩ : ℝ) : EReal) := by
  pointwise [dks]
  rw [Finset.sum_comm]
  simp only [hd, up, ← EReal.coe_mul, coe_sum]
  rfl

theorem dvs_at (p : FVec Ideal S2x4x4096x4096 .f32) (P : Fin 2 → Fin 4 → Fin 4096 → Fin 4096 → ℝ) (C : S4096x1024.Idx → ℝ)
    (hp : ∀ g h i j, p (ix4 g h i j) = ((P g h i j : ℝ) : EReal)) (j : Fin 4096) (x : Fin 256) :
    dvs (up C) p (ix2 j x) = ((∑ h, ∑ i, q4 C i ⟨x.val / 128, by omega⟩ h ⟨x.val % 128, by omega⟩
      * P ⟨x.val / 128, by omega⟩ h i j : ℝ) : EReal) := by
  pointwise [dvs]
  simp only [hp, up, ← EReal.coe_mul, coe_sum]
  rfl

/-! ## The three results -/

/-- The exponentials of the reference's softmax. -/
def exs (q : FVec Ideal S4096x1024 .f32) (k : FVec Ideal S4096x256 .f32) : FVec Ideal S2x4x4096x4096 .f32 :=
  ex (sc q k) (mxb (mx (sc q k)))

/-- The exponentials are those of the scores less some real number per row. -/
theorem exs_at (Q : S4096x1024.Idx → ℝ) (K : S4096x256.Idx → ℝ) :
    ∃ M : Fin 2 → Fin 4 → Fin 4096 → ℝ, ∀ g h i j,
      exs (up Q) (up K) (ix4 g h i j) = ((Real.exp (score (q4 Q) (k3 K) g h i j - M g h i) : ℝ) : EReal) := by
  obtain ⟨M, hM⟩ := mx_at _ _ (sc_at Q K)
  exact ⟨M, ex_at _ _ _ _ (sc_at Q K) fun g h i => (mxb_at _ g h i).trans (hM g h i)⟩

/-- The weights, at the reference's arguments. -/
theorem wgts_at (Q : S4096x1024.Idx → ℝ) (K : S4096x256.Idx → ℝ) (g : Fin 2) (h : Fin 4) (i j : Fin 4096) :
    wgt (exs (up Q) (up K)) (ix4 g h i j) = ((prob (q4 Q) (k3 K) g h i j : ℝ) : EReal) := by
  obtain ⟨M, hM⟩ := exs_at Q K
  exact wgt_at _ _ _ hM g h i j

/-- The scaled gradient of the scores, at the reference's arguments. -/
theorem dsss_at (Q : S4096x1024.Idx → ℝ) (K V : S4096x256.Idx → ℝ) (C : S4096x1024.Idx → ℝ) (g : Fin 2) (h : Fin 4) (i j : Fin 4096) :
    dss (dsc (dpv (up C) (up V)) (exs (up Q) (up K))) (ix4 g j i h)
      = ((dscore (q4 Q) (k3 K) (k3 V) (q4 C) g h i j / Real.sqrt 128 : ℝ) : EReal) := by
  obtain ⟨M, hM⟩ := exs_at Q K
  exact dss_at _ _ (dsc_at _ _ _ _ M (dpv_at C V) hM) g h i j

section
variable (m : (ℓ : Loc nD τ sig) → Buf (Elt Ideal) ℓ) (c : Dev nD)
variable (Q : S4096x1024.Idx → ℝ) (K V : S4096x256.Idx → ℝ) (C : S4096x1024.Idx → ℝ)
variable (h0 : m ((c.tc : Thread nD τ).loc main_arg0) = up (s := S4096x1024) (φ := .f32) Q)
  (h1 : m ((c.tc : Thread nD τ).loc main_arg1) = up (s := S4096x256) (φ := .f32) K)
  (h2 : m ((c.tc : Thread nD τ).loc main_arg2) = up (s := S4096x256) (φ := .f32) V)
  (h3 : m ((c.tc : Thread nD τ).loc main_arg3) = up (s := S4096x1024) (φ := .f32) C)

theorem res0_eq : Value.res_main_v80 m c = dqs (dss (dsc (dpv (m ((c.tc : Thread nD τ).loc main_arg3)) (m ((c.tc : Thread nD τ).loc main_arg2)))
    (exs (m ((c.tc : Thread nD τ).loc main_arg0)) (m ((c.tc : Thread nD τ).loc main_arg1))))) (m ((c.tc : Thread nD τ).loc main_arg1)) := rfl

theorem res1_eq : Value.res_main_v79 m c = dks (dss (dsc (dpv (m ((c.tc : Thread nD τ).loc main_arg3)) (m ((c.tc : Thread nD τ).loc main_arg2)))
    (exs (m ((c.tc : Thread nD τ).loc main_arg0)) (m ((c.tc : Thread nD τ).loc main_arg1))))) (m ((c.tc : Thread nD τ).loc main_arg0)) := rfl

include h0 h1 h2 h3

/-- Result 0 is the gradient of the queries. -/
theorem res0_at (i : Fin 4096) (x : Fin 1024) : Value.res_main_v80 m c (ix2 i x)
    = ((dq (q4 Q) (k3 K) (k3 V) (q4 C) i ⟨x.val / 512, by omega⟩ ⟨x.val % 512 / 128, by omega⟩ ⟨x.val % 128, by omega⟩ : ℝ) : EReal) := by
  rw [res0_eq, h0, h1, h2, h3]
  exact dqs_at _ _ K (dsss_at Q K V C) i x

/-- Result 1 is the gradient of the keys. -/
theorem res1_at (j : Fin 4096) (x : Fin 256) : Value.res_main_v79 m c (ix2 j x)
    = ((dk (q4 Q) (k3 K) (k3 V) (q4 C) j ⟨x.val / 128, by omega⟩ ⟨x.val % 128, by omega⟩ : ℝ) : EReal) := by
  rw [res1_eq, h0, h1, h2, h3]
  exact dks_at _ _ Q (dsss_at Q K V C) j x

omit h2
/-- Result 2 is the gradient of the values. -/
theorem res2_at (j : Fin 4096) (x : Fin 256) :
    dvs (m ((c.tc : Thread nD τ).loc main_arg3)) (wgt (exs (m ((c.tc : Thread nD τ).loc main_arg0)) (m ((c.tc : Thread nD τ).loc main_arg1)))) (ix2 j x)
    = ((dv (q4 Q) (k3 K) (q4 C) j ⟨x.val / 128, by omega⟩ ⟨x.val % 128, by omega⟩ : ℝ) : EReal) := by
  rw [h0, h1, h3]
  exact dvs_at _ _ C (wgts_at Q K) j x

end

end Cert.ReferenceIdeal.Read

end
-- ==== Proof.HostAt.lean ====
/-
  What the host operations before the kernel leave in the arrays the kernel reads, of real arguments.
-/
module

public import proofs.«01_k».proof.Proof.Pay
public import proofs.«01_k».proof.Proof.Ref

@[expose] public section

set_option maxRecDepth 16384

noncomputable section

namespace Cert.KernelIdeal.Host

open Cert.KernelIdeal Cert.KernelIdeal.Gen Cert.Softmax Cert.Rows
open Idealize.ShloMosaic Idealize.ShloMosaic.TcCoe Idealize.SL.Sem
open scoped BigOperators

open Cert.ReferenceIdeal.Read

/-- The scaled queries, the keys and the values side by side. -/
def qkv (q : FVec Ideal S4096x1024 .f32) (k v : FVec Ideal S4096x256 .f32) : FVec Ideal S4096x1536 .bf16 :=
  truncf .bf16 (concatenate (α := Ideal .f32) S4096x1536 1 [⟨S4096x1024, Host.divf (Host.divf q (broadcastInDim S4096x1024 ![] bcast_S_S4096x1024 (Host.sqrt (constant S_ .f32 0x43000000#32)))) (broadcastInDim S4096x1024 ![] bcast_S_S4096x1024 (Host.log (constant S_ .f32 0x40000000#32)))⟩, ⟨S4096x256, k⟩, ⟨S4096x256, v⟩] concatenates_S4096x1024_S4096x256_S4096x256_S4096x1536_d1) bitsLt_bf16_f32

/-- The attention output. -/
def outs (q : FVec Ideal S4096x1024 .f32) (k v : FVec Ideal S4096x256 .f32) : FVec Ideal S4096x1024 .bf16 :=
  truncf .bf16 (shapeCast _ (transpose S4096x2x4x128 [3, 0, 2, 1] (Host.dotGeneral dot_S4096x2x128_S2x4x4096x4096_S2x128x4x4096_0_3_2_12_1_0 none (shapeCast S4096x2x128 v shapeCasts_S4096x256_S4096x2x128) (wgt (exs q k))) transposes_S2x128x4x4096_S4096x2x4x128_3_0_2_1) shapeCasts_S4096x2x4x128_S4096x1024) bitsLt_bf16_f32

/-- The logarithms of the normalisers. -/
def lses (s : FVec Ideal S2x4x4096x4096 .f32) (M : FVec Ideal S2x4x4096 .f32) : FVec Ideal S8x1x4096 .f32 :=
  shapeCast _ (addf (broadcastInDim S2x4x4096x1 ![0, 1, 2] bcast_S2x4x4096_S2x4x4096x1_0_1_2 M) (Host.log (nrm (ex s M)))) shapeCasts_S2x4x4096x1_S8x1x4096

/-! ## At real arguments -/

/-- The logarithm of two. -/
theorem log_2 : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

theorem log_2_ne : Real.log 2 ≠ 0 := (Real.log_pos one_lt_two).ne'

section
variable (Q : S4096x1024.Idx → ℝ) (K W : S4096x256.Idx → ℝ)

theorem qkv_q (i : Fin 4096) (g : Fin 2) (h : Fin 4) (d : Fin 128) (y : Fin 1536) (hy : y.val = g.val * 512 + h.val * 128 + d.val) :
    qkv (up Q) (up K) (up W) (ix2 i y) = ((scaled (q4 Q) i g h d : ℝ) : EReal) := by
  have hl : y.val < 1024 := by omega
  pointwise [qkv]
  rw [dif_pos hl, sqrt_128, log_2]
  simp only [up]
  rw [div_coe_coe _ root_ne, div_coe_coe _ log_2_ne, scaled, q4]
  simp only [hy]

theorem qkv_k (j : Fin 4096) (g : Fin 2) (d : Fin 128) (y : Fin 1536) (hy : y.val = 1024 + (g.val * 128 + d.val)) :
    qkv (up Q) (up K) (up W) (ix2 j y) = ((k3 K j g d : ℝ) : EReal) := by
  pointwise [qkv]
  have e : y.val - 1024 = g.val * 128 + d.val := by omega
  rw [dif_neg (by omega), dif_pos (by omega), k3, up]
  simp only [e]

theorem qkv_v (j : Fin 4096) (g : Fin 2) (d : Fin 128) (y : Fin 1536) (hy : y.val = 1280 + (g.val * 128 + d.val)) :
    qkv (up Q) (up K) (up W) (ix2 j y) = ((k3 W j g d : ℝ) : EReal) := by
  pointwise [qkv]
  have e : y.val - 1024 - 256 = g.val * 128 + d.val := by omega
  rw [dif_neg (by omega), dif_neg (by omega), k3, up]
  simp only [e]

theorem outs_at (i : Fin 4096) (x : Fin 1024) : outs (up Q) (up K) (up W) (ix2 i x)
    = ((out (q4 Q) (k3 K) (k3 W) i ⟨x.val / 512, by omega⟩ ⟨x.val % 512 / 128, by omega⟩ ⟨x.val % 128, by omega⟩ : ℝ) : EReal) := by
  have e : (⟨x.val / 128 % 4, by omega⟩ : Fin 4) = ⟨x.val % 512 / 128, by omega⟩ := Fin.ext (by show x.val / 128 % 4 = x.val % 512 / 128; omega)
  pointwise [outs]
  simp only [e, wgts_at, up, ← EReal.coe_mul, coe_sum]
  rfl

theorem lses_at (s : FVec Ideal S2x4x4096x4096 .f32) (M : FVec Ideal S2x4x4096 .f32) (S : Fin 2 → Fin 4 → Fin 4096 → Fin 4096 → ℝ)
    (T : Fin 2 → Fin 4 → Fin 4096 → ℝ) (hs : ∀ g h i j, s (ix4 g h i j) = ((S g h i j : ℝ) : EReal))
    (hM : ∀ g h i, M (ix3 g h i) = ((T g h i : ℝ) : EReal)) (g : Fin 2) (h : Fin 4) (i : Fin 4096) (u : Fin 1) (n : Fin 8) (hn : n.val = g.val * 4 + h.val) :
    lses s M (ix3 n u i) = ((rowLse (S g h i) : ℝ) : EReal) := by
  have hx := nrm_at _ _ (ex_at s M S T hs hM)
  have e1 : (⟨n.val / 4, by omega⟩ : Fin 2) = g := Fin.ext (by show n.val / 4 = g.val; omega)
  have e2 : (⟨n.val % 4, by omega⟩ : Fin 4) = h := Fin.ext (by show n.val % 4 = h.val; omega)
  pointwise [lses]
  rw [e1, e2, hM, hx, Ideal.log_coe, if_neg (not_le.mpr (sum_exp_pos fun l => S g h i l - T g h i)), ← EReal.coe_add, rowLse_shift]

end

end Cert.KernelIdeal.Host

end
-- ==== Proof.Host.lean ====
/-
  What the host operations before the kernel leave in the arrays the kernel reads, of real arguments.
-/
module

public import proofs.«01_k».proof.Proof.HostAt
public import Idealize.ShloMosaic.Lib.StableHlo.RunRead

@[expose] public section

set_option maxRecDepth 16384

noncomputable section

namespace Cert.KernelIdeal.Host

open Cert.KernelIdeal Cert.KernelIdeal.Gen Cert.Softmax Cert.Rows
open Idealize.ShloMosaic Idealize.ShloMosaic.TcCoe Idealize.SL.Sem
open scoped BigOperators

open Cert.ReferenceIdeal.Read

variable (m : (ℓ : Loc nD τ sig) → Buf (Elt Ideal) ℓ) (c : Dev nD)

/-! What each array the kernel reads holds when the kernel starts. -/

theorem v39 : V m c main_v39 = qkv (m ((c.tc : Thread nD τ).loc main_arg0)) (m ((c.tc : Thread nD τ).loc main_arg1)) (m ((c.tc : Thread nD τ).loc main_arg2)) := by
  show StableHlo.after hostOps0 (fun b => m (c, b)) (Proc.devRef .tc main_v39) = _
  after_reads_simp
  rfl
theorem v41 : V m c main_v41 = truncf (F := Ideal) .bf16 (transpose (s := S4096x256) S256x4096 [1, 0] (m ((c.tc : Thread nD τ).loc main_arg1)) transposes_S4096x256_S256x4096_1_0) bitsLt_bf16_f32 := by
  entry_read
  try rfl
theorem v42 : V m c main_v42 = truncf (F := Ideal) (s := S4096x1024) .bf16 (m ((c.tc : Thread nD τ).loc main_arg3)) bitsLt_bf16_f32 := by
  entry_read
  try rfl
theorem v43 : V m c main_v43 = outs (m ((c.tc : Thread nD τ).loc main_arg0)) (m ((c.tc : Thread nD τ).loc main_arg1)) (m ((c.tc : Thread nD τ).loc main_arg2)) := by
  entry_read
  rfl
theorem v31 : V m c main_v31 = lses (sc (m ((c.tc : Thread nD τ).loc main_arg0)) (m ((c.tc : Thread nD τ).loc main_arg1)))
    (mx (sc (m ((c.tc : Thread nD τ).loc main_arg0)) (m ((c.tc : Thread nD τ).loc main_arg1)))) := by
  entry_read
  rfl

end Cert.KernelIdeal.Host

end
-- ==== Proof.Blocks.lean ====
/-
  The blocks of one point of the kernel's grid, of real arguments: point `t` is tile `t % 8` of the query rows, for query
  head `t % 32 / 8` of key head `t / 32`.
-/
module

public import proofs.«01_k».proof.Proof.Host

@[expose] public section

set_option maxRecDepth 16384

noncomputable section

namespace Cert.KernelIdeal.Blocks

open Cert.KernelIdeal Cert.KernelIdeal.Gen Cert.Softmax Cert.Rows Cert.ReferenceIdeal.Read Cert.KernelIdeal.Host
open Idealize.ShloMosaic Idealize.ShloMosaic.TcCoe Idealize.SL.Sem
open Idealize.ShloMosaic.Pipeline (Dat)
open scoped BigOperators

/-- The key head of a point. -/
def kh (t : Fin cfg0.N) : Fin 2 := ⟨t.val / 32, by have := lt_of_lt_of_eq t.isLt N_0; omega⟩
/-- The query head of a point, within its key head. -/
def qh (t : Fin cfg0.N) : Fin 4 := ⟨t.val % 32 / 8, by omega⟩
/-- The query row at row `r` of a point's tile. -/
def row (t : Fin cfg0.N) (r : Fin 512) : Fin 4096 := ⟨t.val % 8 * 512 + r.val, by omega⟩

theorem idx : ∀ t : Fin cfg0.N, win0_0.index t = ![t.val % 8, t.val / 8] ∧ win0_1.index t = ![0, 8 + t.val / 32]
    ∧ win0_2.index t = ![0, 10 + t.val / 32] ∧ win0_3.index t = ![t.val / 32, 0] ∧ win0_4.index t = ![t.val % 8, t.val / 8]
    ∧ win0_5.index t = ![t.val % 8, t.val / 8] ∧ win0_6.index t = ![t.val / 8, 0, t.val % 8] :=
  (by decide +kernel : ∀ t : Fin grid0.N, _)

variable (m : (ℓ : Loc nD τ sig) → Buf (Elt Ideal) ℓ) (c : Dev nD)
variable (Q : S4096x1024.Idx → ℝ) (K W : S4096x256.Idx → ℝ) (C : S4096x1024.Idx → ℝ)

/-- The program's arguments are real arrays. -/
structure RealArgs : Prop where
  a0 : m ((c.tc : Thread nD τ).loc main_arg0) = up (s := S4096x1024) (φ := .f32) Q
  a1 : m ((c.tc : Thread nD τ).loc main_arg1) = up (s := S4096x256) (φ := .f32) K
  a2 : m ((c.tc : Thread nD τ).loc main_arg2) = up (s := S4096x256) (φ := .f32) W
  a3 : m ((c.tc : Thread nD τ).loc main_arg3) = up (s := S4096x1024) (φ := .f32) C

variable {m c Q K W C} (H : RealArgs m c Q K W C) (t : Fin cfg0.N)
include H

theorem b0 (r : Fin 512) (d : Fin 128) : (iblk m c 0 t : FVec Ideal S512x128 .bf16) (ix2 r d) = ((scaled (q4 Q) (row t r) (kh t) (qh t) d : ℝ) : EReal) := by
  have ht := lt_of_lt_of_eq t.isLt N_0
  refine Eq.trans (b := (V m c main_v39 : FVec Ideal S4096x1536 .bf16) (ix2 (row t r) ⟨t.val / 8 * 128 + d.val, by omega⟩)) ?_ ?_
  · blk_ext [iblk, idx t, row]
  · rw [v39, H.a0, H.a1, H.a2]
    exact qkv_q Q K W _ _ _ _ _ (by show t.val / 8 * 128 + d.val = t.val / 32 * 512 + t.val % 32 / 8 * 128 + d.val; omega)

theorem b1 (j : Fin 4096) (d : Fin 128) : (iblk m c 1 t : FVec Ideal S4096x128 .bf16) (ix2 j d) = ((k3 K j (kh t) d : ℝ) : EReal) := by
  have ht := lt_of_lt_of_eq t.isLt N_0
  refine Eq.trans (b := (V m c main_v39 : FVec Ideal S4096x1536 .bf16) (ix2 j ⟨1024 + (t.val / 32 * 128 + d.val), by omega⟩)) ?_ ?_
  · blk_ext [iblk, idx t]
  · rw [v39, H.a0, H.a1, H.a2]
    exact qkv_k Q K W _ _ _ _ rfl

theorem b2 (j : Fin 4096) (d : Fin 128) : (iblk m c 2 t : FVec Ideal S4096x128 .bf16) (ix2 j d) = ((k3 W j (kh t) d : ℝ) : EReal) := by
  have ht := lt_of_lt_of_eq t.isLt N_0
  refine Eq.trans (b := (V m c main_v39 : FVec Ideal S4096x1536 .bf16) (ix2 j ⟨1280 + (t.val / 32 * 128 + d.val), by omega⟩)) ?_ ?_
  · blk_ext [iblk, idx t]
  · rw [v39, H.a0, H.a1, H.a2]
    exact qkv_v Q K W _ _ _ _ rfl

theorem b3 (d : Fin 128) (j : Fin 4096) : (iblk m c 3 t : FVec Ideal S128x4096 .bf16) (ix2 d j) = ((k3 K j (kh t) d : ℝ) : EReal) := by
  have ht := lt_of_lt_of_eq t.isLt N_0
  refine Eq.trans (b := (V m c main_v41 : FVec Ideal S256x4096 .bf16) (ix2 ⟨t.val / 32 * 128 + d.val, by omega⟩ j)) ?_ ?_
  · blk_ext [iblk, idx t]
  · rw [v41, H.a1]
    pointwise []
    rfl

theorem b4 (r : Fin 512) (d : Fin 128) : (iblk m c 4 t : FVec Ideal S512x128 .bf16) (ix2 r d) = ((q4 C (row t r) (kh t) (qh t) d : ℝ) : EReal) := by
  have ht := lt_of_lt_of_eq t.isLt N_0
  refine Eq.trans (b := (V m c main_v42 : FVec Ideal S4096x1024 .bf16) (ix2 (row t r) ⟨t.val / 8 * 128 + d.val, by omega⟩)) ?_ ?_
  · blk_ext [iblk, idx t, row]
  · rw [v42, H.a3]
    pointwise []
    have e : t.val / 8 * 128 + d.val = t.val / 32 * 512 + t.val % 32 / 8 * 128 + d.val := by omega
    simp only [up, q4, kh, qh, e]

theorem b5 (r : Fin 512) (d : Fin 128) : (iblk m c 5 t : FVec Ideal S512x128 .bf16) (ix2 r d) = ((out (q4 Q) (k3 K) (k3 W) (row t r) (kh t) (qh t) d : ℝ) : EReal) := by
  have ht := lt_of_lt_of_eq t.isLt N_0
  refine Eq.trans (b := (V m c main_v43 : FVec Ideal S4096x1024 .bf16) (ix2 (row t r) ⟨t.val / 8 * 128 + d.val, by omega⟩)) ?_ ?_
  · blk_ext [iblk, idx t, row]
  · rw [v43, H.a0, H.a1, H.a2, outs_at]
    have e1 : (t.val / 8 * 128 + d.val) / 512 = t.val / 32 := by omega
    have e2 : (t.val / 8 * 128 + d.val) % 512 / 128 = t.val % 32 / 8 := by omega
    have e3 : (t.val / 8 * 128 + d.val) % 128 = d.val := by omega
    simp only [kh, qh, e1, e2, e3]

omit H in
/-- Window 6's block read at an index, of any contents of its array. -/
theorem read6 (Z : Buf (Elt Ideal) ((c.tc : Thread nD τ).loc main_v31)) (r : Fin 512) (n : Fin 8) (hn : n.val = t.val / 8) :
    (((cfg0.win 6).blk t).view.read (Elt Ideal) Z : FVec Ideal S1x1x512 .f32) (ix3 0 0 r) = (Z : FVec Ideal S8x1x4096 .f32) (ix3 n 0 (row t r)) := by
  blk_ext [idx t, row]

theorem b6 (r : Fin 512) : (iblk m c 6 t : FVec Ideal S1x1x512 .f32) (ix3 0 0 r) = ((lse (q4 Q) (k3 K) (kh t) (qh t) (row t r) : ℝ) : EReal) := by
  have ht := lt_of_lt_of_eq t.isLt N_0
  refine Eq.trans (b := (V m c main_v31 : FVec Ideal S8x1x4096 .f32) (ix3 ⟨t.val / 8, by omega⟩ 0 (row t r))) ?_ ?_
  · exact read6 t (V m c main_v31) r _ rfl
  · obtain ⟨T, hT⟩ := mx_at _ _ (sc_at Q K)
    have e := lses_at (sc (up Q) (up K)) (mx (sc (up Q) (up K))) (score (q4 Q) (k3 K)) T (sc_at Q K) hT (kh t) (qh t) (row t r) 0 ⟨t.val / 8, by omega⟩
      (by show t.val / 8 = t.val / 32 * 4 + t.val % 32 / 8; omega)
    have e31 := v31 m c
    simp only [H.a0, H.a1] at e31
    exact (congrFun e31 _).trans e

end Cert.KernelIdeal.Blocks

end
-- ==== Proof.Final.lean ====
/-
  The kernel's three results of real arguments: the gradients of the queries, the keys and the values.
-/
module

public import proofs.«01_k».proof.Proof.Blocks

@[expose] public section

set_option maxRecDepth 16384

noncomputable section

namespace Cert.KernelIdeal.Final

open Cert.KernelIdeal Cert.KernelIdeal.Gen Cert.Softmax Cert.Rows Cert.ReferenceIdeal.Read Cert.KernelIdeal.Host Cert.KernelIdeal.Blocks Cert.KernelIdeal.Pay
open Idealize.ShloMosaic Idealize.ShloMosaic.TcCoe Idealize.SL.Sem
open Idealize.ShloMosaic.Pipeline (Dat)
open scoped BigOperators

variable {m : (ℓ : Loc nD τ sig) → Buf (Elt Ideal) ℓ} {c : Dev nD}
variable {Q : S4096x1024.Idx → ℝ} {K W : S4096x256.Idx → ℝ} {C : S4096x1024.Idx → ℝ}

/-- What a point leaves in the block of the queries' gradient, whichever case it is. -/
theorem o7 (t : Fin cfg0.N) : (outsAt0 m c t.val t.isLt).1 = k0_pay4 (k0_pay10 (iblk m c 4 t)) (k0_pay11 (iblk m c 4 t) (iblk m c 5 t))
    (k0_pay12 (iblk m c 0 t) (iblk m c 1 t) (iblk m c 6 t)) (k0_pay13 (iblk m c 2 t)) (iblk m c 3 t) := by
  by_cases h0 : t.val % 32 = 0
  · have h1 : ¬t.val % 32 = 31 := by omega
    rw [outsAt0_A m c t h0 h1]; frame_out
  · by_cases h1 : t.val % 32 = 31
    · rw [outsAt0_C m c t h0 h1]; frame_out
    · rw [outsAt0_B m c t h0 h1]; frame_out

theorem idx7 : ∀ t : Fin cfg0.N, win0_7.index t = ![t.val % 8, t.val / 8] := (by decide +kernel : ∀ t : Fin grid0.N, _)
theorem idx8 : ∀ t : Fin cfg0.N, win0_8.index t = ![0, t.val / 32] := (by decide +kernel : ∀ t : Fin grid0.N, _)
theorem idx9 : ∀ t : Fin cfg0.N, win0_9.index t = ![0, t.val / 32] := (by decide +kernel : ∀ t : Fin grid0.N, _)

/-- The gradient of the queries: each point writes its own block of it. -/
theorem final7 (H : RealArgs m c Q K W C) (G : FVec Ideal S4096x1024 .f32)
    (hG : ∀ (i : Fin 4096) (x : Fin 1024), G (ix2 i x)
      = ((dq (q4 Q) (k3 K) (k3 W) (q4 C) i ⟨x.val / 512, by omega⟩ ⟨x.val % 512 / 128, by omega⟩ ⟨x.val % 128, by omega⟩ : ℝ) : EReal)) :
    (dats m 0 c).arrAt 7 cfg0.N = G := by
  refine (dats m 0 c).arrAt_eq_of_covers 7 _ (by decide +kernel) fun t hf y => ?_
  blk_simp
  rw [after0_7, o7]
  obtain ⟨r, d, rfl⟩ : ∃ (r : Fin 512) (d : Fin 128), y = ix2 r d := ⟨y 0, y 1, by blk_ext⟩
  have ht := lt_of_lt_of_eq t.isLt N_0
  have e : (win0_7.blk t).view.emb (ix2 r d) = ix2 (row t r) ⟨t.val / 8 * 128 + d.val, by omega⟩ := by blk_ext [idx7 t, row]
  rw [e, hG]
  refine (pay4_at (q4 Q) (k3 K) (k3 W) (q4 C) (kh t) (qh t) (row t) _ _ _ _ _ _ _ (b0 H t) (b1 H t) (b2 H t) (b3 H t) (b4 H t) (b5 H t) (b6 H t) r d).trans ?_
  have e1 : (t.val / 8 * 128 + d.val) / 512 = t.val / 32 := by omega
  have e2 : (t.val / 8 * 128 + d.val) % 512 / 128 = t.val % 32 / 8 := by omega
  have e3 : (t.val / 8 * 128 + d.val) % 128 = d.val := by omega
  simp only [kh, qh, e1, e2, e3]

/-! ## The two accumulators -/

section
variable (Q K W C)

/-- A point's part of the keys' gradient. -/
def partK (t : Fin cfg0.N) (y : S4096x128.Idx) : EReal :=
  ((∑ r, dscore (q4 Q) (k3 K) (k3 W) (q4 C) (kh t) (qh t) (row t r) (y 0) * scaled (q4 Q) (row t r) (kh t) (qh t) (y 1) : ℝ) : EReal)
/-- A point's part of the values' gradient. -/
def partV (t : Fin cfg0.N) (y : S4096x128.Idx) : EReal :=
  ((∑ r, q4 C (row t r) (kh t) (qh t) (y 1) * prob (q4 Q) (k3 K) (kh t) (qh t) (row t r) (y 0) : ℝ) : EReal)
end

/-- A point adds its part to the first accumulator. -/
theorem stepK (H : RealArgs m c Q K W C) (t : Fin cfg0.N) (acc : FVec Ideal S4096x128 .f32) (y : S4096x128.Idx) :
    k0_pay3 (F := Ideal) (k0_pay9 (iblk m c 0 t)) (k0_pay10 (iblk m c 4 t)) (k0_pay11 (iblk m c 4 t) (iblk m c 5 t))
      (k0_pay12 (iblk m c 0 t) (iblk m c 1 t) (iblk m c 6 t)) (k0_pay13 (iblk m c 2 t)) acc y = acc y + partK Q K W C t y := by
  obtain ⟨j, d, rfl⟩ : ∃ (j : Fin 4096) (d : Fin 128), y = ix2 j d := ⟨y 0, y 1, by blk_ext⟩
  exact pay3_at (q4 Q) (k3 K) (k3 W) (q4 C) (kh t) (qh t) (row t) _ _ _ _ _ _ (b0 H t) (b1 H t) (b2 H t) (b4 H t) (b5 H t) (b6 H t) acc j d

/-- A point adds its part to the second accumulator. -/
theorem stepV (H : RealArgs m c Q K W C) (t : Fin cfg0.N) (acc : FVec Ideal S4096x128 .f32) (y : S4096x128.Idx) :
    k0_pay2 (F := Ideal) (k0_pay10 (iblk m c 4 t)) (k0_pay12 (iblk m c 0 t) (iblk m c 1 t) (iblk m c 6 t)) acc y = acc y + partV Q K C t y := by
  obtain ⟨j, d, rfl⟩ : ∃ (j : Fin 4096) (d : Fin 128), y = ix2 j d := ⟨y 0, y 1, by blk_ext⟩
  exact pay2_at (q4 Q) (k3 K) (q4 C) (kh t) (qh t) (row t) _ _ _ _ (b0 H t) (b1 H t) (b4 H t) (b6 H t) acc j d

/-- The first accumulator after the last point of a key head. -/
theorem accK (H : RealArgs m c Q K W C) (t : Fin cfg0.N) (h : t.val % 32 = 31) (y : S4096x128.Idx) :
    (outsAt0 m c t.val t.isLt).2.2.2.1 y = ∑ s : Fin 32, partK Q K W C ⟨32 * (t.val / 32) + s.val, Pipeline.run_point_lt_of_flush t h s⟩ y := by
  rw [Pipeline.eq_sum_fin_of_reset_step_apply_of_flush (fun n h => (outsAt0 m c n h).2.2.2.1) 32 (fun _ => 0) (partK Q K W C)
    (fun t h j => by
      have h1 : ¬t.val % 32 = 31 := by omega
      rw [outsAt0_A m c t h h1]; frame_out; rw [stepK H, pay7_at])
    (fun t h j => by
      by_cases h1 : t.val % 32 = 31
      · rw [outsAt0_C m c t h h1]; frame_out; rw [stepK H]; exact congrArg (· + _) (congrFun (Memref.IsWhole.read_unread _ _) j)
      · rw [outsAt0_B m c t h h1]; frame_out; rw [stepK H]; exact congrArg (· + _) (congrFun (Memref.IsWhole.read_unread _ _) j))
    t h y, zero_add]

/-- The second accumulator after the last point of a key head. -/
theorem accV (H : RealArgs m c Q K W C) (t : Fin cfg0.N) (h : t.val % 32 = 31) (y : S4096x128.Idx) :
    (outsAt0 m c t.val t.isLt).2.2.2.2 y = ∑ s : Fin 32, partV Q K C ⟨32 * (t.val / 32) + s.val, Pipeline.run_point_lt_of_flush t h s⟩ y := by
  rw [Pipeline.eq_sum_fin_of_reset_step_apply_of_flush (fun n h => (outsAt0 m c n h).2.2.2.2) 32 (fun _ => 0) (partV Q K C)
    (fun t h j => by
      have h1 : ¬t.val % 32 = 31 := by omega
      rw [outsAt0_A m c t h h1]; frame_out; rw [stepV H, pay8_at])
    (fun t h j => by
      by_cases h1 : t.val % 32 = 31
      · rw [outsAt0_C m c t h h1]; frame_out; rw [stepV H]; exact congrArg (· + _) (congrFun (Memref.IsWhole.read_unread _ _) j)
      · rw [outsAt0_B m c t h h1]; frame_out; rw [stepV H]; exact congrArg (· + _) (congrFun (Memref.IsWhole.read_unread _ _) j))
    t h y, zero_add]

/-- At the last point of a key head the keys' gradient is read off the first accumulator. -/
theorem o8 (t : Fin cfg0.N) (h : t.val % 32 = 31) : (outsAt0 m c t.val t.isLt).2.1 = k0_pay5 (F := Ideal) (outsAt0 m c t.val t.isLt).2.2.2.1 := by
  have h0 : ¬t.val % 32 = 0 := by omega
  rw [outsAt0_C m c t h0 h]; frame_out

/-- At the last point of a key head the values' gradient is read off the second accumulator. -/
theorem o9 (t : Fin cfg0.N) (h : t.val % 32 = 31) : (outsAt0 m c t.val t.isLt).2.2.1 = k0_pay6 (F := Ideal) (outsAt0 m c t.val t.isLt).2.2.2.2 := by
  have h0 : ¬t.val % 32 = 0 := by omega
  rw [outsAt0_C m c t h0 h]; frame_out

/-! ## The points of a key head are the tiles of its four query heads -/

/-- Point `s` of the 32 of a key head belongs to that key head, to query head `s / 8` and to tile `s % 8`. -/
theorem run_at (t : Fin cfg0.N) (s : Fin 32) (hs : 32 * (t.val / 32) + s.val < cfg0.N) :
    kh ⟨32 * (t.val / 32) + s.val, hs⟩ = kh t ∧ (qh ⟨32 * (t.val / 32) + s.val, hs⟩).val = s.val / 8
      ∧ ∀ r, (row ⟨32 * (t.val / 32) + s.val, hs⟩ r).val = s.val % 8 * 512 + r.val := by
  have ht := lt_of_lt_of_eq t.isLt N_0
  refine ⟨Fin.ext ?_, ?_, fun r => ?_⟩
  · show (32 * (t.val / 32) + s.val) / 32 = t.val / 32; omega
  · show (32 * (t.val / 32) + s.val) % 32 / 8 = s.val / 8; omega
  · show (32 * (t.val / 32) + s.val) % 8 * 512 + r.val = s.val % 8 * 512 + r.val; omega

/-- A sum over the points of a key head and the rows of their tiles is a sum over its query heads and all query rows. -/
theorem sum_run (t : Fin cfg0.N) (h : t.val % 32 = 31) (f : Fin 2 → Fin 4 → Fin 4096 → ℝ) :
    (∑ s : Fin 32, ∑ r : Fin 512, f (kh ⟨32 * (t.val / 32) + s.val, Pipeline.run_point_lt_of_flush t h s⟩)
      (qh ⟨32 * (t.val / 32) + s.val, Pipeline.run_point_lt_of_flush t h s⟩) (row ⟨32 * (t.val / 32) + s.val, Pipeline.run_point_lt_of_flush t h s⟩ r))
    = ∑ a : Fin 4, ∑ i : Fin 4096, f (kh t) a i := by
  refine Fin.sum_points_lanes_congr 8 fun s r ha hl => ?_
  obtain ⟨e1, e2, e3⟩ := run_at t s (Pipeline.run_point_lt_of_flush t h s)
  rw [e1]
  exact congrArg₂ (f (kh t)) (Fin.ext e2) (Fin.ext (e3 r))

/-- The gradient of the keys: the last point of each key head writes its columns. -/
theorem final8 (H : RealArgs m c Q K W C) (G : FVec Ideal S4096x256 .f32)
    (hG : ∀ (j : Fin 4096) (x : Fin 256), G (ix2 j x)
      = ((dk (q4 Q) (k3 K) (k3 W) (q4 C) j ⟨x.val / 128, by omega⟩ ⟨x.val % 128, by omega⟩ : ℝ) : EReal)) :
    (dats m 0 c).arrAt 8 cfg0.N = G := by
  refine (dats m 0 c).arrAt_eq_of_covers 8 _ (by decide +kernel) fun t hf y => ?_
  blk_simp
  have hl := (flush0_8 t).mp hf
  rw [after0_8, o8 t hl]
  obtain ⟨j, d, rfl⟩ : ∃ (j : Fin 4096) (d : Fin 128), y = ix2 j d := ⟨y 0, y 1, by blk_ext⟩
  have ht := lt_of_lt_of_eq t.isLt N_0
  have e : (win0_8.blk t).view.emb (ix2 j d) = ix2 j ⟨t.val / 32 * 128 + d.val, by omega⟩ := by blk_ext [idx8 t]
  have e1 : (t.val / 32 * 128 + d.val) / 128 = t.val / 32 := by omega
  have e2 : (t.val / 32 * 128 + d.val) % 128 = d.val := by omega
  rw [e, hG]
  refine (pay5_at _ j d).trans ?_
  rw [accK H t hl]
  simp only [partK, coe_sum, ← EReal.coe_mul, e1, e2]
  refine congrArg _ ?_
  refine (congrArg (· * Real.log 2) (sum_run t hl fun g h i => dscore (q4 Q) (k3 K) (k3 W) (q4 C) g h i j * scaled (q4 Q) i g h d)).trans ?_
  show (∑ a : Fin 4, ∑ i : Fin 4096, dscore (q4 Q) (k3 K) (k3 W) (q4 C) (kh t) a i j * scaled (q4 Q) i (kh t) a d) * Real.log 2 = _
  rw [dk, Finset.sum_mul]
  refine Finset.sum_congr rfl fun a _ => ?_
  rw [Finset.sum_mul]
  refine Finset.sum_congr rfl fun i _ => ?_
  have hn := log_2_ne
  have hr := root_ne
  rw [scaled]
  field_simp
  rfl

/-- The gradient of the values: the last point of each key head writes its columns. -/
theorem final9 (H : RealArgs m c Q K W C) (G : FVec Ideal S4096x256 .bf16)
    (hG : ∀ (j : Fin 4096) (x : Fin 256), G (ix2 j x)
      = ((dv (q4 Q) (k3 K) (q4 C) j ⟨x.val / 128, by omega⟩ ⟨x.val % 128, by omega⟩ : ℝ) : EReal)) :
    (dats m 0 c).arrAt 9 cfg0.N = G := by
  refine (dats m 0 c).arrAt_eq_of_covers 9 _ (by decide +kernel) fun t hf y => ?_
  blk_simp
  have hl := (flush0_9 t).mp hf
  rw [after0_9, o9 t hl]
  obtain ⟨j, d, rfl⟩ : ∃ (j : Fin 4096) (d : Fin 128), y = ix2 j d := ⟨y 0, y 1, by blk_ext⟩
  have ht := lt_of_lt_of_eq t.isLt N_0
  have e : (win0_9.blk t).view.emb (ix2 j d) = ix2 j ⟨t.val / 32 * 128 + d.val, by omega⟩ := by blk_ext [idx9 t]
  have e1 : (t.val / 32 * 128 + d.val) / 128 = t.val / 32 := by omega
  have e2 : (t.val / 32 * 128 + d.val) % 128 = d.val := by omega
  rw [e, hG]
  refine (pay6_at _ _).trans ?_
  rw [accV H t hl]
  simp only [partV, coe_sum, e1, e2]
  refine congrArg _ ?_
  exact sum_run t hl fun g h i => q4 C i g h d * prob (q4 Q) (k3 K) g h i j

end Cert.KernelIdeal.Final

end
-- ==== Proof.Finite.lean ====
/-
  The precondition says that every element of the four arguments is finite: the arguments are then arrays of reals.
-/
module

public import proofs.«01_k».proof.Defs
public import proofs.«01_k».proof.Proof.Gen.Pre_finite
public import proofs.«01_k».proof.Proof.Blocks
public import Idealize.ShloMosaic.Lib.ReduceAll

@[expose] public section

set_option maxRecDepth 16384

noncomputable section

namespace Cert.Finite

open Cert.ReferenceIdeal.Read Cert.KernelIdeal.Blocks
open Idealize.ShloMosaic Idealize.ShloMosaic.TcCoe Idealize.SL.Sem

/-- An extended real that is zero less itself is a real. -/
theorem real_of_sub_self (x : EReal) (h : Ideal.cmp .oeq (x - x) (Ideal.ofBits .f32 0x00000000#32) = 1#1) : ∃ r : ℝ, x = r := by
  have hz : Ideal.ofBits .f32 0x00000000#32 = 0 := by simp [Ideal.ofBits, Ideal.ieee]
  rw [hz] at h
  induction x with
  | bot => simp [Ideal.cmp] at h
  | coe r => exact ⟨r, rfl⟩
  | top => simp [Ideal.cmp] at h

/-- An array that passes one check of the precondition is an array of reals. -/
theorem reals {s : Shape} {axes : List (Fin s.rank)} (x : FVec Ideal s .f32) (hb : Cert.Pre_finite.S_.BroadcastsInDim s (![] : Fin 0 → Fin s.rank))
    (init : Cert.Pre_finite.S_.Idx → BitVec 1) (h : s.ReducesTo axes Cert.Pre_finite.S_) (hu : 0 < Cert.Pre_finite.S_.numel) (j : Cert.Pre_finite.S_.Idx)
    (e : Host.reduce IntOp.andi (cmpf .oeq (subf x x) (broadcastInDim s ![] hb (constant Cert.Pre_finite.S_ .f32 0x00000000#32))) init h hu j = 1#1) :
    ∃ X : s.Idx → ℝ, x = up X := by
  have : Subsingleton Cert.Pre_finite.S_.Idx := ⟨fun a b => funext fun i => i.elim0⟩
  have hx : ∀ i, ∃ r : ℝ, x i = (r : EReal) := fun i => real_of_sub_self (x i) (Host.reduce_andi_all _ init h hu j e i)
  choose X hX using hx
  exact ⟨X, funext hX⟩

/-- Under the precondition each device's arguments are real arrays. -/
theorem args (m : (ℓ : Loc Cert.KernelIdeal.nD Cert.KernelIdeal.τ Cert.KernelIdeal.sig) → Buf (Elt Ideal) ℓ)
    (hp : Cert.Pre_KernelIdeal_finite (hPre_finite := Cert.Pre_finite.Gen.facts) m) (c : Dev Cert.KernelIdeal.nD) :
    ∃ Q K W C, RealArgs m c Q K W C := by
  have h := congrFun (hp c) (Shape.Idx.first Cert.Pre_finite.Facts.h_S_)
  obtain ⟨h012, h3⟩ := IntOp.andi_eq_one.1 h
  obtain ⟨h01, h2⟩ := IntOp.andi_eq_one.1 h012
  obtain ⟨h0, h1⟩ := IntOp.andi_eq_one.1 h01
  obtain ⟨Q, hQ⟩ := reals _ _ _ _ _ _ h0
  obtain ⟨K, hK⟩ := reals _ _ _ _ _ _ h1
  obtain ⟨W, hW⟩ := reals _ _ _ _ _ _ h2
  obtain ⟨C, hC⟩ := reals _ _ _ _ _ _ h3
  exact ⟨Q, K, W, C, hQ, hK, hW, hC⟩

end Cert.Finite

end
-- ==== Proof.Claims.lean ====
/-
  The claims about the attention gradient: the frames of the three programs, the named constants, and the equality of the
  kernel's three results with the reference's.
-/
module

public import proofs.«01_k».proof.Proof.Final
public import proofs.«01_k».proof.Proof.Finite
public import proofs.«01_k».proof.Proof.Gen.Kernel.Frame
public import Idealize.ShloMosaic.Lib.Claim

@[expose] public section

set_option maxRecDepth 16384

noncomputable section

namespace Cert.Proof.FlashBwd

open Cert.Rows Cert.ReferenceIdeal.Read Cert.KernelIdeal.Blocks Cert.KernelIdeal.Final
open Idealize.ShloMosaic Idealize.ShloMosaic.TcCoe Idealize.SL.Sem

/-- The compiled kernel runs and leaves its arguments. -/
theorem frame_p : Cert.quiescent_Kernel := fun m ρ _ => Cert.Kernel.Gen.frame m ρ
/-- The ideal kernel runs and leaves its arguments. -/
theorem frame_pi : Cert.quiescent_KernelIdeal := fun m ρ _ => Cert.KernelIdeal.Gen.frame m ρ
/-- So it does from finite arguments. -/
theorem frame_pi_finite : Cert.quiescent_KernelIdeal_pre_finite := fun m ρ _ => Cert.KernelIdeal.Gen.frame m ρ

/-- The reference runs and leaves its arguments. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)
/-- So it does from finite arguments. -/
theorem frame_ri_finite : Cert.quiescent_ReferenceIdeal_pre_finite := fun m ρ _ => frame_ri m ρ trivial

/-- The three named constants have the values their names say. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale" .f32 0x3DB504F3#32 (((Real.sqrt 128)⁻¹ : ℝ) : EReal) rfl,
    IdealRules.named_const.statement Cert.KernelIdeal.κ "ln2" .f32 0x3F317218#32 ((Real.log 2 : ℝ) : EReal) rfl⟩

/-- The gradient of the queries as an array. -/
def gq (Q : Cert.KernelIdeal.S4096x1024.Idx → ℝ) (K W : Cert.KernelIdeal.S4096x256.Idx → ℝ) (C : Cert.KernelIdeal.S4096x1024.Idx → ℝ) :
    FVec Ideal Cert.KernelIdeal.S4096x1024 .f32 := fun y =>
  ((dq (q4 Q) (k3 K) (k3 W) (q4 C) (y 0) ⟨(y 1).val / 512, by have := (y 1).isLt; change _ < 1024 at this; omega⟩
    ⟨(y 1).val % 512 / 128, by omega⟩ ⟨(y 1).val % 128, by omega⟩ : ℝ) : EReal)
/-- The gradient of the keys as an array. -/
def gk (Q : Cert.KernelIdeal.S4096x1024.Idx → ℝ) (K W : Cert.KernelIdeal.S4096x256.Idx → ℝ) (C : Cert.KernelIdeal.S4096x1024.Idx → ℝ) :
    FVec Ideal Cert.KernelIdeal.S4096x256 .f32 := fun y =>
  ((dk (q4 Q) (k3 K) (k3 W) (q4 C) (y 0) ⟨(y 1).val / 128, by have := (y 1).isLt; change _ < 256 at this; omega⟩
    ⟨(y 1).val % 128, by omega⟩ : ℝ) : EReal)
/-- The gradient of the values as an array. -/
def gv (Q : Cert.KernelIdeal.S4096x1024.Idx → ℝ) (K : Cert.KernelIdeal.S4096x256.Idx → ℝ) (C : Cert.KernelIdeal.S4096x1024.Idx → ℝ) :
    FVec Ideal Cert.KernelIdeal.S4096x256 .bf16 := fun y =>
  ((dv (q4 Q) (k3 K) (q4 C) (y 0) ⟨(y 1).val / 128, by have := (y 1).isLt; change _ < 256 at this; omega⟩
    ⟨(y 1).val % 128, by omega⟩ : ℝ) : EReal)

/-- From finite arguments the kernel's gradients are the reference's. -/
theorem algebraic : Cert.algebraic_KernelIdeal_ReferenceIdeal_pre_finite := by
  intro m g m' g' hp hag
  choose Q K W C H using Cert.Finite.args m hp
  refine ⟨fun c => gq (Q c) (K c) (W c) (C c), fun c => gk (Q c) (K c) (W c) (C c), fun c => gv (Q c) (K c) (C c), ?_, ?_⟩
  · refine (θ_run Cert.KernelIdeal.defs _ _).mono (fun r h c => ?_) (θ_run_and (Cert.KernelIdeal.Gen.run_main m g) (Cert.KernelIdeal.Gen.unchanged m g))
    exact ⟨((h.1 c).1 7).trans (final7 (H c) _ fun i x => rfl), ((h.1 c).1 8).trans (final8 (H c) _ fun i x => rfl),
      ((h.1 c).1 9).trans (final9 (H c) _ fun i x => rfl), h.2 c⟩
  · refine (θ_run Cert.ReferenceIdeal.defs _ _).mono (fun r h c => ?_) (Cert.ReferenceIdeal.Value.run (F := Ideal) m' g')
    obtain ⟨a0, a1, a2, a3⟩ := hag c
    have h0 := a0.trans (H c).a0
    have h1 := a1.trans (H c).a1
    have h2 := a2.trans (H c).a2
    have h3 := a3.trans (H c).a3
    refine ⟨(h c).1.trans ?_, (h c).2.1.trans ?_, (h c).2.2.1.trans ?_, (h c).2.2.2⟩
    · funext y
      obtain ⟨i, x, rfl⟩ : ∃ (i : Fin 4096) (x : Fin 1024), y = ix2 i x := ⟨y 0, y 1, by blk_ext⟩
      exact res0_at m' c _ _ _ _ h0 h1 h2 h3 i x
    · funext y
      obtain ⟨i, x, rfl⟩ : ∃ (i : Fin 4096) (x : Fin 256), y = ix2 i x := ⟨y 0, y 1, by blk_ext⟩
      exact res1_at m' c _ _ _ _ h0 h1 h2 h3 i x
    · funext y
      obtain ⟨i, x, rfl⟩ : ∃ (i : Fin 4096) (x : Fin 256), y = ix2 i x := ⟨y 0, y 1, by blk_ext⟩
      exact res2_at m' c _ _ _ h0 h1 h3 i x

end Cert.Proof.FlashBwd

end
-- ==== Proof.FfnRows.lean ====
/-
  The last feed-forward layer with the loss head, and its gradient, over the reals and row by row: a row `x` of the layer's
  input and the row `t` it is compared with.
-/
module

public import Idealize.ShloMosaic.Lib.Pointwise
public import Idealize.ShloMosaic.Lib.IdealHost

@[expose] public section

noncomputable section

namespace Cert.FfnRows

open Idealize.ShloMosaic
open scoped BigOperators

/-! ## The normalisation of a row -/

/-- The number added to the mean of the squares. -/
def eps : ℝ := 8796093 / 2 ^ 43
/-- The mean of the squares of a row, with `eps` added. -/
def ms (x : Fin 1024 → ℝ) : ℝ := (∑ d, x d * x d) / 1024 + eps
/-- The reciprocal of its root. -/
def rr (x : Fin 1024 → ℝ) : ℝ := (Real.sqrt (ms x))⁻¹
/-- The gradient of a normalised row: `u` is the cotangent of `x · rr x · g`. -/
def bwd (x g u : Fin 1024 → ℝ) (d : Fin 1024) : ℝ := rr x * (u d * g d - x d * rr x * ((∑ e, u e * g e * (x e * rr x)) / 1024))

theorem ms_pos (x : Fin 1024 → ℝ) : 0 < ms x := by
  have h : 0 ≤ ∑ d, x d * x d := Finset.sum_nonneg fun d _ => mul_self_nonneg _
  unfold ms eps
  positivity

theorem rr_sq (x : Fin 1024 → ℝ) : rr x * rr x * ms x = 1 := by
  have h := ms_pos x
  have e := Real.mul_self_sqrt h.le
  have hs : Real.sqrt (ms x) ≠ 0 := (Real.sqrt_pos.mpr h).ne'
  rw [rr, ← mul_inv, e, inv_mul_cancel₀ h.ne']

theorem rsqrt_ms (x : Fin 1024 → ℝ) : Ideal.rsqrt ((ms x : ℝ) : EReal) = ((rr x : ℝ) : EReal) := by
  have h := ms_pos x
  rw [Ideal.rsqrt_coe, if_neg (not_lt.mpr h.le), if_neg h.ne', rr]

/-- The same gradient by the chain rule through the reciprocal root. -/
theorem bwd_chain (x g u : Fin 1024 → ℝ) (d : Fin 1024) :
    u d * g d * rr x + x d * ((∑ e, x e * (u e * g e)) * (-(1 / 2) * (rr x / ms x)) / 1024)
      + (∑ e, x e * (u e * g e)) * (-(1 / 2) * (rr x / ms x)) / 1024 * x d = bwd x g u d := by
  have h := (ms_pos x).ne'
  have e : rr x / ms x = rr x * (rr x * rr x) := by
    rw [div_eq_iff h, mul_assoc, rr_sq, mul_one]
  have s : (∑ e, u e * g e * (x e * rr x)) = (∑ e, x e * (u e * g e)) * rr x := by
    rw [Finset.sum_mul]
    exact Finset.sum_congr rfl fun i _ => by ring
  rw [bwd, s, e]
  ring

/-! ## The gate -/

/-- The logistic function. -/
def sg (a : ℝ) : ℝ := 1 / (1 + Real.exp (-a))

theorem one_add_exp_ne (a : ℝ) : 1 + Real.exp (-a) ≠ 0 := by positivity

/-- The logistic function by the hyperbolic tangent. -/
theorem sg_tanh (a : ℝ) : 1 / 2 * Real.tanh (1 / 2 * a) + 1 / 2 = sg a := by
  have h1 : Real.exp (-a) = (Real.exp (1 / 2 * a))⁻¹ * (Real.exp (1 / 2 * a))⁻¹ := by
    rw [← Real.exp_neg, ← Real.exp_add]; ring_nf
  have hp := Real.exp_pos (1 / 2 * a)
  rw [sg, Real.tanh_eq_sinh_div_cosh, Real.sinh_eq, Real.cosh_eq, h1, Real.exp_neg]
  generalize Real.exp (1 / 2 * a) = E at hp
  have hE : E ≠ 0 := hp.ne'
  have h2 : E * E + 1 ≠ 0 := by positivity
  have h3 : 1 + E * E ≠ 0 := by positivity
  field_simp
  ring

/-! ## The layer -/

/-- The gains and the weights. -/
structure Net where
  g : Fin 1024 → ℝ
  w1 : Fin 1024 → Fin 2816 → ℝ
  w3 : Fin 1024 → Fin 2816 → ℝ
  w2 : Fin 2816 → Fin 1024 → ℝ
  gf : Fin 1024 → ℝ

namespace Net
variable (n : Net) (x t : Fin 1024 → ℝ)

/-- The normalised row. -/
def nn (d : Fin 1024) : ℝ := x d * rr x * n.g d
/-- The gate's argument. -/
def a (f : Fin 2816) : ℝ := ∑ d, n.nn x d * n.w1 d f
/-- The gated value. -/
def b (f : Fin 2816) : ℝ := ∑ d, n.nn x d * n.w3 d f
/-- The hidden row. -/
def h (f : Fin 2816) : ℝ := n.a x f * sg (n.a x f) * n.b x f
/-- The layer's output. -/
def xo (d : Fin 1024) : ℝ := x d + 1 / 2 * ∑ f, n.h x f * n.w2 f d
/-- The error of the normalised output. -/
def er (d : Fin 1024) : ℝ := n.xo x d * rr (n.xo x) * n.gf d - t d
/-- The row's part of the loss, without the half. -/
def sq : ℝ := (∑ d, n.er x t d * n.er x t d) / 1024
/-- The gradient of the normalised output. -/
def ct (d : Fin 1024) : ℝ := n.er x t d / 1024
/-- The gradient of the output. -/
def dxo (d : Fin 1024) : ℝ := bwd (n.xo x) n.gf (n.ct x t) d
/-- The gradient of the hidden row. -/
def dh (f : Fin 2816) : ℝ := 1 / 2 * ∑ d, n.dxo x t d * n.w2 f d
/-- The gradient of the gate's argument. -/
def da (f : Fin 2816) : ℝ := n.dh x t f * n.b x f * (sg (n.a x f) * (1 + n.a x f * (1 - sg (n.a x f))))
/-- The gradient of the gated value. -/
def db (f : Fin 2816) : ℝ := n.dh x t f * (n.a x f * sg (n.a x f))
/-- The gradient of the normalised row. -/
def dn (d : Fin 1024) : ℝ := (∑ f, n.da x t f * n.w1 d f) + ∑ f, n.db x t f * n.w3 d f
/-- The gradient of the row. -/
def dx (d : Fin 1024) : ℝ := n.dxo x t d + bwd x n.g (n.dn x t) d
/-- The row's part of the gradient of the first gain. -/
def dg (d : Fin 1024) : ℝ := n.dn x t d * (x d * rr x)
/-- The row's part of the gradient of the last gain. -/
def dgf (d : Fin 1024) : ℝ := n.ct x t d * (n.xo x d * rr (n.xo x))
/-- The gate's argument, the gated value and the hidden row, one after another. -/
def abh (k : Fin 3) (f : Fin 2816) : ℝ := if k.val = 0 then n.a x f else if k.val = 1 then n.b x f else n.h x f
/-- The gradients of the gate's argument and of the gated value, one after the other. -/
def dab (k : Fin 2) (f : Fin 2816) : ℝ := if k.val = 0 then n.da x t f else n.db x t f

variable {n x t}

theorem abh_a {k : Fin 3} {f f' : Fin 2816} (hk : k.val = 0) (hf : f'.val = f.val) : n.a x f = n.abh x k f' := by
  rw [abh, if_pos hk, Fin.ext hf]
theorem abh_b {k : Fin 3} {f f' : Fin 2816} (hk : k.val = 1) (hf : f'.val = f.val) : n.b x f = n.abh x k f' := by
  rw [abh, if_neg (by omega), if_pos hk, Fin.ext hf]
theorem abh_h {k : Fin 3} {f f' : Fin 2816} (hk : k.val = 2) (hf : f'.val = f.val) : n.h x f = n.abh x k f' := by
  rw [abh, if_neg (by omega), if_neg (by omega), Fin.ext hf]
theorem dab_a {k : Fin 2} {f f' : Fin 2816} (hk : k.val = 0) (hf : f'.val = f.val) : n.da x t f = n.dab x t k f' := by
  rw [dab, if_pos hk, Fin.ext hf]
theorem dab_b {k : Fin 2} {f f' : Fin 2816} (hk : k.val = 1) (hf : f'.val = f.val) : n.db x t f = n.dab x t k f' := by
  rw [dab, if_neg (by omega), Fin.ext hf]

end Net

/-- A sum over the hidden positions is the sum over its two halves. -/
theorem sum_halves (f : Fin 2816 → ℝ) : (∑ k : Fin 1408, f ⟨k.val, by omega⟩) + ∑ k : Fin 1408, f ⟨1408 + k.val, by omega⟩ = ∑ k, f k :=
  (Fin.sum_univ_add (a := 1408) (b := 1408) f).symm

/-! ## The constants of the two programs -/

theorem half_bits : Ideal.ofBits .f32 0x3F000000#32 = ((1 / 2 : ℝ) : EReal) := by
  simp [Ideal.ofBits, Ideal.ieee, -EReal.coe_mul]; norm_num
theorem neg_half_bits : Ideal.ofBits .f32 0xBF000000#32 = ((-(1 / 2) : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem width_bits : Ideal.ofBits .f32 0x44800000#32 = ((1024 : ℝ) : EReal) := by
  simp [Ideal.ofBits, Ideal.ieee, -EReal.coe_mul]; norm_num
theorem inv_width_bits : Ideal.ofBits .f32 0x3A800000#32 = ((1 / 1024 : ℝ) : EReal) := by
  simp [Ideal.ofBits, Ideal.ieee, -EReal.coe_mul]; norm_num
theorem eps_bits : Ideal.ofBits .f32 0x358637BD#32 = ((eps : ℝ) : EReal) := by
  simp [Ideal.ofBits, Ideal.ieee, eps, -EReal.coe_mul]; norm_num

end Cert.FfnRows

end
-- ==== Proof.FfnPay.lean ====
/-
  The payloads of the last feed-forward layer's kernel read at real blocks of 256 rows.
-/
module

public import proofs.«01_k».proof.Proof.FfnRows
public import proofs.«01_k».proof.Proof.Softmax
public import proofs.«01_k».proof.Proof.Gen.FfnIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.FfnIdeal.Pay

open Cert.FfnIdeal Cert.FfnIdeal.Gen Cert.FfnRows Cert.Softmax
open Idealize.ShloMosaic Idealize.ShloMosaic.TcCoe Idealize.SL.Sem
open scoped BigOperators

theorem div_width (x : ℝ) : Ideal.div (x : EReal) ((1024 : ℝ) : EReal) = ((x / 1024 : ℝ) : EReal) := div_coe_coe x (by norm_num)
theorem coe_one : (1 : EReal) = ((1 : ℝ) : EReal) := rfl

/-- The real arrays of a block of 256 rows. -/
abbrev Rows (n : ℕ) := Fin 256 → Fin n → ℝ

/-! What it is for a block to hold a real array. -/

abbrev R2 {n : ℕ} {φ : FTy} (v : FVec Ideal ⟨2, ![256, n]⟩ φ) (A : Rows n) : Prop := ∀ r d, v (ix2 r d) = ((A r d : ℝ) : EReal)
abbrev R3 {n : ℕ} {φ : FTy} (v : FVec Ideal ⟨3, ![1, 256, n]⟩ φ) (A : Rows n) : Prop := ∀ r d, v (ix3 0 r d) = ((A r d : ℝ) : EReal)
abbrev R1 {n : ℕ} {φ : FTy} (v : FVec Ideal ⟨2, ![1, n]⟩ φ) (g : Fin n → ℝ) : Prop := ∀ d, v (ix2 0 d) = ((g d : ℝ) : EReal)
abbrev RC {φ : FTy} (v : FVec Ideal ⟨2, ![256, 1]⟩ φ) (q : Fin 256 → ℝ) : Prop := ∀ r, v (ix2 r 0) = ((q r : ℝ) : EReal)
abbrev RW (w : FVec Ideal S4x352x1024 .bf16) (U : Fin 1408 → Fin 1024 → ℝ) : Prop :=
  ∀ (f : Fin 1408) d, w (ix3 ⟨f.val / 352, by omega⟩ ⟨f.val % 352, by omega⟩ d) = ((U f d : ℝ) : EReal)

/-! ## The layer -/

section
variable {x0 : FVec Ideal S256x1024 .f32} {x1 : FVec Ideal S1x1024 .f32} {X : Rows 1024} {G : Fin 1024 → ℝ} (h0 : R2 x0 X) (h1 : R1 x1 G)
variable {v14 : FVec Ideal S256x1024 .bf16} {N : Rows 1024} (h14 : R2 v14 N)
variable {w w' : FVec Ideal S4x352x1024 .bf16} {U U' : Fin 1408 → Fin 1024 → ℝ} (hw : RW w U) (hw' : RW w' U')

include h0 h1 in
theorem pay5_at : R2 (k0_pay5 (F := Ideal) x0 x1) fun r d => X r d * rr (X r) * G d := by
  intro r d
  pointwise [k0_pay5]
  simp only [h0, h1, half_bits, width_bits, inv_width_bits, div_width, eps_bits, coe_one, ← EReal.coe_mul, ← EReal.coe_add, ← EReal.coe_sub, coe_sum]
  rw [← ms, rsqrt_ms]
  simp only [← EReal.coe_mul]

include h14 hw in
theorem pay13_at : R2 (k0_pay13 (F := Ideal) v14 w) fun r f => ∑ d, N r d * U f d := by
  intro r f
  pointwise [k0_pay13]
  simp only [h14, hw, half_bits, width_bits, inv_width_bits, div_width, eps_bits, coe_one, ← EReal.coe_mul, ← EReal.coe_add, ← EReal.coe_sub, coe_sum]

include h0 h1 hw in
theorem pay6_at : R2 (k0_pay6 (F := Ideal) x0 x1 w) fun r f => ∑ d, X r d * rr (X r) * G d * U f d := pay13_at (pay5_at h0 h1) hw
include h0 h1 hw in
theorem pay7_at : R2 (k0_pay7 (F := Ideal) x0 x1 w) fun r f => ∑ d, X r d * rr (X r) * G d * U f d := pay13_at (pay5_at h0 h1) hw
include h14 hw in
theorem pay14_at : R2 (k0_pay14 (F := Ideal) v14 w) fun r f => ∑ d, N r d * U f d := pay13_at h14 hw
include h14 hw in
theorem pay15_at : R2 (k0_pay15 (F := Ideal) v14 w) fun r f => ∑ d, N r d * U f d := pay13_at h14 hw

include h14 hw in
theorem pay16_at : R2 (k0_pay16 (F := Ideal) v14 w) fun r f => (∑ d, N r d * U f d) * sg (∑ d, N r d * U f d) := by
  have h := pay13_at h14 hw
  intro r f
  pointwise [k0_pay16]
  simp only [h, Ideal.tanh_coe, half_bits, width_bits, inv_width_bits, div_width, eps_bits, coe_one, ← EReal.coe_mul, ← EReal.coe_add, ← EReal.coe_sub, coe_sum]
  rw [sg_tanh]

include h0 h1 hw hw' in
theorem pay8_at : R2 (k0_pay8 (F := Ideal) x0 x1 w w') fun r f => (∑ d, X r d * rr (X r) * G d * U f d) * sg (∑ d, X r d * rr (X r) * G d * U f d)
    * ∑ d, X r d * rr (X r) * G d * U' f d := by
  have h := pay6_at h0 h1 hw
  have h' := pay7_at h0 h1 hw'
  intro r f
  pointwise [k0_pay8]
  simp only [h, h', Ideal.tanh_coe, half_bits, width_bits, inv_width_bits, div_width, eps_bits, coe_one, ← EReal.coe_mul, ← EReal.coe_add, ← EReal.coe_sub, coe_sum]
  rw [sg_tanh]
end

section
variable {φ : FTy} {v : FVec Ideal S256x1408 .bf16} {A : Rows 1408} (h : R2 v A)
variable {w : FVec Ideal S4x352x1024 .bf16} {U : Fin 1408 → Fin 1024 → ℝ} (hw : RW w U)
variable {v62 v70 : FVec Ideal S256x1408 .f32} {A62 A70 : Rows 1408} (h62 : R2 v62 A62) (h70 : R2 v70 A70)

include h in
theorem pay9_at : R3 (k0_pay9 (F := Ideal) v) A := by
  intro r f
  pointwise [k0_pay9]
  exact h r f
include h in
theorem pay10_at : R3 (k0_pay10 (F := Ideal) v) A := pay9_at h
include h in
theorem pay11_at : R3 (k0_pay11 (F := Ideal) v) A := pay9_at h
include h in
theorem pay18_at : R3 (k0_pay18 (F := Ideal) v) A := pay9_at h
include h in
theorem pay19_at : R3 (k0_pay19 (F := Ideal) v) A := pay9_at h

include h hw in
theorem pay12_at : R2 (k0_pay12 (F := Ideal) v w) fun r d => ∑ f, A r f * U f d := by
  intro r d
  pointwise [k0_pay12]
  simp only [h, hw, half_bits, width_bits, inv_width_bits, div_width, eps_bits, coe_one, ← EReal.coe_mul, ← EReal.coe_add, ← EReal.coe_sub, coe_sum]

include h62 h70 in
theorem pay17_at : R2 (k0_pay17 (F := Ideal) v62 v70) fun r f => A70 r f * A62 r f := by
  intro r f
  pointwise [k0_pay17]
  simp only [h62, h70, half_bits, width_bits, inv_width_bits, div_width, eps_bits, coe_one, ← EReal.coe_mul, ← EReal.coe_add, ← EReal.coe_sub, coe_sum]
include h62 h70 in
theorem pay20_at : R3 (k0_pay20 (F := Ideal) v62 v70) fun r f => A70 r f * A62 r f := pay9_at (pay17_at h62 h70)

variable {x0 v50 : FVec Ideal S256x1024 .f32} {X P : Rows 1024} (h0 : R2 x0 X) (h50 : R2 v50 P)

include h0 h50 h62 h70 hw in
theorem pay21_at : R2 (k0_pay21 (F := Ideal) x0 v50 v62 v70 w) fun r d => X r d + 1 / 2 * (P r d + ∑ f, A70 r f * A62 r f * U f d) := by
  have h' := pay17_at h62 h70
  intro r d
  pointwise [k0_pay21]
  simp only [h', hw, h0, h50, half_bits, width_bits, inv_width_bits, div_width, eps_bits, coe_one, ← EReal.coe_mul, ← EReal.coe_add, ← EReal.coe_sub, coe_sum]
end

/-! ## The loss head -/

section
variable {x0 v50 : FVec Ideal S256x1024 .f32} {v62 v70 : FVec Ideal S256x1408 .f32} {w : FVec Ideal S4x352x1024 .bf16} {Y : Rows 1024}
variable (hy : R2 (k0_pay21 (F := Ideal) x0 v50 v62 v70 w) Y)
variable {x5 : FVec Ideal S256x1024 .f32} {x6 : FVec Ideal S1x1024 .f32} {T : Rows 1024} {G : Fin 1024 → ℝ} (h5 : R2 x5 T) (h6 : R1 x6 G)

include hy
theorem pay22_at : RC (k0_pay22 (F := Ideal) x0 v50 v62 v70 w) fun r => rr (Y r) := by
  intro r
  pointwise [k0_pay22]
  simp only [hy, half_bits, width_bits, inv_width_bits, div_width, eps_bits, coe_one, ← EReal.coe_mul, ← EReal.coe_add, ← EReal.coe_sub, coe_sum]
  rw [← ms, rsqrt_ms]

theorem pay23_at : R2 (k0_pay23 (F := Ideal) x0 v50 v62 v70 w) fun r d => Y r d * rr (Y r) := by
  have h := pay22_at hy
  intro r d
  pointwise [k0_pay23]
  simp only [h, hy, half_bits, width_bits, inv_width_bits, div_width, eps_bits, coe_one, ← EReal.coe_mul, ← EReal.coe_add, ← EReal.coe_sub, coe_sum]

include h5 h6
theorem pay24_at : R2 (k0_pay24 (F := Ideal) x0 v50 v62 v70 w x5 x6) fun r d => Y r d * rr (Y r) * G d - T r d := by
  have h := pay23_at hy
  intro r d
  pointwise [k0_pay24]
  simp only [h, h5, h6, half_bits, width_bits, inv_width_bits, div_width, eps_bits, coe_one, ← EReal.coe_mul, ← EReal.coe_add, ← EReal.coe_sub, coe_sum]
theorem pay25_at : R2 (k0_pay25 (F := Ideal) x0 v50 v62 v70 w x5 x6) fun r d => (Y r d * rr (Y r) * G d - T r d) * (Y r d * rr (Y r) * G d - T r d) := by
  have h := pay24_at hy h5 h6
  intro r d
  pointwise [k0_pay25]
  simp only [h, half_bits, width_bits, inv_width_bits, div_width, eps_bits, coe_one, ← EReal.coe_mul, ← EReal.coe_add, ← EReal.coe_sub, coe_sum]
end

theorem pay26_at {v : FVec Ideal S256x1024 .f32} {E : Rows 1024} (h : R2 v E) :
    k0_pay26 (F := Ideal) v (ix2 0 0) = ((1 / 2 * ∑ r, (∑ d, E r d) / 1024 : ℝ) : EReal) := by
  pointwise [k0_pay26]
  simp only [h, half_bits, width_bits, inv_width_bits, div_width, eps_bits, coe_one, ← EReal.coe_mul, ← EReal.coe_add, ← EReal.coe_sub, coe_sum, mul_one_div]

section
variable {x6 : FVec Ideal S1x1024 .f32} {v99 : FVec Ideal S256x1 .f32} {v101 v104 : FVec Ideal S256x1024 .f32}
variable {G : Fin 1024 → ℝ} {Y E : Rows 1024} (h6 : R1 x6 G) (h99 : RC v99 fun r => rr (Y r)) (h101 : R2 v101 fun r d => Y r d * rr (Y r)) (h104 : R2 v104 E)
variable {w : FVec Ideal S4x352x1024 .bf16} {U : Fin 1408 → Fin 1024 → ℝ} (hw : RW w U)

include h104 in
theorem pay27_at : R2 (k0_pay27 (F := Ideal) v104) fun r d => E r d / 1024 := by
  intro r d
  pointwise [k0_pay27]
  simp only [h104, half_bits, width_bits, inv_width_bits, div_width, eps_bits, coe_one, ← EReal.coe_mul, ← EReal.coe_add, ← EReal.coe_sub, coe_sum, mul_one_div]

include h101 h104 in
theorem pay29_at : R1 (k0_pay29 (F := Ideal) v101 v104) fun d => ∑ r, E r d / 1024 * (Y r d * rr (Y r)) := by
  have h := pay27_at h104
  intro d
  pointwise [k0_pay29]
  simp only [h, h101, half_bits, width_bits, inv_width_bits, div_width, eps_bits, coe_one, ← EReal.coe_mul, ← EReal.coe_add, ← EReal.coe_sub, coe_sum]

include h6 h99 h101 h104
theorem pay28_at : R2 (k0_pay28 (F := Ideal) x6 v99 v101 v104) fun r => bwd (Y r) G fun d => E r d / 1024 := by
  have h := pay27_at h104
  intro r d
  pointwise [k0_pay28]
  simp only [h, h6, h99, h101, half_bits, width_bits, inv_width_bits, div_width, eps_bits, coe_one, ← EReal.coe_mul, ← EReal.coe_add, ← EReal.coe_sub, coe_sum]
  rfl
theorem pay30_at : R2 (k0_pay30 (F := Ideal) x6 v99 v101 v104) fun r => bwd (Y r) G fun d => E r d / 1024 := pay28_at h6 h99 h101 h104

include hw
theorem pay31_at : R2 (k0_pay31 (F := Ideal) x6 v99 v101 v104 w) fun r f => 1 / 2 * ∑ d, bwd (Y r) G (fun d => E r d / 1024) d * U f d := by
  have h := pay30_at h6 h99 h101 h104
  intro r f
  pointwise [k0_pay31]
  simp only [h, hw, half_bits, width_bits, inv_width_bits, div_width, eps_bits, coe_one, ← EReal.coe_mul, ← EReal.coe_add, ← EReal.coe_sub, coe_sum]
end

/-! ## The gradient of the hidden rows -/

section
variable {v : FVec Ideal S1x256x1408 .bf16} {A : Rows 1408} (h : R3 v A)
include h
theorem pay32_at : R2 (k0_pay32 (F := Ideal) v) A := by
  intro r f
  pointwise [k0_pay32]
  exact h r f
theorem pay33_at : R2 (k0_pay33 (F := Ideal) v) A := pay32_at h
theorem pay42_at : R2 (k0_pay42 (F := Ideal) v) A := pay32_at h
end

section
variable {v138 v141 v144 : FVec Ideal S256x1408 .f32} {D A B : Rows 1408} (h138 : R2 v138 D) (h141 : R2 v141 A) (h144 : R2 v144 B)
variable {w w' : FVec Ideal S4x352x1024 .bf16} {U U' : Fin 1408 → Fin 1024 → ℝ} (hw : RW w U) (hw' : RW w' U')

include h141 in
theorem pay34_at : R2 (k0_pay34 (F := Ideal) v141) fun r f => sg (A r f) := by
  intro r f
  pointwise [k0_pay34]
  simp only [h141, Ideal.tanh_coe, half_bits, width_bits, inv_width_bits, div_width, eps_bits, coe_one, ← EReal.coe_mul, ← EReal.coe_add, ← EReal.coe_sub, coe_sum]
  rw [sg_tanh]

include h138 h141
theorem pay36_at : R2 (k0_pay36 (F := Ideal) v138 v141) fun r f => D r f * (A r f * sg (A r f)) := by
  have h := pay34_at h141
  intro r f
  pointwise [k0_pay36]
  simp only [h, h138, h141, half_bits, width_bits, inv_width_bits, div_width, eps_bits, coe_one, ← EReal.coe_mul, ← EReal.coe_add, ← EReal.coe_sub, coe_sum]
theorem pay38_at : R3 (k0_pay38 (F := Ideal) v138 v141) fun r f => D r f * (A r f * sg (A r f)) := pay9_at (pay36_at h138 h141)

include h144
theorem pay35_at : R2 (k0_pay35 (F := Ideal) v138 v141 v144) fun r f => D r f * B r f * (sg (A r f) * (1 + A r f * (1 - sg (A r f)))) := by
  have h := pay34_at h141
  intro r f
  pointwise [k0_pay35]
  simp only [h, h138, h141, h144, half_bits, width_bits, inv_width_bits, div_width, eps_bits, coe_one, ← EReal.coe_mul, ← EReal.coe_add, ← EReal.coe_sub, coe_sum]
theorem pay37_at : R3 (k0_pay37 (F := Ideal) v138 v141 v144) fun r f => D r f * B r f * (sg (A r f) * (1 + A r f * (1 - sg (A r f)))) :=
  pay9_at (pay35_at h138 h141 h144)

include hw hw'
theorem pay39_at : R2 (k0_pay39 (F := Ideal) v138 v141 v144 w w') fun r d =>
    (∑ f, D r f * B r f * (sg (A r f) * (1 + A r f * (1 - sg (A r f)))) * U f d) + ∑ f, D r f * (A r f * sg (A r f)) * U' f d := by
  have h := pay35_at h138 h141 h144
  have h' := pay36_at h138 h141
  intro r d
  pointwise [k0_pay39]
  simp only [h, h', hw, hw', half_bits, width_bits, inv_width_bits, div_width, eps_bits, coe_one, ← EReal.coe_mul, ← EReal.coe_add, ← EReal.coe_sub, coe_sum]
end

section
variable {v131 : FVec Ideal S256x1024 .bf16} {w : FVec Ideal S4x352x1024 .bf16} {U : Fin 1408 → Fin 1024 → ℝ} {C : Rows 1024} (h131 : R2 v131 C) (hw : RW w U)
variable {v185 v188 : FVec Ideal S1x256x1408 .bf16} {A B : Rows 1408} (h185 : R3 v185 A) (h188 : R3 v188 B)

include hw in
theorem pay40_at : RW (k0_pay40 (F := Ideal) w) U := by
  intro f d
  pointwise [k0_pay40]
  exact hw f d

include h131 hw in
theorem pay41_at : R2 (k0_pay41 (F := Ideal) v131 w) fun r f => 1 / 2 * ∑ d, C r d * U f d := by
  intro r f
  pointwise [k0_pay41]
  simp only [h131, hw, half_bits, width_bits, inv_width_bits, div_width, eps_bits, coe_one, ← EReal.coe_mul, ← EReal.coe_add, ← EReal.coe_sub, coe_sum]

include h185 in
theorem pay43_at : R2 (k0_pay43 (F := Ideal) v185) fun r f => sg (A r f) := pay34_at (pay42_at h185)

include h131 hw h185
theorem pay45_at : R2 (k0_pay45 (F := Ideal) v131 w v185) fun r f => 1 / 2 * (∑ d, C r d * U f d) * (A r f * sg (A r f)) :=
  pay36_at (pay41_at h131 hw) (pay42_at h185)
theorem pay47_at : R3 (k0_pay47 (F := Ideal) v131 w v185) fun r f => 1 / 2 * (∑ d, C r d * U f d) * (A r f * sg (A r f)) :=
  pay9_at (pay45_at h131 hw h185)

include h188
theorem pay44_at : R2 (k0_pay44 (F := Ideal) v131 w v185 v188) fun r f =>
    1 / 2 * (∑ d, C r d * U f d) * B r f * (sg (A r f) * (1 + A r f * (1 - sg (A r f)))) :=
  pay35_at (pay41_at h131 hw) (pay42_at h185) (pay42_at h188)
theorem pay46_at : R3 (k0_pay46 (F := Ideal) v131 w v185 v188) fun r f =>
    1 / 2 * (∑ d, C r d * U f d) * B r f * (sg (A r f) * (1 + A r f * (1 - sg (A r f)))) := pay9_at (pay44_at h131 hw h185 h188)
end

/-! ## The gradient of the layer's input -/

section
variable {v178 : FVec Ideal S256x1024 .f32} {v208 v209 : FVec Ideal S256x1408 .bf16} {w w' : FVec Ideal S4x352x1024 .bf16}
variable {P : Rows 1024} {D D' : Rows 1408} {U U' : Fin 1408 → Fin 1024 → ℝ}
variable (h178 : R2 v178 P) (h208 : R2 v208 D) (h209 : R2 v209 D') (hw : RW w U) (hw' : RW w' U')
variable {x0 : FVec Ideal S256x1024 .f32} {x1 : FVec Ideal S1x1024 .f32} {X : Rows 1024} {G : Fin 1024 → ℝ} (h0 : R2 x0 X) (h1 : R1 x1 G)

include h0 in
theorem pay49_at : RC (k0_pay49 (F := Ideal) x0) fun r => rr (X r) := by
  intro r
  pointwise [k0_pay49]
  simp only [h0, half_bits, width_bits, inv_width_bits, div_width, eps_bits, coe_one, ← EReal.coe_mul, ← EReal.coe_add, ← EReal.coe_sub, coe_sum]
  rw [← ms, rsqrt_ms]
include h0 in
theorem pay50_at : R2 (k0_pay50 (F := Ideal) x0) fun r d => X r d * rr (X r) := by
  have h := pay49_at h0
  intro r d
  pointwise [k0_pay50]
  simp only [h, h0, half_bits, width_bits, inv_width_bits, div_width, eps_bits, coe_one, ← EReal.coe_mul, ← EReal.coe_add, ← EReal.coe_sub, coe_sum]

include h178 h208 h209 hw hw'
theorem pay48_at : R2 (k0_pay48 (F := Ideal) v178 v208 v209 w w') fun r d => P r d + ((∑ f, D r f * U f d) + ∑ f, D' r f * U' f d) := by
  intro r d
  pointwise [k0_pay48]
  simp only [h178, h208, h209, hw, hw', half_bits, width_bits, inv_width_bits, div_width, eps_bits, coe_one, ← EReal.coe_mul, ← EReal.coe_add, ← EReal.coe_sub, coe_sum]

include h0
theorem pay53_at : R1 (k0_pay53 (F := Ideal) x0 v178 v208 v209 w w') fun d =>
    ∑ r, (P r d + ((∑ f, D r f * U f d) + ∑ f, D' r f * U' f d)) * (X r d * rr (X r)) := by
  have h := pay48_at h178 h208 h209 hw hw'
  have h' := pay50_at h0
  intro d
  pointwise [k0_pay53]
  simp only [h, h', half_bits, width_bits, inv_width_bits, div_width, eps_bits, coe_one, ← EReal.coe_mul, ← EReal.coe_add, ← EReal.coe_sub, coe_sum]

variable {v127 : FVec Ideal S256x1024 .f32} {C : Rows 1024} (h127 : R2 v127 C)
include h1 h127
theorem pay51_at : R2 (k0_pay51 (F := Ideal) x0 x1 v127 v178 v208 v209 w w') fun r d =>
    C r d + bwd (X r) G (fun d => P r d + ((∑ f, D r f * U f d) + ∑ f, D' r f * U' f d)) d := by
  have h := pay48_at h178 h208 h209 hw hw'
  have h' := pay49_at h0
  have h'' := pay50_at h0
  intro r d
  pointwise [k0_pay51]
  simp only [h, h', h'', h1, h127, half_bits, width_bits, inv_width_bits, div_width, eps_bits, coe_one, ← EReal.coe_mul, ← EReal.coe_add, ← EReal.coe_sub, coe_sum]
  rfl
theorem pay52_at : R2 (k0_pay52 (F := Ideal) x0 x1 v127 v178 v208 v209 w w') fun r d =>
    C r d + bwd (X r) G (fun d => P r d + ((∑ f, D r f * U f d) + ∑ f, D' r f * U' f d)) d := pay51_at h178 h208 h209 hw hw' h0 h1 h127
end

/-! ## The accumulators -/

theorem pay1_at (v : FVec Ideal S1x1 .f32) (d : Fin 128) : k0_pay1 (F := Ideal) v (ix2 0 d) = v (ix2 0 0) := by
  pointwise [k0_pay1]
theorem pay2_at (v a : FVec Ideal S1x1024 .f32) (d : Fin 1024) : k0_pay2 (F := Ideal) v a (ix2 0 d) = a (ix2 0 d) + v (ix2 0 d) := by
  pointwise [k0_pay2]
theorem pay3_at (v : FVec Ideal S1x1 .f32) (a : FVec Ideal S1x128 .f32) (d : Fin 128) :
    k0_pay3 (F := Ideal) v a (ix2 0 d) = a (ix2 0 d) + v (ix2 0 0) := by
  pointwise [k0_pay3]
theorem pay4_at (v a : FVec Ideal S1x1024 .f32) (d : Fin 1024) : k0_pay4 (F := Ideal) v a (ix2 0 d) = a (ix2 0 d) + v (ix2 0 d) := by
  pointwise [k0_pay4]

end Cert.FfnIdeal.Pay

end
-- ==== Proof.FfnTile.lean ====
/-
  The values of one point of the last feed-forward layer's kernel, of real blocks: its 256 rows of the layer and their
  gradients.
-/
module

public import proofs.«01_k».proof.Proof.FfnPay

@[expose] public section

set_option maxRecDepth 16384

noncomputable section

namespace Cert.FfnIdeal.Tile

open Cert.FfnIdeal Cert.FfnIdeal.Gen Cert.FfnIdeal.Pay Cert.FfnRows Cert.Softmax
open Idealize.ShloMosaic Idealize.ShloMosaic.TcCoe Idealize.SL.Sem
open scoped BigOperators

/-- The blocks a point reads: its rows, the first gain, the three weights, the rows compared with and the last gain. -/
structure Ins where
  x : FVec Ideal S256x1024 .f32
  g : FVec Ideal S1x1024 .f32
  w1 : FVec Ideal S8x352x1024 .bf16
  w3 : FVec Ideal S8x352x1024 .bf16
  w2 : FVec Ideal S8x352x1024 .bf16
  t : FVec Ideal S256x1024 .f32
  gf : FVec Ideal S1x1024 .f32

/-- The first half of a weight. -/
abbrev lo (w : FVec Ideal S8x352x1024 .bf16) : FVec Ideal S4x352x1024 .bf16 :=
  View.ld (Val := Elt Ideal) (e' := .bf16) w (Rect.unit (s := S8x352x1024) ![0, 0, 0] S4x352x1024.size inb_S8x352x1024_S4x352x1024_0_0_0)
/-- The second half of a weight. -/
abbrev hi (w : FVec Ideal S8x352x1024 .bf16) : FVec Ideal S4x352x1024 .bf16 :=
  View.ld (Val := Elt Ideal) (e' := .bf16) w (Rect.unit (s := S8x352x1024) ![4, 0, 0] S4x352x1024.size inb_S8x352x1024_S4x352x1024_4_0_0)

namespace Ins

/-! ## The values of a point -/

def nn (i : Ins) : FVec Ideal S256x1024 .bf16 := k0_pay5 i.x i.g
def hLo (i : Ins) : FVec Ideal S256x1408 .bf16 := k0_pay8 i.x i.g (lo i.w1) (lo i.w3)
def sHi (i : Ins) : FVec Ideal S256x1408 .f32 := k0_pay16 i.nn (hi i.w1)
def bHi (i : Ins) : FVec Ideal S256x1408 .f32 := k0_pay15 i.nn (hi i.w3)
def part (i : Ins) : FVec Ideal S256x1024 .f32 := k0_pay12 i.hLo (lo i.w2)
def rr (i : Ins) : FVec Ideal S256x1 .f32 := k0_pay22 i.x i.part i.bHi i.sHi (hi i.w2)
def y (i : Ins) : FVec Ideal S256x1024 .f32 := k0_pay23 i.x i.part i.bHi i.sHi (hi i.w2)
def er (i : Ins) : FVec Ideal S256x1024 .f32 := k0_pay24 i.x i.part i.bHi i.sHi (hi i.w2) i.t i.gf
def sq (i : Ins) : FVec Ideal S256x1024 .f32 := k0_pay25 i.x i.part i.bHi i.sHi (hi i.w2) i.t i.gf
def loss (i : Ins) : FVec Ideal S1x1 .f32 := k0_pay26 i.sq
def dxo (i : Ins) : FVec Ideal S256x1024 .f32 := k0_pay28 i.gf i.rr i.y i.er
def dgf (i : Ins) : FVec Ideal S1x1024 .f32 := k0_pay29 i.y i.er
def dxob (i : Ins) : FVec Ideal S256x1024 .bf16 := k0_pay30 i.gf i.rr i.y i.er
def dhLo (i : Ins) : FVec Ideal S256x1408 .f32 := k0_pay31 i.gf i.rr i.y i.er (lo i.w2)

/-- The gate's argument, the gated value and the hidden rows. -/
def abh (i : Ins) : FVec Ideal S3x256x2816 .bf16 := View.canon (Val := Elt Ideal) (s := S3x256x2816) (e := .bf16)
  [⟨Rect.unit ![2, 0, 1408] S1x256x1408.size inb_S3x256x2816_S1x256x1408_2_0_1408, k0_pay20 (F := Ideal) i.bHi i.sHi⟩,
    ⟨Rect.unit ![1, 0, 1408] S1x256x1408.size inb_S3x256x2816_S1x256x1408_1_0_1408, k0_pay19 (F := Ideal) (k0_pay14 i.nn (hi i.w3))⟩,
    ⟨Rect.unit ![0, 0, 1408] S1x256x1408.size inb_S3x256x2816_S1x256x1408_0_0_1408, k0_pay18 (F := Ideal) (k0_pay13 i.nn (hi i.w1))⟩,
    ⟨Rect.unit ![2, 0, 0] S1x256x1408.size inb_S3x256x2816_S1x256x1408_2_0_0, k0_pay11 (F := Ideal) i.hLo⟩,
    ⟨Rect.unit ![1, 0, 0] S1x256x1408.size inb_S3x256x2816_S1x256x1408_1_0_0, k0_pay10 (F := Ideal) (k0_pay7 i.x i.g (lo i.w3))⟩,
    ⟨Rect.unit ![0, 0, 0] S1x256x1408.size inb_S3x256x2816_S1x256x1408_0_0_0, k0_pay9 (F := Ideal) (k0_pay6 i.x i.g (lo i.w1))⟩]

def aLo (i : Ins) : FVec Ideal S1x256x1408 .bf16 := View.ld (Val := Elt Ideal) (e' := .bf16) (abh i) (Rect.unit (s := S3x256x2816) ![0, 0, 0] S1x256x1408.size inb_S3x256x2816_S1x256x1408_0_0_0)
def bLo (i : Ins) : FVec Ideal S1x256x1408 .bf16 := View.ld (Val := Elt Ideal) (e' := .bf16) (abh i) (Rect.unit (s := S3x256x2816) ![1, 0, 0] S1x256x1408.size inb_S3x256x2816_S1x256x1408_1_0_0)
def aHi (i : Ins) : FVec Ideal S1x256x1408 .bf16 := View.ld (Val := Elt Ideal) (e' := .bf16) (abh i) (Rect.unit (s := S3x256x2816) ![0, 0, 1408] S1x256x1408.size inb_S3x256x2816_S1x256x1408_0_0_1408)
def bHi' (i : Ins) : FVec Ideal S1x256x1408 .bf16 := View.ld (Val := Elt Ideal) (e' := .bf16) (abh i) (Rect.unit (s := S3x256x2816) ![1, 0, 1408] S1x256x1408.size inb_S3x256x2816_S1x256x1408_1_0_1408)

/-- The gradients of the gate's argument and of the gated value. -/
def dab (i : Ins) : FVec Ideal S2x256x2816 .bf16 := View.canon (Val := Elt Ideal) (s := S2x256x2816) (e := .bf16)
  [⟨Rect.unit ![1, 0, 1408] S1x256x1408.size inb_S2x256x2816_S1x256x1408_1_0_1408, k0_pay47 (F := Ideal) i.dxob (k0_pay40 (hi i.w2)) i.aHi⟩,
    ⟨Rect.unit ![0, 0, 1408] S1x256x1408.size inb_S2x256x2816_S1x256x1408_0_0_1408, k0_pay46 (F := Ideal) i.dxob (k0_pay40 (hi i.w2)) i.aHi i.bHi'⟩,
    ⟨Rect.unit ![1, 0, 0] S1x256x1408.size inb_S2x256x2816_S1x256x1408_1_0_0, k0_pay38 (F := Ideal) i.dhLo (k0_pay32 i.aLo)⟩,
    ⟨Rect.unit ![0, 0, 0] S1x256x1408.size inb_S2x256x2816_S1x256x1408_0_0_0, k0_pay37 (F := Ideal) i.dhLo (k0_pay32 i.aLo) (k0_pay33 i.bLo)⟩]

def dnLo (i : Ins) : FVec Ideal S256x1024 .f32 := k0_pay39 i.dhLo (k0_pay32 i.aLo) (k0_pay33 i.bLo) (lo i.w1) (lo i.w3)
def daHi (i : Ins) : FVec Ideal S256x1408 .bf16 := k0_pay44 i.dxob (k0_pay40 (hi i.w2)) i.aHi i.bHi'
def dbHi (i : Ins) : FVec Ideal S256x1408 .bf16 := k0_pay45 i.dxob (k0_pay40 (hi i.w2)) i.aHi
def dx (i : Ins) : FVec Ideal S256x1024 .f32 := k0_pay51 i.x i.g i.dxo i.dnLo i.daHi i.dbHi (hi i.w1) (hi i.w3)
def dxb (i : Ins) : FVec Ideal S256x1024 .bf16 := k0_pay52 i.x i.g i.dxo i.dnLo i.daHi i.dbHi (hi i.w1) (hi i.w3)
def dg (i : Ins) : FVec Ideal S1x1024 .f32 := k0_pay53 i.x i.dnLo i.daHi i.dbHi (hi i.w1) (hi i.w3)

end Ins

/-! ## Of real blocks -/

/-- The blocks hold the rows `X`, the rows `T` they are compared with, and the layer's gains and weights. -/
structure Real' (n : Net) (X T : Rows 1024) (i : Ins) : Prop where
  x : R2 i.x X
  g : R1 i.g n.g
  w1 : ∀ (k : Fin 8) (j : Fin 352) d, i.w1 (ix3 k j d) = ((n.w1 d ⟨k.val * 352 + j.val, by omega⟩ : ℝ) : EReal)
  w3 : ∀ (k : Fin 8) (j : Fin 352) d, i.w3 (ix3 k j d) = ((n.w3 d ⟨k.val * 352 + j.val, by omega⟩ : ℝ) : EReal)
  w2 : ∀ (k : Fin 8) (j : Fin 352) d, i.w2 (ix3 k j d) = ((n.w2 ⟨k.val * 352 + j.val, by omega⟩ d : ℝ) : EReal)
  t : R2 i.t T
  gf : R1 i.gf n.gf

/-- The position of the first half at `f`. -/
abbrev fl (f : Fin 1408) : Fin 2816 := ⟨f.val, by omega⟩
/-- The position of the second half at `f`. -/
abbrev fh (f : Fin 1408) : Fin 2816 := ⟨1408 + f.val, by omega⟩

theorem lo_at {w : FVec Ideal S8x352x1024 .bf16} (W : Fin 2816 → Fin 1024 → ℝ)
    (h : ∀ (k : Fin 8) (j : Fin 352) d, w (ix3 k j d) = ((W ⟨k.val * 352 + j.val, by omega⟩ d : ℝ) : EReal)) :
    RW (lo w) fun f d => W (fl f) d := by
  intro f d
  have e : lo w (ix3 ⟨f.val / 352, by omega⟩ ⟨f.val % 352, by omega⟩ d) = w (ix3 ⟨f.val / 352, by omega⟩ ⟨f.val % 352, by omega⟩ d) := by
    pointwise [lo]
  rw [e, h]
  exact congrArg (fun k => ((W k d : ℝ) : EReal)) (Fin.ext (by show f.val / 352 * 352 + f.val % 352 = f.val; omega))

theorem hi_at {w : FVec Ideal S8x352x1024 .bf16} (W : Fin 2816 → Fin 1024 → ℝ)
    (h : ∀ (k : Fin 8) (j : Fin 352) d, w (ix3 k j d) = ((W ⟨k.val * 352 + j.val, by omega⟩ d : ℝ) : EReal)) :
    RW (hi w) fun f d => W (fh f) d := by
  intro f d
  have e : hi w (ix3 ⟨f.val / 352, by omega⟩ ⟨f.val % 352, by omega⟩ d) = w (ix3 ⟨4 + f.val / 352, by omega⟩ ⟨f.val % 352, by omega⟩ d) := by
    pointwise [hi]
  rw [e, h]
  exact congrArg (fun k => ((W k d : ℝ) : EReal)) (Fin.ext (by show (4 + f.val / 352) * 352 + f.val % 352 = 1408 + f.val; omega))

/-! The four blocks read back. -/

theorem ld_al (B : FVec Ideal S3x256x2816 .bf16) (r : Fin 256) (f : Fin 1408) :
    View.ld (Val := Elt Ideal) (e' := .bf16) B (Rect.unit (s := S3x256x2816) ![0, 0, 0] S1x256x1408.size inb_S3x256x2816_S1x256x1408_0_0_0) (ix3 0 r f) = B (ix3 0 r (fl f)) := by
  pointwise
theorem ld_bl (B : FVec Ideal S3x256x2816 .bf16) (r : Fin 256) (f : Fin 1408) :
    View.ld (Val := Elt Ideal) (e' := .bf16) B (Rect.unit (s := S3x256x2816) ![1, 0, 0] S1x256x1408.size inb_S3x256x2816_S1x256x1408_1_0_0) (ix3 0 r f) = B (ix3 1 r (fl f)) := by
  pointwise
theorem ld_ah (B : FVec Ideal S3x256x2816 .bf16) (r : Fin 256) (f : Fin 1408) :
    View.ld (Val := Elt Ideal) (e' := .bf16) B (Rect.unit (s := S3x256x2816) ![0, 0, 1408] S1x256x1408.size inb_S3x256x2816_S1x256x1408_0_0_1408) (ix3 0 r f) = B (ix3 0 r (fh f)) := by
  pointwise
theorem ld_bh (B : FVec Ideal S3x256x2816 .bf16) (r : Fin 256) (f : Fin 1408) :
    View.ld (Val := Elt Ideal) (e' := .bf16) B (Rect.unit (s := S3x256x2816) ![1, 0, 1408] S1x256x1408.size inb_S3x256x2816_S1x256x1408_1_0_1408) (ix3 0 r f) = B (ix3 1 r (fh f)) := by
  pointwise

/-- A stored piece read at its own index. -/
theorem piece {v : FVec Ideal S1x256x1408 .bf16} {A : Rows 1408} (h : R3 v A) (x : S1x256x1408.Idx) (r : Fin 256) (e : ℝ)
    (h1 : r.val = (x 1).val) (f : Fin 1408) (h2 : f.val = (x 2).val) (g : A r f = e) : v x = (e : EReal) := by
  have hx : x = ix3 0 r f := by
    blk_ext
  rw [hx, h, g]

variable {n : Net} {X T : Rows 1024} {i : Ins} (H : Real' n X T i)
include H

theorem nn_at : R2 i.nn fun r => n.nn (X r) := pay5_at H.x H.g
theorem hLo_at : R2 i.hLo fun r f => n.h (X r) (fl f) :=
  pay8_at H.x H.g (lo_at (fun f d => n.w1 d f) H.w1) (lo_at (fun f d => n.w3 d f) H.w3)
theorem sHi_at : R2 i.sHi fun r f => n.a (X r) (fh f) * sg (n.a (X r) (fh f)) := pay16_at (nn_at H) (hi_at (fun f d => n.w1 d f) H.w1)
theorem bHi_at : R2 i.bHi fun r f => n.b (X r) (fh f) := pay15_at (nn_at H) (hi_at (fun f d => n.w3 d f) H.w3)
theorem part_at : R2 i.part fun r d => ∑ f, n.h (X r) (fl f) * n.w2 (fl f) d := pay12_at (hLo_at H) (lo_at n.w2 H.w2)

theorem xo_at : R2 (k0_pay21 (F := Ideal) i.x i.part i.bHi i.sHi (hi i.w2)) fun r => n.xo (X r) := by
  intro r d
  refine (pay21_at (hi_at n.w2 H.w2) (bHi_at H) (sHi_at H) H.x (part_at H) r d).trans ?_
  have e := sum_halves fun k => n.h (X r) k * n.w2 k d
  exact congrArg (fun s : ℝ => ((X r d + 1 / 2 * s : ℝ) : EReal)) e

theorem rr_at : RC i.rr fun r => Cert.FfnRows.rr (n.xo (X r)) := pay22_at (xo_at H)
theorem y_at : R2 i.y fun r d => n.xo (X r) d * Cert.FfnRows.rr (n.xo (X r)) := pay23_at (xo_at H)
theorem er_at : R2 i.er fun r => n.er (X r) (T r) := pay24_at (xo_at H) H.t H.gf
theorem sq_at : R2 i.sq fun r d => n.er (X r) (T r) d * n.er (X r) (T r) d := pay25_at (xo_at H) H.t H.gf
theorem loss_at : i.loss (ix2 0 0) = ((1 / 2 * ∑ r, n.sq (X r) (T r) : ℝ) : EReal) := pay26_at (sq_at H)
theorem dxo_at : R2 i.dxo fun r => n.dxo (X r) (T r) := pay28_at H.gf (rr_at H) (y_at H) (er_at H)
theorem dxob_at : R2 i.dxob fun r => n.dxo (X r) (T r) := pay30_at H.gf (rr_at H) (y_at H) (er_at H)
theorem dgf_at : R1 i.dgf fun d => ∑ r, n.dgf (X r) (T r) d := pay29_at (y_at H) (er_at H)
theorem dhLo_at : R2 i.dhLo fun r f => n.dh (X r) (T r) (fl f) := pay31_at H.gf (rr_at H) (y_at H) (er_at H) (lo_at n.w2 H.w2)

theorem abh_at (k : Fin 3) (r : Fin 256) (f : Fin 2816) : i.abh (ix3 k r f) = ((n.abh (X r) k f : ℝ) : EReal) := by
  have p5 : R3 (k0_pay20 (F := Ideal) i.bHi i.sHi) fun r f => n.h (X r) (fh f) := pay20_at (bHi_at H) (sHi_at H)
  have p4 : R3 (k0_pay19 (F := Ideal) (k0_pay14 i.nn (hi i.w3))) fun r f => n.b (X r) (fh f) :=
    pay19_at (pay14_at (nn_at H) (hi_at (fun f d => n.w3 d f) H.w3))
  have p3 : R3 (k0_pay18 (F := Ideal) (k0_pay13 i.nn (hi i.w1))) fun r f => n.a (X r) (fh f) :=
    pay18_at (pay13_at (nn_at H) (hi_at (fun f d => n.w1 d f) H.w1))
  have p2 : R3 (k0_pay11 (F := Ideal) i.hLo) fun r f => n.h (X r) (fl f) := pay11_at (hLo_at H)
  have p1 : R3 (k0_pay10 (F := Ideal) (k0_pay7 i.x i.g (lo i.w3))) fun r f => n.b (X r) (fl f) :=
    pay10_at (pay7_at H.x H.g (lo_at (fun f d => n.w3 d f) H.w3))
  have p0 : R3 (k0_pay9 (F := Ideal) (k0_pay6 i.x i.g (lo i.w1))) fun r f => n.a (X r) (fl f) :=
    pay9_at (pay6_at H.x H.g (lo_at (fun f d => n.w1 d f) H.w1))
  unfold Ins.abh
  canon_tiles x h
  case piece0 => exact piece p5 x r _ h1 ⟨(x 2).val, x2_lt⟩ rfl (Net.abh_h (by have : k.val = 2 + (x 0).val := h0; omega) h2)
  case piece1 => exact piece p4 x r _ h1 ⟨(x 2).val, x2_lt⟩ rfl (Net.abh_b (by have : k.val = 1 + (x 0).val := h0; omega) h2)
  case piece2 => exact piece p3 x r _ h1 ⟨(x 2).val, x2_lt⟩ rfl (Net.abh_a (by have : k.val = (x 0).val := h0; omega) h2)
  case piece3 => exact piece p2 x r _ h1 ⟨(x 2).val, x2_lt⟩ rfl (Net.abh_h (by have : k.val = 2 + (x 0).val := h0; omega) h2)
  case piece4 => exact piece p1 x r _ h1 ⟨(x 2).val, x2_lt⟩ rfl (Net.abh_b (by have : k.val = 1 + (x 0).val := h0; omega) h2)
  case piece5 => exact piece p0 x r _ h1 ⟨(x 2).val, x2_lt⟩ rfl (Net.abh_a (by have : k.val = (x 0).val := h0; omega) h2)

theorem aLo_at : R3 i.aLo fun r f => n.a (X r) (fl f) := fun r f =>
  (ld_al i.abh r f).trans ((abh_at H 0 r (fl f)).trans (congrArg Real.toEReal (Net.abh_a (x := X r) (k := 0) (f := fl f) (f' := fl f) rfl rfl).symm))
theorem bLo_at : R3 i.bLo fun r f => n.b (X r) (fl f) := fun r f =>
  (ld_bl i.abh r f).trans ((abh_at H 1 r (fl f)).trans (congrArg Real.toEReal (Net.abh_b (x := X r) (k := 1) (f := fl f) (f' := fl f) rfl rfl).symm))
theorem aHi_at : R3 i.aHi fun r f => n.a (X r) (fh f) := fun r f =>
  (ld_ah i.abh r f).trans ((abh_at H 0 r (fh f)).trans (congrArg Real.toEReal (Net.abh_a (x := X r) (k := 0) (f := fh f) (f' := fh f) rfl rfl).symm))
theorem bHi'_at : R3 i.bHi' fun r f => n.b (X r) (fh f) := fun r f =>
  (ld_bh i.abh r f).trans ((abh_at H 1 r (fh f)).trans (congrArg Real.toEReal (Net.abh_b (x := X r) (k := 1) (f := fh f) (f' := fh f) rfl rfl).symm))

theorem w2Hi_at : RW (k0_pay40 (F := Ideal) (hi i.w2)) fun f d => n.w2 (fh f) d := pay40_at (hi_at n.w2 H.w2)

theorem daHi_at : R2 i.daHi fun r f => n.da (X r) (T r) (fh f) := pay44_at (dxob_at H) (w2Hi_at H) (aHi_at H) (bHi'_at H)
theorem dbHi_at : R2 i.dbHi fun r f => n.db (X r) (T r) (fh f) := pay45_at (dxob_at H) (w2Hi_at H) (aHi_at H)

theorem dab_at (k : Fin 2) (r : Fin 256) (f : Fin 2816) : i.dab (ix3 k r f) = ((n.dab (X r) (T r) k f : ℝ) : EReal) := by
  have p3 : R3 (k0_pay47 (F := Ideal) i.dxob (k0_pay40 (hi i.w2)) i.aHi) fun r f => n.db (X r) (T r) (fh f) :=
    pay47_at (dxob_at H) (w2Hi_at H) (aHi_at H)
  have p2 : R3 (k0_pay46 (F := Ideal) i.dxob (k0_pay40 (hi i.w2)) i.aHi i.bHi') fun r f => n.da (X r) (T r) (fh f) :=
    pay46_at (dxob_at H) (w2Hi_at H) (aHi_at H) (bHi'_at H)
  have p1 : R3 (k0_pay38 (F := Ideal) i.dhLo (k0_pay32 i.aLo)) fun r f => n.db (X r) (T r) (fl f) :=
    pay38_at (dhLo_at H) (pay32_at (aLo_at H))
  have p0 : R3 (k0_pay37 (F := Ideal) i.dhLo (k0_pay32 i.aLo) (k0_pay33 i.bLo)) fun r f => n.da (X r) (T r) (fl f) :=
    pay37_at (dhLo_at H) (pay32_at (aLo_at H)) (pay33_at (bLo_at H))
  unfold Ins.dab
  canon_tiles x h
  case piece0 => exact piece p3 x r _ h1 ⟨(x 2).val, x2_lt⟩ rfl (Net.dab_b (by have : k.val = 1 + (x 0).val := h0; omega) h2)
  case piece1 => exact piece p2 x r _ h1 ⟨(x 2).val, x2_lt⟩ rfl (Net.dab_a (by have : k.val = (x 0).val := h0; omega) h2)
  case piece2 => exact piece p1 x r _ h1 ⟨(x 2).val, x2_lt⟩ rfl (Net.dab_b (by have : k.val = 1 + (x 0).val := h0; omega) h2)
  case piece3 => exact piece p0 x r _ h1 ⟨(x 2).val, x2_lt⟩ rfl (Net.dab_a (by have : k.val = (x 0).val := h0; omega) h2)

theorem dnLo_at : R2 i.dnLo fun r d => (∑ f, n.da (X r) (T r) (fl f) * n.w1 d (fl f)) + ∑ f, n.db (X r) (T r) (fl f) * n.w3 d (fl f) :=
  pay39_at (dhLo_at H) (pay32_at (aLo_at H)) (pay33_at (bLo_at H)) (lo_at (fun f d => n.w1 d f) H.w1) (lo_at (fun f d => n.w3 d f) H.w3)

omit H in
/-- The gradient of a normalised row, by the halves of the hidden positions. -/
theorem dn_halves (n : Net) (x t : Fin 1024 → ℝ) (d : Fin 1024) :
    ((∑ f : Fin 1408, n.da x t (fl f) * n.w1 d (fl f)) + ∑ f : Fin 1408, n.db x t (fl f) * n.w3 d (fl f))
      + ((∑ f : Fin 1408, n.da x t (fh f) * n.w1 d (fh f)) + ∑ f : Fin 1408, n.db x t (fh f) * n.w3 d (fh f)) = n.dn x t d := by
  rw [add_add_add_comm]
  exact congrArg₂ (· + ·) (sum_halves fun k => n.da x t k * n.w1 d k) (sum_halves fun k => n.db x t k * n.w3 d k)

theorem dx_at : R2 i.dx fun r => n.dx (X r) (T r) := by
  intro r d
  refine (pay51_at (dnLo_at H) (daHi_at H) (dbHi_at H) (hi_at (fun f d => n.w1 d f) H.w1) (hi_at (fun f d => n.w3 d f) H.w3) H.x H.g (dxo_at H) r d).trans ?_
  have e := funext (dn_halves n (X r) (T r))
  exact congrArg (fun u => ((n.dxo (X r) (T r) d + bwd (X r) n.g u d : ℝ) : EReal)) e
theorem dxb_at : R2 i.dxb fun r => n.dx (X r) (T r) := by
  intro r d
  refine (pay52_at (dnLo_at H) (daHi_at H) (dbHi_at H) (hi_at (fun f d => n.w1 d f) H.w1) (hi_at (fun f d => n.w3 d f) H.w3) H.x H.g (dxo_at H) r d).trans ?_
  have e := funext (dn_halves n (X r) (T r))
  exact congrArg (fun u => ((n.dxo (X r) (T r) d + bwd (X r) n.g u d : ℝ) : EReal)) e
theorem dg_at : R1 i.dg fun d => ∑ r, n.dg (X r) (T r) d := by
  intro d
  refine (pay53_at (dnLo_at H) (daHi_at H) (dbHi_at H) (hi_at (fun f d => n.w1 d f) H.w1) (hi_at (fun f d => n.w3 d f) H.w3) H.x d).trans ?_
  refine congrArg _ (Finset.sum_congr rfl fun r _ => ?_)
  have e := dn_halves n (X r) (T r) d
  exact congrArg (· * (X r d * Cert.FfnRows.rr (X r))) e

end Cert.FfnIdeal.Tile

end
-- ==== Proof.FfnBlocks.lean ====
/-
  What the last feed-forward layer's kernel reads, of real arguments: the weights as the host operations pack them, and the
  blocks of one point of the grid, which is a tile of 256 rows.
-/
module

public import proofs.«01_k».proof.Proof.FfnTile
public import Idealize.ShloMosaic.Lib.StableHlo.RunRead

@[expose] public section

set_option maxRecDepth 16384

noncomputable section

namespace Cert.FfnIdeal.Blocks

open Cert.FfnIdeal Cert.FfnIdeal.Gen Cert.FfnIdeal.Pay Cert.FfnIdeal.Tile Cert.FfnRows
open Idealize.ShloMosaic Idealize.ShloMosaic.TcCoe Idealize.SL.Sem
open Idealize.ShloMosaic.Pipeline (Dat)
open scoped BigOperators

/-! ## The packed weights -/

/-- The three weights, the first two transposed, cut into eight shards and laid side by side shard by shard. -/
def packed (A B : FVec Ideal S1024x2816 .f32) (C : FVec Ideal S2816x1024 .f32) : FVec Ideal S8x1056x1024 .bf16 :=
  truncf .bf16 (concatenate (α := Ideal .f32) S8x1056x1024 1 [⟨S8x352x1024, shapeCast S8x352x1024 (transpose S2816x1024 [1, 0] A transposes_S1024x2816_S2816x1024_1_0) shapeCasts_S2816x1024_S8x352x1024⟩,
    ⟨S8x352x1024, shapeCast S8x352x1024 (transpose S2816x1024 [1, 0] B transposes_S1024x2816_S2816x1024_1_0) shapeCasts_S2816x1024_S8x352x1024⟩,
    ⟨S8x352x1024, shapeCast S8x352x1024 C shapeCasts_S2816x1024_S8x352x1024⟩] concatenates_S8x352x1024_S8x352x1024_S8x352x1024_S8x1056x1024_d1) bitsLt_bf16_f32

section
variable (A B : FVec Ideal S1024x2816 .f32) (C : FVec Ideal S2816x1024 .f32) (k : Fin 8) (j : Fin 352) (d : Fin 1024)

theorem packed_first : packed A B C (ix3 k ⟨j.val, by omega⟩ d) = A (ix2 d ⟨k.val * 352 + j.val, by omega⟩) := by
  pointwise [packed]
theorem packed_second : packed A B C (ix3 k ⟨352 + j.val, by omega⟩ d) = B (ix2 d ⟨k.val * 352 + j.val, by omega⟩) := by
  pointwise [packed]
theorem packed_third : packed A B C (ix3 k ⟨704 + j.val, by omega⟩ d) = C (ix2 ⟨k.val * 352 + j.val, by omega⟩ d) := by
  pointwise [packed]
  have e : 704 + j.val - 352 - 352 = j.val := by omega
  rw [dif_neg (by omega), dif_neg (by omega)]
  simp only [e]
end

variable (m : (ℓ : Loc nD τ sig) → Buf (Elt Ideal) ℓ) (c : Dev nD)

/-- What the array of the packed weights holds when the kernel starts. -/
theorem v6 : V m c main_v6 = packed (m ((c.tc : Thread nD τ).loc main_arg2)) (m ((c.tc : Thread nD τ).loc main_arg3)) (m ((c.tc : Thread nD τ).loc main_arg4)) := by
  show StableHlo.after hostOps0 (fun b => m (c, b)) (Proc.devRef .tc main_v6) = _
  after_reads_simp
  rfl

/-- The program's arguments are real arrays. -/
structure RealArgs (n : Net) (x t : Fin 4096 → Fin 1024 → ℝ) : Prop where
  a0 : ∀ i d, (m ((c.tc : Thread nD τ).loc main_arg0) : FVec Ideal S4096x1024 .f32) (ix2 i d) = ((x i d : ℝ) : EReal)
  a1 : ∀ d, (m ((c.tc : Thread nD τ).loc main_arg1) : FVec Ideal S1x1024 .f32) (ix2 0 d) = ((n.g d : ℝ) : EReal)
  a2 : ∀ d f, (m ((c.tc : Thread nD τ).loc main_arg2) : FVec Ideal S1024x2816 .f32) (ix2 d f) = ((n.w1 d f : ℝ) : EReal)
  a3 : ∀ d f, (m ((c.tc : Thread nD τ).loc main_arg3) : FVec Ideal S1024x2816 .f32) (ix2 d f) = ((n.w3 d f : ℝ) : EReal)
  a4 : ∀ f d, (m ((c.tc : Thread nD τ).loc main_arg4) : FVec Ideal S2816x1024 .f32) (ix2 f d) = ((n.w2 f d : ℝ) : EReal)
  a5 : ∀ i d, (m ((c.tc : Thread nD τ).loc main_arg5) : FVec Ideal S4096x1024 .f32) (ix2 i d) = ((t i d : ℝ) : EReal)
  a6 : ∀ d, (m ((c.tc : Thread nD τ).loc main_arg6) : FVec Ideal S1x1024 .f32) (ix2 0 d) = ((n.gf d : ℝ) : EReal)

/-! ## The blocks of a point -/

/-- The row of the layer at row `r` of a point's tile. -/
def row (t : Fin cfg0.N) (r : Fin 256) : Fin 4096 := ⟨t.val * 256 + r.val, by have := lt_of_lt_of_eq t.isLt N_0; omega⟩

theorem idx : ∀ t : Fin cfg0.N, win0_0.index t = ![t.val, 0] ∧ win0_1.index t = ![0, 0] ∧ win0_2.index t = ![0, 0, 0]
    ∧ win0_3.index t = ![0, 1, 0] ∧ win0_4.index t = ![0, 2, 0] ∧ win0_5.index t = ![t.val, 0] ∧ win0_6.index t = ![0, 0] :=
  (by decide +kernel : ∀ t : Fin grid0.N, _)

/-- The blocks a point reads. -/
def ins (t : Fin cfg0.N) : Ins := ⟨iblk m c 0 t, iblk m c 1 t, iblk m c 2 t, iblk m c 3 t, iblk m c 4 t, iblk m c 5 t, iblk m c 6 t⟩

variable {m c} {n : Net} {x y : Fin 4096 → Fin 1024 → ℝ} (H : RealArgs m c n x y) (t : Fin cfg0.N)
include H

theorem b0 (r : Fin 256) (d : Fin 1024) : (iblk m c 0 t : FVec Ideal S256x1024 .f32) (ix2 r d) = ((x (row t r) d : ℝ) : EReal) := by
  have ht := lt_of_lt_of_eq t.isLt N_0
  refine Eq.trans (b := (V m c main_arg0 : FVec Ideal S4096x1024 .f32) (ix2 (row t r) d)) ?_ ?_
  · blk_ext [iblk, idx t, row]
  · rw [V_main_arg0]
    exact H.a0 _ _
theorem b1 (d : Fin 1024) : (iblk m c 1 t : FVec Ideal S1x1024 .f32) (ix2 0 d) = ((n.g d : ℝ) : EReal) := by
  have ht := lt_of_lt_of_eq t.isLt N_0
  refine Eq.trans (b := (V m c main_arg1 : FVec Ideal S1x1024 .f32) (ix2 0 d)) ?_ ?_
  · blk_ext [iblk, idx t, row]
  · rw [V_main_arg1]
    exact H.a1 _
theorem b2 (k : Fin 8) (j : Fin 352) (d : Fin 1024) : (iblk m c 2 t : FVec Ideal S8x352x1024 .bf16) (ix3 k j d) = ((n.w1 d ⟨k.val * 352 + j.val, by omega⟩ : ℝ) : EReal) := by
  have ht := lt_of_lt_of_eq t.isLt N_0
  refine Eq.trans (b := (V m c main_v6 : FVec Ideal S8x1056x1024 .bf16) (ix3 k ⟨j.val, by omega⟩ d)) ?_ ?_
  · blk_ext [iblk, idx t, row]
  · rw [v6, packed_first]
    exact H.a2 _ _
theorem b3 (k : Fin 8) (j : Fin 352) (d : Fin 1024) : (iblk m c 3 t : FVec Ideal S8x352x1024 .bf16) (ix3 k j d) = ((n.w3 d ⟨k.val * 352 + j.val, by omega⟩ : ℝ) : EReal) := by
  have ht := lt_of_lt_of_eq t.isLt N_0
  refine Eq.trans (b := (V m c main_v6 : FVec Ideal S8x1056x1024 .bf16) (ix3 k ⟨352 + j.val, by omega⟩ d)) ?_ ?_
  · blk_ext [iblk, idx t, row]
  · rw [v6, packed_second]
    exact H.a3 _ _
theorem b4 (k : Fin 8) (j : Fin 352) (d : Fin 1024) : (iblk m c 4 t : FVec Ideal S8x352x1024 .bf16) (ix3 k j d) = ((n.w2 ⟨k.val * 352 + j.val, by omega⟩ d : ℝ) : EReal) := by
  have ht := lt_of_lt_of_eq t.isLt N_0
  refine Eq.trans (b := (V m c main_v6 : FVec Ideal S8x1056x1024 .bf16) (ix3 k ⟨704 + j.val, by omega⟩ d)) ?_ ?_
  · blk_ext [iblk, idx t, row]
  · rw [v6, packed_third]
    exact H.a4 _ _
theorem b5 (r : Fin 256) (d : Fin 1024) : (iblk m c 5 t : FVec Ideal S256x1024 .f32) (ix2 r d) = ((y (row t r) d : ℝ) : EReal) := by
  have ht := lt_of_lt_of_eq t.isLt N_0
  refine Eq.trans (b := (V m c main_arg5 : FVec Ideal S4096x1024 .f32) (ix2 (row t r) d)) ?_ ?_
  · blk_ext [iblk, idx t, row]
  · rw [V_main_arg5]
    exact H.a5 _ _
theorem b6 (d : Fin 1024) : (iblk m c 6 t : FVec Ideal S1x1024 .f32) (ix2 0 d) = ((n.gf d : ℝ) : EReal) := by
  have ht := lt_of_lt_of_eq t.isLt N_0
  refine Eq.trans (b := (V m c main_arg6 : FVec Ideal S1x1024 .f32) (ix2 0 d)) ?_ ?_
  · blk_ext [iblk, idx t, row]
  · rw [V_main_arg6]
    exact H.a6 _

/-- The blocks of a point hold the rows of its tile and the whole weights. -/
theorem ins_at : Real' n (fun r => x (row t r)) (fun r => y (row t r)) (ins m c t) := ⟨b0 H t, b1 H t, b2 H t, b3 H t, b4 H t, b5 H t, b6 H t⟩

end Cert.FfnIdeal.Blocks

end
-- ==== Proof.FfnFinal.lean ====
/-
  The nine results of the last feed-forward layer's kernel, of real arguments.
-/
module

public import proofs.«01_k».proof.Proof.FfnBlocks

@[expose] public section

set_option maxRecDepth 16384

noncomputable section

namespace Cert.FfnIdeal.Final

open Cert.FfnIdeal Cert.FfnIdeal.Gen Cert.FfnIdeal.Pay Cert.FfnIdeal.Tile Cert.FfnIdeal.Blocks Cert.FfnRows Cert.Softmax
open Idealize.ShloMosaic Idealize.ShloMosaic.TcCoe Idealize.SL.Sem
open Idealize.ShloMosaic.Pipeline (Dat)
open scoped BigOperators

variable {m : (ℓ : Loc nD τ sig) → Buf (Elt Ideal) ℓ} {c : Dev nD}

/-- The first point of the grid is the only one at which the accumulators start. -/
theorem not_first {t : Fin cfg0.N} (h : t.val % 16 = 0) : ¬1 ≤ t.val := by
  have ht := lt_of_lt_of_eq t.isLt N_0
  omega
theorem later {t : Fin cfg0.N} (h : ¬t.val % 16 = 0) : 1 ≤ t.val := by omega

/-! ## The printed values of a point, by name -/

section
variable (t : Fin cfg0.N)

theorem f_nn : k0_pay5 (F := Ideal) (iblk m c 0 t) (iblk m c 1 t) = (ins m c t).nn := rfl
theorem f_hLo : k0_pay8 (F := Ideal) (iblk m c 0 t) (iblk m c 1 t) (View.ld (Val := Elt Ideal) (S := S8x352x1024) (e' := .bf16) (iblk m c 2 t) (Rect.unit (s := S8x352x1024) ![0, 0, 0] ![4, 352, 1024] inb_S8x352x1024_S4x352x1024_0_0_0)) (View.ld (Val := Elt Ideal) (S := S8x352x1024) (e' := .bf16) (iblk m c 3 t) (Rect.unit (s := S8x352x1024) ![0, 0, 0] ![4, 352, 1024] inb_S8x352x1024_S4x352x1024_0_0_0)) = (ins m c t).hLo := rfl
theorem f_sHi : k0_pay16 (F := Ideal) (ins m c t).nn (View.ld (Val := Elt Ideal) (S := S8x352x1024) (e' := .bf16) (iblk m c 2 t) (Rect.unit (s := S8x352x1024) ![4, 0, 0] ![4, 352, 1024] inb_S8x352x1024_S4x352x1024_4_0_0)) = (ins m c t).sHi := rfl
theorem f_bHi : k0_pay15 (F := Ideal) (ins m c t).nn (View.ld (Val := Elt Ideal) (S := S8x352x1024) (e' := .bf16) (iblk m c 3 t) (Rect.unit (s := S8x352x1024) ![4, 0, 0] ![4, 352, 1024] inb_S8x352x1024_S4x352x1024_4_0_0)) = (ins m c t).bHi := rfl
theorem f_part : k0_pay12 (F := Ideal) (ins m c t).hLo (View.ld (Val := Elt Ideal) (S := S8x352x1024) (e' := .bf16) (iblk m c 4 t) (Rect.unit (s := S8x352x1024) ![0, 0, 0] ![4, 352, 1024] inb_S8x352x1024_S4x352x1024_0_0_0)) = (ins m c t).part := rfl
theorem f_rr : k0_pay22 (F := Ideal) (iblk m c 0 t) (ins m c t).part (ins m c t).bHi (ins m c t).sHi (View.ld (Val := Elt Ideal) (S := S8x352x1024) (e' := .bf16) (iblk m c 4 t) (Rect.unit (s := S8x352x1024) ![4, 0, 0] ![4, 352, 1024] inb_S8x352x1024_S4x352x1024_4_0_0)) = (ins m c t).rr := rfl
theorem f_y : k0_pay23 (F := Ideal) (iblk m c 0 t) (ins m c t).part (ins m c t).bHi (ins m c t).sHi (View.ld (Val := Elt Ideal) (S := S8x352x1024) (e' := .bf16) (iblk m c 4 t) (Rect.unit (s := S8x352x1024) ![4, 0, 0] ![4, 352, 1024] inb_S8x352x1024_S4x352x1024_4_0_0)) = (ins m c t).y := rfl
theorem f_er : k0_pay24 (F := Ideal) (iblk m c 0 t) (ins m c t).part (ins m c t).bHi (ins m c t).sHi (View.ld (Val := Elt Ideal) (S := S8x352x1024) (e' := .bf16) (iblk m c 4 t) (Rect.unit (s := S8x352x1024) ![4, 0, 0] ![4, 352, 1024] inb_S8x352x1024_S4x352x1024_4_0_0)) (iblk m c 5 t) (iblk m c 6 t) = (ins m c t).er := rfl
theorem f_sq : k0_pay25 (F := Ideal) (iblk m c 0 t) (ins m c t).part (ins m c t).bHi (ins m c t).sHi (View.ld (Val := Elt Ideal) (S := S8x352x1024) (e' := .bf16) (iblk m c 4 t) (Rect.unit (s := S8x352x1024) ![4, 0, 0] ![4, 352, 1024] inb_S8x352x1024_S4x352x1024_4_0_0)) (iblk m c 5 t) (iblk m c 6 t) = (ins m c t).sq := rfl
theorem f_loss : k0_pay26 (F := Ideal) (ins m c t).sq = (ins m c t).loss := rfl
theorem f_dxo : k0_pay28 (F := Ideal) (iblk m c 6 t) (ins m c t).rr (ins m c t).y (ins m c t).er = (ins m c t).dxo := rfl
theorem f_dgf : k0_pay29 (F := Ideal) (ins m c t).y (ins m c t).er = (ins m c t).dgf := rfl
theorem f_dxob : k0_pay30 (F := Ideal) (iblk m c 6 t) (ins m c t).rr (ins m c t).y (ins m c t).er = (ins m c t).dxob := rfl
theorem f_dhLo : k0_pay31 (F := Ideal) (iblk m c 6 t) (ins m c t).rr (ins m c t).y (ins m c t).er (View.ld (Val := Elt Ideal) (S := S8x352x1024) (e' := .bf16) (iblk m c 4 t) (Rect.unit (s := S8x352x1024) ![0, 0, 0] ![4, 352, 1024] inb_S8x352x1024_S4x352x1024_0_0_0)) = (ins m c t).dhLo := rfl
theorem f_dnLo : k0_pay39 (F := Ideal) (ins m c t).dhLo (k0_pay32 (ins m c t).aLo) (k0_pay33 (ins m c t).bLo) (View.ld (Val := Elt Ideal) (S := S8x352x1024) (e' := .bf16) (iblk m c 2 t) (Rect.unit (s := S8x352x1024) ![0, 0, 0] ![4, 352, 1024] inb_S8x352x1024_S4x352x1024_0_0_0)) (View.ld (Val := Elt Ideal) (S := S8x352x1024) (e' := .bf16) (iblk m c 3 t) (Rect.unit (s := S8x352x1024) ![0, 0, 0] ![4, 352, 1024] inb_S8x352x1024_S4x352x1024_0_0_0)) = (ins m c t).dnLo := rfl
theorem f_daHi : k0_pay44 (F := Ideal) (ins m c t).dxob (k0_pay40 (View.ld (Val := Elt Ideal) (S := S8x352x1024) (e' := .bf16) (iblk m c 4 t) (Rect.unit (s := S8x352x1024) ![4, 0, 0] ![4, 352, 1024] inb_S8x352x1024_S4x352x1024_4_0_0))) (ins m c t).aHi (ins m c t).bHi' = (ins m c t).daHi := rfl
theorem f_dbHi : k0_pay45 (F := Ideal) (ins m c t).dxob (k0_pay40 (View.ld (Val := Elt Ideal) (S := S8x352x1024) (e' := .bf16) (iblk m c 4 t) (Rect.unit (s := S8x352x1024) ![4, 0, 0] ![4, 352, 1024] inb_S8x352x1024_S4x352x1024_4_0_0))) (ins m c t).aHi = (ins m c t).dbHi := rfl
theorem f_dx : k0_pay51 (F := Ideal) (iblk m c 0 t) (iblk m c 1 t) (ins m c t).dxo (ins m c t).dnLo (ins m c t).daHi (ins m c t).dbHi (View.ld (Val := Elt Ideal) (S := S8x352x1024) (e' := .bf16) (iblk m c 2 t) (Rect.unit (s := S8x352x1024) ![4, 0, 0] ![4, 352, 1024] inb_S8x352x1024_S4x352x1024_4_0_0)) (View.ld (Val := Elt Ideal) (S := S8x352x1024) (e' := .bf16) (iblk m c 3 t) (Rect.unit (s := S8x352x1024) ![4, 0, 0] ![4, 352, 1024] inb_S8x352x1024_S4x352x1024_4_0_0)) = (ins m c t).dx := rfl
theorem f_dxb : k0_pay52 (F := Ideal) (iblk m c 0 t) (iblk m c 1 t) (ins m c t).dxo (ins m c t).dnLo (ins m c t).daHi (ins m c t).dbHi (View.ld (Val := Elt Ideal) (S := S8x352x1024) (e' := .bf16) (iblk m c 2 t) (Rect.unit (s := S8x352x1024) ![4, 0, 0] ![4, 352, 1024] inb_S8x352x1024_S4x352x1024_4_0_0)) (View.ld (Val := Elt Ideal) (S := S8x352x1024) (e' := .bf16) (iblk m c 3 t) (Rect.unit (s := S8x352x1024) ![4, 0, 0] ![4, 352, 1024] inb_S8x352x1024_S4x352x1024_4_0_0)) = (ins m c t).dxb := rfl
theorem f_dg : k0_pay53 (F := Ideal) (iblk m c 0 t) (ins m c t).dnLo (ins m c t).daHi (ins m c t).dbHi (View.ld (Val := Elt Ideal) (S := S8x352x1024) (e' := .bf16) (iblk m c 2 t) (Rect.unit (s := S8x352x1024) ![4, 0, 0] ![4, 352, 1024] inb_S8x352x1024_S4x352x1024_4_0_0)) (View.ld (Val := Elt Ideal) (S := S8x352x1024) (e' := .bf16) (iblk m c 3 t) (Rect.unit (s := S8x352x1024) ![4, 0, 0] ![4, 352, 1024] inb_S8x352x1024_S4x352x1024_4_0_0)) = (ins m c t).dg := rfl

/-- The pieces of the block of hidden rows, the last stored first. -/
abbrev pieces : List (View.Piece (Elt Ideal) S3x256x2816 .bf16) :=
  [⟨Rect.unit (s := S3x256x2816) ![2, 0, 1408] ![1, 256, 1408] inb_S3x256x2816_S1x256x1408_2_0_1408, k0_pay20 (F := Ideal) (ins m c t).bHi (ins m c t).sHi⟩,
    ⟨Rect.unit (s := S3x256x2816) ![1, 0, 1408] ![1, 256, 1408] inb_S3x256x2816_S1x256x1408_1_0_1408, k0_pay19 (F := Ideal) (k0_pay14 (ins m c t).nn (View.ld (Val := Elt Ideal) (S := S8x352x1024) (e' := .bf16) (iblk m c 3 t) (Rect.unit (s := S8x352x1024) ![4, 0, 0] ![4, 352, 1024] inb_S8x352x1024_S4x352x1024_4_0_0)))⟩,
    ⟨Rect.unit (s := S3x256x2816) ![0, 0, 1408] ![1, 256, 1408] inb_S3x256x2816_S1x256x1408_0_0_1408, k0_pay18 (F := Ideal) (k0_pay13 (ins m c t).nn (View.ld (Val := Elt Ideal) (S := S8x352x1024) (e' := .bf16) (iblk m c 2 t) (Rect.unit (s := S8x352x1024) ![4, 0, 0] ![4, 352, 1024] inb_S8x352x1024_S4x352x1024_4_0_0)))⟩,
    ⟨Rect.unit (s := S3x256x2816) ![2, 0, 0] ![1, 256, 1408] inb_S3x256x2816_S1x256x1408_2_0_0, k0_pay11 (F := Ideal) (ins m c t).hLo⟩,
    ⟨Rect.unit (s := S3x256x2816) ![1, 0, 0] ![1, 256, 1408] inb_S3x256x2816_S1x256x1408_1_0_0, k0_pay10 (F := Ideal) (k0_pay7 (iblk m c 0 t) (iblk m c 1 t) (View.ld (Val := Elt Ideal) (S := S8x352x1024) (e' := .bf16) (iblk m c 3 t) (Rect.unit (s := S8x352x1024) ![0, 0, 0] ![4, 352, 1024] inb_S8x352x1024_S4x352x1024_0_0_0)))⟩,
    ⟨Rect.unit (s := S3x256x2816) ![0, 0, 0] ![1, 256, 1408] inb_S3x256x2816_S1x256x1408_0_0_0, k0_pay9 (F := Ideal) (k0_pay6 (iblk m c 0 t) (iblk m c 1 t) (View.ld (Val := Elt Ideal) (S := S8x352x1024) (e' := .bf16) (iblk m c 2 t) (Rect.unit (s := S8x352x1024) ![0, 0, 0] ![4, 352, 1024] inb_S8x352x1024_S4x352x1024_0_0_0)))⟩]

variable {κ : Kind} {sp : Space} (v : View sig κ sp S3x256x2816 .bf16)
theorem f_aLo : v.readCov (pieces t (m := m) (c := c)) (Rect.unit (s := S3x256x2816) ![0, 0, 0] ![1, 256, 1408] inb_S3x256x2816_S1x256x1408_0_0_0).toLoadRect = (ins m c t).aLo := View.readCov_eq_canon' ..
theorem f_bLo : v.readCov (pieces t (m := m) (c := c)) (Rect.unit (s := S3x256x2816) ![1, 0, 0] ![1, 256, 1408] inb_S3x256x2816_S1x256x1408_1_0_0).toLoadRect = (ins m c t).bLo := View.readCov_eq_canon' ..
theorem f_aHi : v.readCov (pieces t (m := m) (c := c)) (Rect.unit (s := S3x256x2816) ![0, 0, 1408] ![1, 256, 1408] inb_S3x256x2816_S1x256x1408_0_0_1408).toLoadRect = (ins m c t).aHi := View.readCov_eq_canon' ..
theorem f_bHi' : v.readCov (pieces t (m := m) (c := c)) (Rect.unit (s := S3x256x2816) ![1, 0, 1408] ![1, 256, 1408] inb_S3x256x2816_S1x256x1408_1_0_1408).toLoadRect = (ins m c t).bHi' := View.readCov_eq_canon' ..
end

/-! ## What a point leaves in each block -/

theorem o7 (t : Fin cfg0.N) : (outsAt0 m c t.val t.isLt).1 = (ins m c t).nn := by
  obtain ⟨R, hR⟩ : ∃ R, R = (ins m c t).nn := ⟨_, rfl⟩
  rw [← hR]
  by_cases h : t.val % 16 = 0
  · rw [outsAt0_A m c t h (not_first h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]
  · rw [outsAt0_B m c t h (later h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]

theorem o8 (t : Fin cfg0.N) : (outsAt0 m c t.val t.isLt).2.1 = (ins m c t).abh := by
  obtain ⟨R, hR⟩ : ∃ R, R = (ins m c t).abh := ⟨_, rfl⟩
  rw [← hR]
  by_cases h : t.val % 16 = 0
  · rw [outsAt0_A m c t h (not_first h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; rfl
  · rw [outsAt0_B m c t h (later h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; rfl

theorem o9 (t : Fin cfg0.N) : (outsAt0 m c t.val t.isLt).2.2.1 = (ins m c t).dxob := by
  obtain ⟨R, hR⟩ : ∃ R, R = (ins m c t).dxob := ⟨_, rfl⟩
  rw [← hR]
  by_cases h : t.val % 16 = 0
  · rw [outsAt0_A m c t h (not_first h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]
  · rw [outsAt0_B m c t h (later h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]

theorem o10 (t : Fin cfg0.N) : (outsAt0 m c t.val t.isLt).2.2.2.1 = (ins m c t).dab := by
  obtain ⟨R, hR⟩ : ∃ R, R = (ins m c t).dab := ⟨_, rfl⟩
  rw [← hR]
  by_cases h : t.val % 16 = 0
  · rw [outsAt0_A m c t h (not_first h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; rfl
  · rw [outsAt0_B m c t h (later h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; rfl

theorem o11 (t : Fin cfg0.N) : (outsAt0 m c t.val t.isLt).2.2.2.2.1 = (ins m c t).dx := by
  obtain ⟨R, hR⟩ : ∃ R, R = (ins m c t).dx := ⟨_, rfl⟩
  rw [← hR]
  by_cases h : t.val % 16 = 0
  · rw [outsAt0_A m c t h (not_first h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]
  · rw [outsAt0_B m c t h (later h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]

theorem o12 (t : Fin cfg0.N) : (outsAt0 m c t.val t.isLt).2.2.2.2.2.1 = (ins m c t).dxb := by
  obtain ⟨R, hR⟩ : ∃ R, R = (ins m c t).dxb := ⟨_, rfl⟩
  rw [← hR]
  by_cases h : t.val % 16 = 0
  · rw [outsAt0_A m c t h (not_first h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]
  · rw [outsAt0_B m c t h (later h)]; frame_out; rw [hR]; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]

theorem idx7 : ∀ t : Fin cfg0.N, win0_7.index t = ![t.val, 0] := (by decide +kernel : ∀ t : Fin grid0.N, _)
theorem idx8 : ∀ t : Fin cfg0.N, win0_8.index t = ![0, t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)

variable {n : Net} {x y : Fin 4096 → Fin 1024 → ℝ}

/-! ## The results each point writes a tile of -/

/-- The normalised rows. -/
theorem final7 (H : RealArgs m c n x y) (G : FVec Ideal S4096x1024 .bf16) (hG : ∀ i d, G (ix2 i d) = ((n.nn (x i) d : ℝ) : EReal)) :
    (dats m 0 c).arrAt 7 cfg0.N = G := by
  refine (dats m 0 c).arrAt_eq_of_covers 7 _ (by decide +kernel) fun t hf z => ?_
  blk_simp
  rw [after0_7, o7]
  obtain ⟨r, d, rfl⟩ : ∃ (r : Fin 256) (d : Fin 1024), z = ix2 r d := ⟨z 0, z 1, by blk_ext⟩
  have ht := lt_of_lt_of_eq t.isLt N_0
  have e : (win0_7.blk t).view.emb (ix2 r d) = ix2 (row t r) d := by blk_ext [idx7 t, row]
  rw [e, hG]
  exact nn_at (ins_at H t) r d

/-- The gate's argument, the gated value and the hidden rows. -/
theorem final8 (H : RealArgs m c n x y) (G : FVec Ideal S3x4096x2816 .bf16) (hG : ∀ k i f, G (ix3 k i f) = ((n.abh (x i) k f : ℝ) : EReal)) :
    (dats m 0 c).arrAt 8 cfg0.N = G := by
  refine (dats m 0 c).arrAt_eq_of_covers 8 _ (by decide +kernel) fun t hf z => ?_
  blk_simp
  rw [after0_8, o8]
  obtain ⟨k, r, f, rfl⟩ : ∃ (k : Fin 3) (r : Fin 256) (f : Fin 2816), z = ix3 k r f := ⟨z 0, z 1, z 2, by blk_ext⟩
  have ht := lt_of_lt_of_eq t.isLt N_0
  have e : (win0_8.blk t).view.emb (ix3 k r f) = ix3 k (row t r) f := by blk_ext [idx8 t, row]
  rw [e, hG]
  exact abh_at (ins_at H t) k r f

/-- The gradient of the layer's output. -/
theorem final9 (H : RealArgs m c n x y) (G : FVec Ideal S4096x1024 .bf16) (hG : ∀ i d, G (ix2 i d) = ((n.dxo (x i) (y i) d : ℝ) : EReal)) :
    (dats m 0 c).arrAt 9 cfg0.N = G := by
  refine (dats m 0 c).arrAt_eq_of_covers 9 _ (by decide +kernel) fun t hf z => ?_
  blk_simp
  rw [after0_9, o9]
  obtain ⟨r, d, rfl⟩ : ∃ (r : Fin 256) (d : Fin 1024), z = ix2 r d := ⟨z 0, z 1, by blk_ext⟩
  have ht := lt_of_lt_of_eq t.isLt N_0
  have e : (win0_9.blk t).view.emb (ix2 r d) = ix2 (row t r) d := by blk_ext [idx9 t, row]
  rw [e, hG]
  exact dxob_at (ins_at H t) r d

/-- The gradients of the gate's argument and of the gated value. -/
theorem final10 (H : RealArgs m c n x y) (G : FVec Ideal S2x4096x2816 .bf16) (hG : ∀ k i f, G (ix3 k i f) = ((n.dab (x i) (y i) k f : ℝ) : EReal)) :
    (dats m 0 c).arrAt 10 cfg0.N = G := by
  refine (dats m 0 c).arrAt_eq_of_covers 10 _ (by decide +kernel) fun t hf z => ?_
  blk_simp
  rw [after0_10, o10]
  obtain ⟨k, r, f, rfl⟩ : ∃ (k : Fin 2) (r : Fin 256) (f : Fin 2816), z = ix3 k r f := ⟨z 0, z 1, z 2, by blk_ext⟩
  have ht := lt_of_lt_of_eq t.isLt N_0
  have e : (win0_10.blk t).view.emb (ix3 k r f) = ix3 k (row t r) f := by blk_ext [idx10 t, row]
  rw [e, hG]
  exact dab_at (ins_at H t) k r f

/-- The gradient of the layer's input. -/
theorem final11 (H : RealArgs m c n x y) (G : FVec Ideal S4096x1024 .f32) (hG : ∀ i d, G (ix2 i d) = ((n.dx (x i) (y i) d : ℝ) : EReal)) :
    (dats m 0 c).arrAt 11 cfg0.N = G := by
  refine (dats m 0 c).arrAt_eq_of_covers 11 _ (by decide +kernel) fun t hf z => ?_
  blk_simp
  rw [after0_11, o11]
  obtain ⟨r, d, rfl⟩ : ∃ (r : Fin 256) (d : Fin 1024), z = ix2 r d := ⟨z 0, z 1, by blk_ext⟩
  have ht := lt_of_lt_of_eq t.isLt N_0
  have e : (win0_11.blk t).view.emb (ix2 r d) = ix2 (row t r) d := by blk_ext [idx11 t, row]
  rw [e, hG]
  exact dx_at (ins_at H t) r d

/-- The same gradient in the second result that holds it. -/
theorem final12 (H : RealArgs m c n x y) (G : FVec Ideal S4096x1024 .bf16) (hG : ∀ i d, G (ix2 i d) = ((n.dx (x i) (y i) d : ℝ) : EReal)) :
    (dats m 0 c).arrAt 12 cfg0.N = G := by
  refine (dats m 0 c).arrAt_eq_of_covers 12 _ (by decide +kernel) fun t hf z => ?_
  blk_simp
  rw [after0_12, o12]
  obtain ⟨r, d, rfl⟩ : ∃ (r : Fin 256) (d : Fin 1024), z = ix2 r d := ⟨z 0, z 1, by blk_ext⟩
  have ht := lt_of_lt_of_eq t.isLt N_0
  have e : (win0_12.blk t).view.emb (ix2 r d) = ix2 (row t r) d := by blk_ext [idx12 t, row]
  rw [e, hG]
  exact dxb_at (ins_at H t) r d

/-! ## The results every point adds its part to -/

/-- A sum over the points and the rows of their tiles is a sum over all rows. -/
theorem sum_run (t : Fin cfg0.N) (h : t.val % 16 = 15) (f : Fin 4096 → ℝ) :
    (∑ s : Fin 16, ∑ r : Fin 256, f (row ⟨16 * (t.val / 16) + s.val, Pipeline.run_point_lt_of_flush t h s⟩ r)) = ∑ i, f i := by
  have ht := lt_of_lt_of_eq t.isLt N_0
  refine Fin.sum_mul_add_congr fun s r hl => ?_
  exact congrArg f (Fin.ext (by show (16 * (t.val / 16) + s.val) * 256 + r.val = s.val * 256 + r.val; omega))

theorem acc13 (t : Fin cfg0.N) (h : t.val % 16 = 15) (d : Fin 1024) : (outsAt0 m c t.val t.isLt).2.2.2.2.2.2.1 (ix2 0 d)
    = ∑ s : Fin 16, (ins m c ⟨16 * (t.val / 16) + s.val, Pipeline.run_point_lt_of_flush t h s⟩).dg (ix2 0 d) := by
  rw [Pipeline.eq_sum_fin_of_reset_step_apply_of_flush (fun n h => (outsAt0 m c n h).2.2.2.2.2.2.1) 16 (fun _ => 0) (fun t z => (ins m c t).dg z)
    (fun t h j => by
      obtain ⟨d, rfl⟩ : ∃ d : Fin 1024, j = ix2 0 d := ⟨j 1, by blk_ext⟩
      rw [outsAt0_A m c t h (not_first h)]; frame_out; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; exact (zero_add _).symm)
    (fun t h j => by
      obtain ⟨d, rfl⟩ : ∃ d : Fin 1024, j = ix2 0 d := ⟨j 1, by blk_ext⟩
      rw [outsAt0_B m c t h (later h)]; frame_out; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; rw [pay2_at])
    t h (ix2 0 d), zero_add]

theorem acc14 (t : Fin cfg0.N) (h : t.val % 16 = 15) (d : Fin 128) : (outsAt0 m c t.val t.isLt).2.2.2.2.2.2.2.1 (ix2 0 d)
    = ∑ s : Fin 16, (ins m c ⟨16 * (t.val / 16) + s.val, Pipeline.run_point_lt_of_flush t h s⟩).loss (ix2 0 0) := by
  rw [Pipeline.eq_sum_fin_of_reset_step_apply_of_flush (fun n h => (outsAt0 m c n h).2.2.2.2.2.2.2.1) 16 (fun _ => 0) (fun t z => (ins m c t).loss (ix2 0 0))
    (fun t h j => by
      obtain ⟨d, rfl⟩ : ∃ d : Fin 128, j = ix2 0 d := ⟨j 1, by blk_ext⟩
      rw [outsAt0_A m c t h (not_first h)]; frame_out; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; rw [pay1_at]; exact (zero_add _).symm)
    (fun t h j => by
      obtain ⟨d, rfl⟩ : ∃ d : Fin 128, j = ix2 0 d := ⟨j 1, by blk_ext⟩
      rw [outsAt0_B m c t h (later h)]; frame_out; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; rw [pay3_at])
    t h (ix2 0 d), zero_add]

theorem acc15 (t : Fin cfg0.N) (h : t.val % 16 = 15) (d : Fin 1024) : (outsAt0 m c t.val t.isLt).2.2.2.2.2.2.2.2 (ix2 0 d)
    = ∑ s : Fin 16, (ins m c ⟨16 * (t.val / 16) + s.val, Pipeline.run_point_lt_of_flush t h s⟩).dgf (ix2 0 d) := by
  rw [Pipeline.eq_sum_fin_of_reset_step_apply_of_flush (fun n h => (outsAt0 m c n h).2.2.2.2.2.2.2.2) 16 (fun _ => 0) (fun t z => (ins m c t).dgf z)
    (fun t h j => by
      obtain ⟨d, rfl⟩ : ∃ d : Fin 1024, j = ix2 0 d := ⟨j 1, by blk_ext⟩
      rw [outsAt0_A m c t h (not_first h)]; frame_out; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; exact (zero_add _).symm)
    (fun t h j => by
      obtain ⟨d, rfl⟩ : ∃ d : Fin 1024, j = ix2 0 d := ⟨j 1, by blk_ext⟩
      rw [outsAt0_B m c t h (later h)]; frame_out; simp only [f_nn, f_hLo, f_sHi, f_bHi, f_part, f_rr, f_y, f_er, f_sq, f_loss, f_dxo, f_dgf, f_dxob, f_dhLo, f_aLo, f_bLo, f_aHi, f_bHi', f_dnLo, f_daHi, f_dbHi, f_dx, f_dxb, f_dg]; rw [pay4_at])
    t h (ix2 0 d), zero_add]

/-- The gradient of the first gain. -/
theorem final13 (H : RealArgs m c n x y) (G : FVec Ideal S1x1024 .f32) (hG : ∀ d, G (ix2 0 d) = ((∑ i, n.dg (x i) (y i) d : ℝ) : EReal)) :
    (dats m 0 c).arrAt 13 cfg0.N = G := by
  refine (dats m 0 c).arrAt_eq_of_covers 13 _ (by decide +kernel) fun t hf z => ?_
  blk_simp
  have hl := (flush0_13 t).mp hf
  rw [after0_13]
  obtain ⟨d, rfl⟩ : ∃ d : Fin 1024, z = ix2 0 d := ⟨z 1, by blk_ext⟩
  have e : (win0_13.blk t).view.emb (ix2 0 d) = ix2 0 d := by blk_ext [idx13 t]
  rw [e, hG]
  refine (acc13 t hl d).trans ?_
  exact (Finset.sum_congr rfl fun s _ => dg_at (ins_at H _) d).trans ((coe_sum _ _).trans (congrArg _ (sum_run t hl fun i => n.dg (x i) (y i) d)))

/-- The gradient of the last gain. -/
theorem final15 (H : RealArgs m c n x y) (G : FVec Ideal S1x1024 .f32) (hG : ∀ d, G (ix2 0 d) = ((∑ i, n.dgf (x i) (y i) d : ℝ) : EReal)) :
    (dats m 0 c).arrAt 15 cfg0.N = G := by
  refine (dats m 0 c).arrAt_eq_of_covers 15 _ (by decide +kernel) fun t hf z => ?_
  blk_simp
  have hl := (flush0_15 t).mp hf
  rw [after0_15]
  obtain ⟨d, rfl⟩ : ∃ d : Fin 1024, z = ix2 0 d := ⟨z 1, by blk_ext⟩
  have e : (win0_15.blk t).view.emb (ix2 0 d) = ix2 0 d := by blk_ext [idx15 t]
  rw [e, hG]
  refine (acc15 t hl d).trans ?_
  exact (Finset.sum_congr rfl fun s _ => dgf_at (ins_at H _) d).trans ((coe_sum _ _).trans (congrArg _ (sum_run t hl fun i => n.dgf (x i) (y i) d)))

/-- The loss, in every column. -/
theorem final14 (H : RealArgs m c n x y) (G : FVec Ideal S1x128 .f32) (hG : ∀ d, G (ix2 0 d) = ((1 / 2 * ∑ i, n.sq (x i) (y i) : ℝ) : EReal)) :
    (dats m 0 c).arrAt 14 cfg0.N = G := by
  refine (dats m 0 c).arrAt_eq_of_covers 14 _ (by decide +kernel) fun t hf z => ?_
  blk_simp
  have hl := (flush0_14 t).mp hf
  rw [after0_14]
  obtain ⟨d, rfl⟩ : ∃ d : Fin 128, z = ix2 0 d := ⟨z 1, by blk_ext⟩
  have e : (win0_14.blk t).view.emb (ix2 0 d) = ix2 0 d := by blk_ext [idx14 t]
  rw [e, hG]
  refine (acc14 t hl d).trans ?_
  refine (Finset.sum_congr rfl fun s _ => loss_at (ins_at H _)).trans ((coe_sum _ _).trans (congrArg _ ?_))
  rw [← Finset.mul_sum]
  exact congrArg (1 / 2 * ·) (sum_run t hl fun i => n.sq (x i) (y i))

end Cert.FfnIdeal.Final

end
-- ==== Proof.FfnRef.lean ====
/-
  The reference of the last feed-forward layer, read index by index: of real arguments its nine results are the rows of
  Proof/FfnRows.lean.
-/
module

public import proofs.«01_k».proof.Proof.FfnRows
public import proofs.«01_k».proof.Proof.Softmax
public import proofs.«01_k».proof.Proof.Gen.FfnReferenceIdeal.Run
public import Idealize.ShloMosaic.Lib.Pointwise
public import Idealize.ShloMosaic.Lib.IdealHost

@[expose] public section

set_option maxRecDepth 16384

noncomputable section

namespace Cert.FfnReferenceIdeal.Read

open Cert.FfnReferenceIdeal Cert.FfnReferenceIdeal.Gen Cert.FfnReferenceIdeal.Value Cert.FfnRows Cert.Softmax
open Idealize.ShloMosaic Idealize.ShloMosaic.TcCoe Idealize.SL.Sem
open scoped BigOperators

theorem div_width (x : ℝ) : Ideal.div (x : EReal) ((1024 : ℝ) : EReal) = ((x / 1024 : ℝ) : EReal) := div_coe_coe x (by norm_num)
theorem coe_one : (1 : EReal) = ((1 : ℝ) : EReal) := rfl

/-- The seven arguments are real arrays: the layer's input `x`, the rows `t` it is compared with, and the net. -/
structure RealArgs (V0 : Valuation τ sig (Elt Ideal)) (n : Net) (x t : Fin 4096 → Fin 1024 → ℝ) : Prop where
  a0 : ∀ i d, (V0 (Proc.devRef .tc main_arg0) : FVec Ideal S4096x1024 .f32) (ix2 i d) = ((x i d : ℝ) : EReal)
  a1 : ∀ d, (V0 (Proc.devRef .tc main_arg1) : FVec Ideal S1x1024 .f32) (ix2 0 d) = ((n.g d : ℝ) : EReal)
  a2 : ∀ d f, (V0 (Proc.devRef .tc main_arg2) : FVec Ideal S1024x2816 .f32) (ix2 d f) = ((n.w1 d f : ℝ) : EReal)
  a3 : ∀ d f, (V0 (Proc.devRef .tc main_arg3) : FVec Ideal S1024x2816 .f32) (ix2 d f) = ((n.w3 d f : ℝ) : EReal)
  a4 : ∀ f d, (V0 (Proc.devRef .tc main_arg4) : FVec Ideal S2816x1024 .f32) (ix2 f d) = ((n.w2 f d : ℝ) : EReal)
  a5 : ∀ i d, (V0 (Proc.devRef .tc main_arg5) : FVec Ideal S4096x1024 .f32) (ix2 i d) = ((t i d : ℝ) : EReal)
  a6 : ∀ d, (V0 (Proc.devRef .tc main_arg6) : FVec Ideal S1x1024 .f32) (ix2 0 d) = ((n.gf d : ℝ) : EReal)

variable {V0 : Valuation τ sig (Elt Ideal)} {n : Net} {x t : Fin 4096 → Fin 1024 → ℝ} (H : RealArgs V0 n x t)
include H

/-! ## The layer -/

theorem v6_at (i : Fin 4096) (u : Fin 1) : (res_main_v6 V0 : FVec Ideal S4096x1 .f32) (ix2 i u) = ((ms (x i) : ℝ) : EReal) := by
  pointwise [res_main_v6]
  simp only [H.a0, zero_add, half_bits, neg_half_bits, two_bits, width_bits, div_width, eps_bits, coe_one, ← EReal.coe_mul, ← EReal.coe_add, ← EReal.coe_sub, ← EReal.coe_neg, coe_sum]
  rfl

theorem v7_at (i : Fin 4096) (u : Fin 1) : (res_main_v7 V0 : FVec Ideal S4096x1 .f32) (ix2 i u) = ((rr (x i) : ℝ) : EReal) := by
  pointwise [res_main_v7]
  rw [v6_at H, rsqrt_ms]

theorem v12_at (i : Fin 4096) (d : Fin 1024) : (res_main_v12 V0 : FVec Ideal S4096x1024 .f32) (ix2 i d) = ((x i d * rr (x i) : ℝ) : EReal) := by
  pointwise [res_main_v12]
  simp only [H.a0, v7_at H, half_bits, neg_half_bits, two_bits, width_bits, div_width, eps_bits, coe_one, ← EReal.coe_mul, ← EReal.coe_add, ← EReal.coe_sub, ← EReal.coe_neg, coe_sum]

theorem v14_at (i : Fin 4096) (d : Fin 1024) : (res_main_v14 V0 : FVec Ideal S4096x1024 .f32) (ix2 i d) = ((n.nn (x i) d : ℝ) : EReal) := by
  pointwise [res_main_v14]
  simp only [v12_at H, H.a1, half_bits, neg_half_bits, two_bits, width_bits, div_width, eps_bits, coe_one, ← EReal.coe_mul, ← EReal.coe_add, ← EReal.coe_sub, ← EReal.coe_neg, coe_sum]
  rfl

theorem v15_at (i : Fin 4096) (f : Fin 2816) : (res_main_v15 V0 : FVec Ideal S4096x2816 .f32) (ix2 i f) = ((n.a (x i) f : ℝ) : EReal) := by
  pointwise [res_main_v15]
  simp only [v14_at H, H.a2, half_bits, neg_half_bits, two_bits, width_bits, div_width, eps_bits, coe_one, ← EReal.coe_mul, ← EReal.coe_add, ← EReal.coe_sub, ← EReal.coe_neg, coe_sum]
  rfl

theorem v16_at (i : Fin 4096) (f : Fin 2816) : (res_main_v16 V0 : FVec Ideal S4096x2816 .f32) (ix2 i f) = ((n.b (x i) f : ℝ) : EReal) := by
  pointwise [res_main_v16]
  simp only [v14_at H, H.a3, half_bits, neg_half_bits, two_bits, width_bits, div_width, eps_bits, coe_one, ← EReal.coe_mul, ← EReal.coe_add, ← EReal.coe_sub, ← EReal.coe_neg, coe_sum]
  rfl

theorem v17_2_at (i : Fin 4096) (f : Fin 2816) : (res_main_v17_2 V0 : FVec Ideal S4096x2816 .f32) (ix2 i f) = ((sg (n.a (x i) f) : ℝ) : EReal) := by
  pointwise [res_main_v17_2]
  simp only [v15_at H, Ideal.exp_coe, half_bits, neg_half_bits, two_bits, width_bits, div_width, eps_bits, coe_one, ← EReal.coe_mul, ← EReal.coe_add, ← EReal.coe_sub, ← EReal.coe_neg, coe_sum]
  rw [div_coe_coe _ (one_add_exp_ne _), sg]

theorem v17_0_at (i : Fin 4096) (f : Fin 2816) :
    (res_main_v17_0 V0 : FVec Ideal S4096x2816 .f32) (ix2 i f) = ((n.a (x i) f * sg (n.a (x i) f) : ℝ) : EReal) := by
  pointwise [res_main_v17_0]
  simp only [v15_at H, v17_2_at H, half_bits, neg_half_bits, two_bits, width_bits, div_width, eps_bits, coe_one, ← EReal.coe_mul, ← EReal.coe_add, ← EReal.coe_sub, ← EReal.coe_neg, coe_sum]

theorem v18_at (i : Fin 4096) (f : Fin 2816) : (res_main_v18 V0 : FVec Ideal S4096x2816 .f32) (ix2 i f) = ((n.h (x i) f : ℝ) : EReal) := by
  pointwise [res_main_v18]
  simp only [v17_0_at H, v16_at H, half_bits, neg_half_bits, two_bits, width_bits, div_width, eps_bits, coe_one, ← EReal.coe_mul, ← EReal.coe_add, ← EReal.coe_sub, ← EReal.coe_neg, coe_sum]
  rfl

theorem v22_at (i : Fin 4096) (d : Fin 1024) : (res_main_v22 V0 : FVec Ideal S4096x1024 .f32) (ix2 i d) = ((n.xo (x i) d : ℝ) : EReal) := by
  pointwise [res_main_v22]
  simp only [v18_at H, H.a0, H.a4, half_bits, neg_half_bits, two_bits, width_bits, div_width, eps_bits, coe_one, ← EReal.coe_mul, ← EReal.coe_add, ← EReal.coe_sub, ← EReal.coe_neg, coe_sum]
  rfl

/-! ## The loss head -/

theorem v29_at (i : Fin 4096) (u : Fin 1) : (res_main_v29 V0 : FVec Ideal S4096x1 .f32) (ix2 i u) = ((ms (n.xo (x i)) : ℝ) : EReal) := by
  pointwise [res_main_v29]
  simp only [v22_at H, zero_add, half_bits, neg_half_bits, two_bits, width_bits, div_width, eps_bits, coe_one, ← EReal.coe_mul, ← EReal.coe_add, ← EReal.coe_sub, ← EReal.coe_neg, coe_sum]
  rfl

theorem v30_at (i : Fin 4096) (u : Fin 1) : (res_main_v30 V0 : FVec Ideal S4096x1 .f32) (ix2 i u) = ((rr (n.xo (x i)) : ℝ) : EReal) := by
  pointwise [res_main_v30]
  rw [v29_at H, rsqrt_ms]

theorem v35_at (i : Fin 4096) (d : Fin 1024) :
    (res_main_v35 V0 : FVec Ideal S4096x1024 .f32) (ix2 i d) = ((n.xo (x i) d * rr (n.xo (x i)) : ℝ) : EReal) := by
  pointwise [res_main_v35]
  simp only [v22_at H, v30_at H, half_bits, neg_half_bits, two_bits, width_bits, div_width, eps_bits, coe_one, ← EReal.coe_mul, ← EReal.coe_add, ← EReal.coe_sub, ← EReal.coe_neg, coe_sum]

theorem v38_at (i : Fin 4096) (d : Fin 1024) : (res_main_v38 V0 : FVec Ideal S4096x1024 .f32) (ix2 i d) = ((n.er (x i) (t i) d : ℝ) : EReal) := by
  pointwise [res_main_v38]
  simp only [v35_at H, H.a5, H.a6, half_bits, neg_half_bits, two_bits, width_bits, div_width, eps_bits, coe_one, ← EReal.coe_mul, ← EReal.coe_add, ← EReal.coe_sub, ← EReal.coe_neg, coe_sum]
  rfl

theorem v52_at (i : Fin 4096) (d : Fin 1024) : (res_main_v52 V0 : FVec Ideal S4096x1024 .f32) (ix2 i d) = ((n.ct (x i) (t i) d : ℝ) : EReal) := by
  pointwise [res_main_v52]
  simp only [v38_at H, half_bits, neg_half_bits, two_bits, width_bits, div_width, eps_bits, coe_one, ← EReal.coe_mul, ← EReal.coe_add, ← EReal.coe_sub, ← EReal.coe_neg, coe_sum]
  rw [Net.ct]
  exact congrArg _ (by ring)

theorem v57_at (i : Fin 4096) (d : Fin 1024) :
    (res_main_v57 V0 : FVec Ideal S4096x1024 .f32) (ix2 i d) = ((n.ct (x i) (t i) d * n.gf d : ℝ) : EReal) := by
  pointwise [res_main_v57]
  simp only [v52_at H, H.a6, half_bits, neg_half_bits, two_bits, width_bits, div_width, eps_bits, coe_one, ← EReal.coe_mul, ← EReal.coe_add, ← EReal.coe_sub, ← EReal.coe_neg, coe_sum]

theorem v67_at (i : Fin 4096) (d : Fin 1024) : (res_main_v67 V0 : FVec Ideal S4096x1024 .f32) (ix2 i d)
    = (((∑ e, n.xo (x i) e * (n.ct (x i) (t i) e * n.gf e)) * (-(1 / 2) * (rr (n.xo (x i)) / ms (n.xo (x i)))) / 1024 : ℝ) : EReal) := by
  have h := (ms_pos (n.xo (x i))).ne'
  pointwise [res_main_v67]
  simp only [v57_at H, v22_at H, v30_at H, v29_at H, div_coe_coe _ h, zero_add, half_bits, neg_half_bits, two_bits, width_bits, div_width, eps_bits, coe_one, ← EReal.coe_mul, ← EReal.coe_add, ← EReal.coe_sub, ← EReal.coe_neg, coe_sum]
  simp

theorem v71_at (i : Fin 4096) (d : Fin 1024) : (res_main_v71 V0 : FVec Ideal S4096x1024 .f32) (ix2 i d) = ((n.dxo (x i) (t i) d : ℝ) : EReal) := by
  pointwise [res_main_v71]
  simp only [v57_at H, v22_at H, v30_at H, v67_at H, half_bits, neg_half_bits, two_bits, width_bits, div_width, eps_bits, coe_one, ← EReal.coe_mul, ← EReal.coe_add, ← EReal.coe_sub, ← EReal.coe_neg, coe_sum]
  rw [Net.dxo, ← bwd_chain]

/-! ## The gradients -/

theorem v74_at (i : Fin 4096) (f : Fin 2816) : (res_main_v74 V0 : FVec Ideal S4096x2816 .f32) (ix2 i f) = ((n.dh (x i) (t i) f : ℝ) : EReal) := by
  pointwise [res_main_v74]
  simp only [v71_at H, H.a4, half_bits, neg_half_bits, two_bits, width_bits, div_width, eps_bits, coe_one, ← EReal.coe_mul, ← EReal.coe_add, ← EReal.coe_sub, ← EReal.coe_neg, coe_sum]
  rw [Net.dh, Finset.mul_sum]
  exact congrArg _ (Finset.sum_congr rfl fun d _ => mul_assoc _ _ _)

theorem v75_at (i : Fin 4096) (f : Fin 2816) : (res_main_v75 V0 : FVec Ideal S4096x2816 .f32) (ix2 i f) = ((n.db (x i) (t i) f : ℝ) : EReal) := by
  pointwise [res_main_v75]
  simp only [v17_0_at H, v74_at H, half_bits, neg_half_bits, two_bits, width_bits, div_width, eps_bits, coe_one, ← EReal.coe_mul, ← EReal.coe_add, ← EReal.coe_sub, ← EReal.coe_neg, coe_sum]
  rw [Net.db, mul_comm]

theorem v76_at (i : Fin 4096) (f : Fin 2816) :
    (res_main_v76 V0 : FVec Ideal S4096x2816 .f32) (ix2 i f) = ((n.dh (x i) (t i) f * n.b (x i) f : ℝ) : EReal) := by
  pointwise [res_main_v76]
  simp only [v16_at H, v74_at H, half_bits, neg_half_bits, two_bits, width_bits, div_width, eps_bits, coe_one, ← EReal.coe_mul, ← EReal.coe_add, ← EReal.coe_sub, ← EReal.coe_neg, coe_sum]

theorem v77_at (i : Fin 4096) (f : Fin 2816) : (res_main_v77 V0 : FVec Ideal S4096x2816 .f32) (ix2 i f) = ((n.da (x i) (t i) f : ℝ) : EReal) := by
  pointwise [res_main_v77]
  simp only [v15_at H, v17_2_at H, v76_at H, half_bits, neg_half_bits, two_bits, width_bits, div_width, eps_bits, coe_one, ← EReal.coe_mul, ← EReal.coe_add, ← EReal.coe_sub, ← EReal.coe_neg, coe_sum]
  rw [Net.da]
  exact congrArg _ (by ring)

theorem v80_at (i : Fin 4096) (d : Fin 1024) : (res_main_v80 V0 : FVec Ideal S4096x1024 .f32) (ix2 i d) = ((n.dn (x i) (t i) d : ℝ) : EReal) := by
  pointwise [res_main_v80]
  simp only [v75_at H, v77_at H, H.a2, H.a3, half_bits, neg_half_bits, two_bits, width_bits, div_width, eps_bits, coe_one, ← EReal.coe_mul, ← EReal.coe_add, ← EReal.coe_sub, ← EReal.coe_neg, coe_sum]
  rw [Net.dn, add_comm]

theorem v85_at (i : Fin 4096) (d : Fin 1024) :
    (res_main_v85 V0 : FVec Ideal S4096x1024 .f32) (ix2 i d) = ((n.dn (x i) (t i) d * n.g d : ℝ) : EReal) := by
  pointwise [res_main_v85]
  simp only [v80_at H, H.a1, half_bits, neg_half_bits, two_bits, width_bits, div_width, eps_bits, coe_one, ← EReal.coe_mul, ← EReal.coe_add, ← EReal.coe_sub, ← EReal.coe_neg, coe_sum]

theorem v95_at (i : Fin 4096) (d : Fin 1024) : (res_main_v95 V0 : FVec Ideal S4096x1024 .f32) (ix2 i d)
    = (((∑ e, x i e * (n.dn (x i) (t i) e * n.g e)) * (-(1 / 2) * (rr (x i) / ms (x i))) / 1024 : ℝ) : EReal) := by
  have h := (ms_pos (x i)).ne'
  pointwise [res_main_v95]
  simp only [v85_at H, H.a0, v7_at H, v6_at H, div_coe_coe _ h, zero_add, half_bits, neg_half_bits, two_bits, width_bits, div_width, eps_bits, coe_one, ← EReal.coe_mul, ← EReal.coe_add, ← EReal.coe_sub, ← EReal.coe_neg, coe_sum]
  simp

/-! ## The results -/

theorem res_nn (i : Fin 4096) (d : Fin 1024) : truncf (F := Ideal) .bf16 (res_main_v14 V0) bitsLt_bf16_f32 (ix2 i d) = ((n.nn (x i) d : ℝ) : EReal) := v14_at H i d

theorem res_dxo (i : Fin 4096) (d : Fin 1024) : truncf (F := Ideal) .bf16 (res_main_v71 V0) bitsLt_bf16_f32 (ix2 i d) = ((n.dxo (x i) (t i) d : ℝ) : EReal) := v71_at H i d

theorem res_abh (k : Fin 3) (i : Fin 4096) (f : Fin 2816) :
    truncf (F := Ideal) .bf16 ((concatenate S3x4096x2816 0 [⟨S1x4096x2816, ((broadcastInDim S1x4096x2816 ![1, 2] bcast_S4096x2816_S1x4096x2816_1_2 (res_main_v15 V0)) : (⟨S1x4096x2816, .f32⟩ : BufTy).Contents (Elt Ideal))⟩, ⟨S1x4096x2816, ((broadcastInDim S1x4096x2816 ![1, 2] bcast_S4096x2816_S1x4096x2816_1_2 (res_main_v16 V0)) : (⟨S1x4096x2816, .f32⟩ : BufTy).Contents (Elt Ideal))⟩, ⟨S1x4096x2816, ((broadcastInDim S1x4096x2816 ![1, 2] bcast_S4096x2816_S1x4096x2816_1_2 (res_main_v18 V0)) : (⟨S1x4096x2816, .f32⟩ : BufTy).Contents (Elt Ideal))⟩] concatenates_S1x4096x2816_S1x4096x2816_S1x4096x2816_S3x4096x2816_d0 : (⟨S3x4096x2816, .f32⟩ : BufTy).Contents (Elt Ideal))) bitsLt_bf16_f32 (ix3 k i f) = ((n.abh (x i) k f : ℝ) : EReal) := by
  pointwise []
  rw [Net.abh]
  split_ifs <;> first | omega | simp only [v15_at H, v16_at H, v18_at H]

theorem res_dab (k : Fin 2) (i : Fin 4096) (f : Fin 2816) :
    truncf (F := Ideal) .bf16 (concatenate S2x4096x2816 0 [⟨S1x4096x2816, ((broadcastInDim S1x4096x2816 ![1, 2] bcast_S4096x2816_S1x4096x2816_1_2 (res_main_v77 V0)) : (⟨S1x4096x2816, .f32⟩ : BufTy).Contents (Elt Ideal))⟩, ⟨S1x4096x2816, ((broadcastInDim S1x4096x2816 ![1, 2] bcast_S4096x2816_S1x4096x2816_1_2 (res_main_v75 V0)) : (⟨S1x4096x2816, .f32⟩ : BufTy).Contents (Elt Ideal))⟩] concatenates_S1x4096x2816_S1x4096x2816_S2x4096x2816_d0) bitsLt_bf16_f32 (ix3 k i f) = ((n.dab (x i) (t i) k f : ℝ) : EReal) := by
  pointwise []
  rw [Net.dab]
  split_ifs <;> first | omega | simp only [v77_at H, v75_at H]

theorem res_dx (i : Fin 4096) (d : Fin 1024) : (addf (F := Ideal) (res_main_v71 V0) (addf (addf (mulf (res_main_v85 V0) (broadcastInDim S4096x1024 ![0, 1] bcast_S4096x1_S4096x1024_0_1 (res_main_v7 V0)))
      (mulf (V0 (Proc.devRef .tc main_arg0)) (res_main_v95 V0))) (mulf (res_main_v95 V0) (V0 (Proc.devRef .tc main_arg0)))) : FVec Ideal S4096x1024 .f32) (ix2 i d)
    = ((n.dx (x i) (t i) d : ℝ) : EReal) := by
  pointwise []
  simp only [v71_at H, v85_at H, v7_at H, v95_at H, H.a0, half_bits, neg_half_bits, two_bits, width_bits, div_width, eps_bits, coe_one, ← EReal.coe_mul, ← EReal.coe_add, ← EReal.coe_sub, ← EReal.coe_neg, coe_sum]
  rw [Net.dx, ← bwd_chain]

theorem res_dg (d : Fin 1024) : (shapeCast S1x1024 (Host.reduceAdd (mulf (res_main_v12 V0) (res_main_v80 V0)) (constant (F := Ideal) S_ .f32 0x00000000#32) reducesTo_S4096x1024_S1024_d0 h_S_) shapeCasts_S1024_S1x1024 : FVec Ideal S1x1024 .f32) (ix2 0 d)
    = ((∑ i, n.dg (x i) (t i) d : ℝ) : EReal) := by
  pointwise []
  simp only [v12_at H, v80_at H, zero_add, half_bits, neg_half_bits, two_bits, width_bits, div_width, eps_bits, coe_one, ← EReal.coe_mul, ← EReal.coe_add, ← EReal.coe_sub, ← EReal.coe_neg, coe_sum]
  exact congrArg _ (Finset.sum_congr rfl fun i _ => mul_comm _ _)

theorem res_dgf (d : Fin 1024) : (shapeCast S1x1024 (Host.reduceAdd (mulf (res_main_v35 V0) (res_main_v52 V0)) (constant (F := Ideal) S_ .f32 0x00000000#32) reducesTo_S4096x1024_S1024_d0 h_S_) shapeCasts_S1024_S1x1024 : FVec Ideal S1x1024 .f32) (ix2 0 d)
    = ((∑ i, n.dgf (x i) (t i) d : ℝ) : EReal) := by
  pointwise []
  simp only [v35_at H, v52_at H, zero_add, half_bits, neg_half_bits, two_bits, width_bits, div_width, eps_bits, coe_one, ← EReal.coe_mul, ← EReal.coe_add, ← EReal.coe_sub, ← EReal.coe_neg, coe_sum]
  exact congrArg _ (Finset.sum_congr rfl fun i _ => mul_comm _ _)

theorem res_loss (d : Fin 128) : (broadcastInDim S1x128 ![] bcast_S_S1x128 (mulf (constant (F := Ideal) S_ .f32 0x3F000000#32) (Host.reduceAdd (Host.divf (Host.reduceAdd (mulf (res_main_v38 V0) (res_main_v38 V0)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S1x128 .f32) (ix2 0 d)
    = ((1 / 2 * ∑ i, n.sq (x i) (t i) : ℝ) : EReal) := by
  pointwise []
  simp only [v38_at H, zero_add, half_bits, neg_half_bits, two_bits, width_bits, div_width, eps_bits, coe_one, ← EReal.coe_mul, ← EReal.coe_add, ← EReal.coe_sub, ← EReal.coe_neg, coe_sum]
  rfl

end Cert.FfnReferenceIdeal.Read

end
-- ==== Proof.FfnFinite.lean ====
/-
  The precondition of the last feed-forward layer says that every element of the seven arguments is finite: the arguments are
  then arrays of reals.
-/
module

public import proofs.«01_k».proof.Defs
public import proofs.«01_k».proof.Proof.Gen.Pre_finite2
public import proofs.«01_k».proof.Proof.Finite
public import proofs.«01_k».proof.Proof.FfnBlocks

@[expose] public section

set_option maxRecDepth 16384

noncomputable section

namespace Cert.FfnFinite

open Cert.Finite Cert.FfnIdeal.Blocks
open Idealize.ShloMosaic Idealize.ShloMosaic.TcCoe Idealize.SL.Sem

/-- Under the precondition each device's arguments are real arrays. -/
theorem args (m : (ℓ : Loc Cert.FfnIdeal.nD Cert.FfnIdeal.τ Cert.FfnIdeal.sig) → Buf (Elt Ideal) ℓ)
    (hp : Cert.Pre_FfnIdeal_finite2 (hPre_finite2 := Cert.Pre_finite2.Gen.facts) m) (c : Dev Cert.FfnIdeal.nD) :
    ∃ n x t, RealArgs m c n x t := by
  have h := congrFun (hp c) (Shape.Idx.first Cert.Pre_finite2.Facts.h_S_)
  obtain ⟨h05, h6⟩ := IntOp.andi_eq_one.1 h
  obtain ⟨h04, h5⟩ := IntOp.andi_eq_one.1 h05
  obtain ⟨h03, h4⟩ := IntOp.andi_eq_one.1 h04
  obtain ⟨h02, h3⟩ := IntOp.andi_eq_one.1 h03
  obtain ⟨h01, h2⟩ := IntOp.andi_eq_one.1 h02
  obtain ⟨h0, h1⟩ := IntOp.andi_eq_one.1 h01
  obtain ⟨X, hX⟩ := reals _ _ _ _ _ _ h0
  obtain ⟨G, hG⟩ := reals _ _ _ _ _ _ h1
  obtain ⟨A, hA⟩ := reals _ _ _ _ _ _ h2
  obtain ⟨B, hB⟩ := reals _ _ _ _ _ _ h3
  obtain ⟨C, hC⟩ := reals _ _ _ _ _ _ h4
  obtain ⟨T, hT⟩ := reals _ _ _ _ _ _ h5
  obtain ⟨L, hL⟩ := reals _ _ _ _ _ _ h6
  exact ⟨⟨fun d => G (ix2 0 d), fun d f => A (ix2 d f), fun d f => B (ix2 d f), fun f d => C (ix2 f d), fun d => L (ix2 0 d)⟩,
    fun i d => X (ix2 i d), fun i d => T (ix2 i d),
    ⟨fun i d => congrFun hX _, fun d => congrFun hG _, fun d f => congrFun hA _, fun d f => congrFun hB _, fun f d => congrFun hC _,
      fun i d => congrFun hT _, fun d => congrFun hL _⟩⟩

end Cert.FfnFinite

end
-- ==== Proof.FfnClaims.lean ====
/-
  The claims about the last feed-forward layer: the frames of the three programs, and the equality of the kernel's nine results
  with the reference's.
-/
module

public import proofs.«01_k».proof.Proof.FfnFinal
public import proofs.«01_k».proof.Proof.FfnRef
public import proofs.«01_k».proof.Proof.FfnFinite
public import proofs.«01_k».proof.Proof.Gen.Ffn.Frame
public import Idealize.ShloMosaic.Lib.Claim

@[expose] public section

set_option maxRecDepth 16384

noncomputable section

namespace Cert.Proof.FfnLast

open Cert.FfnRows Cert.FfnIdeal.Blocks Cert.FfnIdeal.Final Cert.FfnReferenceIdeal.Read
open Idealize.ShloMosaic Idealize.ShloMosaic.TcCoe Idealize.SL.Sem
open scoped BigOperators

/-- The compiled kernel runs and leaves its arguments. -/
theorem frame_p : Cert.quiescent_Ffn := fun m ρ _ => Cert.Ffn.Gen.frame m ρ
/-- The ideal kernel runs and leaves its arguments. -/
theorem frame_pi : Cert.quiescent_FfnIdeal := fun m ρ _ => Cert.FfnIdeal.Gen.frame m ρ
/-- So it does from finite arguments. -/
theorem frame_pi_finite : Cert.quiescent_FfnIdeal_pre_finite2 := fun m ρ _ => Cert.FfnIdeal.Gen.frame m ρ

/-- The reference runs and leaves its arguments. -/
theorem frame_ri : Cert.quiescent_FfnReferenceIdeal := fun m ρ _ =>
  (θ_run Cert.FfnReferenceIdeal.defs _ _).mono (fun r h => ⟨fun c => (h c).2.2.2.2.2.2.2.2.2,
      Idealize.ShloMosaic.sem_eq_zero_of_no_sems (by decide) r.2⟩)
    (Cert.FfnReferenceIdeal.Value.run (F := Ideal) m ρ)
/-- So it does from finite arguments. -/
theorem frame_ri_finite : Cert.quiescent_FfnReferenceIdeal_pre_finite2 := fun m ρ _ => frame_ri m ρ trivial

/-- The ideal kernel is the compiled one's own text: no constant of it is named. -/
theorem preserves : Cert.preserves_Ffn_FfnIdeal := trivial

/-- The normalised rows as an array. -/
def nnArr (n : Net) (x t : Fin 4096 → Fin 1024 → ℝ) : FVec Ideal Cert.FfnIdeal.S4096x1024 .bf16 := fun y => ((n.nn (x (y 0)) (y 1) : ℝ) : EReal)
/-- The gate's argument, the gated value and the hidden rows as an array. -/
def abhArr (n : Net) (x t : Fin 4096 → Fin 1024 → ℝ) : FVec Ideal Cert.FfnIdeal.S3x4096x2816 .bf16 := fun y => ((n.abh (x (y 1)) (y 0) (y 2) : ℝ) : EReal)
/-- The gradient of the layer's output as an array. -/
def dxoArr (n : Net) (x t : Fin 4096 → Fin 1024 → ℝ) : FVec Ideal Cert.FfnIdeal.S4096x1024 .bf16 := fun y => ((n.dxo (x (y 0)) (t (y 0)) (y 1) : ℝ) : EReal)
/-- The gradients of the gate's argument and of the gated value as an array. -/
def dabArr (n : Net) (x t : Fin 4096 → Fin 1024 → ℝ) : FVec Ideal Cert.FfnIdeal.S2x4096x2816 .bf16 := fun y => ((n.dab (x (y 1)) (t (y 1)) (y 0) (y 2) : ℝ) : EReal)
/-- The gradient of the layer's input as an array. -/
def dxArr (n : Net) (x t : Fin 4096 → Fin 1024 → ℝ) : FVec Ideal Cert.FfnIdeal.S4096x1024 .f32 := fun y => ((n.dx (x (y 0)) (t (y 0)) (y 1) : ℝ) : EReal)
/-- The same gradient in the second result that holds it as an array. -/
def dxbArr (n : Net) (x t : Fin 4096 → Fin 1024 → ℝ) : FVec Ideal Cert.FfnIdeal.S4096x1024 .bf16 := fun y => ((n.dx (x (y 0)) (t (y 0)) (y 1) : ℝ) : EReal)
/-- The gradient of the first gain as an array. -/
def dgArr (n : Net) (x t : Fin 4096 → Fin 1024 → ℝ) : FVec Ideal Cert.FfnIdeal.S1x1024 .f32 := fun y => ((∑ i, n.dg (x i) (t i) (y 1) : ℝ) : EReal)
/-- The loss as an array. -/
def lossArr (n : Net) (x t : Fin 4096 → Fin 1024 → ℝ) : FVec Ideal Cert.FfnIdeal.S1x128 .f32 := fun y => ((1 / 2 * ∑ i, n.sq (x i) (t i) : ℝ) : EReal)
/-- The gradient of the last gain as an array. -/
def dgfArr (n : Net) (x t : Fin 4096 → Fin 1024 → ℝ) : FVec Ideal Cert.FfnIdeal.S1x1024 .f32 := fun y => ((∑ i, n.dgf (x i) (t i) (y 1) : ℝ) : EReal)

/-- From finite arguments the kernel's nine results are the reference's. -/
theorem algebraic : Cert.algebraic_FfnIdeal_FfnReferenceIdeal_pre_finite2 := by
  intro m g m' g' hp hag
  choose n x t H using Cert.FfnFinite.args m hp
  refine ⟨fun c => nnArr (n c) (x c) (t c), fun c => abhArr (n c) (x c) (t c), fun c => dxoArr (n c) (x c) (t c), fun c => dabArr (n c) (x c) (t c), fun c => dxArr (n c) (x c) (t c), fun c => dxbArr (n c) (x c) (t c), fun c => dgArr (n c) (x c) (t c), fun c => lossArr (n c) (x c) (t c), fun c => dgfArr (n c) (x c) (t c), ?_, ?_⟩
  · refine (θ_run Cert.FfnIdeal.defs _ _).mono (fun r h c => ?_) (θ_run_and (Cert.FfnIdeal.Gen.run_main m g) (Cert.FfnIdeal.Gen.unchanged m g))
    exact ⟨((h.1 c).1 7).trans (final7 (H c) _ fun i d => rfl),
      ((h.1 c).1 8).trans (final8 (H c) _ fun k i f => rfl),
      ((h.1 c).1 9).trans (final9 (H c) _ fun i d => rfl),
      ((h.1 c).1 10).trans (final10 (H c) _ fun k i f => rfl),
      ((h.1 c).1 11).trans (final11 (H c) _ fun i d => rfl),
      ((h.1 c).1 12).trans (final12 (H c) _ fun i d => rfl),
      ((h.1 c).1 13).trans (final13 (H c) _ fun d => rfl),
      ((h.1 c).1 14).trans (final14 (H c) _ fun d => rfl),
      ((h.1 c).1 15).trans (final15 (H c) _ fun d => rfl), h.2 c⟩
  · refine (θ_run Cert.FfnReferenceIdeal.defs _ _).mono (fun r h c => ?_) (Cert.FfnReferenceIdeal.Value.run (F := Ideal) m' g')
    obtain ⟨a0, a1, a2, a3, a4, a5, a6⟩ := hag c
    have R : Cert.FfnReferenceIdeal.Read.RealArgs (StableHlo.launchContents m' c) (n c) (x c) (t c) := {
      a0 := fun i d => (congrFun a0 _).trans ((H c).a0 i d)
      a1 := fun d => (congrFun a1 _).trans ((H c).a1 d)
      a2 := fun d f => (congrFun a2 _).trans ((H c).a2 d f)
      a3 := fun d f => (congrFun a3 _).trans ((H c).a3 d f)
      a4 := fun f d => (congrFun a4 _).trans ((H c).a4 f d)
      a5 := fun i d => (congrFun a5 _).trans ((H c).a5 i d)
      a6 := fun d => (congrFun a6 _).trans ((H c).a6 d) }
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
    · funext y
      obtain ⟨i, d, rfl⟩ : ∃ (i : Fin 4096) (d : Fin 1024), y = ix2 i d := ⟨y 0, y 1, by blk_ext⟩
      exact res_nn R i d
    · funext y
      obtain ⟨k, i, f, rfl⟩ : ∃ (k : Fin 3) (i : Fin 4096) (f : Fin 2816), y = ix3 k i f := ⟨y 0, y 1, y 2, by blk_ext⟩
      exact res_abh R k i f
    · funext y
      obtain ⟨i, d, rfl⟩ : ∃ (i : Fin 4096) (d : Fin 1024), y = ix2 i d := ⟨y 0, y 1, by blk_ext⟩
      exact res_dxo R i d
    · funext y
      obtain ⟨k, i, f, rfl⟩ : ∃ (k : Fin 2) (i : Fin 4096) (f : Fin 2816), y = ix3 k i f := ⟨y 0, y 1, y 2, by blk_ext⟩
      exact res_dab R k i f
    · funext y
      obtain ⟨i, d, rfl⟩ : ∃ (i : Fin 4096) (d : Fin 1024), y = ix2 i d := ⟨y 0, y 1, by blk_ext⟩
      exact res_dx R i d
    · funext y
      obtain ⟨i, d, rfl⟩ : ∃ (i : Fin 4096) (d : Fin 1024), y = ix2 i d := ⟨y 0, y 1, by blk_ext⟩
      exact res_dx R i d
    · funext y
      obtain ⟨d, rfl⟩ : ∃ d : Fin 1024, y = ix2 0 d := ⟨y 1, by blk_ext⟩
      exact res_dg R d
    · funext y
      obtain ⟨d, rfl⟩ : ∃ d : Fin 128, y = ix2 0 d := ⟨y 1, by blk_ext⟩
      exact res_loss R d
    · funext y
      obtain ⟨d, rfl⟩ : ∃ d : Fin 1024, y = ix2 0 d := ⟨y 1, by blk_ext⟩
      exact res_dgf R d

end Cert.Proof.FfnLast

end
-- ==== Proof.FfnBwdFinal.lean ====
/-
  The gradient of a feed-forward layer's input: what the kernel leaves in its two results, of real arguments.
-/
module

public import proofs.«01_k».proof.Proof.FfnPay
public import proofs.«01_k».proof.Proof.Gen.FfnBwdIdeal.Value
public import Idealize.ShloMosaic.Lib.Pipeline.ValueKit
public import Idealize.ShloMosaic.Lib.StableHlo.RunRead
public import Idealize.ShloMosaic.Lib.Pointwise
public import Idealize.ShloMosaic.Lib.IdealHost

@[expose] public section

set_option maxRecDepth 16384

noncomputable section

namespace Cert.FfnBwdIdeal.Final

open Cert.FfnBwdIdeal Cert.FfnBwdIdeal.Gen Cert.FfnRows Cert.Softmax
open Cert.FfnIdeal.Pay (Rows R1 R2 R3 RC div_width coe_one)
open Idealize.ShloMosaic Idealize.ShloMosaic.TcCoe Idealize.SL.Sem
open Idealize.ShloMosaic.Pipeline (Dat)
open scoped BigOperators

/-! ## The payloads -/

section
variable {v0 v6 : FVec Ideal S1x256x2816 .bf16} {v2 v8 : FVec Ideal S8x352x1024 .bf16} {A C : Rows 2816} {W W' : Fin 1024 → Fin 2816 → ℝ}
variable (h0 : R3 v0 A) (h6 : R3 v6 C)
variable (h2 : ∀ (f : Fin 2816) d, v2 (ix3 ⟨f.val / 352, by omega⟩ ⟨f.val % 352, by omega⟩ d) = ((W d f : ℝ) : EReal))
variable (h8 : ∀ (f : Fin 2816) d, v8 (ix3 ⟨f.val / 352, by omega⟩ ⟨f.val % 352, by omega⟩ d) = ((W' d f : ℝ) : EReal))

include h0 h2 h6 h8 in
theorem pay4_at : R2 (k0_pay4 (F := Ideal) v0 v2 v6 v8) fun r d => (∑ f, A r f * W d f) + ∑ f, C r f * W' d f := by
  intro r d
  pointwise [k0_pay4]
  simp only [h0, h2, h6, h8, ← EReal.coe_mul, ← EReal.coe_add, coe_sum]

variable {x : FVec Ideal S256x1024 .f32} {g : FVec Ideal S1x1024 .f32} {X U : Rows 1024} {G : Fin 1024 → ℝ}
variable (hx : R2 x X) (hg : R1 g G) (hu : R2 (k0_pay4 (F := Ideal) v0 v2 v6 v8) U)

include hx in
theorem pay5_at : RC (k0_pay5 (F := Ideal) x) fun r => rr (X r) := by
  intro r
  pointwise [k0_pay5]
  simp only [hx, width_bits, div_width, eps_bits, ← EReal.coe_mul, ← EReal.coe_add, coe_sum]
  rw [← ms, rsqrt_ms]

include hx in
theorem pay6_at : R2 (k0_pay6 (F := Ideal) x) fun r d => X r d * rr (X r) := by
  have h := pay5_at hx
  intro r d
  pointwise [k0_pay6]
  rw [h, hx, ← EReal.coe_mul]

include hx in
theorem pay8_at : R2 (k0_pay8 (F := Ideal) x) fun r _ => rr (X r) := by
  have h := pay5_at hx
  intro r d
  pointwise [k0_pay8]
  rw [h]

include hx hg hu in
theorem pay7_at : R2 (k0_pay7 (F := Ideal) v0 v2 v6 v8 x g)
    fun r d => U r d * G d - X r d * rr (X r) * ((∑ e, U r e * G e * (X r e * rr (X r))) / 1024) := by
  have h := pay6_at hx
  intro r d
  pointwise [k0_pay7]
  simp only [h, hu, hg, width_bits, div_width, ← EReal.coe_mul, ← EReal.coe_add, ← EReal.coe_sub, coe_sum]

variable {q : FVec Ideal S256x1024 .f32} {R : Rows 1024} (hq : R2 q R)

include hx hg hu hq in
theorem dx_at : R2 (k0_pay1 (F := Ideal) (k0_pay7 v0 v2 v6 v8 x g) (k0_pay8 x) q) fun r d => R r d + bwd (X r) G (U r) d := by
  have h7 := pay7_at hx hg hu
  have h8 := pay8_at hx
  intro r d
  pointwise [k0_pay1]
  rw [h7, h8, hq, ← EReal.coe_mul, ← EReal.coe_add, bwd]

include hx hu in
theorem dg_at : R1 (k0_pay2 (F := Ideal) (k0_pay4 v0 v2 v6 v8) (k0_pay6 x)) fun d => ∑ r, U r d * (X r d * rr (X r)) := by
  have h := pay6_at hx
  intro d
  pointwise [k0_pay2]
  simp only [h, hu, ← EReal.coe_mul, coe_sum]
end

theorem pay3_at (u y : FVec Ideal S256x1024 .f32) (a : FVec Ideal S1x1024 .f32) (d : Fin 1024) :
    k0_pay3 (F := Ideal) u y a (ix2 0 d) = a (ix2 0 d) + k0_pay2 (F := Ideal) u y (ix2 0 d) := by
  pointwise [k0_pay3]

/-! ## The arguments -/

/-- The rows, the gain, the two weights, the gradients of the gate's argument and of the gated value, and the gradient of the layer's output. -/
structure Args where
  x : Fin 4096 → Fin 1024 → ℝ
  g : Fin 1024 → ℝ
  w1 : Fin 1024 → Fin 2816 → ℝ
  w3 : Fin 1024 → Fin 2816 → ℝ
  ab : Fin 2 → Fin 4096 → Fin 2816 → ℝ
  r : Fin 4096 → Fin 1024 → ℝ

namespace Args
variable (a : Args) (i : Fin 4096) (d : Fin 1024)
/-- The gradient of the normalised row. -/
def dn : ℝ := (∑ f, a.ab 0 i f * a.w1 d f) + ∑ f, a.ab 1 i f * a.w3 d f
/-- The gradient of the row. -/
def dx : ℝ := a.r i d + bwd (a.x i) a.g (a.dn i) d
/-- The row's part of the gradient of the gain. -/
def dg : ℝ := a.dn i d * (a.x i d * rr (a.x i))
end Args

/-- The two weights transposed, cut into eight shards and laid side by side shard by shard. -/
def packed (A B : FVec Ideal S1024x2816 .f32) : FVec Ideal S8x704x1024 .bf16 :=
  truncf .bf16 (concatenate (α := Ideal .f32) S8x704x1024 1 [⟨S8x352x1024, shapeCast S8x352x1024 (transpose S2816x1024 [1, 0] A transposes_S1024x2816_S2816x1024_1_0) shapeCasts_S2816x1024_S8x352x1024⟩,
    ⟨S8x352x1024, shapeCast S8x352x1024 (transpose S2816x1024 [1, 0] B transposes_S1024x2816_S2816x1024_1_0) shapeCasts_S2816x1024_S8x352x1024⟩] concatenates_S8x352x1024_S8x352x1024_S8x704x1024_d1) bitsLt_bf16_f32

section
variable (A B : FVec Ideal S1024x2816 .f32) (k : Fin 8) (j : Fin 352) (d : Fin 1024)
theorem packed_first : packed A B (ix3 k ⟨j.val, by omega⟩ d) = A (ix2 d ⟨k.val * 352 + j.val, by omega⟩) := by
  pointwise [packed]
theorem packed_second : packed A B (ix3 k ⟨352 + j.val, by omega⟩ d) = B (ix2 d ⟨k.val * 352 + j.val, by omega⟩) := by
  pointwise [packed]
end

variable (m : (ℓ : Loc nD τ sig) → Buf (Elt Ideal) ℓ) (c : Dev nD)

theorem v5 : V m c main_v5 = packed (m ((c.tc : Thread nD τ).loc main_arg2)) (m ((c.tc : Thread nD τ).loc main_arg3)) := by
  show StableHlo.after hostOps0 (fun b => m (c, b)) (Proc.devRef .tc main_v5) = _
  after_reads_simp
  rfl
theorem v6 : V m c main_v6 = truncf (F := Ideal) .bf16 (m ((c.tc : Thread nD τ).loc main_arg4)) bitsLt_bf16_f32 := by
  show StableHlo.after hostOps0 (fun b => m (c, b)) (Proc.devRef .tc main_v6) = _
  after_reads_simp

/-- The program's arguments are real arrays. -/
structure RealArgs (a : Args) : Prop where
  a0 : ∀ i d, (m ((c.tc : Thread nD τ).loc main_arg0) : FVec Ideal S4096x1024 .f32) (ix2 i d) = ((a.x i d : ℝ) : EReal)
  a1 : ∀ d, (m ((c.tc : Thread nD τ).loc main_arg1) : FVec Ideal S1x1024 .f32) (ix2 0 d) = ((a.g d : ℝ) : EReal)
  a2 : ∀ d f, (m ((c.tc : Thread nD τ).loc main_arg2) : FVec Ideal S1024x2816 .f32) (ix2 d f) = ((a.w1 d f : ℝ) : EReal)
  a3 : ∀ d f, (m ((c.tc : Thread nD τ).loc main_arg3) : FVec Ideal S1024x2816 .f32) (ix2 d f) = ((a.w3 d f : ℝ) : EReal)
  a4 : ∀ k i f, (m ((c.tc : Thread nD τ).loc main_arg4) : FVec Ideal S2x4096x2816 .f32) (ix3 k i f) = ((a.ab k i f : ℝ) : EReal)
  a5 : ∀ i d, (m ((c.tc : Thread nD τ).loc main_arg5) : FVec Ideal S4096x1024 .f32) (ix2 i d) = ((a.r i d : ℝ) : EReal)

/-! ## The blocks of a point -/

/-- The row at row `r` of a point's tile. -/
def row (t : Fin cfg0.N) (r : Fin 256) : Fin 4096 := ⟨t.val * 256 + r.val, by have := lt_of_lt_of_eq t.isLt N_0; omega⟩

theorem idx : ∀ t : Fin cfg0.N, win0_0.index t = ![0, t.val, 0] ∧ win0_1.index t = ![0, 0, 0] ∧ win0_2.index t = ![0, 1, 0]
    ∧ win0_3.index t = ![t.val, 0] ∧ win0_4.index t = ![t.val, 0] ∧ win0_5.index t = ![0, 0] ∧ win0_6.index t = ![t.val, 0] ∧ win0_7.index t = ![0, 0] :=
  (by decide +kernel : ∀ t : Fin grid0.N, _)

/-- The gradients of the gate's argument at a point's rows. -/
def s0 (B : FVec Ideal S2x256x2816 .bf16) : FVec Ideal S1x256x2816 .bf16 := View.ld (Val := Elt Ideal) (e' := .bf16) B (Rect.unit (s := S2x256x2816) ![0, 0, 0] S1x256x2816.size inb_S2x256x2816_S1x256x2816_0_0_0)
/-- The gradients of the gated value at a point's rows. -/
def s1 (B : FVec Ideal S2x256x2816 .bf16) : FVec Ideal S1x256x2816 .bf16 := View.ld (Val := Elt Ideal) (e' := .bf16) B (Rect.unit (s := S2x256x2816) ![1, 0, 0] S1x256x2816.size inb_S2x256x2816_S1x256x2816_1_0_0)

theorem s0_at (B : FVec Ideal S2x256x2816 .bf16) (r : Fin 256) (f : Fin 2816) : s0 B (ix3 0 r f) = B (ix3 0 r f) := by
  pointwise [s0]
theorem s1_at (B : FVec Ideal S2x256x2816 .bf16) (r : Fin 256) (f : Fin 2816) : s1 B (ix3 0 r f) = B (ix3 1 r f) := by
  pointwise [s1]

section
variable {m c} {a : Args} (H : RealArgs m c a) (t : Fin cfg0.N)
include H

theorem b0 (k : Fin 2) (r : Fin 256) (f : Fin 2816) : (iblk m c 0 t : FVec Ideal S2x256x2816 .bf16) (ix3 k r f) = ((a.ab k (row t r) f : ℝ) : EReal) := by
  have ht := lt_of_lt_of_eq t.isLt N_0
  refine Eq.trans (b := (V m c main_v6 : FVec Ideal S2x4096x2816 .bf16) (ix3 k (row t r) f)) ?_ ?_
  · blk_ext [iblk, idx t, row]
  · rw [v6]
    exact H.a4 _ _ _
theorem b1 (f : Fin 2816) (d : Fin 1024) : (iblk m c 1 t : FVec Ideal S8x352x1024 .bf16) (ix3 ⟨f.val / 352, by omega⟩ ⟨f.val % 352, by omega⟩ d) = ((a.w1 d f : ℝ) : EReal) := by
  have ht := lt_of_lt_of_eq t.isLt N_0
  refine Eq.trans (b := (V m c main_v5 : FVec Ideal S8x704x1024 .bf16) (ix3 ⟨f.val / 352, by omega⟩ ⟨(⟨f.val % 352, by omega⟩ : Fin 352).val, by show f.val % 352 < 704; omega⟩ d)) ?_ ?_
  · blk_ext [iblk, idx t, row]
  · rw [v5, packed_first]
    exact (H.a2 _ _).trans (congrArg (fun k => ((a.w1 d k : ℝ) : EReal)) (Fin.ext (by show f.val / 352 * 352 + f.val % 352 = f.val; omega)))
theorem b2 (f : Fin 2816) (d : Fin 1024) : (iblk m c 2 t : FVec Ideal S8x352x1024 .bf16) (ix3 ⟨f.val / 352, by omega⟩ ⟨f.val % 352, by omega⟩ d) = ((a.w3 d f : ℝ) : EReal) := by
  have ht := lt_of_lt_of_eq t.isLt N_0
  refine Eq.trans (b := (V m c main_v5 : FVec Ideal S8x704x1024 .bf16) (ix3 ⟨f.val / 352, by omega⟩ ⟨352 + (⟨f.val % 352, by omega⟩ : Fin 352).val, by show 352 + f.val % 352 < 704; omega⟩ d)) ?_ ?_
  · blk_ext [iblk, idx t, row]
  · rw [v5, packed_second]
    exact (H.a3 _ _).trans (congrArg (fun k => ((a.w3 d k : ℝ) : EReal)) (Fin.ext (by show f.val / 352 * 352 + f.val % 352 = f.val; omega)))
theorem b3 (r : Fin 256) (d : Fin 1024) : (iblk m c 3 t : FVec Ideal S256x1024 .f32) (ix2 r d) = ((a.x (row t r) d : ℝ) : EReal) := by
  have ht := lt_of_lt_of_eq t.isLt N_0
  refine Eq.trans (b := (V m c main_arg0 : FVec Ideal S4096x1024 .f32) (ix2 (row t r) d)) ?_ ?_
  · blk_ext [iblk, idx t, row]
  · rw [V_main_arg0]
    exact H.a0 _ _
theorem b4 (r : Fin 256) (d : Fin 1024) : (iblk m c 4 t : FVec Ideal S256x1024 .f32) (ix2 r d) = ((a.r (row t r) d : ℝ) : EReal) := by
  have ht := lt_of_lt_of_eq t.isLt N_0
  refine Eq.trans (b := (V m c main_arg5 : FVec Ideal S4096x1024 .f32) (ix2 (row t r) d)) ?_ ?_
  · blk_ext [iblk, idx t, row]
  · rw [V_main_arg5]
    exact H.a5 _ _
theorem b5 (d : Fin 1024) : (iblk m c 5 t : FVec Ideal S1x1024 .f32) (ix2 0 d) = ((a.g d : ℝ) : EReal) := by
  have ht := lt_of_lt_of_eq t.isLt N_0
  refine Eq.trans (b := (V m c main_arg1 : FVec Ideal S1x1024 .f32) (ix2 0 d)) ?_ ?_
  · blk_ext [iblk, idx t, row]
  · rw [V_main_arg1]
    exact H.a1 _

theorem dn_at : R2 (k0_pay4 (F := Ideal) (s0 (iblk m c 0 t)) (iblk m c 1 t) (s1 (iblk m c 0 t)) (iblk m c 2 t)) fun r d => a.dn (row t r) d :=
  pay4_at (fun r f => (s0_at _ r f).trans (b0 H t 0 r f)) (fun r f => (s1_at _ r f).trans (b0 H t 1 r f)) (b1 H t) (b2 H t)
end

/-! ## What a point leaves in each block -/

/-- The first point of the grid is the only one at which the accumulator starts. -/
theorem not_first {t : Fin cfg0.N} (h : t.val % 16 = 0) : ¬1 ≤ t.val := by
  have ht := lt_of_lt_of_eq t.isLt N_0
  omega
theorem later {t : Fin cfg0.N} (h : ¬t.val % 16 = 0) : 1 ≤ t.val := by omega

/-- The gradient of the rows of a point. -/
def dxB (t : Fin cfg0.N) : FVec Ideal S256x1024 .f32 :=
  k0_pay1 (F := Ideal) (k0_pay7 (s0 (iblk m c 0 t)) (iblk m c 1 t) (s1 (iblk m c 0 t)) (iblk m c 2 t) (iblk m c 3 t) (iblk m c 5 t)) (k0_pay8 (iblk m c 3 t)) (iblk m c 4 t)
/-- The part of the gradient of the gain of a point. -/
def dgB (t : Fin cfg0.N) : FVec Ideal S1x1024 .f32 :=
  k0_pay2 (F := Ideal) (k0_pay4 (s0 (iblk m c 0 t)) (iblk m c 1 t) (s1 (iblk m c 0 t)) (iblk m c 2 t)) (k0_pay6 (iblk m c 3 t))

theorem o6 (t : Fin cfg0.N) : (outsAt0 m c t.val t.isLt).1 = dxB m c t := by
  obtain ⟨R, hR⟩ : ∃ R, R = dxB m c t := ⟨_, rfl⟩
  rw [← hR]
  by_cases h : t.val % 16 = 0
  · rw [outsAt0_A m c t h (not_first h)]; frame_out; rw [hR]; rfl
  · rw [outsAt0_B m c t h (later h)]; frame_out; rw [hR]; rfl

variable {m c} {a : Args}

/-- The gradient of the rows. -/
theorem final6 (H : RealArgs m c a) (G : FVec Ideal S4096x1024 .f32) (hG : ∀ i d, G (ix2 i d) = ((a.dx i d : ℝ) : EReal)) :
    (dats m 0 c).arrAt 6 cfg0.N = G := by
  refine (dats m 0 c).arrAt_eq_of_covers 6 _ (by decide +kernel) fun t hf z => ?_
  blk_simp
  rw [after0_6, o6]
  obtain ⟨r, d, rfl⟩ : ∃ (r : Fin 256) (d : Fin 1024), z = ix2 r d := ⟨z 0, z 1, by blk_ext⟩
  have ht := lt_of_lt_of_eq t.isLt N_0
  have e : (win0_6.blk t).view.emb (ix2 r d) = ix2 (row t r) d := by blk_ext [idx t, row]
  rw [e, hG]
  exact dx_at (b3 H t) (b5 H t) (dn_at H t) (b4 H t) r d

/-- A sum over the points and the rows of their tiles is a sum over all rows. -/
theorem sum_run (t : Fin cfg0.N) (h : t.val % 16 = 15) (f : Fin 4096 → ℝ) :
    (∑ s : Fin 16, ∑ r : Fin 256, f (row ⟨16 * (t.val / 16) + s.val, Pipeline.run_point_lt_of_flush t h s⟩ r)) = ∑ i, f i := by
  have ht := lt_of_lt_of_eq t.isLt N_0
  refine Fin.sum_mul_add_congr fun s r hl => ?_
  exact congrArg f (Fin.ext (by show (16 * (t.val / 16) + s.val) * 256 + r.val = s.val * 256 + r.val; omega))

theorem acc7 (t : Fin cfg0.N) (h : t.val % 16 = 15) (d : Fin 1024) : (outsAt0 m c t.val t.isLt).2 (ix2 0 d)
    = ∑ s : Fin 16, dgB m c ⟨16 * (t.val / 16) + s.val, Pipeline.run_point_lt_of_flush t h s⟩ (ix2 0 d) := by
  rw [Pipeline.eq_sum_fin_of_reset_step_apply_of_flush (fun n h => (outsAt0 m c n h).2) 16 (fun _ => 0) (fun t z => dgB m c t z)
    (fun t h j => by
      obtain ⟨d, rfl⟩ : ∃ d : Fin 1024, j = ix2 0 d := ⟨j 1, by blk_ext⟩
      rw [outsAt0_A m c t h (not_first h)]; frame_out; exact (zero_add _).symm)
    (fun t h j => by
      obtain ⟨d, rfl⟩ : ∃ d : Fin 1024, j = ix2 0 d := ⟨j 1, by blk_ext⟩
      rw [outsAt0_B m c t h (later h)]; frame_out; rw [pay3_at]; rfl)
    t h (ix2 0 d), zero_add]

/-- The gradient of the gain. -/
theorem final7 (H : RealArgs m c a) (G : FVec Ideal S1x1024 .f32) (hG : ∀ d, G (ix2 0 d) = ((∑ i, a.dg i d : ℝ) : EReal)) :
    (dats m 0 c).arrAt 7 cfg0.N = G := by
  refine (dats m 0 c).arrAt_eq_of_covers 7 _ (by decide +kernel) fun t hf z => ?_
  blk_simp
  have hl := (flush0_7 t).mp hf
  rw [after0_7]
  obtain ⟨d, rfl⟩ : ∃ d : Fin 1024, z = ix2 0 d := ⟨z 1, by blk_ext⟩
  have e : (win0_7.blk t).view.emb (ix2 0 d) = ix2 0 d := by blk_ext [idx t]
  rw [e, hG]
  refine (acc7 t hl d).trans ?_
  exact (Finset.sum_congr rfl fun s _ => dg_at (b3 H _) (dn_at H _) d).trans ((coe_sum _ _).trans (congrArg _ (sum_run t hl fun i => a.dg i d)))

end Cert.FfnBwdIdeal.Final

end
-- ==== Proof.FfnBwdRef.lean ====
/-
  The reference's gradient through a root-mean-square normalisation with a residual, over variable arrays: of real arguments it
  is the gradient of Proof/FfnRows.lean. Then the reference of the gradient of a feed-forward layer's input.
-/
module

public import proofs.«01_k».proof.Proof.FfnRows
public import proofs.«01_k».proof.Proof.Softmax
public import proofs.«01_k».proof.Proof.Gen.FfnBwdReferenceIdeal.Run
public import Idealize.ShloMosaic.Lib.Pointwise
public import Idealize.ShloMosaic.Lib.IdealHost

@[expose] public section

set_option maxRecDepth 16384

noncomputable section

namespace Cert.FfnBwdReferenceIdeal.Read

open Cert.FfnBwdReferenceIdeal Cert.FfnBwdReferenceIdeal.Gen Cert.FfnRows Cert.Softmax
open Idealize.ShloMosaic Idealize.ShloMosaic.TcCoe Idealize.SL.Sem
open scoped BigOperators

theorem div_width (x : ℝ) : Ideal.div (x : EReal) ((1024 : ℝ) : EReal) = ((x / 1024 : ℝ) : EReal) := div_coe_coe x (by norm_num)

/-! ## The normalisation -/

section
variable (x : FVec Ideal S4096x1024 .f32) (g : FVec Ideal S1x1024 .f32) (u r : FVec Ideal S4096x1024 .f32)

/-- The mean squares of the rows. -/
def msA : FVec Ideal S4096x1 .f32 := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The normalised rows before the gain. -/
def yA : FVec Ideal S4096x1024 .f32 := mulf x (broadcastInDim S4096x1024 ![0, 1] bcast_S4096x1_S4096x1024_0_1 (Host.rsqrt (msA x)))
/-- The cotangent times the gain. -/
def ugA : FVec Ideal S4096x1024 .f32 := mulf u (broadcastInDim S4096x1024 ![0, 1] bcast_S1x1024_S4096x1024_0_1 g)
/-- The derivative through the mean square, spread over the row. -/
def kA : FVec Ideal S4096x1024 .f32 := broadcastInDim S4096x1024 ![0] bcast_S4096_S4096x1024_0 (Host.reduceAdd (Host.divf (mulf (shapeCast _ (Host.reduceAdd (mulf x (ugA g u)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (msA x)) (msA x)))) (broadcastInDim S4096x1 ![] bcast_S_S4096x1 (constant S_ .f32 0x44800000#32))) (constant S_ .f32 0x00000000#32) reducesTo_S4096x1_S4096_d1 h_S_)
/-- The gradient of the rows, with the residual's. -/
def dxA : FVec Ideal S4096x1024 .f32 := addf r (addf (addf (mulf (ugA g u) (broadcastInDim S4096x1024 ![0, 1] bcast_S4096x1_S4096x1024_0_1 (Host.rsqrt (msA x)))) (mulf x (kA x g u))) (mulf (kA x g u) x))
/-- The gradient of the gain. -/
def dgA : FVec Ideal S1x1024 .f32 := shapeCast _ (Host.reduceAdd (mulf (yA x) u) (constant S_ .f32 0x00000000#32) reducesTo_S4096x1024_S1024_d0 h_S_) shapeCasts_S1024_S1x1024
end

section
variable {x u r : FVec Ideal S4096x1024 .f32} {g : FVec Ideal S1x1024 .f32} {X U R : Fin 4096 → Fin 1024 → ℝ} {G : Fin 1024 → ℝ}
variable (hx : ∀ i d, x (ix2 i d) = ((X i d : ℝ) : EReal)) (hu : ∀ i d, u (ix2 i d) = ((U i d : ℝ) : EReal))
variable (hr : ∀ i d, r (ix2 i d) = ((R i d : ℝ) : EReal)) (hg : ∀ d, g (ix2 0 d) = ((G d : ℝ) : EReal))

include hx in
theorem msA_at (i : Fin 4096) (z : Fin 1) : msA x (ix2 i z) = ((ms (X i) : ℝ) : EReal) := by
  pointwise [msA]
  simp only [hx, zero_add, width_bits, div_width, eps_bits, ← EReal.coe_mul, ← EReal.coe_add, coe_sum]
  rfl

include hx in
theorem yA_at (i : Fin 4096) (d : Fin 1024) : yA x (ix2 i d) = ((X i d * rr (X i) : ℝ) : EReal) := by
  pointwise [yA]
  rw [msA_at hx, rsqrt_ms, hx, ← EReal.coe_mul]

include hu hg in
theorem ugA_at (i : Fin 4096) (d : Fin 1024) : ugA g u (ix2 i d) = ((U i d * G d : ℝ) : EReal) := by
  pointwise [ugA]
  simp only [hu, hg, ← EReal.coe_mul]

include hx hu hg in
theorem kA_at (i : Fin 4096) (d : Fin 1024) : kA x g u (ix2 i d)
    = (((∑ e, X i e * (U i e * G e)) * (-(1 / 2) * (rr (X i) / ms (X i))) / 1024 : ℝ) : EReal) := by
  have h := (ms_pos (X i)).ne'
  pointwise [kA]
  simp only [hx, ugA_at hu hg, msA_at hx, rsqrt_ms, div_coe_coe _ h, zero_add, neg_half_bits, width_bits, div_width, ← EReal.coe_mul, ← EReal.coe_add, ← EReal.coe_neg, coe_sum]
  simp

include hx hu hr hg in
theorem dxA_at (i : Fin 4096) (d : Fin 1024) : dxA x g u r (ix2 i d) = ((R i d + bwd (X i) G (U i) d : ℝ) : EReal) := by
  pointwise [dxA]
  simp only [hx, hr, ugA_at hu hg, kA_at hx hu hg, msA_at hx, rsqrt_ms, ← EReal.coe_mul, ← EReal.coe_add]
  rw [bwd_chain]

include hx hu in
theorem dgA_at (d : Fin 1024) : dgA x u (ix2 0 d) = ((∑ i, U i d * (X i d * rr (X i)) : ℝ) : EReal) := by
  pointwise [dgA]
  simp only [yA_at hx, hu, zero_add, ← EReal.coe_mul, coe_sum]
  exact congrArg _ (Finset.sum_congr rfl fun i _ => mul_comm _ _)
end

/-! ## The layer -/

/-- The gradient of the normalised rows. -/
def dnA (w1 w3 : FVec Ideal S1024x2816 .f32) (b : FVec Ideal S2x4096x2816 .f32) : FVec Ideal S4096x1024 .f32 :=
  addf (Host.dotGeneral dot_S4096x2816_S1024x2816_S4096x1024_1_1_0_0_n_n none (shapeCast _ (extractStridedSlice S1x4096x2816 ![1, 0, 0] b slices_S2x4096x2816_S1x4096x2816_1_0_0) shapeCasts_S1x4096x2816_S4096x2816) w3) (Host.dotGeneral dot_S4096x2816_S1024x2816_S4096x1024_1_1_0_0_n_n none (shapeCast _ (extractStridedSlice S1x4096x2816 ![0, 0, 0] b slices_S2x4096x2816_S1x4096x2816_0_0_0) shapeCasts_S1x4096x2816_S4096x2816) w1)

theorem dnA_at {w1 w3 : FVec Ideal S1024x2816 .f32} {b : FVec Ideal S2x4096x2816 .f32} {W1 W3 : Fin 1024 → Fin 2816 → ℝ} {B : Fin 2 → Fin 4096 → Fin 2816 → ℝ}
    (h1 : ∀ d f, w1 (ix2 d f) = ((W1 d f : ℝ) : EReal)) (h3 : ∀ d f, w3 (ix2 d f) = ((W3 d f : ℝ) : EReal)) (hb : ∀ k i f, b (ix3 k i f) = ((B k i f : ℝ) : EReal))
    (i : Fin 4096) (d : Fin 1024) : dnA w1 w3 b (ix2 i d) = (((∑ f, B 0 i f * W1 d f) + ∑ f, B 1 i f * W3 d f : ℝ) : EReal) := by
  pointwise [dnA]
  simp only [h1, h3, hb, ← EReal.coe_mul, ← EReal.coe_add, coe_sum]
  rw [add_comm]

theorem res_dx (m : (ℓ : Loc nD τ sig) → Buf (Elt Ideal) ℓ) (c : Dev nD) : Value.res_main_v43 (F := Ideal) m c
    = dxA (m ((c.tc : Thread nD τ).loc main_arg0)) (m ((c.tc : Thread nD τ).loc main_arg1)) (dnA (m ((c.tc : Thread nD τ).loc main_arg2)) (m ((c.tc : Thread nD τ).loc main_arg3)) (m ((c.tc : Thread nD τ).loc main_arg4))) (m ((c.tc : Thread nD τ).loc main_arg5)) := rfl

end Cert.FfnBwdReferenceIdeal.Read

end
-- ==== Proof.FfnBwdClaims.lean ====
/-
  The claims about the gradient of a feed-forward layer's input: the frames of the three programs, and the equality of the
  kernel's two results with the reference's.
-/
module

public import proofs.«01_k».proof.Defs
public import proofs.«01_k».proof.Proof.Finite
public import proofs.«01_k».proof.Proof.FfnBwdFinal
public import proofs.«01_k».proof.Proof.FfnBwdRef
public import proofs.«01_k».proof.Proof.Gen.Pre_finite3
public import proofs.«01_k».proof.Proof.Gen.FfnBwd.Frame
public import Idealize.ShloMosaic.Lib.Claim

@[expose] public section

set_option maxRecDepth 16384

noncomputable section

namespace Cert.Proof.FfnBwd

open Cert.Finite Cert.FfnBwdIdeal.Final
open Idealize.ShloMosaic Idealize.ShloMosaic.TcCoe Idealize.SL.Sem
open scoped BigOperators

/-- Under the precondition each device's arguments are real arrays. -/
theorem args (m : (ℓ : Loc Cert.FfnBwdIdeal.nD Cert.FfnBwdIdeal.τ Cert.FfnBwdIdeal.sig) → Buf (Elt Ideal) ℓ)
    (hp : Cert.Pre_FfnBwdIdeal_finite3 (hPre_finite3 := Cert.Pre_finite3.Gen.facts) m) (c : Dev Cert.FfnBwdIdeal.nD) :
    ∃ a, RealArgs m c a := by
  have h := congrFun (hp c) (Shape.Idx.first Cert.Pre_finite3.Facts.h_S_)
  obtain ⟨h04, h5⟩ := IntOp.andi_eq_one.1 h
  obtain ⟨h03, h4⟩ := IntOp.andi_eq_one.1 h04
  obtain ⟨h02, h3⟩ := IntOp.andi_eq_one.1 h03
  obtain ⟨h01, h2⟩ := IntOp.andi_eq_one.1 h02
  obtain ⟨h0, h1⟩ := IntOp.andi_eq_one.1 h01
  obtain ⟨X, hX⟩ := reals _ _ _ _ _ _ h0
  obtain ⟨G, hG⟩ := reals _ _ _ _ _ _ h1
  obtain ⟨A, hA⟩ := reals _ _ _ _ _ _ h2
  obtain ⟨B, hB⟩ := reals _ _ _ _ _ _ h3
  obtain ⟨C, hC⟩ := reals _ _ _ _ _ _ h4
  obtain ⟨R, hR⟩ := reals _ _ _ _ _ _ h5
  exact ⟨⟨fun i d => X (ix2 i d), fun d => G (ix2 0 d), fun d f => A (ix2 d f), fun d f => B (ix2 d f), fun k i f => C (ix3 k i f), fun i d => R (ix2 i d)⟩,
    ⟨fun i d => congrFun hX _, fun d => congrFun hG _, fun d f => congrFun hA _, fun d f => congrFun hB _, fun k i f => congrFun hC _, fun i d => congrFun hR _⟩⟩

/-- The compiled kernel runs and leaves its arguments. -/
theorem frame_p : Cert.quiescent_FfnBwd := fun m ρ _ => Cert.FfnBwd.Gen.frame m ρ
/-- The ideal kernel runs and leaves its arguments. -/
theorem frame_pi : Cert.quiescent_FfnBwdIdeal := fun m ρ _ => Cert.FfnBwdIdeal.Gen.frame m ρ
/-- So it does from finite arguments. -/
theorem frame_pi_finite : Cert.quiescent_FfnBwdIdeal_pre_finite3 := fun m ρ _ => Cert.FfnBwdIdeal.Gen.frame m ρ
/-- The reference runs and leaves its arguments. -/
theorem frame_ri : Cert.quiescent_FfnBwdReferenceIdeal := fun m ρ _ =>
  (θ_run Cert.FfnBwdReferenceIdeal.defs _ _).mono (fun r h => ⟨fun c => (h c).2.2, Idealize.ShloMosaic.sem_eq_zero_of_no_sems (by decide) r.2⟩)
    (Cert.FfnBwdReferenceIdeal.Value.run (F := Ideal) m ρ)
/-- So it does from finite arguments. -/
theorem frame_ri_finite : Cert.quiescent_FfnBwdReferenceIdeal_pre_finite3 := fun m ρ _ => frame_ri m ρ trivial
/-- The ideal kernel is the compiled one's own text: no constant of it is named. -/
theorem preserves : Cert.preserves_FfnBwd_FfnBwdIdeal := trivial

/-- The gradient of the rows as an array. -/
def dxArr (a : Args) : FVec Ideal Cert.FfnBwdIdeal.S4096x1024 .f32 := fun y => ((a.dx (y 0) (y 1) : ℝ) : EReal)
/-- The gradient of the gain as an array. -/
def dgArr (a : Args) : FVec Ideal Cert.FfnBwdIdeal.S1x1024 .f32 := fun y => ((∑ i, a.dg i (y 1) : ℝ) : EReal)

/-- From finite arguments the kernel's two results are the reference's. -/
theorem algebraic : Cert.algebraic_FfnBwdIdeal_FfnBwdReferenceIdeal_pre_finite3 := by
  intro m g m' g' hp hag
  choose a H using args m hp
  refine ⟨fun c => dxArr (a c), fun c => dgArr (a c), ?_, ?_⟩
  · refine (θ_run Cert.FfnBwdIdeal.defs _ _).mono (fun r h c => ?_) (θ_run_and (Cert.FfnBwdIdeal.Gen.run_main m g) (Cert.FfnBwdIdeal.Gen.unchanged m g))
    exact ⟨((h.1 c).1 6).trans (final6 (H c) _ fun i d => rfl), ((h.1 c).1 7).trans (final7 (H c) _ fun d => rfl), h.2 c⟩
  · refine (θ_run Cert.FfnBwdReferenceIdeal.defs _ _).mono (fun r h c => ?_) (Cert.FfnBwdReferenceIdeal.Value.run (F := Ideal) m' g')
    obtain ⟨a0, a1, a2, a3, a4, a5⟩ := hag c
    have hx : ∀ i d, (m' ((c.tc : Thread Cert.FfnBwdReferenceIdeal.nD Cert.FfnBwdReferenceIdeal.τ).loc Cert.FfnBwdReferenceIdeal.main_arg0) : FVec Ideal Cert.FfnBwdReferenceIdeal.S4096x1024 .f32) (ix2 i d) = (((a c).x i d : ℝ) : EReal) :=
      fun i d => (congrFun a0 _).trans ((H c).a0 i d)
    have hu := Cert.FfnBwdReferenceIdeal.Read.dnA_at (fun d f => (congrFun a2 (ix2 d f)).trans ((H c).a2 d f)) (fun d f => (congrFun a3 (ix2 d f)).trans ((H c).a3 d f)) (fun k i f => (congrFun a4 (ix3 k i f)).trans ((H c).a4 k i f))
    refine ⟨(h c).1.trans ?_, (h c).2.1.trans ?_, (h c).2.2⟩
    · funext y
      obtain ⟨i, d, rfl⟩ : ∃ (i : Fin 4096) (d : Fin 1024), y = ix2 i d := ⟨y 0, y 1, by blk_ext⟩
      rw [Cert.FfnBwdReferenceIdeal.Read.res_dx]
      exact Cert.FfnBwdReferenceIdeal.Read.dxA_at hx hu (fun i d => (congrFun a5 (ix2 i d)).trans ((H c).a5 i d)) (fun d => (congrFun a1 (ix2 0 d)).trans ((H c).a1 d)) i d
    · funext y
      obtain ⟨d, rfl⟩ : ∃ d : Fin 1024, y = ix2 0 d := ⟨y 1, by blk_ext⟩
      exact Cert.FfnBwdReferenceIdeal.Read.dgA_at hx hu d

end Cert.Proof.FfnBwd

end
-- ==== Proof.ProjBwdFinal.lean ====
/-
  The gradient of a layer's input projections: what the kernel leaves in its three results, of real arguments.
-/
module

public import proofs.«01_k».proof.Proof.FfnPay
public import proofs.«01_k».proof.Proof.Gen.ProjBwdIdeal.Value
public import Idealize.ShloMosaic.Lib.Pipeline.ValueKit
public import Idealize.ShloMosaic.Lib.StableHlo.RunRead
public import Idealize.ShloMosaic.Lib.Pointwise
public import Idealize.ShloMosaic.Lib.IdealHost

@[expose] public section

set_option maxRecDepth 16384

noncomputable section

namespace Cert.ProjBwdIdeal.Final

open Cert.ProjBwdIdeal Cert.ProjBwdIdeal.Gen Cert.FfnRows Cert.Softmax
open Cert.FfnIdeal.Pay (Rows R1 R2 R3 RC div_width coe_one)
open Idealize.ShloMosaic Idealize.ShloMosaic.TcCoe Idealize.SL.Sem
open Idealize.ShloMosaic.Pipeline (Dat)
open scoped BigOperators

/-! ## The payloads -/

/-- A tile of the weight holds a real matrix. -/
def RW (w : FVec Ideal S1x1024x512 .bf16) (W : Fin 1024 → Fin 512 → ℝ) : Prop := ∀ d f, w (ix3 0 d f) = ((W d f : ℝ) : EReal)

/-- The part of the sum over the columns that lies in one tile of them. -/
def part (D : Rows 512) (W : Fin 1024 → Fin 512 → ℝ) (r : Fin 256) (d : Fin 1024) : ℝ := ∑ f, D r f * W d f

section
variable {D : Fin 16 → Rows 512} {W : Fin 16 → Fin 1024 → Fin 512 → ℝ}

theorem pay5_at {v0 v5 v11 v17 : FVec Ideal S1x256x512 .bf16} {v2 v7 v13 v19 : FVec Ideal S1x1024x512 .bf16}
    (h0 : R3 v0 (D 0)) (h2 : RW v2 (W 0)) (h5 : R3 v5 (D 3)) (h7 : RW v7 (W 3)) (h11 : R3 v11 (D 6)) (h13 : RW v13 (W 6)) (h17 : R3 v17 (D 1)) (h19 : RW v19 (W 1)) :
    R2 (k0_pay5 (F := Ideal) v0 v2 v5 v7 v11 v13 v17 v19)
      fun r d => part (D 0) (W 0) r d + part (D 3) (W 3) r d + part (D 6) (W 6) r d + part (D 1) (W 1) r d := by
  unfold RW at *
  intro r d
  pointwise [k0_pay5]
  simp only [h0, h2, h5, h7, h11, h13, h17, h19, ← EReal.coe_mul, ← EReal.coe_add, coe_sum]
  rfl

theorem pay7_at {u : FVec Ideal S256x1024 .f32} {U : Rows 1024} {v23 v29 v35 v41 v47 : FVec Ideal S1x256x512 .bf16} {v25 v31 v37 v43 v49 : FVec Ideal S1x1024x512 .bf16}
    (hu : R2 u U) (h23 : R3 v23 (D 4)) (h25 : RW v25 (W 4)) (h29 : R3 v29 (D 7)) (h31 : RW v31 (W 7)) (h35 : R3 v35 (D 2)) (h37 : RW v37 (W 2))
    (h41 : R3 v41 (D 5)) (h43 : RW v43 (W 5)) (h47 : R3 v47 (D 8)) (h49 : RW v49 (W 8)) :
    R2 (k0_pay7 (F := Ideal) u (k0_pay6 v23) v25 v29 v31 v35 v37 v41 v43 v47 v49)
      fun r d => U r d + part (D 4) (W 4) r d + part (D 7) (W 7) r d + part (D 2) (W 2) r d + part (D 5) (W 5) r d + part (D 8) (W 8) r d := by
  unfold RW at *
  intro r d
  pointwise [k0_pay7, k0_pay6]
  simp only [hu, h23, h25, h29, h31, h35, h37, h41, h43, h47, h49, ← EReal.coe_mul, ← EReal.coe_add, coe_sum]
  rfl

theorem pay8_at {u : FVec Ideal S256x1024 .f32} {U : Rows 1024} {v53 v59 v65 : FVec Ideal S256x512 .bf16} {v71 v77 : FVec Ideal S1x256x512 .bf16} {v55 v61 v67 v73 v79 : FVec Ideal S1x1024x512 .bf16}
    (hu : R2 u U) (h53 : R2 v53 (D 9)) (h55 : RW v55 (W 9)) (h59 : R2 v59 (D 10)) (h61 : RW v61 (W 10)) (h65 : R2 v65 (D 11)) (h67 : RW v67 (W 11))
    (h71 : R3 v71 (D 12)) (h73 : RW v73 (W 12)) (h77 : R3 v77 (D 13)) (h79 : RW v79 (W 13)) :
    R2 (k0_pay8 (F := Ideal) u v53 v55 v59 v61 v65 v67 v71 v73 v77 v79)
      fun r d => U r d + part (D 9) (W 9) r d + part (D 10) (W 10) r d + part (D 11) (W 11) r d + part (D 12) (W 12) r d + part (D 13) (W 13) r d := by
  unfold RW at *
  intro r d
  pointwise [k0_pay8]
  simp only [hu, h53, h55, h59, h61, h65, h67, h71, h73, h77, h79, ← EReal.coe_mul, ← EReal.coe_add, coe_sum]
  rfl

theorem pay9_at {u : FVec Ideal S256x1024 .f32} {U : Rows 1024} {v83 v89 : FVec Ideal S1x256x512 .bf16} {v85 v91 : FVec Ideal S1x1024x512 .bf16}
    (hu : R2 u U) (h83 : R3 v83 (D 14)) (h85 : RW v85 (W 14)) (h89 : R3 v89 (D 15)) (h91 : RW v91 (W 15)) :
    R2 (k0_pay9 (F := Ideal) u v83 v85 v89 v91) fun r d => U r d + part (D 14) (W 14) r d + part (D 15) (W 15) r d := by
  unfold RW at *
  intro r d
  pointwise [k0_pay9]
  simp only [hu, h83, h85, h89, h91, ← EReal.coe_mul, ← EReal.coe_add, coe_sum]
  rfl
end

section
variable {u : FVec Ideal S256x1024 .f32} {v83 v89 : FVec Ideal S1x256x512 .bf16} {v85 v91 : FVec Ideal S1x1024x512 .bf16}
variable {x q : FVec Ideal S256x1024 .f32} {g : FVec Ideal S1x1024 .f32} {X U R : Rows 1024} {G : Fin 1024 → ℝ}
variable (hx : R2 x X) (hg : R1 g G) (hq : R2 q R) (hu : R2 (k0_pay9 (F := Ideal) u v83 v85 v89 v91) U)

include hx in
theorem pay10_at : RC (k0_pay10 (F := Ideal) x) fun r => rr (X r) := by
  intro r
  pointwise [k0_pay10]
  simp only [hx, width_bits, div_width, eps_bits, ← EReal.coe_mul, ← EReal.coe_add, coe_sum]
  rw [← ms, rsqrt_ms]

include hx in
theorem pay11_at : R2 (k0_pay11 (F := Ideal) x) fun r d => X r d * rr (X r) := by
  have h := pay10_at hx
  intro r d
  pointwise [k0_pay11]
  rw [h, hx, ← EReal.coe_mul]

include hx hg hu in
theorem pay12_at : R2 (k0_pay12 (F := Ideal) u v83 v85 v89 v91 x g) fun r d => bwd (X r) G (U r) d := by
  have h := pay11_at hx
  have h' := pay10_at hx
  intro r d
  pointwise [k0_pay12]
  simp only [h, h', hu, hg, width_bits, div_width, ← EReal.coe_mul, ← EReal.coe_add, ← EReal.coe_sub, coe_sum]
  rw [bwd]

include hx hg hu hq in
theorem dx_at : R2 (k0_pay1 (F := Ideal) (k0_pay12 u v83 v85 v89 v91 x g) q) fun r d => R r d + bwd (X r) G (U r) d := by
  have h := pay12_at hx hg hu
  intro r d
  pointwise [k0_pay1]
  rw [h, hq, ← EReal.coe_add]

include hx hu in
theorem dg_at : R1 (k0_pay3 (F := Ideal) (k0_pay13 u v83 v85 v89 v91 x)) fun d => ∑ r, U r d * (X r d * rr (X r)) := by
  have h := pay11_at hx
  intro d
  pointwise [k0_pay3, k0_pay13]
  simp only [h, hu, ← EReal.coe_mul, coe_sum]
end

theorem pay4_at (y : FVec Ideal S256x1024 .f32) (a : FVec Ideal S1x1024 .f32) (d : Fin 1024) :
    k0_pay4 (F := Ideal) y a (ix2 0 d) = a (ix2 0 d) + k0_pay3 (F := Ideal) y (ix2 0 d) := by
  pointwise [k0_pay4]

/-! ## The arguments -/

/-- The rows, the gain, the weight, the gradient of the projections, and the gradient of the residual. -/
structure Args where
  x : Fin 4096 → Fin 1024 → ℝ
  g : Fin 1024 → ℝ
  w : Fin 1024 → Fin 8192 → ℝ
  p : Fin 4096 → Fin 8192 → ℝ
  r : Fin 4096 → Fin 1024 → ℝ

/-- Column `f` of a tile of 512 columns. -/
def col (k : Fin 16) (f : Fin 512) : Fin 8192 := ⟨k.val * 512 + f.val, by omega⟩

namespace Args
variable (a : Args) (i : Fin 4096) (d : Fin 1024)
/-- The gradient of the normalised row. -/
def dn : ℝ := ∑ e, a.p i e * a.w d e
/-- The gradient of the row. -/
def dx : ℝ := a.r i d + bwd (a.x i) a.g (a.dn i) d
/-- The row's part of the gradient of the gain. -/
def dg : ℝ := a.dn i d * (a.x i d * rr (a.x i))
/-- A tile of the weight. -/
def wt (k : Fin 16) (d : Fin 1024) (f : Fin 512) : ℝ := a.w d (col k f)
end Args

/-! ## What the kernel's arguments are cut into -/

section
variable (B : FVec Ideal S4096x8192 .f32)

/-- The gradient of the projections as sixteen tiles of columns. -/
def tiles : FVec Ideal S4096x16x512 .bf16 := shapeCast S4096x16x512 (truncf (F := Ideal) .bf16 B bitsLt_bf16_f32) shapeCasts_S4096x8192_S4096x16x512
theorem tiles_at (i : Fin 4096) (k : Fin 16) (f : Fin 512) : tiles B (ix3 i k f) = B (ix2 i (col k f)) := by
  pointwise [tiles, col]
end

section
variable (A : FVec Ideal S4096x16x512 .bf16) (i : Fin 4096)

/-- One tile. -/
def one (k : ℕ) (h : S4096x16x512.Slices ![0, k, 0] S4096x1x512) : FVec Ideal S4096x512 .bf16 :=
  shapeCast S4096x512 (extractStridedSlice S4096x1x512 ![0, k, 0] A h) shapeCasts_S4096x1x512_S4096x512
theorem one_at (k : Fin 16) (h : S4096x16x512.Slices ![0, k.val, 0] S4096x1x512) (f : Fin 512) : one A k.val h (ix2 i f) = A (ix3 i k f) := by
  pointwise [one]

/-- Two neighbouring tiles side by side. -/
def two : FVec Ideal S4096x1024 .bf16 := shapeCast S4096x1024 (extractStridedSlice S4096x2x512 ![0, 9, 0] A slices_S4096x16x512_S4096x2x512_0_9_0) shapeCasts_S4096x2x512_S4096x1024
theorem two_at (k : Fin 2) (f : Fin 512) : two A (ix2 i ⟨k.val * 512 + f.val, by omega⟩) = A (ix3 i ⟨9 + k.val, by omega⟩ f) := by
  pointwise [two]

/-- The last four tiles, by two. -/
def four : FVec Ideal S2x4096x1024 .bf16 := transpose S2x4096x1024 [1, 0, 2] (shapeCast S4096x2x1024 (extractStridedSlice S4096x4x512 ![0, 12, 0] A slices_S4096x16x512_S4096x4x512_0_12_0) shapeCasts_S4096x4x512_S4096x2x1024) transposes_S4096x2x1024_S2x4096x1024_1_0_2
theorem four_at (j k : Fin 2) (f : Fin 512) : four A (ix3 j i ⟨k.val * 512 + f.val, by omega⟩) = A (ix3 i ⟨12 + 2 * j.val + k.val, by omega⟩ f) := by
  pointwise [four]
  exact congrArg (fun z => A (ix3 i z f)) (Fin.ext (by show 12 + (j.val * 2 + (k.val * 512 + f.val) / 512) = 12 + 2 * j.val + k.val; omega))
end

section
variable (X Y Z : FVec Ideal S4096x512 .bf16) (i : Fin 4096) (f : Fin 512)
/-- Three tiles stacked. -/
def stack : FVec Ideal S3x4096x512 .bf16 :=
  concatenate (α := Ideal .bf16) S3x4096x512 0 [⟨S1x4096x512, broadcastInDim S1x4096x512 ![1, 2] bcast_S4096x512_S1x4096x512_1_2 X⟩, ⟨S1x4096x512, broadcastInDim S1x4096x512 ![1, 2] bcast_S4096x512_S1x4096x512_1_2 Y⟩,
    ⟨S1x4096x512, broadcastInDim S1x4096x512 ![1, 2] bcast_S4096x512_S1x4096x512_1_2 Z⟩] concatenates_S1x4096x512_S1x4096x512_S1x4096x512_S3x4096x512_d0
theorem stack_0 : stack X Y Z (ix3 0 i f) = X (ix2 i f) := by
  pointwise [stack]
theorem stack_1 : stack X Y Z (ix3 1 i f) = Y (ix2 i f) := by
  pointwise [stack]
theorem stack_2 : stack X Y Z (ix3 2 i f) = Z (ix2 i f) := by
  pointwise [stack]
end

/-- The weight as eight slabs of columns. -/
def slabs (B : FVec Ideal S1024x8192 .f32) : FVec Ideal S8x1024x1024 .bf16 :=
  truncf (F := Ideal) .bf16 (transpose S8x1024x1024 [1, 0, 2] (shapeCast S1024x8x1024 B shapeCasts_S1024x8192_S1024x8x1024) transposes_S1024x8x1024_S8x1024x1024_1_0_2) bitsLt_bf16_f32
theorem slabs_at (B : FVec Ideal S1024x8192 .f32) (p : Fin 8) (d e : Fin 1024) : slabs B (ix3 p d e) = B (ix2 d ⟨p.val * 1024 + e.val, by omega⟩) := by
  pointwise [slabs]

variable (m : (ℓ : Loc nD τ sig) → Buf (Elt Ideal) ℓ) (c : Dev nD)

/-- The tiles of the gradient of the projections. -/
abbrev T : FVec Ideal S4096x16x512 .bf16 := tiles (m ((c.tc : Thread nD τ).loc main_arg3))

theorem v11 : V m c main_v11 = stack (one (T m c) 0 slices_S4096x16x512_S4096x1x512_0_0_0) (one (T m c) 3 slices_S4096x16x512_S4096x1x512_0_3_0) (one (T m c) 6 slices_S4096x16x512_S4096x1x512_0_6_0) := by
  show StableHlo.after hostOps0 (fun b => m (c, b)) (Proc.devRef .tc main_v11) = _
  after_reads_simp
  rfl
theorem v21 : V m c main_v21 = stack (one (T m c) 1 slices_S4096x16x512_S4096x1x512_0_1_0) (one (T m c) 4 slices_S4096x16x512_S4096x1x512_0_4_0) (one (T m c) 7 slices_S4096x16x512_S4096x1x512_0_7_0) := by
  show StableHlo.after hostOps0 (fun b => m (c, b)) (Proc.devRef .tc main_v21) = _
  after_reads_simp
  rfl
theorem v31 : V m c main_v31 = stack (one (T m c) 2 slices_S4096x16x512_S4096x1x512_0_2_0) (one (T m c) 5 slices_S4096x16x512_S4096x1x512_0_5_0) (one (T m c) 8 slices_S4096x16x512_S4096x1x512_0_8_0) := by
  show StableHlo.after hostOps0 (fun b => m (c, b)) (Proc.devRef .tc main_v31) = _
  after_reads_simp
  rfl
theorem v33 : V m c main_v33 = two (T m c) := by
  show StableHlo.after hostOps0 (fun b => m (c, b)) (Proc.devRef .tc main_v33) = _
  after_reads_simp
  rfl
theorem v35 : V m c main_v35 = one (T m c) 11 slices_S4096x16x512_S4096x1x512_0_11_0 := by
  show StableHlo.after hostOps0 (fun b => m (c, b)) (Proc.devRef .tc main_v35) = _
  after_reads_simp
  rfl
theorem v38 : V m c main_v38 = four (T m c) := by
  show StableHlo.after hostOps0 (fun b => m (c, b)) (Proc.devRef .tc main_v38) = _
  after_reads_simp
  rfl
theorem v41 : V m c main_v41 = slabs (m ((c.tc : Thread nD τ).loc main_arg2)) := by
  show StableHlo.after hostOps0 (fun b => m (c, b)) (Proc.devRef .tc main_v41) = _
  after_reads_simp
  rfl

/-- The program's arguments are real arrays. -/
structure RealArgs (a : Args) : Prop where
  a0 : ∀ i d, (m ((c.tc : Thread nD τ).loc main_arg0) : FVec Ideal S4096x1024 .f32) (ix2 i d) = ((a.x i d : ℝ) : EReal)
  a1 : ∀ d, (m ((c.tc : Thread nD τ).loc main_arg1) : FVec Ideal S1x1024 .f32) (ix2 0 d) = ((a.g d : ℝ) : EReal)
  a2 : ∀ d e, (m ((c.tc : Thread nD τ).loc main_arg2) : FVec Ideal S1024x8192 .f32) (ix2 d e) = ((a.w d e : ℝ) : EReal)
  a3 : ∀ i e, (m ((c.tc : Thread nD τ).loc main_arg3) : FVec Ideal S4096x8192 .f32) (ix2 i e) = ((a.p i e : ℝ) : EReal)
  a4 : ∀ i d, (m ((c.tc : Thread nD τ).loc main_arg4) : FVec Ideal S4096x1024 .f32) (ix2 i d) = ((a.r i d : ℝ) : EReal)

/-! ## The blocks of a point -/

/-- The row at row `r` of a point's tile. -/
def row (t : Fin cfg0.N) (r : Fin 256) : Fin 4096 := ⟨t.val * 256 + r.val, by have := lt_of_lt_of_eq t.isLt N_0; omega⟩

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![t.val, 0] ∧ win0_5.index t = ![0, t.val, 0] ∧ win0_6.index t = ![0, 0, 0]
    ∧ win0_7.index t = ![t.val, 0] ∧ win0_8.index t = ![t.val, 0] ∧ win0_9.index t = ![0, 0]
    ∧ win0_10.index t = ![t.val, 0] ∧ win0_11.index t = ![t.val, 0] ∧ win0_12.index t = ![0, 0] :=
  (by decide +kernel : ∀ t : Fin grid0.N, _)

/-- One tile of a stack of three. -/
def sl (B : FVec Ideal S3x256x512 .bf16) (s : ℕ) (h : ∀ a, (![s, 0, 0] : Fin 3 → Nat) a + S1x256x512.size a ≤ S3x256x512.size a) : FVec Ideal S1x256x512 .bf16 :=
  View.ld (Val := Elt Ideal) (e' := .bf16) B (Rect.unit (s := S3x256x512) ![s, 0, 0] S1x256x512.size h)
/-- Half the columns of a pair of tiles. -/
def hl (B : FVec Ideal S256x1024 .bf16) (o : ℕ) (h : ∀ a, (![0, o] : Fin 2 → Nat) a + S256x512.size a ≤ S256x1024.size a) : FVec Ideal S256x512 .bf16 :=
  View.ld (Val := Elt Ideal) (e' := .bf16) B (Rect.unit (s := S256x1024) ![0, o] S256x512.size h)
/-- A quarter of the last four tiles. -/
def ql (B : FVec Ideal S2x256x1024 .bf16) (s o : ℕ) (h : ∀ a, (![s, 0, o] : Fin 3 → Nat) a + S1x256x512.size a ≤ S2x256x1024.size a) : FVec Ideal S1x256x512 .bf16 :=
  View.ld (Val := Elt Ideal) (e' := .bf16) B (Rect.unit (s := S2x256x1024) ![s, 0, o] S1x256x512.size h)
/-- One tile of the weight. -/
def wl (B : FVec Ideal S8x1024x1024 .bf16) (p o : ℕ) (h : ∀ a, (![p, 0, o] : Fin 3 → Nat) a + S1x1024x512.size a ≤ S8x1024x1024.size a) : FVec Ideal S1x1024x512 .bf16 :=
  View.ld (Val := Elt Ideal) (e' := .bf16) B (Rect.unit (s := S8x1024x1024) ![p, 0, o] S1x1024x512.size h)

theorem sl_at (B : FVec Ideal S3x256x512 .bf16) (s : Fin 3) (h) (r : Fin 256) (f : Fin 512) : sl B s.val h (ix3 0 r f) = B (ix3 s r f) := by
  pointwise [sl]
theorem hl_at (B : FVec Ideal S256x1024 .bf16) (o : Fin 513) (h) (r : Fin 256) (f : Fin 512) : hl B o.val h (ix2 r f) = B (ix2 r ⟨o.val + f.val, by omega⟩) := by
  pointwise [hl]
theorem ql_at (B : FVec Ideal S2x256x1024 .bf16) (s : Fin 2) (o : Fin 513) (h) (r : Fin 256) (f : Fin 512) : ql B s.val o.val h (ix3 0 r f) = B (ix3 s r ⟨o.val + f.val, by omega⟩) := by
  pointwise [ql]
theorem wl_at (B : FVec Ideal S8x1024x1024 .bf16) (p : Fin 8) (o : Fin 513) (h) (d : Fin 1024) (f : Fin 512) : wl B p.val o.val h (ix3 0 d f) = B (ix3 p d ⟨o.val + f.val, by omega⟩) := by
  pointwise [wl]

section
variable {m c} {a : Args} (H : RealArgs m c a) (t : Fin cfg0.N)

/-- A tile of the gradient of the projections at a point's rows. -/
def tl (a : Args) (t : Fin cfg0.N) (k : Fin 16) : Rows 512 := fun r f => a.p (row t r) (col k f)

include H

theorem T_at (i : Fin 4096) (k : Fin 16) (f : Fin 512) : T m c (ix3 i k f) = ((a.p i (col k f) : ℝ) : EReal) := (tiles_at _ i k f).trans (H.a3 _ _)
theorem one_T (i : Fin 4096) (k : Fin 16) (h) (f : Fin 512) : one (T m c) k.val h (ix2 i f) = ((a.p i (col k f) : ℝ) : EReal) := (one_at _ i k h f).trans (T_at H i k f)

omit H in
theorem i0 (s : Fin 3) (r : Fin 256) (f : Fin 512) : (iblk m c 0 t : FVec Ideal S3x256x512 .bf16) (ix3 s r f) = (V m c main_v11 : FVec Ideal S3x4096x512 .bf16) (ix3 s (row t r) f) := by
  have ht := lt_of_lt_of_eq t.isLt N_0
  blk_ext [iblk, idx t, row]
omit H in
theorem i1 (s : Fin 3) (r : Fin 256) (f : Fin 512) : (iblk m c 1 t : FVec Ideal S3x256x512 .bf16) (ix3 s r f) = (V m c main_v21 : FVec Ideal S3x4096x512 .bf16) (ix3 s (row t r) f) := by
  have ht := lt_of_lt_of_eq t.isLt N_0
  blk_ext [iblk, idx t, row]
omit H in
theorem i2 (s : Fin 3) (r : Fin 256) (f : Fin 512) : (iblk m c 2 t : FVec Ideal S3x256x512 .bf16) (ix3 s r f) = (V m c main_v31 : FVec Ideal S3x4096x512 .bf16) (ix3 s (row t r) f) := by
  have ht := lt_of_lt_of_eq t.isLt N_0
  blk_ext [iblk, idx t, row]

theorem b0 : R3 (sl (iblk m c 0 t) 0 inb_S3x256x512_S1x256x512_0_0_0) (tl a t 0) ∧ R3 (sl (iblk m c 0 t) 1 inb_S3x256x512_S1x256x512_1_0_0) (tl a t 3) ∧ R3 (sl (iblk m c 0 t) 2 inb_S3x256x512_S1x256x512_2_0_0) (tl a t 6) := by
  refine ⟨fun r f => (sl_at _ 0 _ r f).trans ((i0 t 0 r f).trans ?_), fun r f => (sl_at _ 1 _ r f).trans ((i0 t 1 r f).trans ?_), fun r f => (sl_at _ 2 _ r f).trans ((i0 t 2 r f).trans ?_)⟩
  · rw [v11, stack_0]; exact one_T H _ 0 _ f
  · rw [v11, stack_1]; exact one_T H _ 3 _ f
  · rw [v11, stack_2]; exact one_T H _ 6 _ f
theorem b1 : R3 (sl (iblk m c 1 t) 0 inb_S3x256x512_S1x256x512_0_0_0) (tl a t 1) ∧ R3 (sl (iblk m c 1 t) 1 inb_S3x256x512_S1x256x512_1_0_0) (tl a t 4) ∧ R3 (sl (iblk m c 1 t) 2 inb_S3x256x512_S1x256x512_2_0_0) (tl a t 7) := by
  refine ⟨fun r f => (sl_at _ 0 _ r f).trans ((i1 t 0 r f).trans ?_), fun r f => (sl_at _ 1 _ r f).trans ((i1 t 1 r f).trans ?_), fun r f => (sl_at _ 2 _ r f).trans ((i1 t 2 r f).trans ?_)⟩
  · rw [v21, stack_0]; exact one_T H _ 1 _ f
  · rw [v21, stack_1]; exact one_T H _ 4 _ f
  · rw [v21, stack_2]; exact one_T H _ 7 _ f
theorem b2 : R3 (sl (iblk m c 2 t) 0 inb_S3x256x512_S1x256x512_0_0_0) (tl a t 2) ∧ R3 (sl (iblk m c 2 t) 1 inb_S3x256x512_S1x256x512_1_0_0) (tl a t 5) ∧ R3 (sl (iblk m c 2 t) 2 inb_S3x256x512_S1x256x512_2_0_0) (tl a t 8) := by
  refine ⟨fun r f => (sl_at _ 0 _ r f).trans ((i2 t 0 r f).trans ?_), fun r f => (sl_at _ 1 _ r f).trans ((i2 t 1 r f).trans ?_), fun r f => (sl_at _ 2 _ r f).trans ((i2 t 2 r f).trans ?_)⟩
  · rw [v31, stack_0]; exact one_T H _ 2 _ f
  · rw [v31, stack_1]; exact one_T H _ 5 _ f
  · rw [v31, stack_2]; exact one_T H _ 8 _ f

theorem b3 (k : Fin 2) (o : Fin 513) (h) (e : o.val = k.val * 512) : R2 (hl (iblk m c 3 t) o.val h) (tl a t ⟨9 + k.val, by omega⟩) := by
  have ht := lt_of_lt_of_eq t.isLt N_0
  intro r f
  refine (hl_at _ o h r f).trans (Eq.trans (b := (V m c main_v33 : FVec Ideal S4096x1024 .bf16) (ix2 (row t r) ⟨k.val * 512 + f.val, by omega⟩)) ?_ ?_)
  · blk_ext [iblk, idx t, row]
  · rw [v33, two_at]; exact T_at H _ _ f
theorem b4 : R2 (φ := .bf16) (iblk m c 4 t) (tl a t 11) := by
  have ht := lt_of_lt_of_eq t.isLt N_0
  intro r f
  refine Eq.trans (b := (V m c main_v35 : FVec Ideal S4096x512 .bf16) (ix2 (row t r) f)) ?_ ?_
  · blk_ext [iblk, idx t, row]
  · rw [v35]; exact one_T H _ 11 _ f
theorem b5 (j k : Fin 2) (o : Fin 513) (h) (e : o.val = k.val * 512) : R3 (ql (iblk m c 5 t) j.val o.val h) (tl a t ⟨12 + 2 * j.val + k.val, by omega⟩) := by
  have ht := lt_of_lt_of_eq t.isLt N_0
  intro r f
  refine (ql_at _ j o h r f).trans (Eq.trans (b := (V m c main_v38 : FVec Ideal S2x4096x1024 .bf16) (ix3 j (row t r) ⟨k.val * 512 + f.val, by omega⟩)) ?_ ?_)
  · blk_ext [iblk, idx t, row]
  · rw [v38, four_at]; exact T_at H _ _ f
theorem b6 (k : Fin 16) (p : Fin 8) (o : Fin 513) (h) (e : p.val * 1024 + o.val = k.val * 512) : RW (wl (iblk m c 6 t) p.val o.val h) (a.wt k) := by
  have ht := lt_of_lt_of_eq t.isLt N_0
  intro d f
  refine (wl_at _ p o h d f).trans (Eq.trans (b := (V m c main_v41 : FVec Ideal S8x1024x1024 .bf16) (ix3 p d ⟨o.val + f.val, by omega⟩)) ?_ ?_)
  · blk_ext [iblk, idx t, row]
  · rw [v41, slabs_at]
    exact (H.a2 _ _).trans (congrArg (fun z => ((a.w d z : ℝ) : EReal)) (Fin.ext (by show p.val * 1024 + (o.val + f.val) = k.val * 512 + f.val; omega)))
theorem b7 : R2 (φ := .f32) (iblk m c 7 t) (fun r => a.x (row t r)) := by
  have ht := lt_of_lt_of_eq t.isLt N_0
  intro r d
  refine Eq.trans (b := (V m c main_arg0 : FVec Ideal S4096x1024 .f32) (ix2 (row t r) d)) ?_ ?_
  · blk_ext [iblk, idx t, row]
  · rw [V_main_arg0]; exact H.a0 _ _
theorem b8 : R2 (φ := .f32) (iblk m c 8 t) (fun r => a.r (row t r)) := by
  have ht := lt_of_lt_of_eq t.isLt N_0
  intro r d
  refine Eq.trans (b := (V m c main_arg4 : FVec Ideal S4096x1024 .f32) (ix2 (row t r) d)) ?_ ?_
  · blk_ext [iblk, idx t, row]
  · rw [V_main_arg4]; exact H.a4 _ _
theorem b9 : R1 (φ := .f32) (iblk m c 9 t) a.g := by
  have ht := lt_of_lt_of_eq t.isLt N_0
  intro d
  refine Eq.trans (b := (V m c main_arg1 : FVec Ideal S1x1024 .f32) (ix2 0 d)) ?_ ?_
  · blk_ext [iblk, idx t, row]
  · rw [V_main_arg1]; exact H.a1 _
end

/-! ## The gradient of the normalised rows of a point -/

section
variable (t : Fin cfg0.N)
/-- The first fourteen tiles' part of it. -/
def dn8 : FVec Ideal S256x1024 .f32 :=
  k0_pay8 (F := Ideal)
    (k0_pay7
      (k0_pay5 (sl (iblk m c 0 t) 0 inb_S3x256x512_S1x256x512_0_0_0) (wl (iblk m c 6 t) 0 0 inb_S8x1024x1024_S1x1024x512_0_0_0) (sl (iblk m c 0 t) 1 inb_S3x256x512_S1x256x512_1_0_0) (wl (iblk m c 6 t) 1 512 inb_S8x1024x1024_S1x1024x512_1_0_512)
        (sl (iblk m c 0 t) 2 inb_S3x256x512_S1x256x512_2_0_0) (wl (iblk m c 6 t) 3 0 inb_S8x1024x1024_S1x1024x512_3_0_0) (sl (iblk m c 1 t) 0 inb_S3x256x512_S1x256x512_0_0_0) (wl (iblk m c 6 t) 0 512 inb_S8x1024x1024_S1x1024x512_0_0_512))
      (k0_pay6 (sl (iblk m c 1 t) 1 inb_S3x256x512_S1x256x512_1_0_0)) (wl (iblk m c 6 t) 2 0 inb_S8x1024x1024_S1x1024x512_2_0_0)
      (sl (iblk m c 1 t) 2 inb_S3x256x512_S1x256x512_2_0_0) (wl (iblk m c 6 t) 3 512 inb_S8x1024x1024_S1x1024x512_3_0_512) (sl (iblk m c 2 t) 0 inb_S3x256x512_S1x256x512_0_0_0) (wl (iblk m c 6 t) 1 0 inb_S8x1024x1024_S1x1024x512_1_0_0)
      (sl (iblk m c 2 t) 1 inb_S3x256x512_S1x256x512_1_0_0) (wl (iblk m c 6 t) 2 512 inb_S8x1024x1024_S1x1024x512_2_0_512) (sl (iblk m c 2 t) 2 inb_S3x256x512_S1x256x512_2_0_0) (wl (iblk m c 6 t) 4 0 inb_S8x1024x1024_S1x1024x512_4_0_0))
    (hl (iblk m c 3 t) 0 inb_S256x1024_S256x512_0_0) (wl (iblk m c 6 t) 4 512 inb_S8x1024x1024_S1x1024x512_4_0_512) (hl (iblk m c 3 t) 512 inb_S256x1024_S256x512_0_512) (wl (iblk m c 6 t) 5 0 inb_S8x1024x1024_S1x1024x512_5_0_0)
    (iblk m c 4 t) (wl (iblk m c 6 t) 5 512 inb_S8x1024x1024_S1x1024x512_5_0_512) (ql (iblk m c 5 t) 0 0 inb_S2x256x1024_S1x256x512_0_0_0) (wl (iblk m c 6 t) 6 0 inb_S8x1024x1024_S1x1024x512_6_0_0)
    (ql (iblk m c 5 t) 0 512 inb_S2x256x1024_S1x256x512_0_0_512) (wl (iblk m c 6 t) 6 512 inb_S8x1024x1024_S1x1024x512_6_0_512)
/-- The last two tiles and their weights. -/
abbrev q83 : FVec Ideal S1x256x512 .bf16 := ql (iblk m c 5 t) 1 0 inb_S2x256x1024_S1x256x512_1_0_0
abbrev q85 : FVec Ideal S1x1024x512 .bf16 := wl (iblk m c 6 t) 7 0 inb_S8x1024x1024_S1x1024x512_7_0_0
abbrev q89 : FVec Ideal S1x256x512 .bf16 := ql (iblk m c 5 t) 1 512 inb_S2x256x1024_S1x256x512_1_0_512
abbrev q91 : FVec Ideal S1x1024x512 .bf16 := wl (iblk m c 6 t) 7 512 inb_S8x1024x1024_S1x1024x512_7_0_512

/-- A sum over the tiles and their columns is a sum over all columns. -/
theorem sum_tiles (f : Fin 8192 → ℝ) : (∑ k : Fin 16, ∑ j : Fin 512, f (col k j)) = ∑ e, f e :=
  Fin.sum_mul_add_congr fun _ _ _ => rfl

variable {m c} {a : Args}

theorem dn_at (H : RealArgs m c a) : R2 (k0_pay9 (F := Ideal) (dn8 m c t) (q83 m c t) (q85 m c t) (q89 m c t) (q91 m c t)) fun r d => a.dn (row t r) d := by
  obtain ⟨h0, h3, h6⟩ := b0 H t
  obtain ⟨h1, h4, h7⟩ := b1 H t
  obtain ⟨h2, h5, h8⟩ := b2 H t
  have u5 := pay5_at (D := tl a t) (W := a.wt) h0 (b6 H t 0 0 0 inb_S8x1024x1024_S1x1024x512_0_0_0 rfl) h3 (b6 H t 3 1 512 inb_S8x1024x1024_S1x1024x512_1_0_512 rfl) h6 (b6 H t 6 3 0 inb_S8x1024x1024_S1x1024x512_3_0_0 rfl) h1 (b6 H t 1 0 512 inb_S8x1024x1024_S1x1024x512_0_0_512 rfl)
  have u7 := pay7_at (D := tl a t) (W := a.wt) u5 h4 (b6 H t 4 2 0 inb_S8x1024x1024_S1x1024x512_2_0_0 rfl) h7 (b6 H t 7 3 512 inb_S8x1024x1024_S1x1024x512_3_0_512 rfl) h2 (b6 H t 2 1 0 inb_S8x1024x1024_S1x1024x512_1_0_0 rfl) h5 (b6 H t 5 2 512 inb_S8x1024x1024_S1x1024x512_2_0_512 rfl) h8 (b6 H t 8 4 0 inb_S8x1024x1024_S1x1024x512_4_0_0 rfl)
  have u8 := pay8_at (D := tl a t) (W := a.wt) u7 (b3 H t 0 0 inb_S256x1024_S256x512_0_0 rfl) (b6 H t 9 4 512 inb_S8x1024x1024_S1x1024x512_4_0_512 rfl) (b3 H t 1 512 inb_S256x1024_S256x512_0_512 rfl) (b6 H t 10 5 0 inb_S8x1024x1024_S1x1024x512_5_0_0 rfl) (b4 H t) (b6 H t 11 5 512 inb_S8x1024x1024_S1x1024x512_5_0_512 rfl) (b5 H t 0 0 0 inb_S2x256x1024_S1x256x512_0_0_0 rfl) (b6 H t 12 6 0 inb_S8x1024x1024_S1x1024x512_6_0_0 rfl)
    (b5 H t 0 1 512 inb_S2x256x1024_S1x256x512_0_0_512 rfl) (b6 H t 13 6 512 inb_S8x1024x1024_S1x1024x512_6_0_512 rfl)
  have u9 := pay9_at (D := tl a t) (W := a.wt) u8 (b5 H t 1 0 0 inb_S2x256x1024_S1x256x512_1_0_0 rfl) (b6 H t 14 7 0 inb_S8x1024x1024_S1x1024x512_7_0_0 rfl) (b5 H t 1 1 512 inb_S2x256x1024_S1x256x512_1_0_512 rfl) (b6 H t 15 7 512 inb_S8x1024x1024_S1x1024x512_7_0_512 rfl)
  intro r d
  refine (u9 r d).trans (congrArg (fun z : ℝ => (z : EReal)) ?_)
  refine Eq.trans (b := ∑ k : Fin 16, part (tl a t k) (a.wt k) r d) ?_ (sum_tiles fun e => a.p (row t r) e * a.w d e)
  simp only [Fin.sum_univ_succ, Fin.sum_univ_zero]
  show _ = part (tl a t 0) (a.wt 0) r d + (part (tl a t 1) (a.wt 1) r d + (part (tl a t 2) (a.wt 2) r d + (part (tl a t 3) (a.wt 3) r d + (part (tl a t 4) (a.wt 4) r d + (part (tl a t 5) (a.wt 5) r d
    + (part (tl a t 6) (a.wt 6) r d + (part (tl a t 7) (a.wt 7) r d + (part (tl a t 8) (a.wt 8) r d + (part (tl a t 9) (a.wt 9) r d + (part (tl a t 10) (a.wt 10) r d + (part (tl a t 11) (a.wt 11) r d
    + (part (tl a t 12) (a.wt 12) r d + (part (tl a t 13) (a.wt 13) r d + (part (tl a t 14) (a.wt 14) r d + (part (tl a t 15) (a.wt 15) r d + 0)))))))))))))))
  ring
end

/-! ## What a point leaves in each block -/

/-- The first point of the grid is the only one at which the accumulator starts. -/
theorem not_first {t : Fin cfg0.N} (h : t.val % 16 = 0) : ¬1 ≤ t.val := by
  have ht := lt_of_lt_of_eq t.isLt N_0
  omega
theorem later {t : Fin cfg0.N} (h : ¬t.val % 16 = 0) : 1 ≤ t.val := by omega

/-- The gradient of the rows of a point. -/
def dxB (t : Fin cfg0.N) : FVec Ideal S256x1024 .f32 :=
  k0_pay1 (F := Ideal) (k0_pay12 (dn8 m c t) (q83 m c t) (q85 m c t) (q89 m c t) (q91 m c t) (iblk m c 7 t) (iblk m c 9 t)) (iblk m c 8 t)
/-- The same rounded. -/
def dxbB (t : Fin cfg0.N) : FVec Ideal S256x1024 .bf16 :=
  k0_pay2 (F := Ideal) (k0_pay12 (dn8 m c t) (q83 m c t) (q85 m c t) (q89 m c t) (q91 m c t) (iblk m c 7 t) (iblk m c 9 t)) (iblk m c 8 t)
/-- The rows' parts of the gradient of the gain of a point. -/
def dyB (t : Fin cfg0.N) : FVec Ideal S256x1024 .f32 := k0_pay13 (F := Ideal) (dn8 m c t) (q83 m c t) (q85 m c t) (q89 m c t) (q91 m c t) (iblk m c 7 t)

theorem o10 (t : Fin cfg0.N) : (outsAt0 m c t.val t.isLt).1 = dxB m c t := by
  obtain ⟨R, hR⟩ : ∃ R, R = dxB m c t := ⟨_, rfl⟩
  rw [← hR]
  by_cases h : t.val % 16 = 0
  · rw [outsAt0_A m c t h (not_first h)]; frame_out; rw [hR]; rfl
  · rw [outsAt0_B m c t h (later h)]; frame_out; rw [hR]; rfl
theorem o11 (t : Fin cfg0.N) : (outsAt0 m c t.val t.isLt).2.1 = dxbB m c t := by
  obtain ⟨R, hR⟩ : ∃ R, R = dxbB m c t := ⟨_, rfl⟩
  rw [← hR]
  by_cases h : t.val % 16 = 0
  · rw [outsAt0_A m c t h (not_first h)]; frame_out; rw [hR]; rfl
  · rw [outsAt0_B m c t h (later h)]; frame_out; rw [hR]; rfl

variable {m c} {a : Args}

/-- The gradient of the rows. -/
theorem final10 (H : RealArgs m c a) (G : FVec Ideal S4096x1024 .f32) (hG : ∀ i d, G (ix2 i d) = ((a.dx i d : ℝ) : EReal)) :
    (dats m 0 c).arrAt 10 cfg0.N = G := by
  refine (dats m 0 c).arrAt_eq_of_covers 10 _ (by decide +kernel) fun t hf z => ?_
  blk_simp
  rw [after0_10, o10]
  obtain ⟨r, d, rfl⟩ : ∃ (r : Fin 256) (d : Fin 1024), z = ix2 r d := ⟨z 0, z 1, by blk_ext⟩
  have ht := lt_of_lt_of_eq t.isLt N_0
  have e : (win0_10.blk t).view.emb (ix2 r d) = ix2 (row t r) d := by blk_ext [idx t, row]
  rw [e, hG]
  exact dx_at (b7 H t) (b9 H t) (b8 H t) (dn_at t H) r d

/-- The same rounded. -/
theorem final11 (H : RealArgs m c a) (G : FVec Ideal S4096x1024 .bf16) (hG : ∀ i d, G (ix2 i d) = ((a.dx i d : ℝ) : EReal)) :
    (dats m 0 c).arrAt 11 cfg0.N = G := by
  refine (dats m 0 c).arrAt_eq_of_covers 11 _ (by decide +kernel) fun t hf z => ?_
  blk_simp
  rw [after0_11, o11]
  obtain ⟨r, d, rfl⟩ : ∃ (r : Fin 256) (d : Fin 1024), z = ix2 r d := ⟨z 0, z 1, by blk_ext⟩
  have ht := lt_of_lt_of_eq t.isLt N_0
  have e : (win0_11.blk t).view.emb (ix2 r d) = ix2 (row t r) d := by blk_ext [idx t, row]
  rw [e, hG]
  exact dx_at (b7 H t) (b9 H t) (b8 H t) (dn_at t H) r d

/-- A sum over the points and the rows of their tiles is a sum over all rows. -/
theorem sum_run (t : Fin cfg0.N) (h : t.val % 16 = 15) (f : Fin 4096 → ℝ) :
    (∑ s : Fin 16, ∑ r : Fin 256, f (row ⟨16 * (t.val / 16) + s.val, Pipeline.run_point_lt_of_flush t h s⟩ r)) = ∑ i, f i := by
  have ht := lt_of_lt_of_eq t.isLt N_0
  refine Fin.sum_mul_add_congr fun s r hl => ?_
  exact congrArg f (Fin.ext (by show (16 * (t.val / 16) + s.val) * 256 + r.val = s.val * 256 + r.val; omega))

theorem acc12 (t : Fin cfg0.N) (h : t.val % 16 = 15) (d : Fin 1024) : (outsAt0 m c t.val t.isLt).2.2 (ix2 0 d)
    = ∑ s : Fin 16, k0_pay3 (F := Ideal) (dyB m c ⟨16 * (t.val / 16) + s.val, Pipeline.run_point_lt_of_flush t h s⟩) (ix2 0 d) := by
  rw [Pipeline.eq_sum_fin_of_reset_step_apply_of_flush (fun n h => (outsAt0 m c n h).2.2) 16 (fun _ => 0) (fun t z => k0_pay3 (F := Ideal) (dyB m c t) z)
    (fun t h j => by
      obtain ⟨d, rfl⟩ : ∃ d : Fin 1024, j = ix2 0 d := ⟨j 1, by blk_ext⟩
      rw [outsAt0_A m c t h (not_first h)]; frame_out; exact (zero_add _).symm)
    (fun t h j => by
      obtain ⟨d, rfl⟩ : ∃ d : Fin 1024, j = ix2 0 d := ⟨j 1, by blk_ext⟩
      rw [outsAt0_B m c t h (later h)]; frame_out; rw [pay4_at]; rfl)
    t h (ix2 0 d), zero_add]

/-- The gradient of the gain. -/
theorem final12 (H : RealArgs m c a) (G : FVec Ideal S1x1024 .f32) (hG : ∀ d, G (ix2 0 d) = ((∑ i, a.dg i d : ℝ) : EReal)) :
    (dats m 0 c).arrAt 12 cfg0.N = G := by
  refine (dats m 0 c).arrAt_eq_of_covers 12 _ (by decide +kernel) fun t hf z => ?_
  blk_simp
  have hl := (flush0_12 t).mp hf
  rw [after0_12]
  obtain ⟨d, rfl⟩ : ∃ d : Fin 1024, z = ix2 0 d := ⟨z 1, by blk_ext⟩
  have e : (win0_12.blk t).view.emb (ix2 0 d) = ix2 0 d := by blk_ext [idx t]
  rw [e, hG]
  refine (acc12 t hl d).trans ?_
  exact (Finset.sum_congr rfl fun s _ => dg_at (b7 H _) (dn_at _ H) d).trans ((coe_sum _ _).trans (congrArg _ (sum_run t hl fun i => a.dg i d)))

end Cert.ProjBwdIdeal.Final

end
-- ==== Proof.ProjBwdClaims.lean ====
/-
  The claims about the gradient of a layer's input projections: the frames of the three programs, and the equality of the
  kernel's three results with the reference's.
-/
module

public import proofs.«01_k».proof.Defs
public import proofs.«01_k».proof.Proof.Finite
public import proofs.«01_k».proof.Proof.ProjBwdFinal
public import proofs.«01_k».proof.Proof.FfnBwdRef
public import proofs.«01_k».proof.Proof.Gen.ProjBwdReferenceIdeal.Run
public import proofs.«01_k».proof.Proof.Gen.Pre_finite4
public import proofs.«01_k».proof.Proof.Gen.ProjBwd.Frame
public import Idealize.ShloMosaic.Lib.Claim

@[expose] public section

set_option maxRecDepth 16384

noncomputable section

namespace Cert.Proof.ProjBwd

open Cert.Finite Cert.ProjBwdIdeal.Final Cert.Softmax
open Idealize.ShloMosaic Idealize.ShloMosaic.TcCoe Idealize.SL.Sem
open scoped BigOperators

/-- Under the precondition each device's arguments are real arrays. -/
theorem args (m : (ℓ : Loc Cert.ProjBwdIdeal.nD Cert.ProjBwdIdeal.τ Cert.ProjBwdIdeal.sig) → Buf (Elt Ideal) ℓ)
    (hp : Cert.Pre_ProjBwdIdeal_finite4 (hPre_finite4 := Cert.Pre_finite4.Gen.facts) m) (c : Dev Cert.ProjBwdIdeal.nD) :
    ∃ a, RealArgs m c a := by
  have h := congrFun (hp c) (Shape.Idx.first Cert.Pre_finite4.Facts.h_S_)
  obtain ⟨h03, h4⟩ := IntOp.andi_eq_one.1 h
  obtain ⟨h02, h3⟩ := IntOp.andi_eq_one.1 h03
  obtain ⟨h01, h2⟩ := IntOp.andi_eq_one.1 h02
  obtain ⟨h0, h1⟩ := IntOp.andi_eq_one.1 h01
  obtain ⟨X, hX⟩ := reals _ _ _ _ _ _ h0
  obtain ⟨G, hG⟩ := reals _ _ _ _ _ _ h1
  obtain ⟨W, hW⟩ := reals _ _ _ _ _ _ h2
  obtain ⟨P, hP⟩ := reals _ _ _ _ _ _ h3
  obtain ⟨R, hR⟩ := reals _ _ _ _ _ _ h4
  exact ⟨⟨fun i d => X (ix2 i d), fun d => G (ix2 0 d), fun d e => W (ix2 d e), fun i e => P (ix2 i e), fun i d => R (ix2 i d)⟩,
    ⟨fun i d => congrFun hX _, fun d => congrFun hG _, fun d e => congrFun hW _, fun i e => congrFun hP _, fun i d => congrFun hR _⟩⟩

/-- The compiled kernel runs and leaves its arguments. -/
theorem frame_p : Cert.quiescent_ProjBwd := fun m ρ _ => Cert.ProjBwd.Gen.frame m ρ
/-- The ideal kernel runs and leaves its arguments. -/
theorem frame_pi : Cert.quiescent_ProjBwdIdeal := fun m ρ _ => Cert.ProjBwdIdeal.Gen.frame m ρ
/-- So it does from finite arguments. -/
theorem frame_pi_finite : Cert.quiescent_ProjBwdIdeal_pre_finite4 := fun m ρ _ => Cert.ProjBwdIdeal.Gen.frame m ρ
/-- The reference runs and leaves its arguments. -/
theorem frame_ri : Cert.quiescent_ProjBwdReferenceIdeal := fun m ρ _ =>
  (θ_run Cert.ProjBwdReferenceIdeal.defs _ _).mono (fun r h => ⟨fun c => (h c).2.2.2, Idealize.ShloMosaic.sem_eq_zero_of_no_sems (by decide) r.2⟩)
    (Cert.ProjBwdReferenceIdeal.Value.run (F := Ideal) m ρ)
/-- So it does from finite arguments. -/
theorem frame_ri_finite : Cert.quiescent_ProjBwdReferenceIdeal_pre_finite4 := fun m ρ _ => frame_ri m ρ trivial
/-- The ideal kernel is the compiled one's own text: no constant of it is named. -/
theorem preserves : Cert.preserves_ProjBwd_ProjBwdIdeal := trivial

/-- The gradient of the rows as an array. -/
def dxArr (a : Args) : FVec Ideal Cert.ProjBwdIdeal.S4096x1024 .f32 := fun y => ((a.dx (y 0) (y 1) : ℝ) : EReal)
/-- The gradient of the gain as an array. -/
def dgArr (a : Args) : FVec Ideal Cert.ProjBwdIdeal.S1x1024 .f32 := fun y => ((∑ i, a.dg i (y 1) : ℝ) : EReal)

section
open Cert.ProjBwdReferenceIdeal
/-- The reference's gradient of the normalised rows. -/
def dnA (w : FVec Ideal S1024x8192 .f32) (p : FVec Ideal S4096x8192 .f32) : FVec Ideal S4096x1024 .f32 :=
  Host.dotGeneral dot_S4096x8192_S1024x8192_S4096x1024_1_1_0_0_n_n none p w
theorem dnA_at {w : FVec Ideal S1024x8192 .f32} {p : FVec Ideal S4096x8192 .f32} {a : Args} (hw : ∀ d e, w (ix2 d e) = ((a.w d e : ℝ) : EReal))
    (hp : ∀ i e, p (ix2 i e) = ((a.p i e : ℝ) : EReal)) (i : Fin 4096) (d : Fin 1024) : dnA w p (ix2 i d) = ((a.dn i d : ℝ) : EReal) := by
  pointwise [dnA]
  simp only [hw, hp, ← EReal.coe_mul, coe_sum]
  rfl
variable (m : (ℓ : Loc nD τ sig) → Buf (Elt Ideal) ℓ) (c : Dev nD)
theorem res_dx : Value.res_main_v36 (F := Ideal) m c = Cert.FfnBwdReferenceIdeal.Read.dxA (m ((c.tc : Thread nD τ).loc main_arg0)) (m ((c.tc : Thread nD τ).loc main_arg1))
    (dnA (m ((c.tc : Thread nD τ).loc main_arg2)) (m ((c.tc : Thread nD τ).loc main_arg3))) (m ((c.tc : Thread nD τ).loc main_arg4)) := rfl
theorem res_dxb (y : S4096x1024.Idx) : Value.res_main_v37 (F := Ideal) m c y = Value.res_main_v36 (F := Ideal) m c y := rfl
end

/-- From finite arguments the kernel's three results are the reference's. -/
theorem algebraic : Cert.algebraic_ProjBwdIdeal_ProjBwdReferenceIdeal_pre_finite4 := by
  intro m g m' g' hp hag
  choose a H using args m hp
  refine ⟨fun c => dxArr (a c), fun c => dxArr (a c), fun c => dgArr (a c), ?_, ?_⟩
  · refine (θ_run Cert.ProjBwdIdeal.defs _ _).mono (fun r h c => ?_) (θ_run_and (Cert.ProjBwdIdeal.Gen.run_main m g) (Cert.ProjBwdIdeal.Gen.unchanged m g))
    exact ⟨((h.1 c).1 10).trans (final10 (H c) _ fun i d => rfl), ((h.1 c).1 11).trans (final11 (H c) _ fun i d => rfl), ((h.1 c).1 12).trans (final12 (H c) _ fun d => rfl), h.2 c⟩
  · refine (θ_run Cert.ProjBwdReferenceIdeal.defs _ _).mono (fun r h c => ?_) (Cert.ProjBwdReferenceIdeal.Value.run (F := Ideal) m' g')
    obtain ⟨a0, a1, a2, a3, a4⟩ := hag c
    have hx : ∀ i d, (m' ((c.tc : Thread Cert.ProjBwdReferenceIdeal.nD Cert.ProjBwdReferenceIdeal.τ).loc Cert.ProjBwdReferenceIdeal.main_arg0) : FVec Ideal Cert.ProjBwdReferenceIdeal.S4096x1024 .f32) (ix2 i d) = (((a c).x i d : ℝ) : EReal) :=
      fun i d => (congrFun a0 _).trans ((H c).a0 i d)
    have hu := dnA_at (fun d e => (congrFun a2 (ix2 d e)).trans ((H c).a2 d e)) (fun i e => (congrFun a3 (ix2 i e)).trans ((H c).a3 i e))
    have hd := fun i d => Cert.FfnBwdReferenceIdeal.Read.dxA_at hx hu (fun i d => (congrFun a4 (ix2 i d)).trans ((H c).a4 i d)) (fun d => (congrFun a1 (ix2 0 d)).trans ((H c).a1 d)) i d
    refine ⟨(h c).1.trans ?_, (h c).2.1.trans ?_, (h c).2.2.1.trans ?_, (h c).2.2.2⟩
    · funext y
      obtain ⟨i, d, rfl⟩ : ∃ (i : Fin 4096) (d : Fin 1024), y = ix2 i d := ⟨y 0, y 1, by blk_ext⟩
      rw [res_dx]
      exact hd i d
    · funext y
      obtain ⟨i, d, rfl⟩ : ∃ (i : Fin 4096) (d : Fin 1024), y = ix2 i d := ⟨y 0, y 1, by blk_ext⟩
      refine (res_dxb m' c _).trans ?_
      rw [res_dx]
      exact hd i d
    · funext y
      obtain ⟨d, rfl⟩ : ∃ d : Fin 1024, y = ix2 0 d := ⟨y 1, by blk_ext⟩
      exact Cert.FfnBwdReferenceIdeal.Read.dgA_at hx hu d

end Cert.Proof.ProjBwd

end
-- ==== Proof.FfnDw.lean ====
/-
  The gradient of the first two weights of a feed-forward layer: what the kernel leaves in the packed gradient and what the
  reference computes. No argument need be finite: the two are the same sums.
-/
module

public import proofs.«01_k».proof.Defs
public import proofs.«01_k».proof.Proof.Gen.FfnDw.Frame
public import proofs.«01_k».proof.Proof.Gen.FfnDwIdeal.Value
public import proofs.«01_k».proof.Proof.Gen.FfnDwReferenceIdeal.Run
public import Idealize.ShloMosaic.Lib.Pipeline.ValueKit
public import Idealize.ShloMosaic.Lib.StableHlo.RunRead
public import Idealize.ShloMosaic.Lib.Pointwise
public import Idealize.ShloMosaic.Lib.IdealHost
public import Idealize.ShloMosaic.Lib.Claim

@[expose] public section

set_option maxRecDepth 16384

noncomputable section

namespace Cert.FfnDwIdeal.Final

open Cert.FfnDwIdeal Cert.FfnDwIdeal.Gen
open Idealize.ShloMosaic Idealize.ShloMosaic.TcCoe Idealize.SL.Sem
open scoped BigOperators

/-- The gradient of one weight at a hidden position and a column: the sum over the rows. -/
def dw (A : FVec Ideal S2x4096x2816 .f32) (N : FVec Ideal S4096x1024 .f32) (w : Fin 2) (f : Fin 2816) (d : Fin 1024) : EReal :=
  ∑ i : Fin 4096, A (ix3 w i f) * N (ix2 i d)

theorem dw_congr (A : FVec Ideal S2x4096x2816 .f32) (N : FVec Ideal S4096x1024 .f32) {w w' : Fin 2} {f f' : Fin 2816} (d : Fin 1024)
    (hw : w.val = w'.val) (hf : f.val = f'.val) : dw A N w f d = dw A N w' f' d := by rw [Fin.ext hw, Fin.ext hf]

/-- The packed gradient: each of the eight shards holds its positions of the first weight, of the second, and the third part as it was. -/
def out (A : FVec Ideal S2x4096x2816 .f32) (N : FVec Ideal S4096x1024 .f32) (P : FVec Ideal S8x1056x1024 .f32) (k : Fin 8) (j : Fin 1056) (d : Fin 1024) : EReal :=
  if h : j.val < 352 then dw A N 0 ⟨k.val * 352 + j.val, by omega⟩ d
  else if h' : j.val < 704 then dw A N 1 ⟨k.val * 352 + (j.val - 352), by omega⟩ d else P (ix3 k j d)

theorem pay1_at (v0 : FVec Ideal S1x4096x1408 .bf16) (v2 : FVec Ideal S4096x1024 .bf16) (q : Fin 4) (j : Fin 352) (d : Fin 1024) :
    k0_pay1 (F := Ideal) v0 v2 (ix3 q j d) = ∑ i : Fin 4096, v0 (ix3 0 i ⟨q.val * 352 + j.val, by omega⟩) * v2 (ix2 i d) := by
  pointwise [k0_pay1]

variable (m : (ℓ : Loc nD τ sig) → Buf (Elt Ideal) ℓ) (c : Dev nD)

theorem v1 : V m c main_v1 = truncf (F := Ideal) .bf16 (m ((c.tc : Thread nD τ).loc main_arg0)) bitsLt_bf16_f32 := by
  show StableHlo.after hostOps0 (fun b => m (c, b)) (Proc.devRef .tc main_v1) = _
  after_reads_simp
theorem v2 : V m c main_v2 = truncf (F := Ideal) .bf16 (m ((c.tc : Thread nD τ).loc main_arg1)) bitsLt_bf16_f32 := by
  show StableHlo.after hostOps0 (fun b => m (c, b)) (Proc.devRef .tc main_v2) = _
  after_reads_simp
theorem v3 : V m c main_v3 = truncf (F := Ideal) .bf16 (m ((c.tc : Thread nD τ).loc main_arg2)) bitsLt_bf16_f32 := by
  show StableHlo.after hostOps0 (fun b => m (c, b)) (Proc.devRef .tc main_v3) = _
  after_reads_simp
  rfl

theorem idx : ∀ t : Fin cfg0.N, win0_0.index t = ![t.val / 2, 0, t.val % 2] ∧ win0_1.index t = ![0, 0] ∧ win0_2.index t = ![t.val % 2, t.val / 2, 0] :=
  (by decide +kernel : ∀ t : Fin grid0.N, _)
theorem points : ∀ t : Fin cfg0.N, t.val < 4 := (by decide +kernel : ∀ t : Fin grid0.N, _)
theorem flushes : ∀ t : Fin cfg0.N, (cfg0.win 2).flush t = true := (by decide +kernel : ∀ t : Fin grid0.N, win0_2.flush t = true)

theorem o2 (t : Fin cfg0.N) : outsAt0 m c t = k0_pay1 (F := Ideal) (iblk m c 0 t) (iblk m c 1 t) := by
  unfold outsAt0
  frame_out

theorem b0 (t : Fin cfg0.N) (i : Fin 4096) (f : Fin 1408) : (iblk m c 0 t : FVec Ideal S1x4096x1408 .bf16) (ix3 0 i f)
    = (m ((c.tc : Thread nD τ).loc main_arg0) : FVec Ideal S2x4096x2816 .f32) (ix3 ⟨t.val / 2, by have := points t; omega⟩ i ⟨t.val % 2 * 1408 + f.val, by omega⟩) := by
  have ht := points t
  refine Eq.trans (b := (V m c main_v1 : FVec Ideal S2x4096x2816 .bf16) (ix3 ⟨t.val / 2, by omega⟩ i ⟨t.val % 2 * 1408 + f.val, by omega⟩)) ?_ ?_
  · blk_ext [iblk, idx t]
  · rw [v1]
    rfl
theorem b1 (t : Fin cfg0.N) (i : Fin 4096) (d : Fin 1024) : (iblk m c 1 t : FVec Ideal S4096x1024 .bf16) (ix2 i d)
    = (m ((c.tc : Thread nD τ).loc main_arg1) : FVec Ideal S4096x1024 .f32) (ix2 i d) := by
  have ht := points t
  refine Eq.trans (b := (V m c main_v2 : FVec Ideal S4096x1024 .bf16) (ix2 i d)) ?_ ?_
  · blk_ext [iblk, idx t]
  · rw [v2]
    rfl

/-- The block a point writes back. -/
theorem block (t : Fin cfg0.N) (q : Fin 4) (j : Fin 352) (d : Fin 1024) : (outsAt0 m c t : FVec Ideal S4x352x1024 .bf16) (ix3 q j d)
    = dw (m ((c.tc : Thread nD τ).loc main_arg0)) (m ((c.tc : Thread nD τ).loc main_arg1)) ⟨t.val / 2, by have := points t; omega⟩ ⟨(t.val % 2 * 4 + q.val) * 352 + j.val, by omega⟩ d := by
  have ht := points t
  rw [o2, pay1_at, dw]
  refine Finset.sum_congr rfl fun i _ => ?_
  rw [b0, b1]
  have e : (⟨t.val % 2 * 1408 + (q.val * 352 + j.val), by omega⟩ : Fin 2816) = ⟨(t.val % 2 * 4 + q.val) * 352 + j.val, by omega⟩ := Fin.ext (by show t.val % 2 * 1408 + (q.val * 352 + j.val) = (t.val % 2 * 4 + q.val) * 352 + j.val; omega)
  rw [e]

theorem emb (t : Fin cfg0.N) (q : Fin 4) (j : Fin 352) (d : Fin 1024) : (win0_2.blk t).view.emb (ix3 q j d)
    = ix3 (⟨t.val % 2 * 4 + q.val, by omega⟩ : Fin 8) (⟨t.val / 2 * 352 + j.val, by have := points t; omega⟩ : Fin 1056) d := by
  have ht := points t
  blk_ext [idx t]

/-- The packed gradient at the end. -/
theorem final (k : Fin 8) (j : Fin 1056) (d : Fin 1024) : ((dats m 0 c).arrAt 2 cfg0.N : FVec Ideal S8x1056x1024 .bf16) (ix3 k j d)
    = out (m ((c.tc : Thread nD τ).loc main_arg0)) (m ((c.tc : Thread nD τ).loc main_arg1)) (m ((c.tc : Thread nD τ).loc main_arg2)) k j d := by
  by_cases hj : j.val < 704
  · have hN : cfg0.N = 4 := N_0
    obtain ⟨t, ht⟩ : ∃ t : Fin cfg0.N, t.val = j.val / 352 * 2 + k.val / 4 := ⟨⟨j.val / 352 * 2 + k.val / 4, by omega⟩, rfl⟩
    have e := emb t ⟨k.val % 4, by omega⟩ ⟨j.val % 352, by omega⟩ d
    have e1 : (⟨t.val % 2 * 4 + k.val % 4, by omega⟩ : Fin 8) = k := Fin.ext (by show t.val % 2 * 4 + k.val % 4 = k.val; omega)
    have e2 : (⟨t.val / 2 * 352 + j.val % 352, by have := points t; omega⟩ : Fin 1056) = j := Fin.ext (by show t.val / 2 * 352 + j.val % 352 = j.val; omega)
    have h := (dats m 0 c).arrAt_emb_eq_flushed 2 Value.disjoint2 t (flushes t) (ix3 ⟨k.val % 4, by omega⟩ ⟨j.val % 352, by omega⟩ d)
    rw [Value.flushed2] at h
    rw [e1, e2] at e
    have b := block m c t ⟨k.val % 4, by omega⟩ ⟨j.val % 352, by omega⟩ d
    refine (congrArg _ e.symm).trans (h.trans (Eq.trans ?_ (b.trans ?_)))
    · blk_simp
      rfl
    · unfold out
      split_ifs with h0
      · exact dw_congr _ _ d (by show t.val / 2 = 0; omega) (by show (t.val % 2 * 4 + k.val % 4) * 352 + j.val % 352 = k.val * 352 + j.val; omega)
      · exact dw_congr _ _ d (by show t.val / 2 = 1; omega) (by show (t.val % 2 * 4 + k.val % 4) * 352 + j.val % 352 = k.val * 352 + (j.val - 352); omega)
  · rw [out, dif_neg (by omega), dif_neg hj]
    refine (Value.entry2 m c _ fun t _ hi => ?_).trans ?_
    · obtain ⟨y, hy⟩ := View.exists_emb_of_mem_set _ hi
      obtain ⟨q, i, e, rfl⟩ : ∃ (q : Fin 4) (i : Fin 352) (e : Fin 1024), y = ix3 q i e := ⟨y 0, y 1, y 2, by blk_ext⟩
      have he := (emb t q i e).symm.trans hy
      have h1 := congrArg Fin.val (congrFun he 1)
      have ht := points t
      have h2 : t.val / 2 * 352 + i.val = j.val := h1
      omega
    · show (V m c main_v3 : FVec Ideal S8x1056x1024 .bf16) (ix3 k j d) = _
      rw [v3]
      rfl

end Cert.FfnDwIdeal.Final

namespace Cert.FfnDwReferenceIdeal.Read

open Cert.FfnDwReferenceIdeal Cert.FfnDwReferenceIdeal.Gen
open Idealize.ShloMosaic Idealize.ShloMosaic.TcCoe Idealize.SL.Sem
open scoped BigOperators

/-- The reference's gradient of the first weight, cut into shards. -/
def first (A : FVec Ideal S2x4096x2816 .f32) (N : FVec Ideal S4096x1024 .f32) : FVec Ideal S8x352x1024 .f32 :=
  shapeCast _ (transpose S2816x1024 [1, 0] (transpose S1024x2816 [1, 0] (Host.dotGeneral dot_S4096x2816_S4096x1024_S2816x1024_0_0_1_1_n_n none (shapeCast _ (extractStridedSlice S1x4096x2816 ![0, 0, 0] A slices_S2x4096x2816_S1x4096x2816_0_0_0) shapeCasts_S1x4096x2816_S4096x2816) N) transposes_S2816x1024_S1024x2816_1_0) transposes_S1024x2816_S2816x1024_1_0) shapeCasts_S2816x1024_S8x352x1024
/-- The reference's gradient of the second weight, cut into shards. -/
def second (A : FVec Ideal S2x4096x2816 .f32) (N : FVec Ideal S4096x1024 .f32) : FVec Ideal S8x352x1024 .f32 :=
  shapeCast _ (transpose S2816x1024 [1, 0] (transpose S1024x2816 [1, 0] (Host.dotGeneral dot_S4096x2816_S4096x1024_S2816x1024_0_0_1_1_n_n none (shapeCast _ (extractStridedSlice S1x4096x2816 ![1, 0, 0] A slices_S2x4096x2816_S1x4096x2816_1_0_0) shapeCasts_S1x4096x2816_S4096x2816) N) transposes_S2816x1024_S1024x2816_1_0) transposes_S1024x2816_S2816x1024_1_0) shapeCasts_S2816x1024_S8x352x1024
/-- Three parts laid side by side shard by shard, the third cut out of a packed array. -/
def pack (X Y : FVec Ideal S8x352x1024 .f32) (P : FVec Ideal S8x1056x1024 .f32) : FVec Ideal S8x1056x1024 .bf16 :=
  truncf .bf16 (concatenate (α := Ideal .f32) S8x1056x1024 1 [⟨S8x352x1024, X⟩, ⟨S8x352x1024, Y⟩, ⟨S8x352x1024, extractStridedSlice S8x352x1024 ![0, 704, 0] P slices_S8x1056x1024_S8x352x1024_0_704_0⟩] concatenates_S8x352x1024_S8x352x1024_S8x352x1024_S8x1056x1024_d1) bitsLt_bf16_f32

section
variable (A : FVec Ideal S2x4096x2816 .f32) (N : FVec Ideal S4096x1024 .f32) (X Y : FVec Ideal S8x352x1024 .f32) (P : FVec Ideal S8x1056x1024 .f32)

theorem first_at (k : Fin 8) (j : Fin 352) (d : Fin 1024) : first A N (ix3 k j d) = Cert.FfnDwIdeal.Final.dw A N 0 ⟨k.val * 352 + j.val, by omega⟩ d := by
  rw [Cert.FfnDwIdeal.Final.dw]
  pointwise [first]
theorem second_at (k : Fin 8) (j : Fin 352) (d : Fin 1024) : second A N (ix3 k j d) = Cert.FfnDwIdeal.Final.dw A N 1 ⟨k.val * 352 + j.val, by omega⟩ d := by
  rw [Cert.FfnDwIdeal.Final.dw]
  pointwise [second]

theorem pack_first (k : Fin 8) (j : Fin 352) (d : Fin 1024) : pack X Y P (ix3 k ⟨j.val, by omega⟩ d) = X (ix3 k j d) := by
  pointwise [pack]
theorem pack_second (k : Fin 8) (j : Fin 352) (d : Fin 1024) : pack X Y P (ix3 k ⟨352 + j.val, by omega⟩ d) = Y (ix3 k j d) := by
  pointwise [pack]
theorem pack_third (k : Fin 8) (j : Fin 352) (d : Fin 1024) : pack X Y P (ix3 k ⟨704 + j.val, by omega⟩ d) = P (ix3 k ⟨704 + j.val, by omega⟩ d) := by
  pointwise [pack]
  have e : 704 + (704 + j.val - 352 - 352) = 704 + j.val := by omega
  rw [dif_neg (by omega), dif_neg (by omega)]
  simp only [e]

/-- The reference's packed gradient is the kernel's. -/
theorem ref_at (k : Fin 8) (j : Fin 1056) (d : Fin 1024) : pack (first A N) (second A N) P (ix3 k j d) = Cert.FfnDwIdeal.Final.out A N P k j d := by
  unfold Cert.FfnDwIdeal.Final.out
  split_ifs with h h'
  · exact (pack_first _ _ P k ⟨j.val, h⟩ d).trans (first_at A N k ⟨j.val, h⟩ d)
  · have e : j = ⟨352 + (j.val - 352), by omega⟩ := Fin.ext (by show j.val = 352 + (j.val - 352); omega)
    exact (congrArg (fun z => pack (first A N) (second A N) P (ix3 k z d)) e).trans ((pack_second _ _ P k ⟨j.val - 352, by omega⟩ d).trans (second_at A N k ⟨j.val - 352, by omega⟩ d))
  · have e : j = ⟨704 + (j.val - 704), by omega⟩ := Fin.ext (by show j.val = 704 + (j.val - 704); omega)
    exact (congrArg (fun z => pack (first A N) (second A N) P (ix3 k z d)) e).trans ((pack_third _ _ P k ⟨j.val - 704, by omega⟩ d).trans (congrArg (fun z => P (ix3 k z d)) e.symm))
end

end Cert.FfnDwReferenceIdeal.Read

namespace Cert.Proof.FfnDw

open Idealize.ShloMosaic Idealize.ShloMosaic.TcCoe Idealize.SL.Sem

/-- The compiled kernel runs and leaves its arguments. -/
theorem frame_p : Cert.quiescent_FfnDw := fun m ρ _ => Cert.FfnDw.Gen.frame m ρ
/-- The ideal kernel runs and leaves its arguments. -/
theorem frame_pi : Cert.quiescent_FfnDwIdeal := fun m ρ _ => Cert.FfnDwIdeal.Gen.frame m ρ
/-- The reference runs and leaves its arguments. -/
theorem frame_ri : Cert.quiescent_FfnDwReferenceIdeal := fun m ρ _ =>
  (θ_run Cert.FfnDwReferenceIdeal.defs _ _).mono (fun r h => ⟨fun c => (h c).2, Idealize.ShloMosaic.sem_eq_zero_of_no_sems (by decide) r.2⟩)
    (Cert.FfnDwReferenceIdeal.Value.run (F := Ideal) m ρ)
/-- The ideal kernel is the compiled one's own text: no constant of it is named. -/
theorem preserves : Cert.preserves_FfnDw_FfnDwIdeal := trivial

/-- From any arguments the kernel's packed gradient is the reference's. -/
theorem algebraic : Cert.algebraic_FfnDwIdeal_FfnDwReferenceIdeal := by
  intro m g m' g' _ hag
  refine ⟨fun c => (Cert.FfnDwIdeal.Gen.dats m 0 c).arrAt 2 Cert.FfnDwIdeal.cfg0.N, ?_, ?_⟩
  · refine (θ_run Cert.FfnDwIdeal.defs _ _).mono (fun r h c => ?_) (θ_run_and (Cert.FfnDwIdeal.Gen.run_main m g) (Cert.FfnDwIdeal.Gen.unchanged m g))
    exact ⟨(h.1 c).1 2, h.2 c⟩
  · refine (θ_run Cert.FfnDwReferenceIdeal.defs _ _).mono (fun r h c => ?_) (Cert.FfnDwReferenceIdeal.Value.run (F := Ideal) m' g')
    obtain ⟨a0, a1, a2⟩ := hag c
    refine ⟨(h c).1.trans ?_, (h c).2⟩
    funext y
    obtain ⟨k, j, d, rfl⟩ : ∃ (k : Fin 8) (j : Fin 1056) (d : Fin 1024), y = ix3 k j d := ⟨y 0, y 1, y 2, by blk_ext⟩
    refine Eq.trans ?_ (Cert.FfnDwIdeal.Final.final m c k j d).symm
    rw [a0, a1, a2]
    exact Cert.FfnDwReferenceIdeal.Read.ref_at _ _ _ k j d

end Cert.Proof.FfnDw

end
-- ==== Proof.FfnGateFinal.lean ====
/-
  The gradient of a feed-forward layer's gate: what the kernel leaves in its result, of real arguments, and the reference read
  at the same arguments.
-/
module

public import proofs.«01_k».proof.Proof.FfnPay
public import proofs.«01_k».proof.Proof.Gen.FfnGateIdeal.Value
public import proofs.«01_k».proof.Proof.Gen.FfnGateReferenceIdeal.Run
public import Idealize.ShloMosaic.Lib.Pipeline.ValueKit
public import Idealize.ShloMosaic.Lib.StableHlo.RunRead
public import Idealize.ShloMosaic.Lib.Pointwise
public import Idealize.ShloMosaic.Lib.IdealHost

@[expose] public section

set_option maxRecDepth 16384

noncomputable section

namespace Cert.FfnGateIdeal.Final

open Cert.FfnGateIdeal Cert.FfnGateIdeal.Gen Cert.FfnRows Cert.Softmax
open Cert.FfnIdeal.Pay (Rows R1 R2 R3 RC div_width coe_one)
open Idealize.ShloMosaic Idealize.ShloMosaic.TcCoe Idealize.SL.Sem
open Idealize.ShloMosaic.Pipeline (Dat)
open scoped BigOperators

/-! ## The arguments -/

/-- The weight, the gate's argument, the gated value and the gradient of the layer's output. -/
structure Args where
  w : Fin 2816 → Fin 1024 → ℝ
  a : Fin 4096 → Fin 2816 → ℝ
  b : Fin 4096 → Fin 2816 → ℝ
  g : Fin 4096 → Fin 1024 → ℝ

/-- The gradient of the gate's argument from the gradient of the hidden value. -/
def gateA (d a b : ℝ) : ℝ := d * b * (sg a * (1 + a * (1 - sg a)))
/-- The gradient of the gated value from the gradient of the hidden value. -/
def gateB (d a : ℝ) : ℝ := d * (a * sg a)

namespace Args
variable (n : Args) (i : Fin 4096) (f : Fin 2816)
/-- The gradient of the hidden value. -/
def dh : ℝ := 1 / 2 * ∑ d, n.g i d * n.w f d
/-- The gradients of the gate's argument and of the gated value, one after the other. -/
def dab (k : Fin 2) : ℝ := if k.val = 0 then gateA (n.dh i f) (n.a i f) (n.b i f) else gateB (n.dh i f) (n.a i f)
end Args

/-! ## The payloads -/

section
variable {v0 : FVec Ideal S256x1024 .bf16} {v2 : FVec Ideal S8x352x1024 .bf16} {v8 v11 : FVec Ideal S1x256x2816 .bf16}
variable {C : Rows 1024} {W : Fin 2816 → Fin 1024 → ℝ} {A B D : Rows 2816}
variable (h0 : R2 v0 C) (h2 : ∀ (f : Fin 2816) d, v2 (ix3 ⟨f.val / 352, by omega⟩ ⟨f.val % 352, by omega⟩ d) = ((W f d : ℝ) : EReal))
variable (h8 : R3 v8 A) (h11 : R3 v11 B) (hd : R2 (k0_pay2 (F := Ideal) v0 v2) D)

include h0 h2 in
theorem pay2_at : R2 (k0_pay2 (F := Ideal) v0 v2) fun r f => 1 / 2 * ∑ d, C r d * W f d := by
  intro r f
  pointwise [k0_pay2]
  simp only [h0, h2, half_bits, ← EReal.coe_mul, coe_sum]

include h8 in
theorem pay3_at : R2 (k0_pay3 (F := Ideal) v8) A := by
  intro r f
  pointwise [k0_pay3]
  exact h8 r f

include h8 in
theorem pay4_at : R2 (k0_pay4 (F := Ideal) v8) fun r f => sg (A r f) := by
  have h := pay3_at h8
  intro r f
  pointwise [k0_pay4]
  simp only [h, Ideal.tanh_coe, half_bits, ← EReal.coe_mul, ← EReal.coe_add]
  rw [sg_tanh]

include h8 h11 hd in
theorem pay5_at : R3 (k0_pay5 (F := Ideal) v0 v2 v8 v11) fun r f => gateA (D r f) (A r f) (B r f) := by
  have h := pay3_at h8
  have h' := pay4_at h8
  intro r f
  pointwise [k0_pay5]
  simp only [h, h', h11, hd, coe_one, ← EReal.coe_mul, ← EReal.coe_add, ← EReal.coe_sub]
  rfl

include h8 hd in
theorem pay6_at : R2 (k0_pay6 (F := Ideal) v0 v2 v8) fun r f => gateB (D r f) (A r f) := by
  have h := pay3_at h8
  have h' := pay4_at h8
  intro r f
  pointwise [k0_pay6]
  simp only [h, h', hd, ← EReal.coe_mul]
  rfl
end

theorem pay1_at {v : FVec Ideal S256x2816 .bf16} {A : Rows 2816} (h : R2 v A) : R3 (k0_pay1 (F := Ideal) v) A := by
  intro r f
  pointwise [k0_pay1]
  exact h r f

/-! ## The host's arrays -/

/-- The gate's argument, the gated value and a slab of zeros, one after another. -/
def stacked (A B : FVec Ideal S4096x2816 .f32) : FVec Ideal S3x4096x2816 .bf16 :=
  truncf .bf16 (concatenate (α := Ideal .f32) S3x4096x2816 0 [⟨S1x4096x2816, broadcastInDim S1x4096x2816 ![1, 2] bcast_S4096x2816_S1x4096x2816_1_2 A⟩,
    ⟨S1x4096x2816, broadcastInDim S1x4096x2816 ![1, 2] bcast_S4096x2816_S1x4096x2816_1_2 B⟩,
    ⟨S1x4096x2816, broadcastInDim S1x4096x2816 ![1, 2] bcast_S4096x2816_S1x4096x2816_1_2 (broadcastInDim S4096x2816 ![] bcast_S_S4096x2816 (constant (F := Ideal) S_ .f32 0x00000000#32))⟩]
    concatenates_S1x4096x2816_S1x4096x2816_S1x4096x2816_S3x4096x2816_d0) bitsLt_bf16_f32

section
variable (A B : FVec Ideal S4096x2816 .f32) (i : Fin 4096) (f : Fin 2816)
theorem stacked_first : stacked A B (ix3 0 i f) = A (ix2 i f) := by
  pointwise [stacked]
theorem stacked_second : stacked A B (ix3 1 i f) = B (ix2 i f) := by
  pointwise [stacked]
end

/-- The weight cut into eight shards. -/
def sharded (A : FVec Ideal S2816x1024 .f32) : FVec Ideal S8x352x1024 .bf16 :=
  truncf .bf16 (shapeCast S8x352x1024 A shapeCasts_S2816x1024_S8x352x1024) bitsLt_bf16_f32
theorem sharded_at (A : FVec Ideal S2816x1024 .f32) (k : Fin 8) (j : Fin 352) (d : Fin 1024) :
    sharded A (ix3 k j d) = A (ix2 ⟨k.val * 352 + j.val, by omega⟩ d) := by
  pointwise [sharded]

variable (m : (ℓ : Loc nD τ sig) → Buf (Elt Ideal) ℓ) (c : Dev nD)

theorem v5 : V m c main_v5 = stacked (m ((c.tc : Thread nD τ).loc main_arg1)) (m ((c.tc : Thread nD τ).loc main_arg2)) := by
  show StableHlo.after hostOps0 (fun b => m (c, b)) (Proc.devRef .tc main_v5) = _
  after_reads_simp
  rfl
theorem v6 : V m c main_v6 = truncf (F := Ideal) .bf16 (m ((c.tc : Thread nD τ).loc main_arg3)) bitsLt_bf16_f32 := by
  show StableHlo.after hostOps0 (fun b => m (c, b)) (Proc.devRef .tc main_v6) = _
  after_reads_simp
theorem v8 : V m c main_v8 = sharded (m ((c.tc : Thread nD τ).loc main_arg0)) := by
  show StableHlo.after hostOps0 (fun b => m (c, b)) (Proc.devRef .tc main_v8) = _
  after_reads_simp
  rfl

/-- The program's arguments are real arrays. -/
structure RealArgs (n : Args) : Prop where
  a0 : ∀ f d, (m ((c.tc : Thread nD τ).loc main_arg0) : FVec Ideal S2816x1024 .f32) (ix2 f d) = ((n.w f d : ℝ) : EReal)
  a1 : ∀ i f, (m ((c.tc : Thread nD τ).loc main_arg1) : FVec Ideal S4096x2816 .f32) (ix2 i f) = ((n.a i f : ℝ) : EReal)
  a2 : ∀ i f, (m ((c.tc : Thread nD τ).loc main_arg2) : FVec Ideal S4096x2816 .f32) (ix2 i f) = ((n.b i f : ℝ) : EReal)
  a3 : ∀ i d, (m ((c.tc : Thread nD τ).loc main_arg3) : FVec Ideal S4096x1024 .f32) (ix2 i d) = ((n.g i d : ℝ) : EReal)

/-! ## The blocks of a point -/

/-- The row at row `r` of a point's tile. -/
def row (t : Fin cfg0.N) (r : Fin 256) : Fin 4096 := ⟨t.val * 256 + r.val, by have := lt_of_lt_of_eq t.isLt N_0; omega⟩

theorem idx : ∀ t : Fin cfg0.N, win0_0.index t = ![t.val, 0] ∧ win0_1.index t = ![0, 0, 0] ∧ win0_2.index t = ![0, t.val, 0]
    ∧ win0_3.index t = ![0, t.val, 0] :=
  (by decide +kernel : ∀ t : Fin grid0.N, _)

/-- The gate's argument at a point's rows. -/
def s0 (B : FVec Ideal S2x256x2816 .bf16) : FVec Ideal S1x256x2816 .bf16 := View.ld (Val := Elt Ideal) (e' := .bf16) B (Rect.unit (s := S2x256x2816) ![0, 0, 0] S1x256x2816.size inb_S2x256x2816_S1x256x2816_0_0_0)
/-- The gated value at a point's rows. -/
def s1 (B : FVec Ideal S2x256x2816 .bf16) : FVec Ideal S1x256x2816 .bf16 := View.ld (Val := Elt Ideal) (e' := .bf16) B (Rect.unit (s := S2x256x2816) ![1, 0, 0] S1x256x2816.size inb_S2x256x2816_S1x256x2816_1_0_0)

theorem s0_at (B : FVec Ideal S2x256x2816 .bf16) (r : Fin 256) (f : Fin 2816) : s0 B (ix3 0 r f) = B (ix3 0 r f) := by
  pointwise [s0]
theorem s1_at (B : FVec Ideal S2x256x2816 .bf16) (r : Fin 256) (f : Fin 2816) : s1 B (ix3 0 r f) = B (ix3 1 r f) := by
  pointwise [s1]

/-- The stacked arrays at a point's rows. -/
theorem x2 (t : Fin cfg0.N) (k : Fin 2) (r : Fin 256) (f : Fin 2816) :
    (X0_2 m c t : FVec Ideal S2x256x2816 .bf16) (ix3 k r f) = (V m c main_v5 : FVec Ideal S3x4096x2816 .bf16) (ix3 ⟨k.val, by omega⟩ (row t r) f) := by
  have ht := lt_of_lt_of_eq t.isLt N_0
  unfold X0_2 Pipeline.Window.fill
  rw [dif_pos (moved0_2 t _)]
  blk_ext [iblk, idx t, row]

section
variable {m c} {n : Args} (H : RealArgs m c n) (t : Fin cfg0.N)
include H

theorem b0 : R2 (φ := .bf16) (iblk m c 0 t) fun r d => n.g (row t r) d := by
  intro r d
  have ht := lt_of_lt_of_eq t.isLt N_0
  refine Eq.trans (b := (V m c main_v6 : FVec Ideal S4096x1024 .bf16) (ix2 (row t r) d)) ?_ ?_
  · blk_ext [iblk, idx t, row]
  · rw [v6]
    exact H.a3 _ _
theorem b1 (f : Fin 2816) (d : Fin 1024) : (iblk m c 1 t : FVec Ideal S8x352x1024 .bf16) (ix3 ⟨f.val / 352, by omega⟩ ⟨f.val % 352, by omega⟩ d) = ((n.w f d : ℝ) : EReal) := by
  have ht := lt_of_lt_of_eq t.isLt N_0
  refine Eq.trans (b := (V m c main_v8 : FVec Ideal S8x352x1024 .bf16) (ix3 ⟨f.val / 352, by omega⟩ ⟨f.val % 352, by omega⟩ d)) ?_ ?_
  · blk_ext [iblk, idx t]
  · rw [v8, sharded_at]
    exact (H.a0 _ _).trans (congrArg (fun k => ((n.w k d : ℝ) : EReal)) (Fin.ext (by show f.val / 352 * 352 + f.val % 352 = f.val; omega)))
theorem b2a : R3 (s0 (X0_2 m c t)) fun r f => n.a (row t r) f := by
  intro r f
  refine ((s0_at _ r f).trans (x2 m c t 0 r f)).trans ?_
  rw [v5]
  exact (stacked_first _ _ _ _).trans (H.a1 _ _)
theorem b2b : R3 (s1 (X0_2 m c t)) fun r f => n.b (row t r) f := by
  intro r f
  refine ((s1_at _ r f).trans (x2 m c t 1 r f)).trans ?_
  rw [v5]
  exact (stacked_second _ _ _ _).trans (H.a2 _ _)
theorem dh_at : R2 (k0_pay2 (F := Ideal) (iblk m c 0 t) (iblk m c 1 t)) fun r f => n.dh (row t r) f := pay2_at (b0 H t) (b1 H t)
end

/-! ## What a point leaves in its block -/

/-- The two slabs a point stores. -/
def slabs (v0 : FVec Ideal S256x1024 .bf16) (v2 : FVec Ideal S8x352x1024 .bf16) (v8 v11 : FVec Ideal S1x256x2816 .bf16) : FVec Ideal S2x256x2816 .bf16 :=
  View.canon (Val := Elt Ideal) (s := S2x256x2816) (e := .bf16)
    [⟨Rect.unit ![1, 0, 0] S1x256x2816.size inb_S2x256x2816_S1x256x2816_1_0_0, k0_pay1 (F := Ideal) (k0_pay6 v0 v2 v8)⟩,
     ⟨Rect.unit ![0, 0, 0] S1x256x2816.size inb_S2x256x2816_S1x256x2816_0_0_0, k0_pay5 (F := Ideal) v0 v2 v8 v11⟩]

theorem o3 (t : Fin cfg0.N) : outsAt0 m c t = slabs (iblk m c 0 t) (iblk m c 1 t) (s0 (X0_2 m c t)) (s1 (X0_2 m c t)) := by
  obtain ⟨R, hR⟩ : ∃ R, R = slabs (iblk m c 0 t) (iblk m c 1 t) (s0 (X0_2 m c t)) (s1 (X0_2 m c t)) := ⟨_, rfl⟩
  rw [← hR]
  unfold outsAt0
  frame_out
  rw [hR]
  rfl

/-- A stored piece read at its own index. -/
theorem piece {v : FVec Ideal S1x256x2816 .bf16} {A : Rows 2816} (h : R3 v A) (x : S1x256x2816.Idx) (r : Fin 256) (e : ℝ)
    (h1 : r.val = (x 1).val) (f : Fin 2816) (h2 : f.val = (x 2).val) (g : A r f = e) : v x = (e : EReal) := by
  have hx : x = ix3 0 r f := by
    blk_ext
  rw [hx, h, g]

variable {m c} {n : Args}

theorem slabs_at (H : RealArgs m c n) (t : Fin cfg0.N) (k : Fin 2) (r : Fin 256) (f : Fin 2816) :
    slabs (iblk m c 0 t) (iblk m c 1 t) (s0 (X0_2 m c t)) (s1 (X0_2 m c t)) (ix3 k r f) = ((n.dab (row t r) f k : ℝ) : EReal) := by
  have p1 := pay1_at (pay6_at (b2a H t) (dh_at H t))
  have p0 := pay5_at (b2a H t) (b2b H t) (dh_at H t)
  unfold slabs
  canon_tiles x h
  case piece0 => exact piece p1 x r _ h1 f h2 (by rw [Args.dab, if_neg (by have : k.val = 1 + (x 0).val := h0; omega)])
  case piece1 => exact piece p0 x r _ h1 f h2 (by rw [Args.dab, if_pos (by have : k.val = (x 0).val := h0; omega)])

/-- The gradients of the gate's argument and of the gated value. -/
theorem final3 (H : RealArgs m c n) (G : FVec Ideal S2x4096x2816 .bf16) (hG : ∀ k i f, G (ix3 k i f) = ((n.dab i f k : ℝ) : EReal)) :
    (dats m 0 c).arrAt 3 cfg0.N = G := by
  refine (dats m 0 c).arrAt_eq_of_covers 3 _ (by decide +kernel) fun t hf z => ?_
  blk_simp
  rw [after0_3, o3]
  obtain ⟨k, r, f, rfl⟩ : ∃ (k : Fin 2) (r : Fin 256) (f : Fin 2816), z = ix3 k r f := ⟨z 0, z 1, z 2, by blk_ext⟩
  have ht := lt_of_lt_of_eq t.isLt N_0
  have e : (win0_3.blk t).view.emb (ix3 k r f) = ix3 k (row t r) f := by blk_ext [idx t, row]
  rw [e, hG]
  exact slabs_at H t k r f

end Cert.FfnGateIdeal.Final

namespace Cert.FfnGateReferenceIdeal.Read

open Cert.FfnGateReferenceIdeal Cert.FfnGateReferenceIdeal.Gen Cert.FfnRows Cert.Softmax
open Cert.FfnIdeal.Pay (coe_one)
open Cert.FfnGateIdeal.Final (gateA gateB)
open Idealize.ShloMosaic Idealize.ShloMosaic.TcCoe Idealize.SL.Sem
open scoped BigOperators

/-- The logistic function of an array. -/
def sgA (a : FVec Ideal S4096x2816 .f32) : FVec Ideal S4096x2816 .f32 := Host.divf (broadcastInDim S4096x2816 ![] bcast_S_S4096x2816 (constant S_ .f32 0x3F800000#32)) (addf (broadcastInDim S4096x2816 ![] bcast_S_S4096x2816 (constant S_ .f32 0x3F800000#32)) (Host.exp (Host.negf a)))
/-- The gradient of the hidden values. -/
def dhA (w : FVec Ideal S2816x1024 .f32) (g : FVec Ideal S4096x1024 .f32) : FVec Ideal S4096x2816 .f32 := Host.dotGeneral dot_S4096x1024_S2816x1024_S4096x2816_1_1_0_0_n_n none (mulf (broadcastInDim S4096x1024 ![] bcast_S_S4096x1024 (constant S_ .f32 0x3F000000#32)) g) w
/-- The gradient of the gate's argument. -/
def daA (d s a b : FVec Ideal S4096x2816 .f32) : FVec Ideal S4096x2816 .f32 := addf (mulf (mulf d b) s) (mulf (mulf a (mulf d b)) (mulf s (subf (broadcastInDim S4096x2816 ![] bcast_S_S4096x2816 (constant S_ .f32 0x3F800000#32)) s)))
/-- The two gradients, one after the other. -/
def both (A B : FVec Ideal S4096x2816 .f32) : FVec Ideal S2x4096x2816 .bf16 := truncf .bf16 (concatenate (α := Ideal .f32) S2x4096x2816 0 [⟨S1x4096x2816, broadcastInDim S1x4096x2816 ![1, 2] bcast_S4096x2816_S1x4096x2816_1_2 A⟩, ⟨S1x4096x2816, broadcastInDim S1x4096x2816 ![1, 2] bcast_S4096x2816_S1x4096x2816_1_2 B⟩] concatenates_S1x4096x2816_S1x4096x2816_S2x4096x2816_d0) bitsLt_bf16_f32

section
variable (A B : FVec Ideal S4096x2816 .f32) (i : Fin 4096) (f : Fin 2816)
theorem both_first : both A B (ix3 0 i f) = A (ix2 i f) := by
  pointwise [both]
theorem both_second : both A B (ix3 1 i f) = B (ix2 i f) := by
  pointwise [both]
end

section
variable {w : FVec Ideal S2816x1024 .f32} {g : FVec Ideal S4096x1024 .f32} {a b d s : FVec Ideal S4096x2816 .f32}
variable {W : Fin 2816 → Fin 1024 → ℝ} {G : Fin 4096 → Fin 1024 → ℝ} {A B D : Fin 4096 → Fin 2816 → ℝ}
variable (hw : ∀ f e, w (ix2 f e) = ((W f e : ℝ) : EReal)) (hg : ∀ i e, g (ix2 i e) = ((G i e : ℝ) : EReal))
variable (ha : ∀ i f, a (ix2 i f) = ((A i f : ℝ) : EReal)) (hb : ∀ i f, b (ix2 i f) = ((B i f : ℝ) : EReal))
variable (hd : ∀ i f, d (ix2 i f) = ((D i f : ℝ) : EReal)) (hs : ∀ i f, s (ix2 i f) = ((sg (A i f) : ℝ) : EReal))

include ha in
theorem sgA_at (i : Fin 4096) (f : Fin 2816) : sgA a (ix2 i f) = ((sg (A i f) : ℝ) : EReal) := by
  pointwise [sgA]
  simp only [ha, Ideal.exp_coe, coe_one, ← EReal.coe_neg, ← EReal.coe_add]
  rw [div_coe_coe _ (one_add_exp_ne _), sg]

include hw hg in
theorem dhA_at (i : Fin 4096) (f : Fin 2816) : dhA w g (ix2 i f) = ((1 / 2 * ∑ e, G i e * W f e : ℝ) : EReal) := by
  pointwise [dhA]
  simp only [hw, hg, half_bits, ← EReal.coe_mul, coe_sum]
  rw [Finset.mul_sum]
  exact congrArg _ (Finset.sum_congr rfl fun d _ => mul_assoc _ _ _)

include ha hb hd hs in
theorem daA_at (i : Fin 4096) (f : Fin 2816) : daA d s a b (ix2 i f) = ((gateA (D i f) (A i f) (B i f) : ℝ) : EReal) := by
  pointwise [daA]
  simp only [ha, hb, hd, hs, coe_one, ← EReal.coe_mul, ← EReal.coe_add, ← EReal.coe_sub]
  rw [gateA]
  exact congrArg _ (by ring)

include ha hd hs in
theorem dbA_at (i : Fin 4096) (f : Fin 2816) : (mulf (F := Ideal) (mulf a s) d : FVec Ideal S4096x2816 .f32) (ix2 i f) = ((gateB (D i f) (A i f) : ℝ) : EReal) := by
  show a (ix2 i f) * s (ix2 i f) * d (ix2 i f) = _
  simp only [ha, hd, hs, ← EReal.coe_mul]
  rw [gateB]
  exact congrArg _ (by ring)
end

end Cert.FfnGateReferenceIdeal.Read

end
-- ==== Proof.FfnGateClaims.lean ====
/-
  The claims about the gradient of a feed-forward layer's gate: the frames of the three programs, and the equality of the
  kernel's result with the reference's.
-/
module

public import proofs.«01_k».proof.Defs
public import proofs.«01_k».proof.Proof.Finite
public import proofs.«01_k».proof.Proof.FfnGateFinal
public import proofs.«01_k».proof.Proof.Gen.Pre_finite6
public import proofs.«01_k».proof.Proof.Gen.FfnGate.Frame
public import Idealize.ShloMosaic.Lib.Claim

@[expose] public section

set_option maxRecDepth 16384

noncomputable section

namespace Cert.Proof.FfnGate

open Cert.Finite Cert.FfnGateIdeal.Final
open Idealize.ShloMosaic Idealize.ShloMosaic.TcCoe Idealize.SL.Sem
open scoped BigOperators

/-- Under the precondition each device's arguments are real arrays. -/
theorem args (m : (ℓ : Loc Cert.FfnGateIdeal.nD Cert.FfnGateIdeal.τ Cert.FfnGateIdeal.sig) → Buf (Elt Ideal) ℓ)
    (hp : Cert.Pre_FfnGateIdeal_finite6 (hPre_finite6 := Cert.Pre_finite6.Gen.facts) m) (c : Dev Cert.FfnGateIdeal.nD) :
    ∃ n, RealArgs m c n := by
  have h := congrFun (hp c) (Shape.Idx.first Cert.Pre_finite6.Facts.h_S_)
  obtain ⟨h02, h3⟩ := IntOp.andi_eq_one.1 h
  obtain ⟨h01, h2⟩ := IntOp.andi_eq_one.1 h02
  obtain ⟨h0, h1⟩ := IntOp.andi_eq_one.1 h01
  obtain ⟨W, hW⟩ := reals _ _ _ _ _ _ h0
  obtain ⟨A, hA⟩ := reals _ _ _ _ _ _ h1
  obtain ⟨B, hB⟩ := reals _ _ _ _ _ _ h2
  obtain ⟨G, hG⟩ := reals _ _ _ _ _ _ h3
  exact ⟨⟨fun f d => W (ix2 f d), fun i f => A (ix2 i f), fun i f => B (ix2 i f), fun i d => G (ix2 i d)⟩,
    ⟨fun f d => congrFun hW _, fun i f => congrFun hA _, fun i f => congrFun hB _, fun i d => congrFun hG _⟩⟩

/-- The compiled kernel runs and leaves its arguments. -/
theorem frame_p : Cert.quiescent_FfnGate := fun m ρ _ => Cert.FfnGate.Gen.frame m ρ
/-- The ideal kernel runs and leaves its arguments. -/
theorem frame_pi : Cert.quiescent_FfnGateIdeal := fun m ρ _ => Cert.FfnGateIdeal.Gen.frame m ρ
/-- So it does from finite arguments. -/
theorem frame_pi_finite : Cert.quiescent_FfnGateIdeal_pre_finite6 := fun m ρ _ => Cert.FfnGateIdeal.Gen.frame m ρ
/-- The reference runs and leaves its arguments. -/
theorem frame_ri : Cert.quiescent_FfnGateReferenceIdeal := fun m ρ _ =>
  (θ_run Cert.FfnGateReferenceIdeal.defs _ _).mono (fun r h => ⟨fun c => (h c).2, Idealize.ShloMosaic.sem_eq_zero_of_no_sems (by decide) r.2⟩)
    (Cert.FfnGateReferenceIdeal.Value.run (F := Ideal) m ρ)
/-- So it does from finite arguments. -/
theorem frame_ri_finite : Cert.quiescent_FfnGateReferenceIdeal_pre_finite6 := fun m ρ _ => frame_ri m ρ trivial
/-- The ideal kernel is the compiled one's own text: no constant of it is named. -/
theorem preserves : Cert.preserves_FfnGate_FfnGateIdeal := trivial

/-- The two gradients as an array. -/
def dabArr (n : Args) : FVec Ideal Cert.FfnGateIdeal.S2x4096x2816 .bf16 := fun y => ((n.dab (y 1) (y 2) (y 0) : ℝ) : EReal)

/-- From finite arguments the kernel's result is the reference's. -/
theorem algebraic : Cert.algebraic_FfnGateIdeal_FfnGateReferenceIdeal_pre_finite6 := by
  intro m g m' g' hp hag
  choose n H using args m hp
  refine ⟨fun c => dabArr (n c), ?_, ?_⟩
  · refine (θ_run Cert.FfnGateIdeal.defs _ _).mono (fun r h c => ?_) (θ_run_and (Cert.FfnGateIdeal.Gen.run_main m g) (Cert.FfnGateIdeal.Gen.unchanged m g))
    exact ⟨((h.1 c).1 3).trans (final3 (H c) _ fun k i f => rfl), h.2 c⟩
  · refine (θ_run Cert.FfnGateReferenceIdeal.defs _ _).mono (fun r h c => ?_) (Cert.FfnGateReferenceIdeal.Value.run (F := Ideal) m' g')
    obtain ⟨a0, a1, a2, a3⟩ := hag c
    have ha : ∀ i f, (m' ((c.tc : Thread Cert.FfnGateReferenceIdeal.nD Cert.FfnGateReferenceIdeal.τ).loc Cert.FfnGateReferenceIdeal.main_arg1) : FVec Ideal Cert.FfnGateReferenceIdeal.S4096x2816 .f32) (ix2 i f) = (((n c).a i f : ℝ) : EReal) :=
      fun i f => (congrFun a1 _).trans ((H c).a1 i f)
    have hb : ∀ i f, (m' ((c.tc : Thread Cert.FfnGateReferenceIdeal.nD Cert.FfnGateReferenceIdeal.τ).loc Cert.FfnGateReferenceIdeal.main_arg2) : FVec Ideal Cert.FfnGateReferenceIdeal.S4096x2816 .f32) (ix2 i f) = (((n c).b i f : ℝ) : EReal) :=
      fun i f => (congrFun a2 _).trans ((H c).a2 i f)
    have hd := Cert.FfnGateReferenceIdeal.Read.dhA_at (fun f d => (congrFun a0 (ix2 f d)).trans ((H c).a0 f d)) (fun i d => (congrFun a3 (ix2 i d)).trans ((H c).a3 i d))
    have hs := Cert.FfnGateReferenceIdeal.Read.sgA_at ha
    refine ⟨(h c).1.trans (Eq.trans (b := Cert.FfnGateReferenceIdeal.Read.both (Cert.FfnGateReferenceIdeal.Read.daA _ _ _ _) _) rfl ?_), (h c).2⟩
    funext y
    obtain ⟨k, i, f, rfl⟩ : ∃ (k : Fin 2) (i : Fin 4096) (f : Fin 2816), y = ix3 k i f := ⟨y 0, y 1, y 2, by blk_ext⟩
    by_cases hk : k.val = 0
    · obtain rfl : k = 0 := Fin.ext hk
      exact (Cert.FfnGateReferenceIdeal.Read.both_first _ _ i f).trans (Cert.FfnGateReferenceIdeal.Read.daA_at ha hb hd hs i f)
    · obtain rfl : k = 1 := Fin.ext (by show k.val = 1; omega)
      exact (Cert.FfnGateReferenceIdeal.Read.both_second _ _ i f).trans (Cert.FfnGateReferenceIdeal.Read.dbA_at ha hd hs i f)

end Cert.Proof.FfnGate

end
-- ==== Proof.ProjDw.lean ====
/-
  The gradient of a layer's input weight, some of its columns at a time: what the two kernels have in common, and how a reference
  lays a gradient out.
-/
module

public import proofs.«01_k».proof.Proof.ProjBwdFinal
public import proofs.«01_k».proof.Proof.Gen.ProjDwAReferenceIdeal.Run
public import proofs.«01_k».proof.Proof.Gen.ProjDwAIdeal.Skeleton
public import Idealize.ShloMosaic.Lib.Pointwise
public import Idealize.ShloMosaic.Lib.IdealHost

@[expose] public section

set_option maxRecDepth 16384

noncomputable section

namespace Cert.ProjDw

open Cert.ProjDwAReferenceIdeal Cert.ProjDwAReferenceIdeal.Gen
open Cert.ProjBwdIdeal.Final (col tiles one stack)
open Idealize.ShloMosaic Idealize.ShloMosaic.TcCoe Idealize.SL.Sem
open scoped BigOperators

/-- The gradient of the weight: the sum over the rows. -/
def dw (P : FVec Ideal S4096x8192 .f32) (H : FVec Ideal S4096x1024 .f32) (d : Fin 1024) (e : Fin 8192) : EReal :=
  ∑ i : Fin 4096, H (ix2 i d) * P (ix2 i e)

/-- The packed gradient with the columns of `new` computed and the rest as it was: slab `k` holds its columns of the weight's
    gradient in its first rows. -/
def out (new : Fin 8192 → Prop) [DecidablePred new] (P : FVec Ideal S4096x8192 .f32) (H : FVec Ideal S4096x1024 .f32) (G : FVec Ideal S8x1344x1024 .f32)
    (k : Fin 8) (j : Fin 1344) (e : Fin 1024) : EReal :=
  if h : j.val < 1024 then if new ⟨k.val * 1024 + e.val, by omega⟩ then dw P H ⟨j.val, h⟩ ⟨k.val * 1024 + e.val, by omega⟩ else G (ix3 k j e)
  else G (ix3 k j e)

/-! ## A reference's layout -/

/-- The reference's gradient of the weight. -/
def grad (P : FVec Ideal S4096x8192 .f32) (H : FVec Ideal S4096x1024 .f32) : FVec Ideal S1024x8192 .f32 :=
  transpose S1024x8192 [1, 0] (Host.dotGeneral dot_S4096x8192_S4096x1024_S8192x1024_0_0_1_1_n_n none P H) transposes_S8192x1024_S1024x8192_1_0
/-- The weight's gradient that a packed gradient holds. -/
def held (G : FVec Ideal S8x1344x1024 .f32) : FVec Ideal S1024x8192 .f32 :=
  shapeCast S1024x8192 (transpose S1024x8x1024 [1, 0, 2] (extractStridedSlice S8x1024x1024 ![0, 0, 0] G slices_S8x1344x1024_S8x1024x1024_0_0_0) transposes_S8x1024x1024_S1024x8x1024_1_0_2) shapeCasts_S1024x8x1024_S1024x8192
/-- The first columns of one array beside the last columns of another. -/
def beside (X Y : FVec Ideal S1024x8192 .f32) : FVec Ideal S1024x8192 .f32 :=
  concatenate (α := Ideal .f32) S1024x8192 1 [⟨S1024x4608, extractStridedSlice S1024x4608 ![0, 0] X slices_S1024x8192_S1024x4608_0_0⟩,
    ⟨S1024x3584, extractStridedSlice S1024x3584 ![0, 4608] Y slices_S1024x8192_S1024x3584_0_4608⟩] concatenates_S1024x4608_S1024x3584_S1024x8192_d1
/-- A gradient of the weight as a packed gradient, its last rows those of another. -/
def lay (L : FVec Ideal S1024x8192 .f32) (G : FVec Ideal S8x1344x1024 .f32) : FVec Ideal S8x1344x1024 .bf16 :=
  truncf .bf16 (concatenate (α := Ideal .f32) S8x1344x1024 1 [⟨S8x1024x1024, transpose S8x1024x1024 [1, 0, 2] (shapeCast S1024x8x1024 L shapeCasts_S1024x8192_S1024x8x1024) transposes_S1024x8x1024_S8x1024x1024_1_0_2⟩,
    ⟨S8x320x1024, extractStridedSlice S8x320x1024 ![0, 1024, 0] G slices_S8x1344x1024_S8x320x1024_0_1024_0⟩] concatenates_S8x1024x1024_S8x320x1024_S8x1344x1024_d1) bitsLt_bf16_f32

section
variable (P : FVec Ideal S4096x8192 .f32) (H : FVec Ideal S4096x1024 .f32) (G : FVec Ideal S8x1344x1024 .f32) (X Y L : FVec Ideal S1024x8192 .f32)
theorem grad_at (d : Fin 1024) (e : Fin 8192) : grad P H (ix2 d e) = dw P H d e := by
  rw [dw]
  pointwise [grad]
  exact Finset.sum_congr rfl fun i _ => mul_comm _ _
theorem held_at (k : Fin 8) (j e : Fin 1024) : held G (ix2 j ⟨k.val * 1024 + e.val, by omega⟩) = G (ix3 k ⟨j.val, by omega⟩ e) := by
  pointwise [held]
theorem beside_first (d : Fin 1024) (e : Fin 4608) : beside X Y (ix2 d ⟨e.val, by omega⟩) = X (ix2 d ⟨e.val, by omega⟩) := by
  pointwise [beside]
theorem beside_last (d : Fin 1024) (e : Fin 3584) : beside X Y (ix2 d ⟨4608 + e.val, by omega⟩) = Y (ix2 d ⟨4608 + e.val, by omega⟩) := by
  pointwise [beside]
theorem lay_first (k : Fin 8) (j e : Fin 1024) : lay L G (ix3 k ⟨j.val, by omega⟩ e) = L (ix2 j ⟨k.val * 1024 + e.val, by omega⟩) := by
  pointwise [lay]
theorem lay_last (k : Fin 8) (j : Fin 320) (e : Fin 1024) : lay L G (ix3 k ⟨1024 + j.val, by omega⟩ e) = G (ix3 k ⟨1024 + j.val, by omega⟩ e) := by
  pointwise [lay]

theorem beside_at (d : Fin 1024) (e : Fin 8192) : beside X Y (ix2 d e) = if e.val < 4608 then X (ix2 d e) else Y (ix2 d e) := by
  split_ifs with h
  · exact beside_first X Y d ⟨e.val, h⟩
  · have q : e = ⟨4608 + (e.val - 4608), by omega⟩ := Fin.ext (by show e.val = 4608 + (e.val - 4608); omega)
    exact (congrArg (fun z => beside X Y (ix2 d z)) q).trans ((beside_last X Y d ⟨e.val - 4608, by omega⟩).trans (congrArg (fun z => Y (ix2 d z)) q.symm))

/-- A reference that computes the columns of `new` and keeps the others. -/
theorem ref_at (new : Fin 8192 → Prop) [DecidablePred new]
    (hL : ∀ d e, L (ix2 d e) = if new e then grad P H (ix2 d e) else held G (ix2 d e)) (k : Fin 8) (j : Fin 1344) (e : Fin 1024) :
    lay L G (ix3 k j e) = out new P H G k j e := by
  unfold out
  by_cases h : j.val < 1024
  · rw [dif_pos h]
    refine (lay_first G L k ⟨j.val, h⟩ e).trans ((hL _ _).trans ?_)
    rw [grad_at]
    exact if_congr Iff.rfl rfl (held_at G k ⟨j.val, h⟩ e)
  · rw [dif_neg h]
    have q : j = ⟨1024 + (j.val - 1024), by omega⟩ := Fin.ext (by show j.val = 1024 + (j.val - 1024); omega)
    exact (congrArg (fun z => lay L G (ix3 k z e)) q).trans ((lay_last G L k ⟨j.val - 1024, by omega⟩ e).trans (congrArg (fun z => G (ix3 k z e)) q.symm))
end

/-! ## What the kernels have in common -/

/-- One tile of the gradient of the weight from the rows and a stacked tile of the gradient of the projections. -/
theorem pay_at (v15 : FVec Ideal S4096x1024 .bf16) (v17 : FVec Ideal Cert.ProjDwAIdeal.S1x4096x512 .bf16) (d : Fin 1024) (f : Fin 512) :
    Cert.ProjDwAIdeal.Gen.k0_pay1 (F := Ideal) v15 v17 (ix3 0 d f) = ∑ i : Fin 4096, v15 (ix2 i d) * v17 (ix3 0 i f) := by
  pointwise [Cert.ProjDwAIdeal.Gen.k0_pay1]

/-- Three tiles stacked, each three after the one before. -/
theorem stack_at (A : FVec Ideal Cert.ProjBwdIdeal.S4096x16x512 .bf16) (o : Fin 3) (h0) (h1) (h2) (j : Fin 3) (i : Fin 4096) (f : Fin 512) :
    stack (one A o.val h0) (one A (o.val + 3) h1) (one A (o.val + 6) h2) (ix3 j i f) = A (ix3 i ⟨o.val + 3 * j.val, by omega⟩ f) := by
  fin_cases j
  · exact (Cert.ProjBwdIdeal.Final.stack_0 _ _ _ i f).trans (Cert.ProjBwdIdeal.Final.one_at A i ⟨o.val, by omega⟩ h0 f)
  · exact (Cert.ProjBwdIdeal.Final.stack_1 _ _ _ i f).trans (Cert.ProjBwdIdeal.Final.one_at A i ⟨o.val + 3, by omega⟩ h1 f)
  · exact (Cert.ProjBwdIdeal.Final.stack_2 _ _ _ i f).trans (Cert.ProjBwdIdeal.Final.one_at A i ⟨o.val + 6, by omega⟩ h2 f)

end Cert.ProjDw

end
-- ==== Proof.ProjDwA.lean ====
/-
  The gradient of a layer's input weight at the first nine tiles of its columns: what the kernel leaves in the packed gradient, and
  the reference's. No argument need be finite: the two are the same sums.
-/
module

public import proofs.«01_k».proof.Defs
public import proofs.«01_k».proof.Proof.ProjDw
public import proofs.«01_k».proof.Proof.Gen.ProjDwA.Frame
public import proofs.«01_k».proof.Proof.Gen.ProjDwAIdeal.Value
public import Idealize.ShloMosaic.Lib.Pipeline.ValueKit
public import Idealize.ShloMosaic.Lib.StableHlo.RunRead
public import Idealize.ShloMosaic.Lib.Claim

@[expose] public section

set_option maxRecDepth 16384

noncomputable section

namespace Cert.ProjDwAIdeal.Final

open Cert.ProjDwAIdeal Cert.ProjDwAIdeal.Gen Cert.ProjDw
open Cert.ProjBwdIdeal.Final (col tiles tiles_at one stack)
open Idealize.ShloMosaic Idealize.ShloMosaic.TcCoe Idealize.SL.Sem
open scoped BigOperators

/-- The columns this kernel computes. -/
abbrev New (e : Fin 8192) : Prop := e.val < 4608

variable (m : (ℓ : Loc nD τ sig) → Buf (Elt Ideal) ℓ) (c : Dev nD)

/-- The three arguments. -/
abbrev P : FVec Ideal S4096x8192 .f32 := m ((c.tc : Thread nD τ).loc main_arg0)
abbrev H : FVec Ideal S4096x1024 .f32 := m ((c.tc : Thread nD τ).loc main_arg1)
abbrev G : FVec Ideal S8x1344x1024 .f32 := m ((c.tc : Thread nD τ).loc main_arg2)

theorem v11 : V m c main_v11 = stack (one (tiles (P m c)) 0 slices_S4096x16x512_S4096x1x512_0_0_0) (one (tiles (P m c)) 3 slices_S4096x16x512_S4096x1x512_0_3_0) (one (tiles (P m c)) 6 slices_S4096x16x512_S4096x1x512_0_6_0) := by
  show StableHlo.after hostOps0 (fun b => m (c, b)) (Proc.devRef .tc main_v11) = _
  after_reads_simp
  rfl
theorem v21 : V m c main_v21 = stack (one (tiles (P m c)) 1 slices_S4096x16x512_S4096x1x512_0_1_0) (one (tiles (P m c)) 4 slices_S4096x16x512_S4096x1x512_0_4_0) (one (tiles (P m c)) 7 slices_S4096x16x512_S4096x1x512_0_7_0) := by
  show StableHlo.after hostOps0 (fun b => m (c, b)) (Proc.devRef .tc main_v21) = _
  after_reads_simp
  rfl
theorem v31 : V m c main_v31 = stack (one (tiles (P m c)) 2 slices_S4096x16x512_S4096x1x512_0_2_0) (one (tiles (P m c)) 5 slices_S4096x16x512_S4096x1x512_0_5_0) (one (tiles (P m c)) 8 slices_S4096x16x512_S4096x1x512_0_8_0) := by
  show StableHlo.after hostOps0 (fun b => m (c, b)) (Proc.devRef .tc main_v31) = _
  after_reads_simp
  rfl
theorem v32 : V m c main_v32 = truncf (F := Ideal) .bf16 (H m c) bitsLt_bf16_f32 := by
  show StableHlo.after hostOps0 (fun b => m (c, b)) (Proc.devRef .tc main_v32) = _
  after_reads_simp
theorem v33 : V m c main_v33 = truncf (F := Ideal) .bf16 (G m c) bitsLt_bf16_f32 := by
  show StableHlo.after hostOps0 (fun b => m (c, b)) (Proc.devRef .tc main_v33) = _
  after_reads_simp
theorem v34 : V m c main_v34 = truncf (F := Ideal) .bf16 (G m c) bitsLt_bf16_f32 := by
  show StableHlo.after hostOps0 (fun b => m (c, b)) (Proc.devRef .tc main_v34) = _
  after_reads_simp
  rfl

/-! ## The blocks of a point -/

/-- The tile a point writes. -/
def tile (n : ℕ) : ℕ := 3 * (n % 3) + n / 3

theorem points : ∀ t : Fin cfg0.N, t.val < 9 := (by decide +kernel : ∀ t : Fin grid0.N, _)
theorem idx0 : ∀ t : Fin cfg0.N, win0_0.index t = ![0, 0] := (by decide +kernel : ∀ t : Fin grid0.N, _)
theorem idx1 : ∀ t : Fin cfg0.N, t.val < 3 → win0_1.index t = ![t.val % 3, 0, 0] := (by decide +kernel : ∀ t : Fin grid0.N, _)
theorem idx2 : ∀ t : Fin cfg0.N, 3 ≤ t.val → t.val < 6 → win0_2.index t = ![t.val % 3, 0, 0] := (by decide +kernel : ∀ t : Fin grid0.N, _)
theorem idx3 : ∀ t : Fin cfg0.N, 6 ≤ t.val → win0_3.index t = ![t.val % 3, 0, 0] := (by decide +kernel : ∀ t : Fin grid0.N, _)
theorem idx4 : ∀ t : Fin cfg0.N, win0_4.index t = ![tile t.val / 2, 0, tile t.val % 2] := (by decide +kernel : ∀ t : Fin grid0.N, _)
theorem size4 : ∀ (t : Fin cfg0.N) (a : Fin 3), win0_4.xsize (grid0.coords t) a = S1x1024x512.size a := (by decide +kernel : ∀ (t : Fin grid0.N) (a : Fin 3), _)
theorem flushes : ∀ t : Fin cfg0.N, (cfg0.win 4).flush t = true := (by decide +kernel : ∀ t : Fin grid0.N, win0_4.flush t = true)

theorem b0 (t : Fin cfg0.N) (i : Fin 4096) (d : Fin 1024) : (iblk m c 0 t : FVec Ideal S4096x1024 .bf16) (ix2 i d) = H m c (ix2 i d) := by
  refine Eq.trans (b := (V m c main_v32 : FVec Ideal S4096x1024 .bf16) (ix2 i d)) ?_ ?_
  · blk_ext [iblk, idx0 t]
  · rw [v32]
    rfl
theorem b1 (t : Fin cfg0.N) (h : t.val < 3) (i : Fin 4096) (f : Fin 512) : (iblk m c 1 t : FVec Ideal S1x4096x512 .bf16) (ix3 0 i f)
    = P m c (ix2 i (col ⟨tile t.val, by unfold tile; omega⟩ f)) := by
  refine Eq.trans (b := (V m c main_v11 : FVec Ideal S3x4096x512 .bf16) (ix3 ⟨t.val % 3, by omega⟩ i f)) ?_ ?_
  · blk_ext [iblk, idx1 t h]
  · rw [v11]
    refine (stack_at (tiles (P m c)) 0 _ _ _ ⟨t.val % 3, by omega⟩ i f).trans ((tiles_at _ i _ f).trans ?_)
    exact congrArg (fun z => P m c (ix2 i (col z f))) (Fin.ext (by show 0 + 3 * (t.val % 3) = 3 * (t.val % 3) + t.val / 3; omega))
theorem b2 (t : Fin cfg0.N) (h : 3 ≤ t.val) (h' : t.val < 6) (i : Fin 4096) (f : Fin 512) : (iblk m c 2 t : FVec Ideal S1x4096x512 .bf16) (ix3 0 i f)
    = P m c (ix2 i (col ⟨tile t.val, by unfold tile; omega⟩ f)) := by
  refine Eq.trans (b := (V m c main_v21 : FVec Ideal S3x4096x512 .bf16) (ix3 ⟨t.val % 3, by omega⟩ i f)) ?_ ?_
  · blk_ext [iblk, idx2 t h h']
  · rw [v21]
    refine (stack_at (tiles (P m c)) 1 _ _ _ ⟨t.val % 3, by omega⟩ i f).trans ((tiles_at _ i _ f).trans ?_)
    exact congrArg (fun z => P m c (ix2 i (col z f))) (Fin.ext (by show 1 + 3 * (t.val % 3) = 3 * (t.val % 3) + t.val / 3; omega))
theorem b3 (t : Fin cfg0.N) (h : 6 ≤ t.val) (i : Fin 4096) (f : Fin 512) : (iblk m c 3 t : FVec Ideal S1x4096x512 .bf16) (ix3 0 i f)
    = P m c (ix2 i (col ⟨tile t.val, by have := points t; unfold tile; omega⟩ f)) := by
  have ht := points t
  refine Eq.trans (b := (V m c main_v31 : FVec Ideal S3x4096x512 .bf16) (ix3 ⟨t.val % 3, by omega⟩ i f)) ?_ ?_
  · blk_ext [iblk, idx3 t h]
  · rw [v31]
    refine (stack_at (tiles (P m c)) 2 _ _ _ ⟨t.val % 3, by omega⟩ i f).trans ((tiles_at _ i _ f).trans ?_)
    exact congrArg (fun z => P m c (ix2 i (col z f))) (Fin.ext (by show 2 + 3 * (t.val % 3) = 3 * (t.val % 3) + t.val / 3; omega))

/-! ## What a point leaves in its block -/

theorem oA (t : Fin cfg0.N) (h : t.val < 3) : outsAt0 m c t.val t.isLt = k0_pay1 (F := Ideal) (iblk m c 0 t) (iblk m c 1 t) := by
  obtain ⟨R, hR⟩ : ∃ R, R = k0_pay1 (F := Ideal) (iblk m c 0 t) (iblk m c 1 t) := ⟨_, rfl⟩
  rw [← hR, outsAt0_A m c t h (by omega) (by omega)]
  frame_out
  rw [hR]
theorem oB (t : Fin cfg0.N) (h : 3 ≤ t.val) (h' : t.val < 6) : outsAt0 m c t.val t.isLt = k0_pay1 (F := Ideal) (iblk m c 0 t) (iblk m c 2 t) := by
  obtain ⟨R, hR⟩ : ∃ R, R = k0_pay1 (F := Ideal) (iblk m c 0 t) (iblk m c 2 t) := ⟨_, rfl⟩
  rw [← hR, outsAt0_B m c t (by omega) (by omega) (by omega)]
  frame_out
  rw [hR]
  rfl
theorem oC (t : Fin cfg0.N) (h : 6 ≤ t.val) : outsAt0 m c t.val t.isLt = k0_pay1 (F := Ideal) (iblk m c 0 t) (iblk m c 3 t) := by
  have ht := points t
  obtain ⟨R, hR⟩ : ∃ R, R = k0_pay1 (F := Ideal) (iblk m c 0 t) (iblk m c 3 t) := ⟨_, rfl⟩
  rw [← hR, outsAt0_C m c t (by omega) (by omega) (by omega)]
  frame_out
  rw [hR]
  rfl

/-- The block a point writes back. -/
theorem block (t : Fin cfg0.N) (d : Fin 1024) (f : Fin 512) : (outsAt0 m c t.val t.isLt : FVec Ideal S1x1024x512 .bf16) (ix3 0 d f)
    = dw (P m c) (H m c) d (col ⟨tile t.val, by have := points t; unfold tile; omega⟩ f) := by
  rw [dw]
  by_cases h : t.val < 3
  · rw [oA m c t h, pay_at]
    exact Finset.sum_congr rfl fun i _ => by rw [b0, b1 m c t h]
  · by_cases h' : t.val < 6
    · rw [oB m c t (by omega) h', pay_at]
      exact Finset.sum_congr rfl fun i _ => by rw [b0, b2 m c t (by omega) h']
    · rw [oC m c t (by omega), pay_at]
      exact Finset.sum_congr rfl fun i _ => by rw [b0, b3 m c t (by omega)]

/-! ## The array at the end -/

/-- An entry of the part of a block that is moved: all of it. -/
def at4 (t : Fin cfg0.N) (d : Fin 1024) (f : Fin 512) : (win0_4.xblock (grid0.coords t)).Idx :=
  fun a => ⟨(ix3 (0 : Fin 1) d f a).val, lt_of_lt_of_eq (ix3 (0 : Fin 1) d f a).isLt (size4 t a).symm⟩

theorem emb_val (t : Fin cfg0.N) (y : (win0_4.xblock (grid0.coords t)).Idx) (a : Fin 3) :
    ((win0_4.blk t).view.emb y a).val = win0_4.index t a * S1x1024x512.size a + (y a).val := by
  blk_simp

theorem emb (t : Fin cfg0.N) (d : Fin 1024) (f : Fin 512) : (win0_4.blk t).view.emb (at4 t d f)
    = ix3 (⟨tile t.val / 2, by have := points t; unfold tile; omega⟩ : Fin 8) (⟨d.val, by omega⟩ : Fin 1344) (⟨tile t.val % 2 * 512 + f.val, by omega⟩ : Fin 1024) := by
  have ht := points t
  funext a
  refine Fin.ext ((emb_val t _ a).trans ?_)
  rw [idx4 t]
  fin_cases a
  · show tile t.val / 2 * 1 + 0 = tile t.val / 2; omega
  · show 0 * 1024 + d.val = d.val; omega
  · rfl

/-- The packed gradient at the end. -/
theorem final (k : Fin 8) (j : Fin 1344) (e : Fin 1024) : ((dats m 0 c).arrAt 4 cfg0.N : FVec Ideal S8x1344x1024 .bf16) (ix3 k j e)
    = out New (P m c) (H m c) (G m c) k j e := by
  have hN : cfg0.N = 9 := N_0
  unfold out
  by_cases hj : j.val < 1024 ∧ k.val * 1024 + e.val < 4608
  · rw [dif_pos hj.1, if_pos hj.2]
    have hs : k.val * 2 + e.val / 512 < 9 := by omega
    obtain ⟨t, ht⟩ : ∃ t : Fin cfg0.N, t.val = (k.val * 2 + e.val / 512) % 3 * 3 + (k.val * 2 + e.val / 512) / 3 := ⟨⟨(k.val * 2 + e.val / 512) % 3 * 3 + (k.val * 2 + e.val / 512) / 3, by omega⟩, rfl⟩
    have hq : tile t.val = k.val * 2 + e.val / 512 := by unfold tile; omega
    have q := emb t ⟨j.val, hj.1⟩ ⟨e.val % 512, by omega⟩
    have q1 : (⟨tile t.val / 2, by omega⟩ : Fin 8) = k := Fin.ext (by show tile t.val / 2 = k.val; omega)
    have q2 : (⟨tile t.val % 2 * 512 + e.val % 512, by omega⟩ : Fin 1024) = e := Fin.ext (by show tile t.val % 2 * 512 + e.val % 512 = e.val; omega)
    have q3 : (col ⟨tile t.val, by omega⟩ ⟨e.val % 512, by omega⟩ : Fin 8192) = ⟨k.val * 1024 + e.val, by omega⟩ := Fin.ext (by show tile t.val * 512 + e.val % 512 = k.val * 1024 + e.val; omega)
    have h := (dats m 0 c).arrAt_emb_eq_flushed 4 Value.disjoint4 t (flushes t) (at4 t ⟨j.val, hj.1⟩ ⟨e.val % 512, by omega⟩)
    rw [Value.flushed4] at h
    rw [q1, q2] at q
    have b := block m c t ⟨j.val, hj.1⟩ ⟨e.val % 512, by omega⟩
    rw [q3] at b
    exact (congrArg _ q.symm).trans (h.trans b)
  · have q : out New (P m c) (H m c) (G m c) k j e = G m c (ix3 k j e) := by
      unfold out
      split_ifs with h1 h2
      · exact absurd ⟨h1, h2⟩ hj
      · rfl
      · rfl
    refine Eq.trans ?_ q.symm
    refine (Value.entry4 m c _ fun t _ hi => ?_).trans ?_
    · obtain ⟨y, hy⟩ := View.exists_emb_of_mem_set _ hi
      have ht := points t
      have e0 := (emb_val t y 0).symm.trans (congrArg Fin.val (congrFun hy 0))
      have e1 := (emb_val t y 1).symm.trans (congrArg Fin.val (congrFun hy 1))
      have e2 := (emb_val t y 2).symm.trans (congrArg Fin.val (congrFun hy 2))
      have y0 : (y 0).val < 1 := lt_of_lt_of_eq (y 0).isLt (size4 t 0)
      have y1 : (y 1).val < 1024 := lt_of_lt_of_eq (y 1).isLt (size4 t 1)
      have y2 : (y 2).val < 512 := lt_of_lt_of_eq (y 2).isLt (size4 t 2)
      rw [idx4 t] at e0 e1 e2
      have f0 : tile t.val / 2 * 1 + (y 0).val = k.val := e0
      have f1 : 0 * 1024 + (y 1).val = j.val := e1
      have f2 : tile t.val % 2 * 512 + (y 2).val = e.val := e2
      have ht' : tile t.val < 9 := by unfold tile; omega
      exact hj ⟨by omega, by omega⟩
    · show (V m c main_v34 : FVec Ideal S8x1344x1024 .bf16) (ix3 k j e) = _
      rw [v34]
      rfl

end Cert.ProjDwAIdeal.Final

namespace Cert.Proof.ProjDwA

open Idealize.ShloMosaic Idealize.ShloMosaic.TcCoe Idealize.SL.Sem

/-- The compiled kernel runs and leaves its arguments. -/
theorem frame_p : Cert.quiescent_ProjDwA := fun m ρ _ => Cert.ProjDwA.Gen.frame m ρ
/-- The ideal kernel runs and leaves its arguments. -/
theorem frame_pi : Cert.quiescent_ProjDwAIdeal := fun m ρ _ => Cert.ProjDwAIdeal.Gen.frame m ρ
/-- The reference runs and leaves its arguments. -/
theorem frame_ri : Cert.quiescent_ProjDwAReferenceIdeal := fun m ρ _ =>
  (θ_run Cert.ProjDwAReferenceIdeal.defs _ _).mono (fun r h => ⟨fun c => (h c).2, Idealize.ShloMosaic.sem_eq_zero_of_no_sems (by decide) r.2⟩)
    (Cert.ProjDwAReferenceIdeal.Value.run (F := Ideal) m ρ)
/-- The ideal kernel is the compiled one's own text: no constant of it is named. -/
theorem preserves : Cert.preserves_ProjDwA_ProjDwAIdeal := trivial

/-- From any arguments the kernel's packed gradient is the reference's. -/
theorem algebraic : Cert.algebraic_ProjDwAIdeal_ProjDwAReferenceIdeal := by
  intro m g m' g' _ hag
  refine ⟨fun c => (Cert.ProjDwAIdeal.Gen.dats m 0 c).arrAt 4 Cert.ProjDwAIdeal.cfg0.N, ?_, ?_⟩
  · refine (θ_run Cert.ProjDwAIdeal.defs _ _).mono (fun r h c => ?_) (θ_run_and (Cert.ProjDwAIdeal.Gen.run_main m g) (Cert.ProjDwAIdeal.Gen.unchanged m g))
    exact ⟨(h.1 c).1 4, h.2 c⟩
  · refine (θ_run Cert.ProjDwAReferenceIdeal.defs _ _).mono (fun r h c => ?_) (Cert.ProjDwAReferenceIdeal.Value.run (F := Ideal) m' g')
    obtain ⟨a0, a1, a2⟩ := hag c
    refine ⟨(h c).1.trans ?_, (h c).2⟩
    funext y
    obtain ⟨k, j, e, rfl⟩ : ∃ (k : Fin 8) (j : Fin 1344) (e : Fin 1024), y = ix3 k j e := ⟨y 0, y 1, y 2, by blk_ext⟩
    refine Eq.trans ?_ (Cert.ProjDwAIdeal.Final.final m c k j e).symm
    rw [a0, a1, a2]
    exact Cert.ProjDw.ref_at _ _ _ _ Cert.ProjDwAIdeal.Final.New (Cert.ProjDw.beside_at _ _) k j e

end Cert.Proof.ProjDwA

end
-- ==== Proof.ProjDwB.lean ====
/-
  The gradient of a layer's input weight at the last seven tiles of its columns: what the kernel leaves in the packed gradient, and
  the reference's. No argument need be finite: the two are the same sums.
-/
module

public import proofs.«01_k».proof.Defs
public import proofs.«01_k».proof.Proof.ProjDw
public import proofs.«01_k».proof.Proof.Gen.ProjDwB.Frame
public import proofs.«01_k».proof.Proof.Gen.ProjDwBIdeal.Value
public import proofs.«01_k».proof.Proof.Gen.ProjDwBReferenceIdeal.Run
public import Idealize.ShloMosaic.Lib.Pipeline.ValueKit
public import Idealize.ShloMosaic.Lib.StableHlo.RunRead
public import Idealize.ShloMosaic.Lib.Claim

@[expose] public section

set_option maxRecDepth 16384

noncomputable section

namespace Cert.ProjDwBIdeal.Final

open Cert.ProjDwBIdeal Cert.ProjDwBIdeal.Gen Cert.ProjDw
open Cert.ProjBwdIdeal.Final (col tiles tiles_at one one_at two two_at four four_at)
open Idealize.ShloMosaic Idealize.ShloMosaic.TcCoe Idealize.SL.Sem
open scoped BigOperators

/-- The columns this kernel computes. -/
abbrev New (e : Fin 8192) : Prop := 4608 ≤ e.val

variable (m : (ℓ : Loc nD τ sig) → Buf (Elt Ideal) ℓ) (c : Dev nD)

/-- The three arguments. -/
abbrev P : FVec Ideal S4096x8192 .f32 := m ((c.tc : Thread nD τ).loc main_arg0)
abbrev H : FVec Ideal S4096x1024 .f32 := m ((c.tc : Thread nD τ).loc main_arg1)
abbrev G : FVec Ideal S8x1344x1024 .f32 := m ((c.tc : Thread nD τ).loc main_arg2)

theorem v3 : V m c main_v3 = two (tiles (P m c)) := by
  show StableHlo.after hostOps0 (fun b => m (c, b)) (Proc.devRef .tc main_v3) = _
  after_reads_simp
  rfl
theorem v5 : V m c main_v5 = one (tiles (P m c)) 11 slices_S4096x16x512_S4096x1x512_0_11_0 := by
  show StableHlo.after hostOps0 (fun b => m (c, b)) (Proc.devRef .tc main_v5) = _
  after_reads_simp
  rfl
theorem v8 : V m c main_v8 = four (tiles (P m c)) := by
  show StableHlo.after hostOps0 (fun b => m (c, b)) (Proc.devRef .tc main_v8) = _
  after_reads_simp
  rfl
theorem v9 : V m c main_v9 = truncf (F := Ideal) .bf16 (H m c) bitsLt_bf16_f32 := by
  show StableHlo.after hostOps0 (fun b => m (c, b)) (Proc.devRef .tc main_v9) = _
  after_reads_simp
theorem v11 : V m c main_v11 = truncf (F := Ideal) .bf16 (G m c) bitsLt_bf16_f32 := by
  show StableHlo.after hostOps0 (fun b => m (c, b)) (Proc.devRef .tc main_v11) = _
  after_reads_simp
  rfl

/-! ## The blocks of a point -/

theorem points : ∀ t : Fin cfg0.N, t.val < 7 := (by decide +kernel : ∀ t : Fin grid0.N, _)
theorem idx0 : ∀ t : Fin cfg0.N, win0_0.index t = ![0, 0] := (by decide +kernel : ∀ t : Fin grid0.N, _)
theorem idx1 : ∀ t : Fin cfg0.N, t.val < 2 → win0_1.index t = ![0, t.val] := (by decide +kernel : ∀ t : Fin grid0.N, _)
theorem idx2 : ∀ t : Fin cfg0.N, win0_2.index t = ![0, 0] := (by decide +kernel : ∀ t : Fin grid0.N, _)
theorem idx3 : ∀ t : Fin cfg0.N, 3 ≤ t.val → win0_3.index t = ![(t.val - 3) / 2, 0, (t.val - 3) % 2] := (by decide +kernel : ∀ t : Fin grid0.N, _)
theorem idx4 : ∀ t : Fin cfg0.N, win0_4.index t = ![(9 + t.val) / 2, 0, (9 + t.val) % 2] := (by decide +kernel : ∀ t : Fin grid0.N, _)
theorem size4 : ∀ (t : Fin cfg0.N) (a : Fin 3), win0_4.xsize (grid0.coords t) a = S1x1024x512.size a := (by decide +kernel : ∀ (t : Fin grid0.N) (a : Fin 3), _)
theorem flushes : ∀ t : Fin cfg0.N, (cfg0.win 4).flush t = true := (by decide +kernel : ∀ t : Fin grid0.N, win0_4.flush t = true)

/-- The tile a point writes. -/
def tile (t : Fin cfg0.N) : Fin 16 := ⟨9 + t.val, by have := points t; omega⟩

theorem b0 (t : Fin cfg0.N) (i : Fin 4096) (d : Fin 1024) : (iblk m c 0 t : FVec Ideal S4096x1024 .bf16) (ix2 i d) = H m c (ix2 i d) := by
  refine Eq.trans (b := (V m c main_v9 : FVec Ideal S4096x1024 .bf16) (ix2 i d)) ?_ ?_
  · blk_ext [iblk, idx0 t]
  · rw [v9]
    rfl
theorem b1 (t : Fin cfg0.N) (h : t.val < 2) (i : Fin 4096) (f : Fin 512) : (iblk m c 1 t : FVec Ideal S4096x512 .bf16) (ix2 i f)
    = P m c (ix2 i (col (tile t) f)) := by
  refine Eq.trans (b := (V m c main_v3 : FVec Ideal S4096x1024 .bf16) (ix2 i ⟨t.val * 512 + f.val, by omega⟩)) ?_ ?_
  · blk_ext [iblk, idx1 t h]
  · rw [v3]
    exact (two_at (tiles (P m c)) i ⟨t.val, h⟩ f).trans (tiles_at _ i _ f)
theorem b2 (t : Fin cfg0.N) (h : t.val = 2) (i : Fin 4096) (f : Fin 512) : (iblk m c 2 t : FVec Ideal S4096x512 .bf16) (ix2 i f)
    = P m c (ix2 i (col (tile t) f)) := by
  refine Eq.trans (b := (V m c main_v5 : FVec Ideal S4096x512 .bf16) (ix2 i f)) ?_ ?_
  · blk_ext [iblk, idx2 t]
  · rw [v5]
    refine (one_at (tiles (P m c)) i 11 _ f).trans ((tiles_at _ i _ f).trans ?_)
    exact congrArg (fun z => P m c (ix2 i (col z f))) (Fin.ext (by show 11 = 9 + t.val; omega))
theorem b3 (t : Fin cfg0.N) (h : 3 ≤ t.val) (i : Fin 4096) (f : Fin 512) : (iblk m c 3 t : FVec Ideal S1x4096x512 .bf16) (ix3 0 i f)
    = P m c (ix2 i (col (tile t) f)) := by
  have ht := points t
  refine Eq.trans (b := (V m c main_v8 : FVec Ideal S2x4096x1024 .bf16) (ix3 ⟨(t.val - 3) / 2, by omega⟩ i ⟨(t.val - 3) % 2 * 512 + f.val, by omega⟩)) ?_ ?_
  · blk_ext [iblk, idx3 t h]
  · rw [v8]
    refine (four_at (tiles (P m c)) i ⟨(t.val - 3) / 2, by omega⟩ ⟨(t.val - 3) % 2, by omega⟩ f).trans ((tiles_at _ i _ f).trans ?_)
    exact congrArg (fun z => P m c (ix2 i (col z f))) (Fin.ext (by show 12 + 2 * ((t.val - 3) / 2) + (t.val - 3) % 2 = 9 + t.val; omega))

/-! ## What a point leaves in its block -/

/-- One tile of the gradient of the weight from the rows and a tile of the gradient of the projections. -/
theorem pay1_at (v15 : FVec Ideal S4096x1024 .bf16) (v17 : FVec Ideal S4096x512 .bf16) (d : Fin 1024) (f : Fin 512) :
    k0_pay1 (F := Ideal) v15 v17 (ix3 0 d f) = ∑ i : Fin 4096, v15 (ix2 i d) * v17 (ix2 i f) := by
  pointwise [k0_pay1]

theorem oA (t : Fin cfg0.N) (h : t.val < 2) : outsAt0 m c t.val t.isLt = k0_pay1 (F := Ideal) (iblk m c 0 t) (iblk m c 1 t) := by
  obtain ⟨R, hR⟩ : ∃ R, R = k0_pay1 (F := Ideal) (iblk m c 0 t) (iblk m c 1 t) := ⟨_, rfl⟩
  rw [← hR, outsAt0_A m c t h (by omega) (by omega)]
  frame_out
  rw [hR]
theorem oB (t : Fin cfg0.N) (h : t.val = 2) : outsAt0 m c t.val t.isLt = k0_pay1 (F := Ideal) (iblk m c 0 t) (iblk m c 2 t) := by
  obtain ⟨R, hR⟩ : ∃ R, R = k0_pay1 (F := Ideal) (iblk m c 0 t) (iblk m c 2 t) := ⟨_, rfl⟩
  rw [← hR, outsAt0_B m c t (by omega) (by omega) (by omega)]
  frame_out
  rw [hR]
  rfl
theorem oC (t : Fin cfg0.N) (h : 3 ≤ t.val) : outsAt0 m c t.val t.isLt = Cert.ProjDwAIdeal.Gen.k0_pay1 (F := Ideal) (iblk m c 0 t) (iblk m c 3 t) := by
  have ht := points t
  obtain ⟨R, hR⟩ : ∃ R, R = Cert.ProjDwAIdeal.Gen.k0_pay1 (F := Ideal) (iblk m c 0 t) (iblk m c 3 t) := ⟨_, rfl⟩
  rw [← hR, outsAt0_C m c t (by omega) (by omega) (by omega)]
  frame_out
  rw [hR]
  rfl

/-- The block a point writes back. -/
theorem block (t : Fin cfg0.N) (d : Fin 1024) (f : Fin 512) : (outsAt0 m c t.val t.isLt : FVec Ideal S1x1024x512 .bf16) (ix3 0 d f)
    = dw (P m c) (H m c) d (col (tile t) f) := by
  rw [dw]
  by_cases h : t.val < 2
  · rw [oA m c t h, pay1_at]
    exact Finset.sum_congr rfl fun i _ => by rw [b0, b1 m c t h]
  · by_cases h' : t.val = 2
    · rw [oB m c t h', pay1_at]
      exact Finset.sum_congr rfl fun i _ => by rw [b0, b2 m c t h']
    · rw [oC m c t (by omega), pay_at]
      exact Finset.sum_congr rfl fun i _ => by rw [b0, b3 m c t (by omega)]

/-! ## The array at the end -/

/-- An entry of the part of a block that is moved: all of it. -/
def at4 (t : Fin cfg0.N) (d : Fin 1024) (f : Fin 512) : (win0_4.xblock (grid0.coords t)).Idx :=
  fun a => ⟨(ix3 (0 : Fin 1) d f a).val, lt_of_lt_of_eq (ix3 (0 : Fin 1) d f a).isLt (size4 t a).symm⟩

theorem emb_val (t : Fin cfg0.N) (y : (win0_4.xblock (grid0.coords t)).Idx) (a : Fin 3) :
    ((win0_4.blk t).view.emb y a).val = win0_4.index t a * S1x1024x512.size a + (y a).val := by
  blk_simp

theorem emb (t : Fin cfg0.N) (d : Fin 1024) (f : Fin 512) : (win0_4.blk t).view.emb (at4 t d f)
    = ix3 (⟨(9 + t.val) / 2, by have := points t; omega⟩ : Fin 8) (⟨d.val, by omega⟩ : Fin 1344) (⟨(9 + t.val) % 2 * 512 + f.val, by omega⟩ : Fin 1024) := by
  have ht := points t
  funext a
  refine Fin.ext ((emb_val t _ a).trans ?_)
  rw [idx4 t]
  fin_cases a
  · show (9 + t.val) / 2 * 1 + 0 = (9 + t.val) / 2; omega
  · show 0 * 1024 + d.val = d.val; omega
  · rfl

/-- The packed gradient at the end. -/
theorem final (k : Fin 8) (j : Fin 1344) (e : Fin 1024) : ((dats m 0 c).arrAt 4 cfg0.N : FVec Ideal S8x1344x1024 .bf16) (ix3 k j e)
    = out New (P m c) (H m c) (G m c) k j e := by
  have hN : cfg0.N = 7 := N_0
  unfold out
  by_cases hj : j.val < 1024 ∧ 4608 ≤ k.val * 1024 + e.val
  · rw [dif_pos hj.1, if_pos hj.2]
    obtain ⟨t, ht⟩ : ∃ t : Fin cfg0.N, t.val = k.val * 2 + e.val / 512 - 9 := ⟨⟨k.val * 2 + e.val / 512 - 9, by omega⟩, rfl⟩
    have q := emb t ⟨j.val, hj.1⟩ ⟨e.val % 512, by omega⟩
    have q1 : (⟨(9 + t.val) / 2, by omega⟩ : Fin 8) = k := Fin.ext (by show (9 + t.val) / 2 = k.val; omega)
    have q2 : (⟨(9 + t.val) % 2 * 512 + e.val % 512, by omega⟩ : Fin 1024) = e := Fin.ext (by show (9 + t.val) % 2 * 512 + e.val % 512 = e.val; omega)
    have q3 : (col (tile t) ⟨e.val % 512, by omega⟩ : Fin 8192) = ⟨k.val * 1024 + e.val, by omega⟩ := Fin.ext (by show (9 + t.val) * 512 + e.val % 512 = k.val * 1024 + e.val; omega)
    have h := (dats m 0 c).arrAt_emb_eq_flushed 4 Value.disjoint4 t (flushes t) (at4 t ⟨j.val, hj.1⟩ ⟨e.val % 512, by omega⟩)
    rw [Value.flushed4] at h
    rw [q1, q2] at q
    have b := block m c t ⟨j.val, hj.1⟩ ⟨e.val % 512, by omega⟩
    rw [q3] at b
    exact (congrArg _ q.symm).trans (h.trans b)
  · have q : out New (P m c) (H m c) (G m c) k j e = G m c (ix3 k j e) := by
      unfold out
      split_ifs with h1 h2
      · exact absurd ⟨h1, h2⟩ hj
      · rfl
      · rfl
    refine Eq.trans ?_ q.symm
    refine (Value.entry4 m c _ fun t _ hi => ?_).trans ?_
    · obtain ⟨y, hy⟩ := View.exists_emb_of_mem_set _ hi
      have ht := points t
      have e0 := (emb_val t y 0).symm.trans (congrArg Fin.val (congrFun hy 0))
      have e1 := (emb_val t y 1).symm.trans (congrArg Fin.val (congrFun hy 1))
      have e2 := (emb_val t y 2).symm.trans (congrArg Fin.val (congrFun hy 2))
      have y0 : (y 0).val < 1 := lt_of_lt_of_eq (y 0).isLt (size4 t 0)
      have y1 : (y 1).val < 1024 := lt_of_lt_of_eq (y 1).isLt (size4 t 1)
      have y2 : (y 2).val < 512 := lt_of_lt_of_eq (y 2).isLt (size4 t 2)
      rw [idx4 t] at e0 e1 e2
      have f0 : (9 + t.val) / 2 * 1 + (y 0).val = k.val := e0
      have f1 : 0 * 1024 + (y 1).val = j.val := e1
      have f2 : (9 + t.val) % 2 * 512 + (y 2).val = e.val := e2
      exact hj ⟨by omega, by omega⟩
    · show (V m c main_v11 : FVec Ideal S8x1344x1024 .bf16) (ix3 k j e) = _
      rw [v11]
      rfl

end Cert.ProjDwBIdeal.Final

namespace Cert.Proof.ProjDwB

open Idealize.ShloMosaic Idealize.ShloMosaic.TcCoe Idealize.SL.Sem

/-- The compiled kernel runs and leaves its arguments. -/
theorem frame_p : Cert.quiescent_ProjDwB := fun m ρ _ => Cert.ProjDwB.Gen.frame m ρ
/-- The ideal kernel runs and leaves its arguments. -/
theorem frame_pi : Cert.quiescent_ProjDwBIdeal := fun m ρ _ => Cert.ProjDwBIdeal.Gen.frame m ρ
/-- The reference runs and leaves its arguments. -/
theorem frame_ri : Cert.quiescent_ProjDwBReferenceIdeal := fun m ρ _ =>
  (θ_run Cert.ProjDwBReferenceIdeal.defs _ _).mono (fun r h => ⟨fun c => (h c).2, Idealize.ShloMosaic.sem_eq_zero_of_no_sems (by decide) r.2⟩)
    (Cert.ProjDwBReferenceIdeal.Value.run (F := Ideal) m ρ)
/-- The ideal kernel is the compiled one's own text: no constant of it is named. -/
theorem preserves : Cert.preserves_ProjDwB_ProjDwBIdeal := trivial

/-- From any arguments the kernel's packed gradient is the reference's. -/
theorem algebraic : Cert.algebraic_ProjDwBIdeal_ProjDwBReferenceIdeal := by
  intro m g m' g' _ hag
  refine ⟨fun c => (Cert.ProjDwBIdeal.Gen.dats m 0 c).arrAt 4 Cert.ProjDwBIdeal.cfg0.N, ?_, ?_⟩
  · refine (θ_run Cert.ProjDwBIdeal.defs _ _).mono (fun r h c => ?_) (θ_run_and (Cert.ProjDwBIdeal.Gen.run_main m g) (Cert.ProjDwBIdeal.Gen.unchanged m g))
    exact ⟨(h.1 c).1 4, h.2 c⟩
  · refine (θ_run Cert.ProjDwBReferenceIdeal.defs _ _).mono (fun r h c => ?_) (Cert.ProjDwBReferenceIdeal.Value.run (F := Ideal) m' g')
    obtain ⟨a0, a1, a2⟩ := hag c
    refine ⟨(h c).1.trans ?_, (h c).2⟩
    funext y
    obtain ⟨k, j, e, rfl⟩ : ∃ (k : Fin 8) (j : Fin 1344) (e : Fin 1024), y = ix3 k j e := ⟨y 0, y 1, y 2, by blk_ext⟩
    refine Eq.trans ?_ (Cert.ProjDwBIdeal.Final.final m c k j e).symm
    rw [a0, a1, a2]
    refine Cert.ProjDw.ref_at _ _ _ _ Cert.ProjDwBIdeal.Final.New (fun d e => (Cert.ProjDw.beside_at _ _ d e).trans ?_) k j e
    by_cases he : e.val < 4608
    · rw [if_pos he, if_neg (by omega)]; rfl
    · rw [if_neg he, if_pos (by omega)]; rfl

end Cert.Proof.ProjDwB

end
-- ==== Proof.Proj.lean ====
/-
  The input projections of a layer: what the kernel leaves in the eight projections and what the reference computes. No argument
  need be finite: the two are the same sums.
-/
module

public import proofs.«01_k».proof.Defs
public import proofs.«01_k».proof.Proof.ProjBwdFinal
public import proofs.«01_k».proof.Proof.Gen.Proj.Frame
public import proofs.«01_k».proof.Proof.Gen.ProjIdeal.Value
public import proofs.«01_k».proof.Proof.Gen.ProjReferenceIdeal.Run
public import Idealize.ShloMosaic.Lib.Pipeline.ValueKit
public import Idealize.ShloMosaic.Lib.StableHlo.RunRead
public import Idealize.ShloMosaic.Lib.Pointwise
public import Idealize.ShloMosaic.Lib.IdealHost
public import Idealize.ShloMosaic.Lib.Claim

@[expose] public section

set_option maxRecDepth 16384

noncomputable section

namespace Cert.ProjIdeal.Final

open Cert.ProjIdeal Cert.ProjIdeal.Gen
open Cert.ProjBwdIdeal.Final (slabs slabs_at)
open Idealize.ShloMosaic Idealize.ShloMosaic.TcCoe Idealize.SL.Sem
open scoped BigOperators

/-- A projection of a row: the sum over the columns of the weight. -/
def pr (A : FVec Ideal S4096x1024 .f32) (W : FVec Ideal S1024x8192 .f32) (i : Fin 4096) (e : Fin 8192) : EReal :=
  ∑ d : Fin 1024, A (ix2 i d) * W (ix2 d e)

theorem pay1_at (v0 : FVec Ideal S4096x1024 .bf16) (v2 : FVec Ideal S1x1024x512 .bf16) (i : Fin 4096) (f : Fin 512) :
    k0_pay1 (F := Ideal) v0 v2 (ix2 i f) = ∑ d : Fin 1024, v0 (ix2 i d) * v2 (ix3 0 d f) := by
  pointwise [k0_pay1]

variable (m : (ℓ : Loc nD τ sig) → Buf (Elt Ideal) ℓ) (c : Dev nD)

theorem v0 : V m c main_v0 = truncf (F := Ideal) .bf16 (m ((c.tc : Thread nD τ).loc main_arg0)) bitsLt_bf16_f32 := by
  show StableHlo.after hostOps0 (fun b => m (c, b)) (Proc.devRef .tc main_v0) = _
  after_reads_simp
theorem v3 : V m c main_v3 = slabs (m ((c.tc : Thread nD τ).loc main_arg1)) := by
  show StableHlo.after hostOps0 (fun b => m (c, b)) (Proc.devRef .tc main_v3) = _
  after_reads_simp
  rfl

theorem idx : ∀ t : Fin cfg0.N, win0_0.index t = ![0, 0] ∧ win0_1.index t = ![t.val / 2, 0, t.val % 2] ∧ win0_2.index t = ![0, t.val] :=
  (by decide +kernel : ∀ t : Fin grid0.N, _)
theorem points : ∀ t : Fin cfg0.N, t.val < 16 := (by decide +kernel : ∀ t : Fin grid0.N, _)

theorem o2 (t : Fin cfg0.N) : out0_2 (iblk m c 0 t) (iblk m c 1 t) = k0_pay1 (F := Ideal) (iblk m c 0 t) (iblk m c 1 t) := by
  unfold out0_2
  frame_out

theorem b0 (t : Fin cfg0.N) (i : Fin 4096) (d : Fin 1024) : (iblk m c 0 t : FVec Ideal S4096x1024 .bf16) (ix2 i d)
    = (m ((c.tc : Thread nD τ).loc main_arg0) : FVec Ideal S4096x1024 .f32) (ix2 i d) := by
  refine Eq.trans (b := (V m c main_v0 : FVec Ideal S4096x1024 .bf16) (ix2 i d)) ?_ ?_
  · blk_ext [iblk, idx t]
  · rw [v0]
    rfl
theorem b1 (t : Fin cfg0.N) (d : Fin 1024) (f : Fin 512) : (iblk m c 1 t : FVec Ideal S1x1024x512 .bf16) (ix3 0 d f)
    = (m ((c.tc : Thread nD τ).loc main_arg1) : FVec Ideal S1024x8192 .f32) (ix2 d ⟨t.val * 512 + f.val, by have := points t; omega⟩) := by
  have ht := points t
  refine Eq.trans (b := (V m c main_v3 : FVec Ideal S8x1024x1024 .bf16) (ix3 ⟨t.val / 2, by omega⟩ d ⟨t.val % 2 * 512 + f.val, by omega⟩)) ?_ ?_
  · blk_ext [iblk, idx t]
  · rw [v3, slabs_at]
    exact congrArg (fun z => (m ((c.tc : Thread nD τ).loc main_arg1) : FVec Ideal S1024x8192 .f32) (ix2 d z))
      (Fin.ext (by show t.val / 2 * 1024 + (t.val % 2 * 512 + f.val) = t.val * 512 + f.val; omega))

/-- The block a point writes back. -/
theorem block (t : Fin cfg0.N) (i : Fin 4096) (f : Fin 512) : k0_pay1 (F := Ideal) (iblk m c 0 t) (iblk m c 1 t) (ix2 i f)
    = pr (m ((c.tc : Thread nD τ).loc main_arg0)) (m ((c.tc : Thread nD τ).loc main_arg1)) i ⟨t.val * 512 + f.val, by have := points t; omega⟩ := by
  rw [pay1_at, pr]
  exact Finset.sum_congr rfl fun d _ => by rw [b0, b1]

/-- The projections at the end. -/
theorem final (G : FVec Ideal S4096x8192 .bf16)
    (hG : ∀ i e, G (ix2 i e) = pr (m ((c.tc : Thread nD τ).loc main_arg0)) (m ((c.tc : Thread nD τ).loc main_arg1)) i e) :
    (dats m 0 c).arrAt 2 cfg0.N = G := by
  refine (dats m 0 c).arrAt_eq_of_covers 2 _ (by decide +kernel) fun t hf z => ?_
  blk_simp
  rw [after0_2, o2]
  obtain ⟨i, f, rfl⟩ : ∃ (i : Fin 4096) (f : Fin 512), z = ix2 i f := ⟨z 0, z 1, by blk_ext⟩
  have ht := points t
  have e : (win0_2.blk t).view.emb (ix2 i f) = ix2 i (⟨t.val * 512 + f.val, by omega⟩ : Fin 8192) := by blk_ext [idx t]
  rw [e, hG]
  exact block m c t i f

end Cert.ProjIdeal.Final

namespace Cert.ProjReferenceIdeal.Read

open Cert.ProjReferenceIdeal Cert.ProjReferenceIdeal.Gen
open Idealize.ShloMosaic Idealize.ShloMosaic.TcCoe Idealize.SL.Sem
open scoped BigOperators

/-- The reference's projections. -/
def out (A : FVec Ideal S4096x1024 .f32) (W : FVec Ideal S1024x8192 .f32) : FVec Ideal S4096x8192 .bf16 :=
  truncf .bf16 (Host.dotGeneral dot_S4096x1024_S1024x8192_S4096x8192_1_0_0_1_n_n none A W) bitsLt_bf16_f32

theorem out_at (A : FVec Ideal S4096x1024 .f32) (W : FVec Ideal S1024x8192 .f32) (i : Fin 4096) (e : Fin 8192) :
    out A W (ix2 i e) = Cert.ProjIdeal.Final.pr A W i e := by
  rw [Cert.ProjIdeal.Final.pr]
  pointwise [out]

end Cert.ProjReferenceIdeal.Read

namespace Cert.Proof.Proj

open Idealize.ShloMosaic Idealize.ShloMosaic.TcCoe Idealize.SL.Sem

/-- The compiled kernel runs and leaves its arguments. -/
theorem frame_p : Cert.quiescent_Proj := fun m ρ _ => Cert.Proj.Gen.frame m ρ
/-- The ideal kernel runs and leaves its arguments. -/
theorem frame_pi : Cert.quiescent_ProjIdeal := fun m ρ _ => Cert.ProjIdeal.Gen.frame m ρ
/-- The reference runs and leaves its arguments. -/
theorem frame_ri : Cert.quiescent_ProjReferenceIdeal := fun m ρ _ =>
  (θ_run Cert.ProjReferenceIdeal.defs _ _).mono (fun r h => ⟨fun c => (h c).2, Idealize.ShloMosaic.sem_eq_zero_of_no_sems (by decide) r.2⟩)
    (Cert.ProjReferenceIdeal.Value.run (F := Ideal) m ρ)
/-- The ideal kernel is the compiled one's own text: no constant of it is named. -/
theorem preserves : Cert.preserves_Proj_ProjIdeal := trivial

/-- From any arguments the kernel's projections are the reference's. -/
theorem algebraic : Cert.algebraic_ProjIdeal_ProjReferenceIdeal := by
  intro m g m' g' _ hag
  refine ⟨fun c => (Cert.ProjIdeal.Gen.dats m 0 c).arrAt 2 Cert.ProjIdeal.cfg0.N, ?_, ?_⟩
  · refine (θ_run Cert.ProjIdeal.defs _ _).mono (fun r h c => ?_) (θ_run_and (Cert.ProjIdeal.Gen.run_main m g) (Cert.ProjIdeal.Gen.unchanged m g))
    exact ⟨(h.1 c).1 2, h.2 c⟩
  · refine (θ_run Cert.ProjReferenceIdeal.defs _ _).mono (fun r h c => ?_) (Cert.ProjReferenceIdeal.Value.run (F := Ideal) m' g')
    obtain ⟨a0, a1⟩ := hag c
    refine ⟨(h c).1.trans ?_, (h c).2⟩
    symm
    refine Cert.ProjIdeal.Final.final m c _ fun i e => ?_
    rw [a0, a1]
    exact Cert.ProjReferenceIdeal.Read.out_at _ _ i e

end Cert.Proof.Proj

end
-- ==== Proof.FfnUp.lean ====
/-
  The first half of a feed-forward layer: what the kernel leaves in the gate's argument, the gated value and the hidden values, and
  what the reference computes. No argument need be finite: the two are the same sums, and the logistic function by the hyperbolic
  tangent is the logistic function at the infinities too.
-/
module

public import proofs.«01_k».proof.Defs
public import proofs.«01_k».proof.Proof.FfnRows
public import proofs.«01_k».proof.Proof.Gen.FfnUp.Frame
public import proofs.«01_k».proof.Proof.Gen.FfnUpIdeal.Value
public import proofs.«01_k».proof.Proof.Gen.FfnUpReferenceIdeal.Run
public import Idealize.ShloMosaic.Lib.Pipeline.ValueKit
public import Idealize.ShloMosaic.Lib.StableHlo.RunRead
public import Idealize.ShloMosaic.Lib.Pointwise
public import Idealize.ShloMosaic.Lib.IdealHost
public import Idealize.ShloMosaic.Lib.Claim

@[expose] public section

set_option maxRecDepth 16384

noncomputable section

namespace Cert.FfnUpIdeal.Final

open Cert.FfnUpIdeal Cert.FfnUpIdeal.Gen Cert.FfnRows
open Idealize.ShloMosaic Idealize.ShloMosaic.TcCoe Idealize.SL.Sem
open scoped BigOperators

/-- The logistic function by the hyperbolic tangent, at every value. -/
theorem logistic_tanh (a : EReal) : ((1 / 2 : ℝ) : EReal) * Ideal.tanh (((1 / 2 : ℝ) : EReal) * a) + ((1 / 2 : ℝ) : EReal) = Ideal.logistic a := by
  induction a using EReal.rec with
  | bot =>
    rw [EReal.coe_mul_bot_of_pos (by norm_num), Ideal.tanh_bot, Ideal.logistic_bot, show (-1 : EReal) = ((-1 : ℝ) : EReal) from rfl, ← EReal.coe_mul, ← EReal.coe_add]
    norm_num
  | top =>
    rw [EReal.coe_mul_top_of_pos (by norm_num), Ideal.tanh_top, Ideal.logistic_top, show (1 : EReal) = ((1 : ℝ) : EReal) from rfl, ← EReal.coe_mul, ← EReal.coe_add]
    norm_num
  | coe a =>
    rw [← EReal.coe_mul, Ideal.tanh_coe, ← EReal.coe_mul, ← EReal.coe_add, Ideal.logistic_coe, sg_tanh, sg, one_div]

/-- One of the two products: the sum over the columns of a row. -/
def up (N : FVec Ideal S4096x1024 .f32) (W : FVec Ideal S1024x2816 .f32) (i : Fin 4096) (f : Fin 2816) : EReal :=
  ∑ d : Fin 1024, N (ix2 i d) * W (ix2 d f)

/-- A hidden value of the gate's argument and the gated value. -/
def hid (a b : EReal) : EReal := a * Ideal.logistic a * b

/-- The gate's argument, the gated value and the hidden value. -/
def out (N : FVec Ideal S4096x1024 .f32) (W W' : FVec Ideal S1024x2816 .f32) (k : Fin 3) (i : Fin 4096) (f : Fin 2816) : EReal :=
  if k.val = 0 then up N W i f else if k.val = 1 then up N W' i f else hid (up N W i f) (up N W' i f)

/-! ## The payloads -/

/-- The product of a block of rows and a weight held shard by shard. -/
def bl (v0 : FVec Ideal S256x1024 .bf16) (v2 : FVec Ideal S8x352x1024 .bf16) (r : Fin 256) (f : Fin 2816) : EReal :=
  ∑ d : Fin 1024, v0 (ix2 r d) * v2 (ix3 (⟨f.val / 352, by omega⟩ : Fin 8) (⟨f.val % 352, by omega⟩ : Fin 352) d)

section
variable (v0 : FVec Ideal S256x1024 .bf16) (v2 v7 : FVec Ideal S8x352x1024 .bf16) (r : Fin 256) (f : Fin 2816)
theorem pay4_at : k0_pay4 (F := Ideal) v0 v2 (ix3 0 r f) = bl v0 v2 r f := by
  rw [bl]
  pointwise [k0_pay4, k0_pay2, k0_pay1]
theorem pay5_at : k0_pay5 (F := Ideal) v0 v7 (ix3 0 r f) = bl v0 v7 r f := by
  rw [bl]
  pointwise [k0_pay5, k0_pay3, k0_pay1]
theorem pay6_at : k0_pay6 (F := Ideal) v0 v2 v7 (ix3 0 r f) = hid (bl v0 v2 r f) (bl v0 v7 r f) := by
  rw [hid, bl, bl]
  pointwise [k0_pay6, k0_pay3, k0_pay2, k0_pay1]
  simp only [half_bits, logistic_tanh]
end

/-- The three slabs a point stores. -/
def slabs (v0 : FVec Ideal S256x1024 .bf16) (v2 v7 : FVec Ideal S8x352x1024 .bf16) : FVec Ideal S3x256x2816 .bf16 :=
  View.canon (Val := Elt Ideal) (s := S3x256x2816) (e := .bf16)
    [⟨Rect.unit ![2, 0, 0] S1x256x2816.size inb_S3x256x2816_S1x256x2816_2_0_0, k0_pay6 (F := Ideal) v0 v2 v7⟩,
     ⟨Rect.unit ![1, 0, 0] S1x256x2816.size inb_S3x256x2816_S1x256x2816_1_0_0, k0_pay5 (F := Ideal) v0 v7⟩,
     ⟨Rect.unit ![0, 0, 0] S1x256x2816.size inb_S3x256x2816_S1x256x2816_0_0_0, k0_pay4 (F := Ideal) v0 v2⟩]

/-- A stored piece read at its own index. -/
theorem piece {v : FVec Ideal S1x256x2816 .bf16} {A : Fin 256 → Fin 2816 → EReal} (h : ∀ r f, v (ix3 0 r f) = A r f) (x : S1x256x2816.Idx) (r : Fin 256) (e : EReal)
    (h1 : r.val = (x 1).val) (f : Fin 2816) (h2 : f.val = (x 2).val) (g : A r f = e) : v x = e := by
  have hx : x = ix3 0 r f := by
    blk_ext
  rw [hx, h, g]

theorem slabs_at (v0 : FVec Ideal S256x1024 .bf16) (v2 v7 : FVec Ideal S8x352x1024 .bf16) (k : Fin 3) (r : Fin 256) (f : Fin 2816) :
    slabs v0 v2 v7 (ix3 k r f) = if k.val = 0 then bl v0 v2 r f else if k.val = 1 then bl v0 v7 r f else hid (bl v0 v2 r f) (bl v0 v7 r f) := by
  unfold slabs
  canon_tiles x h
  case piece0 => exact piece (pay6_at v0 v2 v7) x r _ h1 f h2 (by rw [if_neg (by have : k.val = 2 + (x 0).val := h0; omega), if_neg (by have : k.val = 2 + (x 0).val := h0; omega)])
  case piece1 => exact piece (pay5_at v0 v7) x r _ h1 f h2 (by have : k.val = 1 + (x 0).val := h0; have h3 : (x 0).val < 1 := (x 0).isLt; rw [if_neg (by omega), if_pos (by omega)])
  case piece2 => exact piece (pay4_at v0 v2) x r _ h1 f h2 (by have : k.val = (x 0).val := h0; have h3 : (x 0).val < 1 := (x 0).isLt; rw [if_pos (by omega)])

/-! ## The blocks of a point -/

/-- The two weights, transposed and packed shard by shard. -/
def pack (X Y : FVec Ideal S1024x2816 .f32) : FVec Ideal S8x704x1024 .bf16 :=
  truncf (F := Ideal) .bf16 (concatenate (α := Ideal .f32) S8x704x1024 1 [⟨S8x352x1024, shapeCast S8x352x1024 (transpose S2816x1024 [1, 0] X transposes_S1024x2816_S2816x1024_1_0) shapeCasts_S2816x1024_S8x352x1024⟩,
    ⟨S8x352x1024, shapeCast S8x352x1024 (transpose S2816x1024 [1, 0] Y transposes_S1024x2816_S2816x1024_1_0) shapeCasts_S2816x1024_S8x352x1024⟩] concatenates_S8x352x1024_S8x352x1024_S8x704x1024_d1) bitsLt_bf16_f32
section
variable (X Y : FVec Ideal S1024x2816 .f32) (k : Fin 8) (j : Fin 352) (d : Fin 1024)
theorem pack_first : pack X Y (ix3 k ⟨j.val, by omega⟩ d) = X (ix2 d ⟨k.val * 352 + j.val, by omega⟩) := by
  pointwise [pack]
theorem pack_second : pack X Y (ix3 k ⟨352 + j.val, by omega⟩ d) = Y (ix2 d ⟨k.val * 352 + j.val, by omega⟩) := by
  pointwise [pack]
end

variable (m : (ℓ : Loc nD τ sig) → Buf (Elt Ideal) ℓ) (c : Dev nD)

theorem v6 : V m c main_v6 = truncf (F := Ideal) .bf16 (m ((c.tc : Thread nD τ).loc main_arg0)) bitsLt_bf16_f32 := by
  show StableHlo.after hostOps0 (fun b => m (c, b)) (Proc.devRef .tc main_v6) = _
  after_reads_simp
theorem v5 : V m c main_v5 = pack (m ((c.tc : Thread nD τ).loc main_arg1)) (m ((c.tc : Thread nD τ).loc main_arg2)) := by
  show StableHlo.after hostOps0 (fun b => m (c, b)) (Proc.devRef .tc main_v5) = _
  after_reads_simp
  rfl

theorem idx : ∀ t : Fin cfg0.N, win0_0.index t = ![t.val, 0] ∧ win0_1.index t = ![0, 0, 0] ∧ win0_2.index t = ![0, 1, 0] ∧ win0_3.index t = ![0, t.val, 0] :=
  (by decide +kernel : ∀ t : Fin grid0.N, _)

/-- The row at row `r` of a point's tile. -/
def row (t : Fin cfg0.N) (r : Fin 256) : Fin 4096 := ⟨t.val * 256 + r.val, by have := lt_of_lt_of_eq t.isLt N_0; omega⟩

theorem o3 (t : Fin cfg0.N) : out0_3 (iblk m c 0 t) (iblk m c 1 t) (iblk m c 2 t) = slabs (iblk m c 0 t) (iblk m c 1 t) (iblk m c 2 t) := by
  obtain ⟨R, hR⟩ : ∃ R, R = slabs (iblk m c 0 t) (iblk m c 1 t) (iblk m c 2 t) := ⟨_, rfl⟩
  rw [← hR]
  unfold out0_3
  frame_out
  rw [hR]
  rfl

theorem b0 (t : Fin cfg0.N) (r : Fin 256) (d : Fin 1024) : (iblk m c 0 t : FVec Ideal S256x1024 .bf16) (ix2 r d)
    = (m ((c.tc : Thread nD τ).loc main_arg0) : FVec Ideal S4096x1024 .f32) (ix2 (row t r) d) := by
  refine Eq.trans (b := (V m c main_v6 : FVec Ideal S4096x1024 .bf16) (ix2 (row t r) d)) ?_ ?_
  · blk_ext [iblk, idx t, row]
  · rw [v6]
    rfl
theorem b1 (t : Fin cfg0.N) (k : Fin 8) (j : Fin 352) (d : Fin 1024) : (iblk m c 1 t : FVec Ideal S8x352x1024 .bf16) (ix3 k j d)
    = (m ((c.tc : Thread nD τ).loc main_arg1) : FVec Ideal S1024x2816 .f32) (ix2 d ⟨k.val * 352 + j.val, by omega⟩) := by
  refine Eq.trans (b := (V m c main_v5 : FVec Ideal S8x704x1024 .bf16) (ix3 k ⟨j.val, by omega⟩ d)) ?_ ?_
  · blk_ext [iblk, idx t]
  · rw [v5, pack_first]
theorem b2 (t : Fin cfg0.N) (k : Fin 8) (j : Fin 352) (d : Fin 1024) : (iblk m c 2 t : FVec Ideal S8x352x1024 .bf16) (ix3 k j d)
    = (m ((c.tc : Thread nD τ).loc main_arg2) : FVec Ideal S1024x2816 .f32) (ix2 d ⟨k.val * 352 + j.val, by omega⟩) := by
  refine Eq.trans (b := (V m c main_v5 : FVec Ideal S8x704x1024 .bf16) (ix3 k ⟨352 + j.val, by omega⟩ d)) ?_ ?_
  · blk_ext [iblk, idx t]
  · rw [v5, pack_second]

theorem shard (f : Fin 2816) : (⟨f.val / 352 * 352 + f.val % 352, by omega⟩ : Fin 2816) = f := Fin.ext (by show f.val / 352 * 352 + f.val % 352 = f.val; omega)

theorem bl_1 (t : Fin cfg0.N) (r : Fin 256) (f : Fin 2816) : bl (iblk m c 0 t) (iblk m c 1 t) r f
    = up (m ((c.tc : Thread nD τ).loc main_arg0)) (m ((c.tc : Thread nD τ).loc main_arg1)) (row t r) f := by
  rw [bl, up]
  exact Finset.sum_congr rfl fun d _ => by rw [b0, b1, shard]
theorem bl_2 (t : Fin cfg0.N) (r : Fin 256) (f : Fin 2816) : bl (iblk m c 0 t) (iblk m c 2 t) r f
    = up (m ((c.tc : Thread nD τ).loc main_arg0)) (m ((c.tc : Thread nD τ).loc main_arg2)) (row t r) f := by
  rw [bl, up]
  exact Finset.sum_congr rfl fun d _ => by rw [b0, b2, shard]

/-- The block a point writes back. -/
theorem block (t : Fin cfg0.N) (k : Fin 3) (r : Fin 256) (f : Fin 2816) : slabs (iblk m c 0 t) (iblk m c 1 t) (iblk m c 2 t) (ix3 k r f)
    = out (m ((c.tc : Thread nD τ).loc main_arg0)) (m ((c.tc : Thread nD τ).loc main_arg1)) (m ((c.tc : Thread nD τ).loc main_arg2)) k (row t r) f := by
  rw [slabs_at, bl_1, bl_2, out]

/-- The result at the end. -/
theorem final (G : FVec Ideal S3x4096x2816 .bf16)
    (hG : ∀ k i f, G (ix3 k i f) = out (m ((c.tc : Thread nD τ).loc main_arg0)) (m ((c.tc : Thread nD τ).loc main_arg1)) (m ((c.tc : Thread nD τ).loc main_arg2)) k i f) :
    (dats m 0 c).arrAt 3 cfg0.N = G := by
  refine (dats m 0 c).arrAt_eq_of_covers 3 _ (by decide +kernel) fun t hf z => ?_
  blk_simp
  rw [after0_3, o3]
  obtain ⟨k, r, f, rfl⟩ : ∃ (k : Fin 3) (r : Fin 256) (f : Fin 2816), z = ix3 k r f := ⟨z 0, z 1, z 2, by blk_ext⟩
  have ht := lt_of_lt_of_eq t.isLt N_0
  have e : (win0_3.blk t).view.emb (ix3 k r f) = ix3 k (row t r) f := by blk_ext [idx t, row]
  rw [e, hG]
  exact block m c t k r f

end Cert.FfnUpIdeal.Final

namespace Cert.FfnUpReferenceIdeal.Read

open Cert.FfnUpReferenceIdeal Cert.FfnUpReferenceIdeal.Gen
open Cert.FfnUpIdeal.Final (up hid)
open Idealize.ShloMosaic Idealize.ShloMosaic.TcCoe Idealize.SL.Sem
open scoped BigOperators

/-- One of the reference's two products. -/
def upA (N : FVec Ideal S4096x1024 .f32) (W : FVec Ideal S1024x2816 .f32) : FVec Ideal S4096x2816 .f32 :=
  Host.dotGeneral dot_S4096x1024_S1024x2816_S4096x2816_1_0_0_1_n_n none N W
/-- The hidden values of the gate's arguments and the gated values. -/
def hidA (a b : FVec Ideal S4096x2816 .f32) : FVec Ideal S4096x2816 .f32 :=
  mulf (mulf a (Host.divf (broadcastInDim S4096x2816 ![] bcast_S_S4096x2816 (constant S_ .f32 0x3F800000#32)) (addf (broadcastInDim S4096x2816 ![] bcast_S_S4096x2816 (constant S_ .f32 0x3F800000#32)) (Host.exp (Host.negf a))))) b
/-- Three arrays, one after the other. -/
def all (A B C : FVec Ideal S4096x2816 .f32) : FVec Ideal S3x4096x2816 .bf16 :=
  truncf .bf16 (concatenate (α := Ideal .f32) S3x4096x2816 0 [⟨S1x4096x2816, broadcastInDim S1x4096x2816 ![1, 2] bcast_S4096x2816_S1x4096x2816_1_2 A⟩,
    ⟨S1x4096x2816, broadcastInDim S1x4096x2816 ![1, 2] bcast_S4096x2816_S1x4096x2816_1_2 B⟩,
    ⟨S1x4096x2816, broadcastInDim S1x4096x2816 ![1, 2] bcast_S4096x2816_S1x4096x2816_1_2 C⟩] concatenates_S1x4096x2816_S1x4096x2816_S1x4096x2816_S3x4096x2816_d0) bitsLt_bf16_f32

section
variable (A B C : FVec Ideal S4096x2816 .f32) (i : Fin 4096) (f : Fin 2816)
theorem all_first : all A B C (ix3 0 i f) = A (ix2 i f) := by
  pointwise [all]
theorem all_second : all A B C (ix3 1 i f) = B (ix2 i f) := by
  pointwise [all]
theorem all_third : all A B C (ix3 2 i f) = C (ix2 i f) := by
  pointwise [all]
theorem hidA_at : hidA A B (ix2 i f) = hid (A (ix2 i f)) (B (ix2 i f)) := by
  rw [hid, Ideal.logistic]
  pointwise [hidA]
end

theorem upA_at (N : FVec Ideal S4096x1024 .f32) (W : FVec Ideal S1024x2816 .f32) (i : Fin 4096) (f : Fin 2816) : upA N W (ix2 i f) = up N W i f := by
  rw [up]
  pointwise [upA]

/-- The reference's result is the kernel's. -/
theorem ref_at (N : FVec Ideal S4096x1024 .f32) (W W' : FVec Ideal S1024x2816 .f32) (k : Fin 3) (i : Fin 4096) (f : Fin 2816) :
    all (upA N W) (upA N W') (hidA (upA N W) (upA N W')) (ix3 k i f) = Cert.FfnUpIdeal.Final.out N W W' k i f := by
  rw [Cert.FfnUpIdeal.Final.out]
  fin_cases k
  · exact (all_first _ _ _ i f).trans (upA_at N W i f)
  · exact (all_second _ _ _ i f).trans (upA_at N W' i f)
  · exact (all_third _ _ _ i f).trans ((hidA_at _ _ i f).trans (by rw [upA_at, upA_at]; rfl))

end Cert.FfnUpReferenceIdeal.Read

namespace Cert.Proof.FfnUp

open Idealize.ShloMosaic Idealize.ShloMosaic.TcCoe Idealize.SL.Sem

/-- The compiled kernel runs and leaves its arguments. -/
theorem frame_p : Cert.quiescent_FfnUp := fun m ρ _ => Cert.FfnUp.Gen.frame m ρ
/-- The ideal kernel runs and leaves its arguments. -/
theorem frame_pi : Cert.quiescent_FfnUpIdeal := fun m ρ _ => Cert.FfnUpIdeal.Gen.frame m ρ
/-- The reference runs and leaves its arguments. -/
theorem frame_ri : Cert.quiescent_FfnUpReferenceIdeal := fun m ρ _ =>
  (θ_run Cert.FfnUpReferenceIdeal.defs _ _).mono (fun r h => ⟨fun c => (h c).2, Idealize.ShloMosaic.sem_eq_zero_of_no_sems (by decide) r.2⟩)
    (Cert.FfnUpReferenceIdeal.Value.run (F := Ideal) m ρ)
/-- The ideal kernel is the compiled one's own text: no constant of it is named. -/
theorem preserves : Cert.preserves_FfnUp_FfnUpIdeal := trivial

/-- From any arguments the kernel's result is the reference's. -/
theorem algebraic : Cert.algebraic_FfnUpIdeal_FfnUpReferenceIdeal := by
  intro m g m' g' _ hag
  refine ⟨fun c => (Cert.FfnUpIdeal.Gen.dats m 0 c).arrAt 3 Cert.FfnUpIdeal.cfg0.N, ?_, ?_⟩
  · refine (θ_run Cert.FfnUpIdeal.defs _ _).mono (fun r h c => ?_) (θ_run_and (Cert.FfnUpIdeal.Gen.run_main m g) (Cert.FfnUpIdeal.Gen.unchanged m g))
    exact ⟨(h.1 c).1 3, h.2 c⟩
  · refine (θ_run Cert.FfnUpReferenceIdeal.defs _ _).mono (fun r h c => ?_) (Cert.FfnUpReferenceIdeal.Value.run (F := Ideal) m' g')
    obtain ⟨a0, a1, a2⟩ := hag c
    refine ⟨(h c).1.trans ?_, (h c).2⟩
    symm
    refine Cert.FfnUpIdeal.Final.final m c _ fun k i f => ?_
    rw [a0, a1, a2]
    exact Cert.FfnUpReferenceIdeal.Read.ref_at _ _ _ k i f

end Cert.Proof.FfnUp

end
-- ==== Proof.FfnDown.lean ====
/-
  The second half of a feed-forward layer: what the kernel leaves in the layer's output and in the normalised rows of the next
  layer, and what the reference computes. No argument need be finite: the two are the same sums and the same norm.
-/
module

public import proofs.«01_k».proof.Defs
public import proofs.«01_k».proof.Proof.FfnGateFinal
public import proofs.«01_k».proof.Proof.Gen.FfnDown.Frame
public import proofs.«01_k».proof.Proof.Gen.FfnDownIdeal.Value
public import proofs.«01_k».proof.Proof.Gen.FfnDownReferenceIdeal.Run
public import Idealize.ShloMosaic.Lib.Pipeline.ValueKit
public import Idealize.ShloMosaic.Lib.StableHlo.RunRead
public import Idealize.ShloMosaic.Lib.Pointwise
public import Idealize.ShloMosaic.Lib.IdealHost
public import Idealize.ShloMosaic.Lib.Claim

@[expose] public section

set_option maxRecDepth 16384

noncomputable section

namespace Cert.FfnDownIdeal.Final

open Cert.FfnDownIdeal Cert.FfnDownIdeal.Gen Cert.FfnRows
open Cert.FfnGateIdeal.Final (sharded sharded_at)
open Idealize.ShloMosaic Idealize.ShloMosaic.TcCoe Idealize.SL.Sem
open scoped BigOperators

/-- The layer's output: the input with half of the product. -/
def xo (H : FVec Ideal S4096x2816 .f32) (W : FVec Ideal S2816x1024 .f32) (X : FVec Ideal S4096x1024 .f32) (i : Fin 4096) (d : Fin 1024) : EReal :=
  X (ix2 i d) + ((1 / 2 : ℝ) : EReal) * ∑ f : Fin 2816, H (ix2 i f) * W (ix2 f d)

/-- A row divided by its root mean square, times the gain. -/
def nrm (x : Fin 1024 → EReal) (g : EReal) (d : Fin 1024) : EReal :=
  x d * Ideal.rsqrt (Ideal.div (∑ e, x e * x e) (Ideal.ofBits .f32 0x44800000#32) + Ideal.ofBits .f32 0x358637BD#32) * g

/-! ## The payloads -/

section
variable (v0 : FVec Ideal S512x1024 .f32) (v1 : FVec Ideal S1x512x2816 .bf16) (v3 : FVec Ideal S8x352x1024 .bf16) (v11 : FVec Ideal S1x1024 .f32)
variable (r : Fin 512) (d : Fin 1024)
/-- The layer's output from a block of rows and a weight held shard by shard. -/
def bl : EReal := v0 (ix2 r d) + ((1 / 2 : ℝ) : EReal) * ∑ f : Fin 2816, v1 (ix3 0 r f) * v3 (ix3 (⟨f.val / 352, by omega⟩ : Fin 8) (⟨f.val % 352, by omega⟩ : Fin 352) d)
theorem pay1_at : k0_pay1 (F := Ideal) v0 v1 v3 (ix2 r d) = bl v0 v1 v3 r d := by
  rw [bl]
  pointwise [k0_pay1]
  simp only [half_bits]
theorem pay2_at : k0_pay2 (F := Ideal) v0 v1 v3 v11 (ix2 r d) = nrm (bl v0 v1 v3 r) (v11 (ix2 0 d)) d := by
  rw [nrm]
  pointwise [k0_pay2]
  simp only [pay1_at]
end

/-! ## The blocks of a point -/

/-- Two slabs of zeros and the hidden values, one after another. -/
def stacked (A : FVec Ideal S4096x2816 .f32) : FVec Ideal S3x4096x2816 .bf16 :=
  truncf .bf16 (concatenate (α := Ideal .f32) S3x4096x2816 0 [⟨S1x4096x2816, broadcastInDim S1x4096x2816 ![1, 2] bcast_S4096x2816_S1x4096x2816_1_2 (broadcastInDim S4096x2816 ![] bcast_S_S4096x2816 (constant (F := Ideal) S_ .f32 0x00000000#32))⟩,
    ⟨S1x4096x2816, broadcastInDim S1x4096x2816 ![1, 2] bcast_S4096x2816_S1x4096x2816_1_2 (broadcastInDim S4096x2816 ![] bcast_S_S4096x2816 (constant (F := Ideal) S_ .f32 0x00000000#32))⟩,
    ⟨S1x4096x2816, broadcastInDim S1x4096x2816 ![1, 2] bcast_S4096x2816_S1x4096x2816_1_2 A⟩]
    concatenates_S1x4096x2816_S1x4096x2816_S1x4096x2816_S3x4096x2816_d0) bitsLt_bf16_f32
theorem stacked_third (A : FVec Ideal S4096x2816 .f32) (i : Fin 4096) (f : Fin 2816) : stacked A (ix3 2 i f) = A (ix2 i f) := by
  pointwise [stacked]

variable (m : (ℓ : Loc nD τ sig) → Buf (Elt Ideal) ℓ) (c : Dev nD)

theorem pts : ∀ t : Fin cfg0.N, t.val < 8 := (by decide +kernel : ∀ t : Fin grid0.N, _)
theorem idx : ∀ t : Fin cfg0.N, win0_0.index t = ![2, t.val, 0] ∧ win0_1.index t = ![0, 0, 0] ∧ win0_2.index t = ![t.val, 0] ∧ win0_3.index t = ![0, 0]
    ∧ win0_4.index t = ![t.val, 0] ∧ win0_5.index t = ![t.val, 0] :=
  (by decide +kernel : ∀ t : Fin grid0.N, _)

/-- The row at row `r` of a point's tile. -/
def row (t : Fin cfg0.N) (r : Fin 512) : Fin 4096 := ⟨t.val * 512 + r.val, by have := pts t; omega⟩

theorem v6 : V m c main_v6 = stacked (m ((c.tc : Thread nD τ).loc main_arg0)) := by
  show StableHlo.after hostOps0 (fun b => m (c, b)) (Proc.devRef .tc main_v6) = _
  after_reads_simp
  rfl
theorem v8 : V m c main_v8 = sharded (m ((c.tc : Thread nD τ).loc main_arg1)) := by
  show StableHlo.after hostOps0 (fun b => m (c, b)) (Proc.devRef .tc main_v8) = _
  after_reads_simp
  rfl

theorem o4 (t : Fin cfg0.N) : out0_4 (iblk m c 0 t) (iblk m c 1 t) (iblk m c 2 t) (iblk m c 3 t) = k0_pay1 (F := Ideal) (iblk m c 2 t) (iblk m c 0 t) (iblk m c 1 t) := by
  unfold out0_4
  frame_out
theorem o5 (t : Fin cfg0.N) : out0_5 (iblk m c 0 t) (iblk m c 1 t) (iblk m c 2 t) (iblk m c 3 t)
    = k0_pay2 (F := Ideal) (iblk m c 2 t) (iblk m c 0 t) (iblk m c 1 t) (iblk m c 3 t) := by
  unfold out0_5
  frame_out

theorem b0 (t : Fin cfg0.N) (r : Fin 512) (f : Fin 2816) : (iblk m c 0 t : FVec Ideal S1x512x2816 .bf16) (ix3 0 r f)
    = (m ((c.tc : Thread nD τ).loc main_arg0) : FVec Ideal S4096x2816 .f32) (ix2 (row t r) f) := by
  refine Eq.trans (b := (V m c main_v6 : FVec Ideal S3x4096x2816 .bf16) (ix3 2 (row t r) f)) ?_ ?_
  · blk_ext [iblk, idx t, row]
  · rw [v6, stacked_third]
theorem b1 (t : Fin cfg0.N) (k : Fin 8) (j : Fin 352) (d : Fin 1024) : (iblk m c 1 t : FVec Ideal S8x352x1024 .bf16) (ix3 k j d)
    = (m ((c.tc : Thread nD τ).loc main_arg1) : FVec Ideal S2816x1024 .f32) (ix2 ⟨k.val * 352 + j.val, by omega⟩ d) := by
  refine Eq.trans (b := (V m c main_v8 : FVec Ideal S8x352x1024 .bf16) (ix3 k j d)) ?_ ?_
  · blk_ext [iblk, idx t]
  · rw [v8]
    exact sharded_at _ k j d
theorem b2 (t : Fin cfg0.N) (r : Fin 512) (d : Fin 1024) : (iblk m c 2 t : FVec Ideal S512x1024 .f32) (ix2 r d)
    = (m ((c.tc : Thread nD τ).loc main_arg2) : FVec Ideal S4096x1024 .f32) (ix2 (row t r) d) := by
  refine Eq.trans (b := (V m c main_arg2 : FVec Ideal S4096x1024 .f32) (ix2 (row t r) d)) ?_ ?_
  · blk_ext [iblk, idx t, row]
  · rw [V_main_arg2]
theorem b3 (t : Fin cfg0.N) (d : Fin 1024) : (iblk m c 3 t : FVec Ideal S1x1024 .f32) (ix2 0 d)
    = (m ((c.tc : Thread nD τ).loc main_arg3) : FVec Ideal S1x1024 .f32) (ix2 0 d) := by
  refine Eq.trans (b := (V m c main_arg3 : FVec Ideal S1x1024 .f32) (ix2 0 d)) ?_ ?_
  · blk_ext [iblk, idx t]
  · rw [V_main_arg3]

theorem shard (f : Fin 2816) : (⟨f.val / 352 * 352 + f.val % 352, by omega⟩ : Fin 2816) = f := Fin.ext (by show f.val / 352 * 352 + f.val % 352 = f.val; omega)

theorem bl_eq (t : Fin cfg0.N) (r : Fin 512) : bl (iblk m c 2 t) (iblk m c 0 t) (iblk m c 1 t) r
    = xo (m ((c.tc : Thread nD τ).loc main_arg0)) (m ((c.tc : Thread nD τ).loc main_arg1)) (m ((c.tc : Thread nD τ).loc main_arg2)) (row t r) := by
  funext d
  rw [bl, xo]
  exact congrArg₂ (fun x z : EReal => x + ((1 / 2 : ℝ) : EReal) * z) (b2 m c t r d) (Finset.sum_congr rfl fun f _ => by rw [b0, b1, shard])

/-- The blocks a point writes back. -/
theorem block4 (t : Fin cfg0.N) (r : Fin 512) (d : Fin 1024) : k0_pay1 (F := Ideal) (iblk m c 2 t) (iblk m c 0 t) (iblk m c 1 t) (ix2 r d)
    = xo (m ((c.tc : Thread nD τ).loc main_arg0)) (m ((c.tc : Thread nD τ).loc main_arg1)) (m ((c.tc : Thread nD τ).loc main_arg2)) (row t r) d := by
  rw [pay1_at, bl_eq]
theorem block5 (t : Fin cfg0.N) (r : Fin 512) (d : Fin 1024) : k0_pay2 (F := Ideal) (iblk m c 2 t) (iblk m c 0 t) (iblk m c 1 t) (iblk m c 3 t) (ix2 r d)
    = nrm (xo (m ((c.tc : Thread nD τ).loc main_arg0)) (m ((c.tc : Thread nD τ).loc main_arg1)) (m ((c.tc : Thread nD τ).loc main_arg2)) (row t r))
      ((m ((c.tc : Thread nD τ).loc main_arg3) : FVec Ideal S1x1024 .f32) (ix2 0 d)) d := by
  rw [pay2_at, bl_eq, b3]

/-- The layer's output at the end. -/
theorem final4 (G : FVec Ideal S4096x1024 .f32)
    (hG : ∀ i d, G (ix2 i d) = xo (m ((c.tc : Thread nD τ).loc main_arg0)) (m ((c.tc : Thread nD τ).loc main_arg1)) (m ((c.tc : Thread nD τ).loc main_arg2)) i d) :
    (dats m 0 c).arrAt 4 cfg0.N = G := by
  refine (dats m 0 c).arrAt_eq_of_covers 4 _ (by decide +kernel) fun t hf z => ?_
  blk_simp
  rw [after0_4, o4]
  obtain ⟨r, d, rfl⟩ : ∃ (r : Fin 512) (d : Fin 1024), z = ix2 r d := ⟨z 0, z 1, by blk_ext⟩
  have e : (win0_4.blk t).view.emb (ix2 r d) = ix2 (row t r) d := by blk_ext [idx t, row]
  rw [e, hG]
  exact block4 m c t r d
/-- The normalised rows at the end. -/
theorem final5 (G : FVec Ideal S4096x1024 .bf16)
    (hG : ∀ i d, G (ix2 i d) = nrm (xo (m ((c.tc : Thread nD τ).loc main_arg0)) (m ((c.tc : Thread nD τ).loc main_arg1)) (m ((c.tc : Thread nD τ).loc main_arg2)) i)
      ((m ((c.tc : Thread nD τ).loc main_arg3) : FVec Ideal S1x1024 .f32) (ix2 0 d)) d) :
    (dats m 0 c).arrAt 5 cfg0.N = G := by
  refine (dats m 0 c).arrAt_eq_of_covers 5 _ (by decide +kernel) fun t hf z => ?_
  blk_simp
  rw [after0_5, o5]
  obtain ⟨r, d, rfl⟩ : ∃ (r : Fin 512) (d : Fin 1024), z = ix2 r d := ⟨z 0, z 1, by blk_ext⟩
  have e : (win0_5.blk t).view.emb (ix2 r d) = ix2 (row t r) d := by blk_ext [idx t, row]
  rw [e, hG]
  exact block5 m c t r d

end Cert.FfnDownIdeal.Final

namespace Cert.FfnDownReferenceIdeal.Read

open Cert.FfnDownReferenceIdeal Cert.FfnDownReferenceIdeal.Gen Cert.FfnRows
open Cert.FfnDownIdeal.Final (xo nrm)
open Idealize.ShloMosaic Idealize.ShloMosaic.TcCoe Idealize.SL.Sem
open scoped BigOperators

/-- The reference's output of the layer. -/
def xoA (H : FVec Ideal S4096x2816 .f32) (W : FVec Ideal S2816x1024 .f32) (X : FVec Ideal S4096x1024 .f32) : FVec Ideal S4096x1024 .f32 :=
  addf X (mulf (broadcastInDim S4096x1024 ![] bcast_S_S4096x1024 (constant S_ .f32 0x3F000000#32)) (Host.dotGeneral dot_S4096x2816_S2816x1024_S4096x1024_1_0_0_1_n_n none H W))
/-- The reference's normalised rows. -/
def nrmA (Y : FVec Ideal S4096x1024 .f32) (g : FVec Ideal S1x1024 .f32) : FVec Ideal S4096x1024 .bf16 :=
  truncf .bf16 (mulf (mulf Y (broadcastInDim S4096x1024 ![0, 1] bcast_S4096x1_S4096x1024_0_1 (Host.rsqrt (addf (Host.divf (broadcastInDim S4096x1 ![0] bcast_S4096_S4096x1_0
    (Host.reduceAdd (mulf Y Y) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g)) bitsLt_bf16_f32

theorem xoA_at (H : FVec Ideal S4096x2816 .f32) (W : FVec Ideal S2816x1024 .f32) (X : FVec Ideal S4096x1024 .f32) (i : Fin 4096) (d : Fin 1024) :
    xoA H W X (ix2 i d) = xo H W X i d := by
  rw [xo]
  pointwise [xoA]
  simp only [half_bits]
theorem nrmA_at (Y : FVec Ideal S4096x1024 .f32) (g : FVec Ideal S1x1024 .f32) (i : Fin 4096) (d : Fin 1024) :
    nrmA Y g (ix2 i d) = nrm (fun e => Y (ix2 i e)) (g (ix2 0 d)) d := by
  rw [nrm]
  pointwise [nrmA]

end Cert.FfnDownReferenceIdeal.Read

namespace Cert.Proof.FfnDown

open Idealize.ShloMosaic Idealize.ShloMosaic.TcCoe Idealize.SL.Sem

/-- The compiled kernel runs and leaves its arguments. -/
theorem frame_p : Cert.quiescent_FfnDown := fun m ρ _ => Cert.FfnDown.Gen.frame m ρ
/-- The ideal kernel runs and leaves its arguments. -/
theorem frame_pi : Cert.quiescent_FfnDownIdeal := fun m ρ _ => Cert.FfnDownIdeal.Gen.frame m ρ
/-- The reference runs and leaves its arguments. -/
theorem frame_ri : Cert.quiescent_FfnDownReferenceIdeal := fun m ρ _ =>
  (θ_run Cert.FfnDownReferenceIdeal.defs _ _).mono (fun r h => ⟨fun c => (h c).2.2, Idealize.ShloMosaic.sem_eq_zero_of_no_sems (by decide) r.2⟩)
    (Cert.FfnDownReferenceIdeal.Value.run (F := Ideal) m ρ)
/-- The ideal kernel is the compiled one's own text: no constant of it is named. -/
theorem preserves : Cert.preserves_FfnDown_FfnDownIdeal := trivial

/-- From any arguments the kernel's two results are the reference's. -/
theorem algebraic : Cert.algebraic_FfnDownIdeal_FfnDownReferenceIdeal := by
  intro m g m' g' _ hag
  refine ⟨fun c => (Cert.FfnDownIdeal.Gen.dats m 0 c).arrAt 4 Cert.FfnDownIdeal.cfg0.N, fun c => (Cert.FfnDownIdeal.Gen.dats m 0 c).arrAt 5 Cert.FfnDownIdeal.cfg0.N, ?_, ?_⟩
  · refine (θ_run Cert.FfnDownIdeal.defs _ _).mono (fun r h c => ?_) (θ_run_and (Cert.FfnDownIdeal.Gen.run_main m g) (Cert.FfnDownIdeal.Gen.unchanged m g))
    exact ⟨(h.1 c).1 4, (h.1 c).1 5, h.2 c⟩
  · refine (θ_run Cert.FfnDownReferenceIdeal.defs _ _).mono (fun r h c => ?_) (Cert.FfnDownReferenceIdeal.Value.run (F := Ideal) m' g')
    obtain ⟨a0, a1, a2, a3⟩ := hag c
    refine ⟨(h c).1.trans ?_, (h c).2.1.trans ?_, (h c).2.2⟩
    · symm
      refine Cert.FfnDownIdeal.Final.final4 m c _ fun i d => ?_
      rw [a0, a1, a2]
      exact Cert.FfnDownReferenceIdeal.Read.xoA_at _ _ _ i d
    · symm
      refine Cert.FfnDownIdeal.Final.final5 m c _ fun i d => ?_
      rw [a0, a1, a2, a3]
      refine (Cert.FfnDownReferenceIdeal.Read.nrmA_at (Cert.FfnDownReferenceIdeal.Read.xoA _ _ _) _ i d).trans ?_
      exact congrArg (fun z => Cert.FfnDownIdeal.Final.nrm z _ d) (funext fun e => Cert.FfnDownReferenceIdeal.Read.xoA_at _ _ _ i e)

end Cert.Proof.FfnDown

end
-- ==== Proof.MergeFwd.lean ====
/-
  The two branches' output projections, their gates and the merged rows' projection: what the kernel leaves in its four results and
  what the reference computes. No argument need be finite: the two are the same sums, and the logistic function by the hyperbolic
  tangent is the logistic function at the infinities too.
-/
module

public import proofs.«01_k».proof.Defs
public import proofs.«01_k».proof.Proof.FfnUp
public import proofs.«01_k».proof.Proof.Gen.Merge.Frame
public import proofs.«01_k».proof.Proof.Gen.MergeIdeal.Value
public import proofs.«01_k».proof.Proof.Gen.MergeReferenceIdeal.Run
public import Idealize.ShloMosaic.Lib.Pipeline.ValueKit
public import Idealize.ShloMosaic.Lib.StableHlo.RunRead
public import Idealize.ShloMosaic.Lib.Pointwise
public import Idealize.ShloMosaic.Lib.IdealHost
public import Idealize.ShloMosaic.Lib.Claim

@[expose] public section

set_option maxRecDepth 16384

noncomputable section

namespace Cert.MergeIdeal.Final

open Cert.MergeIdeal Cert.MergeIdeal.Gen Cert.FfnRows
open Cert.FfnUpIdeal.Final (logistic_tanh)
open Idealize.ShloMosaic Idealize.ShloMosaic.TcCoe Idealize.SL.Sem
open scoped BigOperators

/-- The first branch's projection. -/
def ya (A : FVec Ideal S4096x512 .f32) (W : FVec Ideal S512x1024 .f32) (i : Fin 4096) (d : Fin 1024) : EReal := ∑ f : Fin 512, A (ix2 i f) * W (ix2 f d)
/-- The second branch's projection. -/
def yb (B : FVec Ideal S4096x1024 .f32) (W : FVec Ideal S1024x1024 .f32) (i : Fin 4096) (d : Fin 1024) : EReal := ∑ f : Fin 1024, B (ix2 i f) * W (ix2 f d)
/-- A gate: the logistic function of a projected value and its bias. -/
def gate (P : FVec Ideal S4096x8192 .f32) (b : FVec Ideal S1x2048 .f32) (i : Fin 4096) (e : Fin 2048) : EReal :=
  Ideal.logistic (P (ix2 i ⟨6144 + e.val, by omega⟩) + b (ix2 0 e))

/-- The two gated branches, added. -/
def mg (A : FVec Ideal S4096x512 .f32) (B : FVec Ideal S4096x1024 .f32) (U : FVec Ideal S512x1024 .f32) (W : FVec Ideal S1024x1024 .f32)
    (P : FVec Ideal S4096x8192 .f32) (b : FVec Ideal S1x2048 .f32) (i : Fin 4096) (d : Fin 1024) : EReal :=
  gate P b i ⟨d.val, by omega⟩ * ya A U i d + gate P b i ⟨1024 + d.val, by omega⟩ * yb B W i d
/-- The layer's output. -/
def xo (M : Fin 4096 → Fin 1024 → EReal) (O : FVec Ideal S1024x1024 .f32) (X : FVec Ideal S4096x1024 .f32) (i : Fin 4096) (d : Fin 1024) : EReal :=
  X (ix2 i d) + ∑ f : Fin 1024, M i f * O (ix2 f d)

/-! ## The payloads -/

section
variable (x0 : FVec Ideal S256x512 .bf16) (x2 : FVec Ideal S512x1024 .bf16) (x1 : FVec Ideal S256x1024 .bf16) (x3 : FVec Ideal S8x128x1024 .bf16)
variable (g0 g1 : FVec Ideal S256x512 .bf16) (b : FVec Ideal S1x1024 .f32) (r : Fin 256) (d : Fin 1024)
theorem pay5_at : k0_pay5 (F := Ideal) x0 x2 (ix2 r d) = ∑ f : Fin 512, x0 (ix2 r f) * x2 (ix2 f d) := by
  pointwise [k0_pay5]
theorem pay6_at : k0_pay6 (F := Ideal) x1 x3 (ix2 r d)
    = ∑ f : Fin 1024, x1 (ix2 r f) * x3 (ix3 (⟨f.val / 128, by omega⟩ : Fin 8) (⟨f.val % 128, by omega⟩ : Fin 128) d) := by
  pointwise [k0_pay6]
/-- Two half rows side by side. -/
def two : EReal := if h : d.val < 512 then g0 (ix2 r ⟨d.val, h⟩) else g1 (ix2 r ⟨d.val - 512, by omega⟩)
theorem pay8_first (e : Fin 512) : k0_pay8 (F := Ideal) g0 g1 (ix2 r ⟨e.val, by omega⟩) = g0 (ix2 r e) := by
  pointwise [k0_pay8]
theorem pay8_last (e : Fin 512) : k0_pay8 (F := Ideal) g0 g1 (ix2 r ⟨512 + e.val, by omega⟩) = g1 (ix2 r e) := by
  pointwise [k0_pay8]
theorem pay8_at : k0_pay8 (F := Ideal) g0 g1 (ix2 r d) = two g0 g1 r d := by
  rw [two]
  split_ifs with h
  · exact pay8_first g0 g1 r ⟨d.val, h⟩
  · have q : d = ⟨512 + (d.val - 512), by omega⟩ := Fin.ext (by show d.val = 512 + (d.val - 512); omega)
    exact (congrArg (fun z => k0_pay8 (F := Ideal) g0 g1 (ix2 r z)) q).trans (pay8_last g0 g1 r ⟨d.val - 512, by omega⟩)
theorem pay7_at : k0_pay7 (F := Ideal) g0 g1 b (ix2 r d) = Ideal.logistic (k0_pay8 (F := Ideal) g0 g1 (ix2 r d) + b (ix2 0 d)) := by
  rw [← logistic_tanh]
  pointwise [k0_pay7, k0_pay8]
  simp only [half_bits]
theorem pay1_at (v4 v10 v26 v32 : FVec Ideal S256x1024 .f32) : k0_pay1 (F := Ideal) v4 v10 v26 v32 b (ix2 r d)
    = v26 (ix2 r d) * v4 (ix2 r d) + Ideal.logistic (v32 (ix2 r d) + b (ix2 0 d)) * v10 (ix2 r d) := by
  rw [← logistic_tanh]
  pointwise [k0_pay1]
  simp only [half_bits]
theorem pay4_at (v4 v10 v26 v32 v52 : FVec Ideal S256x1024 .f32) : k0_pay4 (F := Ideal) v4 v10 v26 v32 b v52 x3 (ix2 r d)
    = v52 (ix2 r d) + ∑ f : Fin 1024, k0_pay1 (F := Ideal) v4 v10 v26 v32 b (ix2 r f) * x3 (ix3 (⟨f.val / 128, by omega⟩ : Fin 8) (⟨f.val % 128, by omega⟩ : Fin 128) d) := by
  pointwise [k0_pay4]
end

/-! ## The blocks of a point -/

/-- The two square weights, packed shard by shard. -/
def pack (X Y : FVec Ideal S1024x1024 .f32) : FVec Ideal S8x256x1024 .bf16 :=
  truncf (F := Ideal) .bf16 (concatenate (α := Ideal .f32) S8x256x1024 1 [⟨S8x128x1024, shapeCast S8x128x1024 X shapeCasts_S1024x1024_S8x128x1024⟩,
    ⟨S8x128x1024, shapeCast S8x128x1024 Y shapeCasts_S1024x1024_S8x128x1024⟩] concatenates_S8x128x1024_S8x128x1024_S8x256x1024_d1) bitsLt_bf16_f32
section
variable (X Y : FVec Ideal S1024x1024 .f32) (k : Fin 8) (j : Fin 128) (d : Fin 1024)
theorem pack_first : pack X Y (ix3 k ⟨j.val, by omega⟩ d) = X (ix2 ⟨k.val * 128 + j.val, by omega⟩ d) := by
  pointwise [pack]
theorem pack_second : pack X Y (ix3 k ⟨128 + j.val, by omega⟩ d) = Y (ix2 ⟨k.val * 128 + j.val, by omega⟩ d) := by
  pointwise [pack]
end

variable (m : (ℓ : Loc nD τ sig) → Buf (Elt Ideal) ℓ) (c : Dev nD)

theorem v3 : V m c main_v3 = pack (m ((c.tc : Thread nD τ).loc main_arg3)) (m ((c.tc : Thread nD τ).loc main_arg4)) := by
  show StableHlo.after hostOps0 (fun b => m (c, b)) (Proc.devRef .tc main_v3) = _
  after_reads_simp
  rfl
theorem v4 : V m c main_v4 = truncf (F := Ideal) .bf16 (m ((c.tc : Thread nD τ).loc main_arg0)) bitsLt_bf16_f32 := by
  show StableHlo.after hostOps0 (fun b => m (c, b)) (Proc.devRef .tc main_v4) = _
  after_reads_simp
theorem v5 : V m c main_v5 = truncf (F := Ideal) .bf16 (m ((c.tc : Thread nD τ).loc main_arg1)) bitsLt_bf16_f32 := by
  show StableHlo.after hostOps0 (fun b => m (c, b)) (Proc.devRef .tc main_v5) = _
  after_reads_simp
theorem v6 : V m c main_v6 = truncf (F := Ideal) .bf16 (m ((c.tc : Thread nD τ).loc main_arg2)) bitsLt_bf16_f32 := by
  show StableHlo.after hostOps0 (fun b => m (c, b)) (Proc.devRef .tc main_v6) = _
  after_reads_simp
theorem v7 : V m c main_v7 = truncf (F := Ideal) .bf16 (m ((c.tc : Thread nD τ).loc main_arg5)) bitsLt_bf16_f32 := by
  show StableHlo.after hostOps0 (fun b => m (c, b)) (Proc.devRef .tc main_v7) = _
  after_reads_simp

theorem pts : ∀ t : Fin cfg0.N, t.val < 16 := (by decide +kernel : ∀ t : Fin grid0.N, _)
theorem idx : ∀ t : Fin cfg0.N, win0_0.index t = ![t.val, 0] ∧ win0_1.index t = ![t.val, 0] ∧ win0_2.index t = ![0, 0] ∧ win0_3.index t = ![0, 0, 0] ∧ win0_4.index t = ![0, 1, 0]
    ∧ win0_5.index t = ![t.val, 12] ∧ win0_6.index t = ![t.val, 13] ∧ win0_7.index t = ![t.val, 14] ∧ win0_8.index t = ![t.val, 15] ∧ win0_9.index t = ![0, 0] ∧ win0_10.index t = ![t.val, 0] :=
  (by decide +kernel : ∀ t : Fin grid0.N, _)
theorem idx' : ∀ t : Fin cfg0.N, win0_11.index t = ![t.val, 0] ∧ win0_12.index t = ![t.val, 0] ∧ win0_13.index t = ![t.val, 0] ∧ win0_14.index t = ![t.val, 0] :=
  (by decide +kernel : ∀ t : Fin grid0.N, _)

/-- The row at row `r` of a point's tile. -/
def row (t : Fin cfg0.N) (r : Fin 256) : Fin 4096 := ⟨t.val * 256 + r.val, by have := pts t; omega⟩

theorem b0 (t : Fin cfg0.N) (r : Fin 256) (f : Fin 512) : (iblk m c 0 t : FVec Ideal S256x512 .bf16) (ix2 r f)
    = (m ((c.tc : Thread nD τ).loc main_arg0) : FVec Ideal S4096x512 .f32) (ix2 (row t r) f) := by
  refine Eq.trans (b := (V m c main_v4 : FVec Ideal S4096x512 .bf16) (ix2 (row t r) f)) ?_ ?_
  · blk_ext [iblk, idx t, row]
  · rw [v4]
    rfl
theorem b1 (t : Fin cfg0.N) (r : Fin 256) (f : Fin 1024) : (iblk m c 1 t : FVec Ideal S256x1024 .bf16) (ix2 r f)
    = (m ((c.tc : Thread nD τ).loc main_arg1) : FVec Ideal S4096x1024 .f32) (ix2 (row t r) f) := by
  refine Eq.trans (b := (V m c main_v5 : FVec Ideal S4096x1024 .bf16) (ix2 (row t r) f)) ?_ ?_
  · blk_ext [iblk, idx t, row]
  · rw [v5]
    rfl
theorem b2 (t : Fin cfg0.N) (f : Fin 512) (d : Fin 1024) : (iblk m c 2 t : FVec Ideal S512x1024 .bf16) (ix2 f d)
    = (m ((c.tc : Thread nD τ).loc main_arg2) : FVec Ideal S512x1024 .f32) (ix2 f d) := by
  refine Eq.trans (b := (V m c main_v6 : FVec Ideal S512x1024 .bf16) (ix2 f d)) ?_ ?_
  · blk_ext [iblk, idx t]
  · rw [v6]
    rfl
theorem b3 (t : Fin cfg0.N) (k : Fin 8) (j : Fin 128) (d : Fin 1024) : (iblk m c 3 t : FVec Ideal S8x128x1024 .bf16) (ix3 k j d)
    = (m ((c.tc : Thread nD τ).loc main_arg3) : FVec Ideal S1024x1024 .f32) (ix2 ⟨k.val * 128 + j.val, by omega⟩ d) := by
  refine Eq.trans (b := (V m c main_v3 : FVec Ideal S8x256x1024 .bf16) (ix3 k ⟨j.val, by omega⟩ d)) ?_ ?_
  · blk_ext [iblk, idx t]
  · rw [v3, pack_first]
theorem b4 (t : Fin cfg0.N) (k : Fin 8) (j : Fin 128) (d : Fin 1024) : (iblk m c 4 t : FVec Ideal S8x128x1024 .bf16) (ix3 k j d)
    = (m ((c.tc : Thread nD τ).loc main_arg4) : FVec Ideal S1024x1024 .f32) (ix2 ⟨k.val * 128 + j.val, by omega⟩ d) := by
  refine Eq.trans (b := (V m c main_v3 : FVec Ideal S8x256x1024 .bf16) (ix3 k ⟨128 + j.val, by omega⟩ d)) ?_ ?_
  · blk_ext [iblk, idx t]
  · rw [v3, pack_second]
theorem b5 (t : Fin cfg0.N) (r : Fin 256) (e : Fin 512) : (iblk m c 5 t : FVec Ideal S256x512 .bf16) (ix2 r e)
    = (m ((c.tc : Thread nD τ).loc main_arg5) : FVec Ideal S4096x8192 .f32) (ix2 (row t r) ⟨6144 + e.val, by omega⟩) := by
  refine Eq.trans (b := (V m c main_v7 : FVec Ideal S4096x8192 .bf16) (ix2 (row t r) ⟨6144 + e.val, by omega⟩)) ?_ ?_
  · blk_ext [iblk, idx t, row]
  · rw [v7]
    rfl
theorem b6 (t : Fin cfg0.N) (r : Fin 256) (e : Fin 512) : (iblk m c 6 t : FVec Ideal S256x512 .bf16) (ix2 r e)
    = (m ((c.tc : Thread nD τ).loc main_arg5) : FVec Ideal S4096x8192 .f32) (ix2 (row t r) ⟨6656 + e.val, by omega⟩) := by
  refine Eq.trans (b := (V m c main_v7 : FVec Ideal S4096x8192 .bf16) (ix2 (row t r) ⟨6656 + e.val, by omega⟩)) ?_ ?_
  · blk_ext [iblk, idx t, row]
  · rw [v7]
    rfl
theorem b7 (t : Fin cfg0.N) (r : Fin 256) (e : Fin 512) : (iblk m c 7 t : FVec Ideal S256x512 .bf16) (ix2 r e)
    = (m ((c.tc : Thread nD τ).loc main_arg5) : FVec Ideal S4096x8192 .f32) (ix2 (row t r) ⟨7168 + e.val, by omega⟩) := by
  refine Eq.trans (b := (V m c main_v7 : FVec Ideal S4096x8192 .bf16) (ix2 (row t r) ⟨7168 + e.val, by omega⟩)) ?_ ?_
  · blk_ext [iblk, idx t, row]
  · rw [v7]
    rfl
theorem b8 (t : Fin cfg0.N) (r : Fin 256) (e : Fin 512) : (iblk m c 8 t : FVec Ideal S256x512 .bf16) (ix2 r e)
    = (m ((c.tc : Thread nD τ).loc main_arg5) : FVec Ideal S4096x8192 .f32) (ix2 (row t r) ⟨7680 + e.val, by omega⟩) := by
  refine Eq.trans (b := (V m c main_v7 : FVec Ideal S4096x8192 .bf16) (ix2 (row t r) ⟨7680 + e.val, by omega⟩)) ?_ ?_
  · blk_ext [iblk, idx t, row]
  · rw [v7]
    rfl
theorem b9 (t : Fin cfg0.N) (e : Fin 2048) : (iblk m c 9 t : FVec Ideal S1x2048 .f32) (ix2 0 e)
    = (m ((c.tc : Thread nD τ).loc main_arg6) : FVec Ideal S1x2048 .f32) (ix2 0 e) := by
  refine Eq.trans (b := (V m c main_arg6 : FVec Ideal S1x2048 .f32) (ix2 0 e)) ?_ ?_
  · blk_ext [iblk, idx t]
  · rw [V_main_arg6]
theorem b10 (t : Fin cfg0.N) (r : Fin 256) (d : Fin 1024) : (iblk m c 10 t : FVec Ideal S256x1024 .f32) (ix2 r d)
    = (m ((c.tc : Thread nD τ).loc main_arg7) : FVec Ideal S4096x1024 .f32) (ix2 (row t r) d) := by
  refine Eq.trans (b := (V m c main_arg7 : FVec Ideal S4096x1024 .f32) (ix2 (row t r) d)) ?_ ?_
  · blk_ext [iblk, idx t, row]
  · rw [V_main_arg7]

/-- The first half of the bias, as a point loads it. -/
def lo (x : FVec Ideal S1x2048 .f32) : FVec Ideal S1x1024 .f32 := View.ld (Val := Elt Ideal) (e' := .f32) x r0_4
/-- The last half of the bias. -/
def hi (x : FVec Ideal S1x2048 .f32) : FVec Ideal S1x1024 .f32 := View.ld (Val := Elt Ideal) (e' := .f32) x r0_5
theorem lo_at (x : FVec Ideal S1x2048 .f32) (d : Fin 1024) : lo x (ix2 0 d) = x (ix2 0 ⟨d.val, by omega⟩) := by
  pointwise [lo, r0_4]
theorem hi_at (x : FVec Ideal S1x2048 .f32) (d : Fin 1024) : hi x (ix2 0 d) = x (ix2 0 ⟨1024 + d.val, by omega⟩) := by
  pointwise [hi, r0_5]

/-- The values a point computes. -/
def pa (t : Fin cfg0.N) : FVec Ideal S256x1024 .f32 := k0_pay5 (F := Ideal) (iblk m c 0 t) (iblk m c 2 t)
def pb (t : Fin cfg0.N) : FVec Ideal S256x1024 .f32 := k0_pay6 (F := Ideal) (iblk m c 1 t) (iblk m c 3 t)
def ga (t : Fin cfg0.N) : FVec Ideal S256x1024 .f32 := k0_pay7 (F := Ideal) (iblk m c 5 t) (iblk m c 6 t) (lo (iblk m c 9 t))
def gb (t : Fin cfg0.N) : FVec Ideal S256x1024 .f32 := k0_pay8 (F := Ideal) (iblk m c 7 t) (iblk m c 8 t)

theorem o11 (t : Fin cfg0.N) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay1 (F := Ideal) (pa m c t) (pb m c t) (ga m c t) (gb m c t) (hi (iblk m c 9 t)) := by
  unfold_out out0_11
  frame_out
  rfl
theorem o12 (t : Fin cfg0.N) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay2 (F := Ideal) (pa m c t) := by
  unfold_out out0_12
  frame_out
  rfl
theorem o13 (t : Fin cfg0.N) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay3 (F := Ideal) (pb m c t) := by
  unfold_out out0_13
  frame_out
  rfl
theorem o14 (t : Fin cfg0.N) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) = k0_pay4 (F := Ideal) (pa m c t) (pb m c t) (ga m c t) (gb m c t) (hi (iblk m c 9 t)) (iblk m c 10 t) (iblk m c 4 t) := by
  unfold_out out0_14
  frame_out
  rfl

theorem shard (f : Fin 1024) : (⟨f.val / 128 * 128 + f.val % 128, by omega⟩ : Fin 1024) = f := Fin.ext (by show f.val / 128 * 128 + f.val % 128 = f.val; omega)

section
variable (t : Fin cfg0.N) (r : Fin 256) (d : Fin 1024)
theorem pa_at : pa m c t (ix2 r d) = ya (m ((c.tc : Thread nD τ).loc main_arg0)) (m ((c.tc : Thread nD τ).loc main_arg2)) (row t r) d := by
  rw [pa, pay5_at, ya]
  exact Finset.sum_congr rfl fun f _ => by rw [b0, b2]
theorem pb_at : pb m c t (ix2 r d) = yb (m ((c.tc : Thread nD τ).loc main_arg1)) (m ((c.tc : Thread nD τ).loc main_arg3)) (row t r) d := by
  rw [pb, pay6_at, yb]
  exact Finset.sum_congr rfl fun f _ => by rw [b1, b3, shard]
/-- Two neighbouring blocks of the projected values are the columns they were cut from. -/
theorem two_at (P : FVec Ideal S4096x8192 .f32) (o : ℕ) (ho : o + 1024 ≤ 8192) (e : Fin 2048) (he : o + d.val = 6144 + e.val) (g0 g1 : FVec Ideal S256x512 .bf16)
    (h0 : ∀ e : Fin 512, g0 (ix2 r e) = P (ix2 (row t r) ⟨o + e.val, by omega⟩)) (h1 : ∀ e : Fin 512, g1 (ix2 r e) = P (ix2 (row t r) ⟨o + 512 + e.val, by omega⟩)) :
    two g0 g1 r d = P (ix2 (row t r) ⟨6144 + e.val, by omega⟩) := by
  rw [two]
  split_ifs with h
  · exact (h0 _).trans (congrArg (fun k => P (ix2 (row t r) k)) (Fin.ext he))
  · exact (h1 _).trans (congrArg (fun k => P (ix2 (row t r) k)) (Fin.ext (by show o + 512 + (d.val - 512) = 6144 + e.val; omega)))
theorem ga_at : ga m c t (ix2 r d) = gate (m ((c.tc : Thread nD τ).loc main_arg5)) (m ((c.tc : Thread nD τ).loc main_arg6)) (row t r) ⟨d.val, by omega⟩ := by
  rw [ga, pay7_at, pay8_at, lo_at, b9, gate, two_at t r d (m ((c.tc : Thread nD τ).loc main_arg5)) 6144 (by omega) ⟨d.val, by omega⟩ rfl _ _ (b5 m c t r) (b6 m c t r)]
theorem gb_at : Ideal.logistic (gb m c t (ix2 r d) + hi (iblk m c 9 t) (ix2 0 d)) = gate (m ((c.tc : Thread nD τ).loc main_arg5)) (m ((c.tc : Thread nD τ).loc main_arg6)) (row t r) ⟨1024 + d.val, by omega⟩ := by
  rw [gb, pay8_at, hi_at, b9, gate, two_at t r d (m ((c.tc : Thread nD τ).loc main_arg5)) 7168 (by omega) ⟨1024 + d.val, by omega⟩ (by show 7168 + d.val = 6144 + (1024 + d.val); omega) _ _ (b7 m c t r) (b8 m c t r)]
/-- The blocks a point writes back. -/
theorem block11 : k0_pay1 (F := Ideal) (pa m c t) (pb m c t) (ga m c t) (gb m c t) (hi (iblk m c 9 t)) (ix2 r d)
    = mg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (row t r) d := by
  rw [pay1_at, pa_at, pb_at, ga_at, gb_at, mg]
theorem block12 : k0_pay2 (F := Ideal) (pa m c t) (ix2 r d) = ya (m ((c.tc : Thread nD τ).loc main_arg0)) (m ((c.tc : Thread nD τ).loc main_arg2)) (row t r) d := by
  rw [← pa_at]
  pointwise [k0_pay2]
theorem block13 : k0_pay3 (F := Ideal) (pb m c t) (ix2 r d) = yb (m ((c.tc : Thread nD τ).loc main_arg1)) (m ((c.tc : Thread nD τ).loc main_arg3)) (row t r) d := by
  rw [← pb_at]
  pointwise [k0_pay3]
theorem block14 : k0_pay4 (F := Ideal) (pa m c t) (pb m c t) (ga m c t) (gb m c t) (hi (iblk m c 9 t)) (iblk m c 10 t) (iblk m c 4 t) (ix2 r d)
    = xo (mg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) (m ((c.tc : Thread nD τ).loc main_arg4)) (m ((c.tc : Thread nD τ).loc main_arg7)) (row t r) d := by
  rw [pay4_at, xo]
  exact congrArg₂ (fun x z : EReal => x + z) (b10 m c t r d) (Finset.sum_congr rfl fun f _ => by rw [block11, b4, shard])
end

/-- The merged rows at the end. -/
theorem final11 (G : FVec Ideal S4096x1024 .bf16) (hG : ∀ i d, G (ix2 i d) = mg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) i d) :
    (dats m 0 c).arrAt 11 cfg0.N = G := by
  refine (dats m 0 c).arrAt_eq_of_covers 11 _ (by decide +kernel) fun t hf z => ?_
  blk_simp
  rw [after0_11, o11]
  obtain ⟨r, d, rfl⟩ : ∃ (r : Fin 256) (d : Fin 1024), z = ix2 r d := ⟨z 0, z 1, by blk_ext⟩
  have e : (win0_11.blk t).view.emb (ix2 r d) = ix2 (row t r) d := by blk_ext [idx' t, row]
  rw [e, hG]
  exact block11 m c t r d
/-- The first branch's projection at the end. -/
theorem final12 (G : FVec Ideal S4096x1024 .bf16) (hG : ∀ i d, G (ix2 i d) = ya (m ((c.tc : Thread nD τ).loc main_arg0)) (m ((c.tc : Thread nD τ).loc main_arg2)) i d) :
    (dats m 0 c).arrAt 12 cfg0.N = G := by
  refine (dats m 0 c).arrAt_eq_of_covers 12 _ (by decide +kernel) fun t hf z => ?_
  blk_simp
  rw [after0_12, o12]
  obtain ⟨r, d, rfl⟩ : ∃ (r : Fin 256) (d : Fin 1024), z = ix2 r d := ⟨z 0, z 1, by blk_ext⟩
  have e : (win0_12.blk t).view.emb (ix2 r d) = ix2 (row t r) d := by blk_ext [idx' t, row]
  rw [e, hG]
  exact block12 m c t r d
/-- The second branch's projection at the end. -/
theorem final13 (G : FVec Ideal S4096x1024 .bf16) (hG : ∀ i d, G (ix2 i d) = yb (m ((c.tc : Thread nD τ).loc main_arg1)) (m ((c.tc : Thread nD τ).loc main_arg3)) i d) :
    (dats m 0 c).arrAt 13 cfg0.N = G := by
  refine (dats m 0 c).arrAt_eq_of_covers 13 _ (by decide +kernel) fun t hf z => ?_
  blk_simp
  rw [after0_13, o13]
  obtain ⟨r, d, rfl⟩ : ∃ (r : Fin 256) (d : Fin 1024), z = ix2 r d := ⟨z 0, z 1, by blk_ext⟩
  have e : (win0_13.blk t).view.emb (ix2 r d) = ix2 (row t r) d := by blk_ext [idx' t, row]
  rw [e, hG]
  exact block13 m c t r d
/-- The layer's output at the end. -/
theorem final14 (G : FVec Ideal S4096x1024 .f32) (hG : ∀ i d, G (ix2 i d) = xo (mg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) (m ((c.tc : Thread nD τ).loc main_arg4)) (m ((c.tc : Thread nD τ).loc main_arg7)) i d) :
    (dats m 0 c).arrAt 14 cfg0.N = G := by
  refine (dats m 0 c).arrAt_eq_of_covers 14 _ (by decide +kernel) fun t hf z => ?_
  blk_simp
  rw [after0_14, o14]
  obtain ⟨r, d, rfl⟩ : ∃ (r : Fin 256) (d : Fin 1024), z = ix2 r d := ⟨z 0, z 1, by blk_ext⟩
  have e : (win0_14.blk t).view.emb (ix2 r d) = ix2 (row t r) d := by blk_ext [idx' t, row]
  rw [e, hG]
  exact block14 m c t r d

end Cert.MergeIdeal.Final

namespace Cert.MergeReferenceIdeal.Read

open Cert.MergeReferenceIdeal Cert.MergeReferenceIdeal.Gen
open Cert.MergeIdeal.Final (ya yb gate mg xo)
open Idealize.ShloMosaic Idealize.ShloMosaic.TcCoe Idealize.SL.Sem
open scoped BigOperators

section
variable (A : FVec Ideal S4096x512 .f32) (B : FVec Ideal S4096x1024 .f32) (U : FVec Ideal S512x1024 .f32) (W O : FVec Ideal S1024x1024 .f32)
variable (P : FVec Ideal S4096x8192 .f32) (b : FVec Ideal S1x2048 .f32) (X : FVec Ideal S4096x1024 .f32)
/-- The reference's first projection. -/
def yaA : FVec Ideal S4096x1024 .f32 := Host.dotGeneral dot_S4096x512_S512x1024_S4096x1024_1_0_0_1_n_n none A U
/-- The reference's second projection. -/
def ybA : FVec Ideal S4096x1024 .f32 := Host.dotGeneral dot_S4096x1024_S1024x1024_S4096x1024_1_0_0_1_n_n none B W
/-- The reference's gates. -/
def gateA : FVec Ideal S4096x2048 .f32 :=
  Host.divf (broadcastInDim S4096x2048 ![] bcast_S_S4096x2048 (constant S_ .f32 0x3F800000#32)) (addf (broadcastInDim S4096x2048 ![] bcast_S_S4096x2048 (constant S_ .f32 0x3F800000#32))
    (Host.exp (Host.negf (addf (extractStridedSlice S4096x2048 ![0, 6144] P slices_S4096x8192_S4096x2048_0_6144) (broadcastInDim S4096x2048 ![0, 1] bcast_S1x2048_S4096x2048_0_1 b)))))
/-- The reference's merged rows. -/
def mgA : FVec Ideal S4096x1024 .f32 :=
  addf (mulf (extractStridedSlice S4096x1024 ![0, 0] (gateA P b) slices_S4096x2048_S4096x1024_0_0) (yaA A U))
    (mulf (extractStridedSlice S4096x1024 ![0, 1024] (gateA P b) slices_S4096x2048_S4096x1024_0_1024) (ybA B W))
/-- The reference's output of the layer. -/
def xoA : FVec Ideal S4096x1024 .f32 := addf X (Host.dotGeneral dot_S4096x1024_S1024x1024_S4096x1024_1_0_0_1_n_n none (mgA A B U W P b) O)

variable (i : Fin 4096) (d : Fin 1024)
theorem yaA_at : yaA A U (ix2 i d) = ya A U i d := by
  rw [ya]
  pointwise [yaA]
theorem ybA_at : ybA B W (ix2 i d) = yb B W i d := by
  rw [yb]
  pointwise [ybA]
theorem gateA_at (e : Fin 2048) : gateA P b (ix2 i e) = gate P b i e := by
  rw [gate, Ideal.logistic]
  pointwise [gateA]
theorem lo_at (G : FVec Ideal S4096x2048 .f32) : extractStridedSlice S4096x1024 ![0, 0] G slices_S4096x2048_S4096x1024_0_0 (ix2 i d) = G (ix2 i ⟨d.val, by omega⟩) := by
  pointwise []
theorem hi_at (G : FVec Ideal S4096x2048 .f32) : extractStridedSlice S4096x1024 ![0, 1024] G slices_S4096x2048_S4096x1024_0_1024 (ix2 i d) = G (ix2 i ⟨1024 + d.val, by omega⟩) := by
  pointwise []
theorem mgA_at : mgA A B U W P b (ix2 i d) = mg A B U W P b i d := by
  rw [mg, ← gateA_at, ← gateA_at, ← yaA_at, ← ybA_at, ← lo_at i d (gateA P b), ← hi_at i d (gateA P b)]
  rfl
theorem xoA_dot (M : FVec Ideal S4096x1024 .f32) : (addf X (Host.dotGeneral dot_S4096x1024_S1024x1024_S4096x1024_1_0_0_1_n_n none M O) : FVec Ideal S4096x1024 .f32) (ix2 i d)
    = X (ix2 i d) + ∑ f : Fin 1024, M (ix2 i f) * O (ix2 f d) := by
  pointwise []
theorem xoA_at : xoA A B U W O P b X (ix2 i d) = xo (mg A B U W P b) O X i d := by
  rw [xoA, xoA_dot, xo]
  exact congrArg (_ + ·) (Finset.sum_congr rfl fun f _ => by rw [mgA_at])
end

end Cert.MergeReferenceIdeal.Read

namespace Cert.Proof.Merge

open Idealize.ShloMosaic Idealize.ShloMosaic.TcCoe Idealize.SL.Sem

/-- The compiled kernel runs and leaves its arguments. -/
theorem frame_p : Cert.quiescent_Merge := fun m ρ _ => Cert.Merge.Gen.frame m ρ
/-- The ideal kernel runs and leaves its arguments. -/
theorem frame_pi : Cert.quiescent_MergeIdeal := fun m ρ _ => Cert.MergeIdeal.Gen.frame m ρ
/-- The reference runs and leaves its arguments. -/
theorem frame_ri : Cert.quiescent_MergeReferenceIdeal := fun m ρ _ =>
  (θ_run Cert.MergeReferenceIdeal.defs _ _).mono (fun r h => ⟨fun c => (h c).2.2.2.2, Idealize.ShloMosaic.sem_eq_zero_of_no_sems (by decide) r.2⟩)
    (Cert.MergeReferenceIdeal.Value.run (F := Ideal) m ρ)
/-- The ideal kernel is the compiled one's own text: no constant of it is named. -/
theorem preserves : Cert.preserves_Merge_MergeIdeal := trivial

/-- From any arguments the kernel's four results are the reference's. -/
theorem algebraic : Cert.algebraic_MergeIdeal_MergeReferenceIdeal := by
  intro m g m' g' _ hag
  refine ⟨fun c => (Cert.MergeIdeal.Gen.dats m 0 c).arrAt 11 Cert.MergeIdeal.cfg0.N, fun c => (Cert.MergeIdeal.Gen.dats m 0 c).arrAt 12 Cert.MergeIdeal.cfg0.N,
    fun c => (Cert.MergeIdeal.Gen.dats m 0 c).arrAt 13 Cert.MergeIdeal.cfg0.N, fun c => (Cert.MergeIdeal.Gen.dats m 0 c).arrAt 14 Cert.MergeIdeal.cfg0.N, ?_, ?_⟩
  · refine (θ_run Cert.MergeIdeal.defs _ _).mono (fun r h c => ?_) (θ_run_and (Cert.MergeIdeal.Gen.run_main m g) (Cert.MergeIdeal.Gen.unchanged m g))
    exact ⟨(h.1 c).1 11, (h.1 c).1 12, (h.1 c).1 13, (h.1 c).1 14, h.2 c⟩
  · refine (θ_run Cert.MergeReferenceIdeal.defs _ _).mono (fun r h c => ?_) (Cert.MergeReferenceIdeal.Value.run (F := Ideal) m' g')
    obtain ⟨a0, a1, a2, a3, a4, a5, a6, a7⟩ := hag c
    refine ⟨(h c).1.trans ?_, (h c).2.1.trans ?_, (h c).2.2.1.trans ?_, (h c).2.2.2.1.trans ?_, (h c).2.2.2.2⟩
    · symm
      refine Cert.MergeIdeal.Final.final11 m c _ fun i d => ?_
      rw [a0, a1, a2, a3, a5, a6]
      exact Cert.MergeReferenceIdeal.Read.mgA_at _ _ _ _ _ _ i d
    · symm
      refine Cert.MergeIdeal.Final.final12 m c _ fun i d => ?_
      rw [a0, a2]
      exact Cert.MergeReferenceIdeal.Read.yaA_at _ _ i d
    · symm
      refine Cert.MergeIdeal.Final.final13 m c _ fun i d => ?_
      rw [a1, a3]
      exact Cert.MergeReferenceIdeal.Read.ybA_at _ _ i d
    · symm
      refine Cert.MergeIdeal.Final.final14 m c _ fun i d => ?_
      rw [a0, a1, a2, a3, a4, a5, a6, a7]
      exact Cert.MergeReferenceIdeal.Read.xoA_at _ _ _ _ _ _ _ _ i d

end Cert.Proof.Merge

end
-- ==== Proof.FfnDwDown.lean ====
/-
  The gradient of the second feed-forward weight: what the kernel's carried sum leaves in the result and what the reference computes.
  No argument need be finite: the two are the same sum, and a half of a sum is the sum of the halves at the infinities too.
-/
module

public import proofs.«01_k».proof.Defs
public import proofs.«01_k».proof.Proof.FfnDown
public import proofs.«01_k».proof.Proof.Gen.FfnDwDown.Frame
public import proofs.«01_k».proof.Proof.Gen.FfnDwDownIdeal.Value
public import proofs.«01_k».proof.Proof.Gen.FfnDwDownReferenceIdeal.Run
public import Idealize.ShloMosaic.Lib.Pipeline.ValueKit
public import Idealize.ShloMosaic.Lib.StableHlo.RunRead
public import Idealize.ShloMosaic.Lib.Pointwise
public import Idealize.ShloMosaic.Lib.IdealHost
public import Idealize.ShloMosaic.Lib.Claim

@[expose] public section

set_option maxRecDepth 16384

noncomputable section

namespace Cert.FfnDwDownIdeal.Final

open Cert.FfnDwDownIdeal Cert.FfnDwDownIdeal.Gen Cert.FfnRows
open Cert.FfnDownIdeal.Final (stacked stacked_third)
open Idealize.ShloMosaic Idealize.ShloMosaic.TcCoe Idealize.SL.Sem
open scoped BigOperators

/-- The gradient of the weight: half of the product. -/
def dw (H : FVec Ideal S4096x2816 .f32) (X : FVec Ideal S4096x1024 .f32) (f : Fin 2816) (d : Fin 1024) : EReal :=
  ((1 / 2 : ℝ) : EReal) * ∑ i : Fin 4096, H (ix2 i f) * X (ix2 i d)

/-- A half of a sum is the sum of the halves. -/
theorem half_sum {n : ℕ} (g : Fin n → EReal) : ((1 / 2 : ℝ) : EReal) * ∑ i, g i = ∑ i, ((1 / 2 : ℝ) : EReal) * g i := by
  have h0 : (0 : EReal) ≤ ((1 / 2 : ℝ) : EReal) := EReal.coe_nonneg.mpr (by norm_num)
  induction n with
  | zero => simp
  | succ n ih => rw [Fin.sum_univ_succ, Fin.sum_univ_succ, EReal.left_distrib_of_nonneg_of_ne_top h0 (EReal.coe_ne_top _), ih]

/-- The sum of the rows is the sum of the first half of them and of the last. -/
theorem halves (g : Fin 4096 → EReal) : ∑ i, g i = (∑ a : Fin 2048, g ⟨a.val, by omega⟩) + ∑ a : Fin 2048, g ⟨2048 + a.val, by omega⟩ :=
  Fin.sum_univ_add (a := 2048) (b := 2048) g

/-! ## The payloads -/

section
variable (v0 : FVec Ideal S1x2048x1408 .bf16) (v2 : FVec Ideal S2048x1024 .bf16) (x : FVec Ideal S1408x1024 .f32) (f : Fin 1408) (d : Fin 1024)
theorem pay1_at : k0_pay1 (F := Ideal) v0 v2 (ix2 f d) = ∑ i : Fin 2048, v0 (ix3 0 i f) * v2 (ix2 i d) := by
  pointwise [k0_pay1]
theorem pay2_at : k0_pay2 (F := Ideal) v0 v2 (ix2 f d) = ∑ i : Fin 2048, v0 (ix3 0 i f) * v2 (ix2 i d) := by
  rw [← pay1_at]
  pointwise [k0_pay2]
theorem pay3_at : k0_pay3 (F := Ideal) v0 v2 x (ix2 f d) = x (ix2 f d) + ∑ i : Fin 2048, v0 (ix3 0 i f) * v2 (ix2 i d) := by
  rw [← pay1_at]
  pointwise [k0_pay3]
theorem pay4_at (q : Fin 4) (j : Fin 352) : k0_pay4 (F := Ideal) x (ix3 q j d) = ((1 / 2 : ℝ) : EReal) * x (ix2 ⟨q.val * 352 + j.val, by omega⟩ d) := by
  pointwise [k0_pay4]
  simp only [half_bits]
end

/-! ## The blocks of a point -/

variable (m : (ℓ : Loc nD τ sig) → Buf (Elt Ideal) ℓ) (c : Dev nD)

theorem v6 : V m c main_v6 = stacked (m ((c.tc : Thread nD τ).loc main_arg0)) := by
  show StableHlo.after hostOps0 (fun b => m (c, b)) (Proc.devRef .tc main_v6) = _
  after_reads_simp
  rfl
theorem v7 : V m c main_v7 = truncf (F := Ideal) .bf16 (m ((c.tc : Thread nD τ).loc main_arg1)) bitsLt_bf16_f32 := by
  show StableHlo.after hostOps0 (fun b => m (c, b)) (Proc.devRef .tc main_v7) = _
  after_reads_simp

theorem pts : ∀ t : Fin cfg0.N, t.val < 4 := (by decide +kernel : ∀ t : Fin grid0.N, _)
theorem idx : ∀ t : Fin cfg0.N, win0_0.index t = ![2, t.val % 2, t.val / 2] ∧ win0_1.index t = ![t.val % 2, 0] ∧ win0_2.index t = ![t.val / 2, 0, 0] :=
  (by decide +kernel : ∀ t : Fin grid0.N, _)
/-- Only the second point of a block of columns writes it back. -/
theorem odd : ∀ t : Fin cfg0.N, (cfg0.win 2).flush t = true → t.val % 2 = 1 := (by decide +kernel : ∀ t : Fin grid0.N, _)

/-- The row at row `r` of a point's tile. -/
def row (t : Fin cfg0.N) (r : Fin 2048) : Fin 4096 := ⟨t.val % 2 * 2048 + r.val, by omega⟩
/-- The column at column `f` of a point's tile. -/
def col (t : Fin cfg0.N) (f : Fin 1408) : Fin 2816 := ⟨t.val / 2 * 1408 + f.val, by have := pts t; omega⟩

theorem b0 (t : Fin cfg0.N) (r : Fin 2048) (f : Fin 1408) : (iblk m c 0 t : FVec Ideal S1x2048x1408 .bf16) (ix3 0 r f)
    = (m ((c.tc : Thread nD τ).loc main_arg0) : FVec Ideal S4096x2816 .f32) (ix2 (row t r) (col t f)) := by
  refine Eq.trans (b := (V m c main_v6 : FVec Ideal S3x4096x2816 .bf16) (ix3 2 (row t r) (col t f))) ?_ ?_
  · blk_ext [iblk, idx t, row, col]
  · rw [v6]
    exact stacked_third _ _ _
theorem b1 (t : Fin cfg0.N) (r : Fin 2048) (d : Fin 1024) : (iblk m c 1 t : FVec Ideal S2048x1024 .bf16) (ix2 r d)
    = (m ((c.tc : Thread nD τ).loc main_arg1) : FVec Ideal S4096x1024 .f32) (ix2 (row t r) d) := by
  refine Eq.trans (b := (V m c main_v7 : FVec Ideal S4096x1024 .bf16) (ix2 (row t r) d)) ?_ ?_
  · blk_ext [iblk, idx t, row]
  · rw [v7]
    rfl

/-- What the first point of a block of columns carries to the second. -/
theorem first (t : Fin cfg0.N) (h : t.val % 2 = 0) : (outsAt0 m c t.val t.isLt).2 = k0_pay2 (F := Ideal) (iblk m c 0 t) (iblk m c 1 t) := by
  rw [outsAt0_A m c t h (by omega) (by omega)]
  frame_out
/-- What the second point leaves in the block. -/
theorem last (t : Fin cfg0.N) (h : t.val % 2 = 1) : (outsAt0 m c t.val t.isLt).1
    = k0_pay4 (F := Ideal) (k0_pay3 (F := Ideal) (iblk m c 0 t) (iblk m c 1 t) (outsAt0 m c (t.val - 1) (Nat.lt_of_le_of_lt (Nat.sub_le _ _) t.isLt)).2) := by
  rw [outsAt0_B m c t (by omega) h h]
  frame_out
  exact congrArg (fun z => k0_pay4 (F := Ideal) (k0_pay3 (F := Ideal) (iblk m c 0 t) (iblk m c 1 t) z)) (Memref.IsWhole.read_unread _ _)

/-- The block a point writes back. -/
theorem block2 (t : Fin cfg0.N) (h : t.val % 2 = 1) (q : Fin 4) (j : Fin 352) (d : Fin 1024) : (outsAt0 m c t.val t.isLt).1 (ix3 q j d)
    = dw (m ((c.tc : Thread nD τ).loc main_arg0)) (m ((c.tc : Thread nD τ).loc main_arg1)) (col t ⟨q.val * 352 + j.val, by omega⟩) d := by
  have e0 : (t.val - 1) % 2 = 0 := by omega
  have e1 : (t.val - 1) / 2 = t.val / 2 := by omega
  let s : Fin cfg0.N := ⟨t.val - 1, Nat.lt_of_le_of_lt (Nat.sub_le _ _) t.isLt⟩
  rw [last m c t h, pay4_at, pay3_at, first m c s e0, pay2_at, dw, halves]
  refine congrArg (fun z : EReal => ((1 / 2 : ℝ) : EReal) * z) (congrArg₂ (fun x y : EReal => x + y) (Finset.sum_congr rfl fun i _ => ?_) (Finset.sum_congr rfl fun i _ => ?_))
  · have k0 : row s i = ⟨i.val, by omega⟩ := Fin.ext (by show (t.val - 1) % 2 * 2048 + i.val = i.val; omega)
    have k1 : col s ⟨q.val * 352 + j.val, by omega⟩ = col t ⟨q.val * 352 + j.val, by omega⟩ := Fin.ext (by show (t.val - 1) / 2 * 1408 + _ = t.val / 2 * 1408 + _; rw [e1])
    rw [b0, b1, k0, k1]
  · have k0 : row t i = ⟨2048 + i.val, by omega⟩ := Fin.ext (by show t.val % 2 * 2048 + i.val = 2048 + i.val; omega)
    rw [b0, b1, k0]

/-- The weight's gradient at the end. -/
theorem final2 (G : FVec Ideal S8x352x1024 .bf16)
    (hG : ∀ (k : Fin 8) (j : Fin 352) (d : Fin 1024), G (ix3 k j d) = dw (m ((c.tc : Thread nD τ).loc main_arg0)) (m ((c.tc : Thread nD τ).loc main_arg1)) ⟨k.val * 352 + j.val, by omega⟩ d) :
    (dats m 0 c).arrAt 2 cfg0.N = G := by
  refine (dats m 0 c).arrAt_eq_of_covers 2 _ (by decide +kernel) fun t hf z => ?_
  blk_simp
  rw [after0_2]
  obtain ⟨q, j, d, rfl⟩ : ∃ (q : Fin 4) (j : Fin 352) (d : Fin 1024), z = ix3 q j d := ⟨z 0, z 1, z 2, by blk_ext⟩
  have ht := pts t
  have e : (win0_2.blk t).view.emb (ix3 q j d) = ix3 (⟨t.val / 2 * 4 + q.val, by omega⟩ : Fin 8) j d := by blk_ext [idx t]
  rw [e, hG]
  refine (block2 m c t (odd t hf) q j d).trans (congrArg (fun f => dw _ _ f d) (Fin.ext ?_))
  show t.val / 2 * 1408 + (q.val * 352 + j.val) = (t.val / 2 * 4 + q.val) * 352 + j.val
  omega

end Cert.FfnDwDownIdeal.Final

namespace Cert.FfnDwDownReferenceIdeal.Read

open Cert.FfnDwDownReferenceIdeal Cert.FfnDwDownReferenceIdeal.Gen Cert.FfnRows
open Cert.FfnDwDownIdeal.Final (dw half_sum)
open Idealize.ShloMosaic Idealize.ShloMosaic.TcCoe Idealize.SL.Sem
open scoped BigOperators

section
variable (H : FVec Ideal S4096x2816 .f32) (X : FVec Ideal S4096x1024 .f32)
/-- The reference's gradient of the weight. -/
def dwA : FVec Ideal S8x352x1024 .bf16 :=
  truncf .bf16 (shapeCast S8x352x1024 (transpose S2816x1024 [1, 0] (Host.dotGeneral dot_S4096x1024_S4096x2816_S1024x2816_0_0_1_1_n_n none
    (mulf (broadcastInDim S4096x1024 ![] bcast_S_S4096x1024 (constant S_ .f32 0x3F000000#32)) X) H) transposes_S1024x2816_S2816x1024_1_0) shapeCasts_S2816x1024_S8x352x1024) bitsLt_bf16_f32
theorem dwA_sum (k : Fin 8) (j : Fin 352) (d : Fin 1024) : dwA H X (ix3 k j d)
    = ∑ i : Fin 4096, ((1 / 2 : ℝ) : EReal) * X (ix2 i d) * H (ix2 i ⟨k.val * 352 + j.val, by omega⟩) := by
  pointwise [dwA]
  simp only [half_bits]
theorem dwA_at (k : Fin 8) (j : Fin 352) (d : Fin 1024) : dwA H X (ix3 k j d) = dw H X ⟨k.val * 352 + j.val, by omega⟩ d := by
  rw [dwA_sum, dw, half_sum]
  exact Finset.sum_congr rfl fun i _ => (mul_assoc _ _ _).trans (congrArg (fun z : EReal => ((1 / 2 : ℝ) : EReal) * z) (mul_comm _ _))
end

end Cert.FfnDwDownReferenceIdeal.Read

namespace Cert.Proof.FfnDwDown

open Idealize.ShloMosaic Idealize.ShloMosaic.TcCoe Idealize.SL.Sem

/-- The compiled kernel runs and leaves its arguments. -/
theorem frame_p : Cert.quiescent_FfnDwDown := fun m ρ _ => Cert.FfnDwDown.Gen.frame m ρ
/-- The ideal kernel runs and leaves its arguments. -/
theorem frame_pi : Cert.quiescent_FfnDwDownIdeal := fun m ρ _ => Cert.FfnDwDownIdeal.Gen.frame m ρ
/-- The reference runs and leaves its arguments. -/
theorem frame_ri : Cert.quiescent_FfnDwDownReferenceIdeal := fun m ρ _ =>
  (θ_run Cert.FfnDwDownReferenceIdeal.defs _ _).mono (fun r h => ⟨fun c => (h c).2, Idealize.ShloMosaic.sem_eq_zero_of_no_sems (by decide) r.2⟩)
    (Cert.FfnDwDownReferenceIdeal.Value.run (F := Ideal) m ρ)
/-- The ideal kernel is the compiled one's own text: no constant of it is named. -/
theorem preserves : Cert.preserves_FfnDwDown_FfnDwDownIdeal := trivial

/-- From any arguments the kernel's result is the reference's. -/
theorem algebraic : Cert.algebraic_FfnDwDownIdeal_FfnDwDownReferenceIdeal := by
  intro m g m' g' _ hag
  refine ⟨fun c => (Cert.FfnDwDownIdeal.Gen.dats m 0 c).arrAt 2 Cert.FfnDwDownIdeal.cfg0.N, ?_, ?_⟩
  · refine (θ_run Cert.FfnDwDownIdeal.defs _ _).mono (fun r h c => ?_) (θ_run_and (Cert.FfnDwDownIdeal.Gen.run_main m g) (Cert.FfnDwDownIdeal.Gen.unchanged m g))
    exact ⟨(h.1 c).1 2, h.2 c⟩
  · refine (θ_run Cert.FfnDwDownReferenceIdeal.defs _ _).mono (fun r h c => ?_) (Cert.FfnDwDownReferenceIdeal.Value.run (F := Ideal) m' g')
    obtain ⟨a0, a1⟩ := hag c
    refine ⟨(h c).1.trans ?_, (h c).2⟩
    symm
    refine Cert.FfnDwDownIdeal.Final.final2 m c _ fun k j d => ?_
    rw [a0, a1]
    exact Cert.FfnDwDownReferenceIdeal.Read.dwA_at _ _ k j d

end Cert.Proof.FfnDwDown

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Claims
public import proofs.«01_k».proof.Proof.FfnClaims
public import proofs.«01_k».proof.Proof.FfnBwdClaims
public import proofs.«01_k».proof.Proof.ProjBwdClaims
public import proofs.«01_k».proof.Proof.FfnDw
public import proofs.«01_k».proof.Proof.FfnGateClaims
public import proofs.«01_k».proof.Proof.Gen.FfnDown.Frame
public import proofs.«01_k».proof.Proof.Gen.FfnDownIdeal.Value
public import proofs.«01_k».proof.Proof.Gen.FfnDownReferenceIdeal.Run
public import proofs.«01_k».proof.Proof.Gen.Merge.Frame
public import proofs.«01_k».proof.Proof.Gen.MergeIdeal.Value
public import proofs.«01_k».proof.Proof.Gen.MergeReferenceIdeal.Run
public import proofs.«01_k».proof.Proof.Gen.FfnDwDown.Frame
public import proofs.«01_k».proof.Proof.Gen.FfnDwDownIdeal.Value
public import proofs.«01_k».proof.Proof.Gen.FfnDwDownReferenceIdeal.Run
public import proofs.«01_k».proof.Proof.ProjDwA
public import proofs.«01_k».proof.Proof.ProjDwB
public import proofs.«01_k».proof.Proof.Proj
public import proofs.«01_k».proof.Proof.FfnUp
public import proofs.«01_k».proof.Proof.FfnDown
public import proofs.«01_k».proof.Proof.MergeFwd
public import proofs.«01_k».proof.Proof.FfnDwDown
public import proofs.«01_k».proof.Proof.Gen.FfnIdeal.Value
public import proofs.«01_k».proof.Proof.Gen.FfnReferenceIdeal.Run
public import proofs.«01_k».proof.Proof.Gen.Pre_finite2
public import proofs.«01_k».proof.Proof.Gen.Ffn.Frame
public import proofs.«01_k».proof.Proof.Gen.FfnBwd.Frame
public import proofs.«01_k».proof.Proof.Gen.FfnBwdIdeal.Value
public import proofs.«01_k».proof.Proof.Gen.FfnBwdReferenceIdeal.Run
public import proofs.«01_k».proof.Proof.Gen.ProjBwd.Frame
public import proofs.«01_k».proof.Proof.Gen.ProjBwdIdeal.Value
public import proofs.«01_k».proof.Proof.Gen.ProjBwdReferenceIdeal.Run
public import proofs.«01_k».proof.Proof.Gen.FfnDw.Frame
public import proofs.«01_k».proof.Proof.Gen.FfnDwIdeal.Value
public import proofs.«01_k».proof.Proof.Gen.FfnDwReferenceIdeal.Run
public import proofs.«01_k».proof.Proof.Gen.FfnGate.Frame
public import proofs.«01_k».proof.Proof.Gen.FfnGateIdeal.Value
public import proofs.«01_k».proof.Proof.Gen.FfnGateReferenceIdeal.Run
public import proofs.«01_k».proof.Proof.Gen.ProjDwA.Frame
public import proofs.«01_k».proof.Proof.Gen.ProjDwAIdeal.Value
public import proofs.«01_k».proof.Proof.Gen.ProjDwAReferenceIdeal.Run
public import proofs.«01_k».proof.Proof.Gen.ProjDwB.Frame
public import proofs.«01_k».proof.Proof.Gen.ProjDwBIdeal.Value
public import proofs.«01_k».proof.Proof.Gen.ProjDwBReferenceIdeal.Run
public import proofs.«01_k».proof.Proof.Gen.Proj.Frame
public import proofs.«01_k».proof.Proof.Gen.ProjIdeal.Value
public import proofs.«01_k».proof.Proof.Gen.ProjReferenceIdeal.Run
public import proofs.«01_k».proof.Proof.Gen.FfnUp.Frame
public import proofs.«01_k».proof.Proof.Gen.FfnUpIdeal.Value
public import proofs.«01_k».proof.Proof.Gen.FfnUpReferenceIdeal.Run
public import proofs.«01_k».proof.Proof.Gen.Pre_finite3
public import proofs.«01_k».proof.Proof.Gen.Pre_finite4
public import proofs.«01_k».proof.Proof.Gen.Pre_finite6
public import Idealize.ShloMosaic.Adequacy
public import Idealize.ShloMosaic.Init

@[expose] public section

noncomputable section

namespace Cert.Proof

open Idealize.ShloMosaic Idealize.SL.Sem Cert.Kernel

theorem claim : Cert.Claim := ⟨
    Cert.Kernel.Gen.facts, Cert.KernelIdeal.Gen.facts, Cert.ReferenceIdeal.Gen.facts,
    Cert.Ffn.Gen.facts, Cert.FfnIdeal.Gen.facts, Cert.FfnReferenceIdeal.Gen.facts,
    Cert.FfnBwd.Gen.facts, Cert.FfnBwdIdeal.Gen.facts, Cert.FfnBwdReferenceIdeal.Gen.facts,
    Cert.ProjBwd.Gen.facts, Cert.ProjBwdIdeal.Gen.facts, Cert.ProjBwdReferenceIdeal.Gen.facts,
    Cert.FfnDw.Gen.facts, Cert.FfnDwIdeal.Gen.facts, Cert.FfnDwReferenceIdeal.Gen.facts,
    Cert.FfnGate.Gen.facts, Cert.FfnGateIdeal.Gen.facts, Cert.FfnGateReferenceIdeal.Gen.facts,
    Cert.ProjDwA.Gen.facts, Cert.ProjDwAIdeal.Gen.facts, Cert.ProjDwAReferenceIdeal.Gen.facts,
    Cert.ProjDwB.Gen.facts, Cert.ProjDwBIdeal.Gen.facts, Cert.ProjDwBReferenceIdeal.Gen.facts,
    Cert.Proj.Gen.facts, Cert.ProjIdeal.Gen.facts, Cert.ProjReferenceIdeal.Gen.facts,
    Cert.FfnUp.Gen.facts, Cert.FfnUpIdeal.Gen.facts, Cert.FfnUpReferenceIdeal.Gen.facts,
    Cert.FfnDown.Gen.facts, Cert.FfnDownIdeal.Gen.facts, Cert.FfnDownReferenceIdeal.Gen.facts,
    Cert.Merge.Gen.facts, Cert.MergeIdeal.Gen.facts, Cert.MergeReferenceIdeal.Gen.facts,
    Cert.FfnDwDown.Gen.facts, Cert.FfnDwDownIdeal.Gen.facts, Cert.FfnDwDownReferenceIdeal.Gen.facts,
    Cert.Pre_finite.Gen.facts, Cert.Pre_finite2.Gen.facts, Cert.Pre_finite3.Gen.facts, Cert.Pre_finite4.Gen.facts, Cert.Pre_finite6.Gen.facts,
    Proof.FlashBwd.frame_p, Proof.FlashBwd.frame_pi, Proof.FlashBwd.frame_pi_finite, Proof.FlashBwd.frame_ri, Proof.FlashBwd.frame_ri_finite,
    Proof.FfnLast.frame_p, Proof.FfnLast.frame_pi, Proof.FfnLast.frame_pi_finite, Proof.FfnLast.frame_ri, Proof.FfnLast.frame_ri_finite,
    Proof.FfnBwd.frame_p, Proof.FfnBwd.frame_pi, Proof.FfnBwd.frame_pi_finite, Proof.FfnBwd.frame_ri, Proof.FfnBwd.frame_ri_finite,
    Proof.ProjBwd.frame_p, Proof.ProjBwd.frame_pi, Proof.ProjBwd.frame_pi_finite, Proof.ProjBwd.frame_ri, Proof.ProjBwd.frame_ri_finite,
    Proof.FfnDw.frame_p, Proof.FfnDw.frame_pi, Proof.FfnDw.frame_ri,
    Proof.FfnGate.frame_p, Proof.FfnGate.frame_pi, Proof.FfnGate.frame_pi_finite, Proof.FfnGate.frame_ri, Proof.FfnGate.frame_ri_finite,
    Proof.ProjDwA.frame_p, Proof.ProjDwA.frame_pi, Proof.ProjDwA.frame_ri,
    Proof.ProjDwB.frame_p, Proof.ProjDwB.frame_pi, Proof.ProjDwB.frame_ri,
    Proof.Proj.frame_p, Proof.Proj.frame_pi, Proof.Proj.frame_ri,
    Proof.FfnUp.frame_p, Proof.FfnUp.frame_pi, Proof.FfnUp.frame_ri,
    Proof.FfnDown.frame_p, Proof.FfnDown.frame_pi, Proof.FfnDown.frame_ri,
    Proof.Merge.frame_p, Proof.Merge.frame_pi, Proof.Merge.frame_ri,
    Proof.FfnDwDown.frame_p, Proof.FfnDwDown.frame_pi, Proof.FfnDwDown.frame_ri,
    Proof.FlashBwd.preserves, Proof.FlashBwd.algebraic,
    Proof.FfnLast.preserves, Proof.FfnLast.algebraic,
    Proof.FfnBwd.preserves, Proof.FfnBwd.algebraic,
    Proof.ProjBwd.preserves, Proof.ProjBwd.algebraic,
    Proof.FfnDw.preserves, Proof.FfnDw.algebraic,
    Proof.FfnGate.preserves, Proof.FfnGate.algebraic,
    Proof.ProjDwA.preserves, Proof.ProjDwA.algebraic,
    Proof.ProjDwB.preserves, Proof.ProjDwB.algebraic,
    Proof.Proj.preserves, Proof.Proj.algebraic,
    Proof.FfnUp.preserves, Proof.FfnUp.algebraic,
    Proof.FfnDown.preserves, Proof.FfnDown.algebraic,
    Proof.Merge.preserves, Proof.Merge.algebraic,
    Proof.FfnDwDown.preserves, Proof.FfnDwDown.algebraic⟩

end Cert.Proof

end
